-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Kernel23Ideal_finite23 [hPre_finite23 : Cert.Pre_finite23.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_finite23.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1))) = (fun _ => 1#1)

def Pre_Reference23Ideal (m : (ℓ : Loc Cert.Reference23Ideal.nD Cert.Reference23Ideal.τ Cert.Reference23Ideal.sig) → Buf (Elt Ideal) ℓ) : Prop :=
  True

def Pre_Reference23Ideal_finite23 [hPre_finite23 : Cert.Pre_finite23.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_finite23.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1))) = (fun _ => 1#1)

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Kernel24Ideal_finite24 [hPre_finite24 : Cert.Pre_finite24.Facts] (m : (ℓ : Loc Cert.Kernel24Ideal.nD Cert.Kernel24Ideal.τ Cert.Kernel24Ideal.sig) → Buf (Elt Ideal) ℓ) : Prop :=
  ∀ c : Dev Cert.Kernel24Ideal.nD,
    (Cert.Pre_finite24.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3))) = (fun _ => 1#1)

def Pre_Reference24Ideal (m : (ℓ : Loc Cert.Reference24Ideal.nD Cert.Reference24Ideal.τ Cert.Reference24Ideal.sig) → Buf (Elt Ideal) ℓ) : Prop :=
  True

def Pre_Reference24Ideal_finite24 [hPre_finite24 : Cert.Pre_finite24.Facts] (m : (ℓ : Loc Cert.Reference24Ideal.nD Cert.Reference24Ideal.τ Cert.Reference24Ideal.sig) → Buf (Elt Ideal) ℓ) : Prop :=
  ∀ c : Dev Cert.Reference24Ideal.nD,
    (Cert.Pre_finite24.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2)) (m ((c.tc : Thread Cert.Reference24Ideal.nD Cert.Reference24Ideal.τ).loc Cert.Reference24Ideal.main_arg3))) = (fun _ => 1#1)

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Kernel25Ideal_finite25 [hPre_finite25 : Cert.Pre_finite25.Facts] (m : (ℓ : Loc Cert.Kernel25Ideal.nD Cert.Kernel25Ideal.τ Cert.Kernel25Ideal.sig) → Buf (Elt Ideal) ℓ) : Prop :=
  ∀ c : Dev Cert.Kernel25Ideal.nD,
    (Cert.Pre_finite25.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3))) = (fun _ => 1#1)

def Pre_Reference25Ideal (m : (ℓ : Loc Cert.Reference25Ideal.nD Cert.Reference25Ideal.τ Cert.Reference25Ideal.sig) → Buf (Elt Ideal) ℓ) : Prop :=
  True

def Pre_Reference25Ideal_finite25 [hPre_finite25 : Cert.Pre_finite25.Facts] (m : (ℓ : Loc Cert.Reference25Ideal.nD Cert.Reference25Ideal.τ Cert.Reference25Ideal.sig) → Buf (Elt Ideal) ℓ) : Prop :=
  ∀ c : Dev Cert.Reference25Ideal.nD,
    (Cert.Pre_finite25.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3))) = (fun _ => 1#1)

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Kernel23Ideal_pre_finite23 [hKernel23Ideal : Cert.Kernel23Ideal.Facts] [hPre_finite23 : Cert.Pre_finite23.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal_finite23 m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Reference23Ideal_pre_finite23 [hReference23Ideal : Cert.Reference23Ideal.Facts] [hPre_finite23 : Cert.Pre_finite23.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal_finite23 m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Kernel24Ideal_pre_finite24 [hKernel24Ideal : Cert.Kernel24Ideal.Facts] [hPre_finite24 : Cert.Pre_finite24.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal_finite24 m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Reference24Ideal_pre_finite24 [hReference24Ideal : Cert.Reference24Ideal.Facts] [hPre_finite24 : Cert.Pre_finite24.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal_finite24 m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Kernel25Ideal_pre_finite25 [hKernel25Ideal : Cert.Kernel25Ideal.Facts] [hPre_finite25 : Cert.Pre_finite25.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal_finite25 m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Reference25Ideal_pre_finite25 [hReference25Ideal : Cert.Reference25Ideal.Facts] [hPre_finite25 : Cert.Pre_finite25.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal_finite25 m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v40_1)) (v2 : (c : Dev Cert.KernelIdeal.nD) → Buf (Elt Ideal) ((c.tc : Thread Cert.KernelIdeal.nD Cert.KernelIdeal.τ).loc Cert.KernelIdeal.main_v40_2)) (v3 : (c : Dev Cert.KernelIdeal.nD) → Buf (Elt Ideal) ((c.tc : Thread Cert.KernelIdeal.nD Cert.KernelIdeal.τ).loc Cert.KernelIdeal.main_v40_3)) (v4 : (c : Dev Cert.KernelIdeal.nD) → Buf (Elt Ideal) ((c.tc : Thread Cert.KernelIdeal.nD Cert.KernelIdeal.τ).loc Cert.KernelIdeal.main_v40_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v40_1) = v1 c
          ∧ r.2.mem ((c.tc : Thread Cert.KernelIdeal.nD Cert.KernelIdeal.τ).loc Cert.KernelIdeal.main_v40_2) = v2 c
          ∧ r.2.mem ((c.tc : Thread Cert.KernelIdeal.nD Cert.KernelIdeal.τ).loc Cert.KernelIdeal.main_v40_3) = v3 c
          ∧ r.2.mem ((c.tc : Thread Cert.KernelIdeal.nD Cert.KernelIdeal.τ).loc Cert.KernelIdeal.main_v40_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_v91) = v3 c
          ∧ r.2.mem ((c.tc : Thread Cert.ReferenceIdeal.nD Cert.ReferenceIdeal.τ).loc Cert.ReferenceIdeal.main_v93) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v4)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v7)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v7) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v7) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v19) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v10) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  IdealRules.named_const.Statement Cert.Kernel22Ideal.κ "scale1" .f32 0x3FC48605#32 ((8388608 / 5463681 : ℝ) : EReal)
  ∧ IdealRules.named_const.Statement Cert.Kernel22Ideal.κ "scale2" .f32 0x42C8E6D3#32 ((268435456 / 2672307 : ℝ) : EReal)

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_arg1) = v0 c
          ∧ r.2.mem ((c.tc : Thread Cert.Reference22Ideal.nD Cert.Reference22Ideal.τ).loc Cert.Reference22Ideal.main_v23) = v1 c
          ∧ r.2.mem ((c.tc : Thread Cert.Reference22Ideal.nD Cert.Reference22Ideal.τ).loc Cert.Reference22Ideal.main_v4) = v2 c
          ∧ r.2.mem ((c.tc : Thread Cert.Reference22Ideal.nD Cert.Reference22Ideal.τ).loc Cert.Reference22Ideal.main_v10) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  IdealRules.named_const.Statement Cert.Kernel23Ideal.κ "mask" .f32 0xF149F2CA#32 ⊥

def algebraic_Kernel23Ideal_Reference23Ideal_pre_finite23 [hKernel23Ideal : Cert.Kernel23Ideal.Facts] [hReference23Ideal : Cert.Reference23Ideal.Facts] [hPre_finite23 : Cert.Pre_finite23.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal_finite23 m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v2_0)) (v1 : (c : Dev Cert.Kernel23Ideal.nD) → Buf (Elt Ideal) ((c.tc : Thread Cert.Kernel23Ideal.nD Cert.Kernel23Ideal.τ).loc Cert.Kernel23Ideal.main_v2_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2_0) = v0 c
          ∧ r.2.mem ((c.tc : Thread Cert.Kernel23Ideal.nD Cert.Kernel23Ideal.τ).loc Cert.Kernel23Ideal.main_v2_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v56) = v0 c
          ∧ r.2.mem ((c.tc : Thread Cert.Reference23Ideal.nD Cert.Reference23Ideal.τ).loc Cert.Reference23Ideal.main_v57) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal_pre_finite24 [hKernel24Ideal : Cert.Kernel24Ideal.Facts] [hReference24Ideal : Cert.Reference24Ideal.Facts] [hPre_finite24 : Cert.Pre_finite24.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal_finite24 m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v17_0)) (v1 : (c : Dev Cert.Kernel24Ideal.nD) → Buf (Elt Ideal) ((c.tc : Thread Cert.Kernel24Ideal.nD Cert.Kernel24Ideal.τ).loc Cert.Kernel24Ideal.main_v17_1)) (v2 : (c : Dev Cert.Kernel24Ideal.nD) → Buf (Elt Ideal) ((c.tc : Thread Cert.Kernel24Ideal.nD Cert.Kernel24Ideal.τ).loc Cert.Kernel24Ideal.main_v17_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v17_0) = v0 c
          ∧ r.2.mem ((c.tc : Thread Cert.Kernel24Ideal.nD Cert.Kernel24Ideal.τ).loc Cert.Kernel24Ideal.main_v17_1) = v1 c
          ∧ r.2.mem ((c.tc : Thread Cert.Kernel24Ideal.nD Cert.Kernel24Ideal.τ).loc Cert.Kernel24Ideal.main_v17_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v59) = v0 c
          ∧ r.2.mem ((c.tc : Thread Cert.Reference24Ideal.nD Cert.Reference24Ideal.τ).loc Cert.Reference24Ideal.main_v60) = v1 c
          ∧ r.2.mem ((c.tc : Thread Cert.Reference24Ideal.nD Cert.Reference24Ideal.τ).loc Cert.Reference24Ideal.main_v61) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal_pre_finite25 [hKernel25Ideal : Cert.Kernel25Ideal.Facts] [hReference25Ideal : Cert.Reference25Ideal.Facts] [hPre_finite25 : Cert.Pre_finite25.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal_finite25 m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v18_0)) (v1 : (c : Dev Cert.Kernel25Ideal.nD) → Buf (Elt Ideal) ((c.tc : Thread Cert.Kernel25Ideal.nD Cert.Kernel25Ideal.τ).loc Cert.Kernel25Ideal.main_v18_1)) (v2 : (c : Dev Cert.Kernel25Ideal.nD) → Buf (Elt Ideal) ((c.tc : Thread Cert.Kernel25Ideal.nD Cert.Kernel25Ideal.τ).loc Cert.Kernel25Ideal.main_v18_2)) (v3 : (c : Dev Cert.Kernel25Ideal.nD) → Buf (Elt Ideal) ((c.tc : Thread Cert.Kernel25Ideal.nD Cert.Kernel25Ideal.τ).loc Cert.Kernel25Ideal.main_v18_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v18_0) = v0 c
          ∧ r.2.mem ((c.tc : Thread Cert.Kernel25Ideal.nD Cert.Kernel25Ideal.τ).loc Cert.Kernel25Ideal.main_v18_1) = v1 c
          ∧ r.2.mem ((c.tc : Thread Cert.Kernel25Ideal.nD Cert.Kernel25Ideal.τ).loc Cert.Kernel25Ideal.main_v18_2) = v2 c
          ∧ r.2.mem ((c.tc : Thread Cert.Kernel25Ideal.nD Cert.Kernel25Ideal.τ).loc Cert.Kernel25Ideal.main_v18_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v70) = v0 c
          ∧ r.2.mem ((c.tc : Thread Cert.Reference25Ideal.nD Cert.Reference25Ideal.τ).loc Cert.Reference25Ideal.main_v71) = v1 c
          ∧ r.2.mem ((c.tc : Thread Cert.Reference25Ideal.nD Cert.Reference25Ideal.τ).loc Cert.Reference25Ideal.main_v72) = v2 c
          ∧ r.2.mem ((c.tc : Thread Cert.Reference25Ideal.nD Cert.Reference25Ideal.τ).loc Cert.Reference25Ideal.main_v73) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v2_0)) (v1 : (c : Dev Cert.Kernel26Ideal.nD) → Buf (Elt Ideal) ((c.tc : Thread Cert.Kernel26Ideal.nD Cert.Kernel26Ideal.τ).loc Cert.Kernel26Ideal.main_v2_1)) (v2 : (c : Dev Cert.Kernel26Ideal.nD) → Buf (Elt Ideal) ((c.tc : Thread Cert.Kernel26Ideal.nD Cert.Kernel26Ideal.τ).loc Cert.Kernel26Ideal.main_v2_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v2_0) = v0 c
          ∧ r.2.mem ((c.tc : Thread Cert.Kernel26Ideal.nD Cert.Kernel26Ideal.τ).loc Cert.Kernel26Ideal.main_v2_1) = v1 c
          ∧ r.2.mem ((c.tc : Thread Cert.Kernel26Ideal.nD Cert.Kernel26Ideal.τ).loc Cert.Kernel26Ideal.main_v2_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v24) = v0 c
          ∧ r.2.mem ((c.tc : Thread Cert.Reference26Ideal.nD Cert.Reference26Ideal.τ).loc Cert.Reference26Ideal.main_v18) = v1 c
          ∧ r.2.mem ((c.tc : Thread Cert.Reference26Ideal.nD Cert.Reference26Ideal.τ).loc Cert.Reference26Ideal.main_v16) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hPre_finite : Cert.Pre_finite.Facts) (hPre_finite23 : Cert.Pre_finite23.Facts) (hPre_finite24 : Cert.Pre_finite24.Facts) (hPre_finite25 : Cert.Pre_finite25.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Kernel23Ideal_pre_finite23 (hKernel23Ideal := hKernel23Ideal) (hPre_finite23 := hPre_finite23)
    ∧ quiescent_Reference23Ideal (hReference23Ideal := hReference23Ideal)
    ∧ quiescent_Reference23Ideal_pre_finite23 (hReference23Ideal := hReference23Ideal) (hPre_finite23 := hPre_finite23)
    ∧ quiescent_Kernel24 (hKernel24 := hKernel24)
    ∧ quiescent_Kernel24Ideal (hKernel24Ideal := hKernel24Ideal)
    ∧ quiescent_Kernel24Ideal_pre_finite24 (hKernel24Ideal := hKernel24Ideal) (hPre_finite24 := hPre_finite24)
    ∧ quiescent_Reference24Ideal (hReference24Ideal := hReference24Ideal)
    ∧ quiescent_Reference24Ideal_pre_finite24 (hReference24Ideal := hReference24Ideal) (hPre_finite24 := hPre_finite24)
    ∧ quiescent_Kernel25 (hKernel25 := hKernel25)
    ∧ quiescent_Kernel25Ideal (hKernel25Ideal := hKernel25Ideal)
    ∧ quiescent_Kernel25Ideal_pre_finite25 (hKernel25Ideal := hKernel25Ideal) (hPre_finite25 := hPre_finite25)
    ∧ quiescent_Reference25Ideal (hReference25Ideal := hReference25Ideal)
    ∧ quiescent_Reference25Ideal_pre_finite25 (hReference25Ideal := hReference25Ideal) (hPre_finite25 := hPre_finite25)
    ∧ quiescent_Kernel26 (hKernel26 := hKernel26)
    ∧ quiescent_Kernel26Ideal (hKernel26Ideal := hKernel26Ideal)
    ∧ quiescent_Reference26Ideal (hReference26Ideal := hReference26Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal_pre_finite23 (hKernel23Ideal := hKernel23Ideal) (hReference23Ideal := hReference23Ideal) (hPre_finite23 := hPre_finite23)
    ∧ preserves_Kernel24_Kernel24Ideal
    ∧ algebraic_Kernel24Ideal_Reference24Ideal_pre_finite24 (hKernel24Ideal := hKernel24Ideal) (hReference24Ideal := hReference24Ideal) (hPre_finite24 := hPre_finite24)
    ∧ preserves_Kernel25_Kernel25Ideal
    ∧ algebraic_Kernel25Ideal_Reference25Ideal_pre_finite25 (hKernel25Ideal := hKernel25Ideal) (hReference25Ideal := hReference25Ideal) (hPre_finite25 := hPre_finite25)
    ∧ preserves_Kernel26_Kernel26Ideal
    ∧ algebraic_Kernel26Ideal_Reference26Ideal (hKernel26Ideal := hKernel26Ideal) (hReference26Ideal := hReference26Ideal)
-- ==== Pre_finite.lean ====
abbrev S2048x4096 : Shape := ⟨2, ![2048, 4096]⟩
abbrev S8x2048 : Shape := ⟨2, ![8, 2048]⟩
abbrev S2048x2048 : Shape := ⟨2, ![2048, 2048]⟩
abbrev S2048x3072 : Shape := ⟨2, ![2048, 3072]⟩
abbrev S_ : Shape := ⟨0, ![]⟩
abbrev S2048x1024 : Shape := ⟨2, ![2048, 1024]⟩

class Facts : Prop where
  slices_S2048x4096_S2048x3072_0_0 : S2048x4096.Slices ![0, 0] S2048x3072
  bcast_S_S2048x3072 : S_.BroadcastsInDim S2048x3072 (![] : Fin 0 → Fin S2048x3072.rank)
  reducesTo_S2048x3072_S_d0_1 : S2048x3072.ReducesTo [0, 1] S_
  h_S_ : 0 < S_.numel
  bcast_S_S8x2048 : S_.BroadcastsInDim S8x2048 (![] : Fin 0 → Fin S8x2048.rank)
  reducesTo_S8x2048_S_d0_1 : S8x2048.ReducesTo [0, 1] S_
  slices_S2048x2048_S2048x1024_0_0 : S2048x2048.Slices ![0, 0] S2048x1024
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S2048x4096 .f32) (main_arg1 : FVec F S8x2048 .f32) (main_arg2 : FVec F S2048x2048 .f32) : IVec S_ 1 :=
  let main_v0 : FVec F S2048x3072 .f32 := (extractStridedSlice S2048x3072 ![0, 0] · slices_S2048x4096_S2048x3072_0_0) main_arg0
  let main_v1 : FVec F S2048x3072 .f32 := Host.absf main_v0
  let main_cst : FVec F S_ .f32 := constant S_ .f32 0x7F800000#32
  let main_v2 : FVec F S2048x3072 .f32 := broadcastInDim S2048x3072 ![] bcast_S_S2048x3072 main_cst
  let main_v3 : IVec S2048x3072 1 := cmpf .olt main_v1 main_v2
  let main_c : IVec S_ 1 := constantI S_ 1 1#1
  let main_v4 : IVec S_ 1 := (fun x v => Host.reduce IntOp.andi x v reducesTo_S2048x3072_S_d0_1 h_S_) main_v3 main_c
  let main_v5 : FVec F S8x2048 .f32 := Host.absf main_arg1
  let main_cst_0 : FVec F S_ .f32 := constant S_ .f32 0x7F800000#32
  let main_v6 : FVec F S8x2048 .f32 := broadcastInDim S8x2048 ![] bcast_S_S8x2048 main_cst_0
  let main_v7 : IVec S8x2048 1 := cmpf .olt main_v5 main_v6
  let main_c_1 : IVec S_ 1 := constantI S_ 1 1#1
  let main_v8 : IVec S_ 1 := (fun x v => Host.reduce IntOp.andi x v reducesTo_S8x2048_S_d0_1 h_S_) main_v7 main_c_1
  let main_v9 : IVec S_ 1 := andi main_v4 main_v8
  let main_v10 : FVec F S2048x1024 .f32 := (extractStridedSlice S2048x1024 ![0, 0] · slices_S2048x2048_S2048x1024_0_0) main_arg2
  let main_v11 : FVec F S2048x1024 .f32 := Host.absf main_v10
  let main_cst_2 : FVec F S_ .f32 := constant S_ .f32 0x7F800000#32
  let main_v12 : FVec F S2048x1024 .f32 := broadcastInDim S2048x1024 ![] bcast_S_S2048x1024 main_cst_2
  let main_v13 : IVec S2048x1024 1 := cmpf .olt main_v11 main_v12
  let main_c_3 : IVec S_ 1 := constantI S_ 1 1#1
  let main_v14 : IVec S_ 1 := (fun x v => Host.reduce IntOp.andi x v reducesTo_S2048x1024_S_d0_1 h_S_) main_v13 main_c_3
  let main_v15 : IVec S_ 1 := andi main_v9 main_v14
  main_v15
-- ==== Pre_finite23.lean ====
abbrev S2048x4096 : Shape := ⟨2, ![2048, 4096]⟩
abbrev S8x2048 : Shape := ⟨2, ![8, 2048]⟩
abbrev S2048x2048 : Shape := ⟨2, ![2048, 2048]⟩
abbrev S_ : Shape := ⟨0, ![]⟩

class Facts : Prop where
  slices_S2048x4096_S2048x2048_0_0 : S2048x4096.Slices ![0, 0] S2048x2048
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S8x2048 : S_.BroadcastsInDim S8x2048 (![] : Fin 0 → Fin S8x2048.rank)
  reducesTo_S8x2048_S_d0_1 : S8x2048.ReducesTo [0, 1] S_

variable [Facts]

def fn {F : FTy → Type} [FloatOps F] (main_arg0 : FVec F S2048x4096 .f32) (main_arg1 : FVec F S8x2048 .f32) : IVec S_ 1 :=
  let main_v0 : FVec F S2048x2048 .f32 := (extractStridedSlice S2048x2048 ![0, 0] · slices_S2048x4096_S2048x2048_0_0) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_c : IVec S_ 1 := constantI S_ 1 1#1
  let main_v4 : IVec S_ 1 := (fun x v => Host.reduce IntOp.andi x v reducesTo_S2048x2048_S_d0_1 h_S_) main_v3 main_c
  let main_v5 : FVec F S8x2048 .f32 := Host.absf main_arg1
  let main_cst_0 : FVec F S_ .f32 := constant S_ .f32 0x7F800000#32
  let main_v6 : FVec F S8x2048 .f32 := broadcastInDim S8x2048 ![] bcast_S_S8x2048 main_cst_0
  let main_v7 : IVec S8x2048 1 := cmpf .olt main_v5 main_v6
  let main_c_1 : IVec S_ 1 := constantI S_ 1 1#1
  let main_v8 : IVec S_ 1 := (fun x v => Host.reduce IntOp.andi x v reducesTo_S8x2048_S_d0_1 h_S_) main_v7 main_c_1
  let main_v9 : IVec S_ 1 := andi main_v4 main_v8
  main_v9
-- ==== Pre_finite24.lean ====
abbrev S2048x2048 : Shape := ⟨2, ![2048, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x2048 .f32) (main_arg1 : FVec F S2048x2048 .f32) (main_arg2 : FVec F S2048x2048 .f32) (main_arg3 : FVec F S2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Pre_finite25.lean ====
abbrev S2048x2048 : Shape := ⟨2, ![2048, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x2048 .f32) (main_arg1 : FVec F S2048x2048 .f32) (main_arg2 : FVec F S2048 .f32) (main_arg3 : FVec F S2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048 .f32 := Host.absf main_arg2
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S2048x4096 : Shape := ⟨2, ![2048, 4096]⟩
abbrev S8x2048 : Shape := ⟨2, ![8, 2048]⟩
abbrev S2048x2048 : Shape := ⟨2, ![2048, 2048]⟩
abbrev S2048x1024 : Shape := ⟨2, ![2048, 1024]⟩
abbrev S2048x8x128 : Shape := ⟨3, ![2048, 8, 128]⟩
abbrev S8x2048x2048 : Shape := ⟨3, ![8, 2048, 2048]⟩
abbrev S_ : Shape := ⟨0, ![]⟩
abbrev S8x2048x1 : Shape := ⟨3, ![8, 2048, 1]⟩
abbrev S8x1x2048 : Shape := ⟨3, ![8, 1, 2048]⟩
abbrev S2048 : Shape := ⟨1, ![2048]⟩
abbrev S2048x1 : Shape := ⟨2, ![2048, 1]⟩
abbrev S1x2048 : Shape := ⟨2, ![1, 2048]⟩
abbrev S8x128x2048 : Shape := ⟨3, ![8, 128, 2048]⟩
abbrev S512x128 : Shape := ⟨2, ![512, 128]⟩
abbrev S2048x128 : Shape := ⟨2, ![2048, 128]⟩
abbrev S1x512x1 : Shape := ⟨3, ![1, 512, 1]⟩
abbrev S1x1x2048 : Shape := ⟨3, ![1, 1, 2048]⟩
abbrev S512x2048 : Shape := ⟨2, ![512, 2048]⟩
abbrev S512x1 : Shape := ⟨2, ![512, 1]⟩
abbrev S512 : Shape := ⟨1, ![512]⟩

abbrev nBuf : Space → Nat
  | .hbm => 55
  | .vmem => 28
  | .smem => 0
  | _ => 0

abbrev bufTy : (tb : Table) → Fin (tcTables nBuf tb) → BufTy
  | .hbm, ⟨0, _⟩ => ⟨S2048x4096, .f32⟩
  | .hbm, ⟨1, _⟩ => ⟨S8x2048, .f32⟩
  | .hbm, ⟨2, _⟩ => ⟨S2048x2048, .f32⟩
  | .hbm, ⟨3, _⟩ => ⟨S2048x1024, .f32⟩
  | .hbm, ⟨4, _⟩ => ⟨S2048x8x128, .f32⟩
  | .hbm, ⟨5, _⟩ => ⟨S2048x1024, .f32⟩
  | .hbm, ⟨6, _⟩ => ⟨S2048x8x128, .f32⟩
  | .hbm, ⟨7, _⟩ => ⟨S2048x1024, .f32⟩
  | .hbm, ⟨8, _⟩ => ⟨S2048x8x128, .f32⟩
  | .hbm, ⟨9, _⟩ => ⟨S8x2048x2048, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | .hbm, ⟨16, _⟩ => ⟨S8x1x2048, .f32⟩
  | .hbm, ⟨17, _⟩ => ⟨S8x2048x2048, .f32⟩
  | .hbm, ⟨18, _⟩ => ⟨S8x2048x2048, .f32⟩
  | .hbm, ⟨19, _⟩ => ⟨S2048, .i32⟩
  | .hbm, ⟨20, _⟩ => ⟨S2048x1, .i32⟩
  | .hbm, ⟨21, _⟩ => ⟨S2048, .i32⟩
  | .hbm, ⟨22, _⟩ => ⟨S1x2048, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S_, .f32⟩
  | .hbm, ⟨27, _⟩ => ⟨S_, .f32⟩
  | .hbm, ⟨28, _⟩ => ⟨S8x2048x2048, .i1⟩
  | .hbm, ⟨29, _⟩ => ⟨S8x2048x2048, .f32⟩
  | .hbm, ⟨30, _⟩ => ⟨S8x2048x2048, .f32⟩
  | .hbm, ⟨31, _⟩ => ⟨S_, .f32⟩
  | .hbm, ⟨32, _⟩ => ⟨S8x2048, .f32⟩
  | .hbm, ⟨33, _⟩ => ⟨S8x2048x1, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S8x2048, .f32⟩
  | .hbm, ⟨39, _⟩ => ⟨S8x2048x1, .f32⟩
  | .hbm, ⟨40, _⟩ => ⟨S8x2048x2048, .f32⟩
  | .hbm, ⟨41, _⟩ => ⟨S8x2048x2048, .f32⟩
  | .hbm, ⟨42, _⟩ => ⟨S8x128x2048, .f32⟩
  | .hbm, ⟨43, _⟩ => ⟨S2048x8x128, .f32⟩
  | .hbm, ⟨44, _⟩ => ⟨S2048x1024, .f32⟩
  | .hbm, ⟨45, _⟩ => ⟨S8x2048, .f32⟩
  | .hbm, ⟨46, _⟩ => ⟨S8x2048, .f32⟩
  | .hbm, ⟨47, _⟩ => ⟨S8x2048x1, .f32⟩
  | .hbm, ⟨48, _⟩ => ⟨S8x2048x1, .f32⟩
  | .hbm, ⟨49, _⟩ => ⟨S8x1x2048, .f32⟩
  | .hbm, ⟨50, _⟩ => ⟨S2048x1024, .bf16⟩
  | .hbm, ⟨51, _⟩ => ⟨S2048x1024, .bf16⟩
  | .hbm, ⟨52, _⟩ => ⟨S2048x1024, .bf16⟩
  | .hbm, ⟨53, _⟩ => ⟨S8x2048x1, .f32⟩
  | .hbm, ⟨54, _⟩ => ⟨S8x1x2048, .f32⟩
  | .local _ .vmem, ⟨0, _⟩ => ⟨S512x128, .f32⟩
  | .local _ .vmem, ⟨1, _⟩ => ⟨S512x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S1x512x1, .f32⟩
  | .local _ .vmem, ⟨7, _⟩ => ⟨S1x512x1, .f32⟩
  | .local _ .vmem, ⟨8, _⟩ => ⟨S1x1x2048, .f32⟩
  | .local _ .vmem, ⟨9, _⟩ => ⟨S1x1x2048, .f32⟩
  | .local _ .vmem, ⟨10, _⟩ => ⟨S512x128, .f32⟩
  | .local _ .vmem, ⟨11, _⟩ => ⟨S512x128, .f32⟩
  | .local _ .vmem, ⟨12, _⟩ => ⟨S1x512x1, .f32⟩
  | .local _ .vmem, ⟨13, _⟩ => ⟨S1x512x1, .f32⟩
  | .local _ .vmem, ⟨14, _⟩ => ⟨S512x128, .f32⟩
  | .local _ .vmem, ⟨15, _⟩ => ⟨S512x128, .f32⟩
  | .local _ .vmem, ⟨16, _⟩ => ⟨S512x128, .bf16⟩
  | .local _ .vmem, ⟨17, _⟩ => ⟨S512x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S1x512x1, .f32⟩
  | .local _ .vmem, ⟨23, _⟩ => ⟨S1x512x1, .f32⟩
  | .local _ .vmem, ⟨24, _⟩ => ⟨S1x1x2048, .f32⟩
  | .local _ .vmem, ⟨25, _⟩ => ⟨S1x1x2048, .f32⟩
  | .local _ .vmem, ⟨26, _⟩ => ⟨S2048x128, .f32⟩
  | .local _ .vmem, ⟨27, _⟩ => ⟨S2048x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40_0 : Ref sig .tc := ⟨.hbm, 50, rfl⟩
abbrev main_v40_1 : Ref sig .tc := ⟨.hbm, 51, rfl⟩
abbrev main_v40_2 : Ref sig .tc := ⟨.hbm, 52, rfl⟩
abbrev main_v40_3 : Ref sig .tc := ⟨.hbm, 53, rfl⟩
abbrev main_v40_4 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v69 : BitVec 1 := Scalar.cmpi .eq arg1 c3_i32
  let v70 : BitVec 32 := Scalar.extui v69
  let c0_i32_41 : BitVec 32 := 0#32
  let v71 : BitVec 1 := Scalar.cmpi .ne v70 c0_i32_41
  v71

def k0_cond1 (i : grid0.Coords) : BitVec 1 :=
  let arg1 : BitVec 32 := BitVec.ofNat 32 (i 1).val
  let c0_i32 : BitVec 32 := 0#32
  let v63 : BitVec 1 := Scalar.cmpi .eq arg1 c0_i32
  let v64 : BitVec 32 := Scalar.extui v63
  let c0_i32_38 : BitVec 32 := 0#32
  let v65 : BitVec 1 := Scalar.cmpi .ne v64 c0_i32_38
  v65

def k0_cond2 (i : grid0.Coords) : BitVec 1 :=
  let arg1 : BitVec 32 := BitVec.ofNat 32 (i 1).val
  let c0_i32_39 : BitVec 32 := 0#32
  let v66 : BitVec 1 := Scalar.cmpi .sgt arg1 c0_i32_39
  let v67 : BitVec 32 := Scalar.extui v66
  let c0_i32_40 : BitVec 32 := 0#32
  let v68 : BitVec 1 := Scalar.cmpi .ne v67 c0_i32_40
  v68

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S2048x4096 : Shape := ⟨2, ![2048, 4096]⟩
abbrev S8x2048 : Shape := ⟨2, ![8, 2048]⟩
abbrev S2048x2048 : Shape := ⟨2, ![2048, 2048]⟩
abbrev S2048x1024 : Shape := ⟨2, ![2048, 1024]⟩
abbrev S2048x8x128 : Shape := ⟨3, ![2048, 8, 128]⟩
abbrev S8x2048x2048 : Shape := ⟨3, ![8, 2048, 2048]⟩
abbrev S_ : Shape := ⟨0, ![]⟩
abbrev S8x2048x1 : Shape := ⟨3, ![8, 2048, 1]⟩
abbrev S8x1x2048 : Shape := ⟨3, ![8, 1, 2048]⟩
abbrev S2048 : Shape := ⟨1, ![2048]⟩
abbrev S2048x1 : Shape := ⟨2, ![2048, 1]⟩
abbrev S1x2048 : Shape := ⟨2, ![1, 2048]⟩
abbrev S8x128x2048 : Shape := ⟨3, ![8, 128, 2048]⟩
abbrev S8x2048x128 : Shape := ⟨3, ![8, 2048, 128]⟩

abbrev nBuf : Space → Nat
  | .hbm => 123
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S8x2048, .f32⟩
  | .hbm, ⟨2, _⟩ => ⟨S2048x2048, .f32⟩
  | .hbm, ⟨3, _⟩ => ⟨S2048x1024, .f32⟩
  | .hbm, ⟨4, _⟩ => ⟨S2048x8x128, .f32⟩
  | .hbm, ⟨5, _⟩ => ⟨S2048x1024, .f32⟩
  | .hbm, ⟨6, _⟩ => ⟨S2048x8x128, .f32⟩
  | .hbm, ⟨7, _⟩ => ⟨S2048x1024, .f32⟩
  | .hbm, ⟨8, _⟩ => ⟨S2048x8x128, .f32⟩
  | .hbm, ⟨9, _⟩ => ⟨S2048x1024, .f32⟩
  | .hbm, ⟨10, _⟩ => ⟨S2048x8x128, .f32⟩
  | .hbm, ⟨11, _⟩ => ⟨S8x2048x2048, .f32⟩
  | .hbm, ⟨12, _⟩ => ⟨S_, .f32⟩
  | .hbm, ⟨13, _⟩ => ⟨S8x2048x2048, .f32⟩
  | .hbm, ⟨14, _⟩ => ⟨S8x2048x2048, .f32⟩
  | .hbm, ⟨15, _⟩ => ⟨S8x2048x1, .f32⟩
  | .hbm, ⟨16, _⟩ => ⟨S8x2048x2048, .f32⟩
  | .hbm, ⟨17, _⟩ => ⟨S8x2048x2048, .f32⟩
  | .hbm, ⟨18, _⟩ => ⟨S8x1x2048, .f32⟩
  | .hbm, ⟨19, _⟩ => ⟨S8x2048x2048, .f32⟩
  | .hbm, ⟨20, _⟩ => ⟨S8x2048x2048, .f32⟩
  | .hbm, ⟨21, _⟩ => ⟨S2048, .i32⟩
  | .hbm, ⟨22, _⟩ => ⟨S2048x1, .i32⟩
  | .hbm, ⟨23, _⟩ => ⟨S2048, .i32⟩
  | .hbm, ⟨24, _⟩ => ⟨S1x2048, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S_, .f32⟩
  | .hbm, ⟨29, _⟩ => ⟨S_, .f32⟩
  | .hbm, ⟨30, _⟩ => ⟨S8x2048x2048, .i1⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S8x2048x2048, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S8x2048x2048, .f32⟩
  | .hbm, ⟨39, _⟩ => ⟨S8x2048x2048, .i1⟩
  | .hbm, ⟨40, _⟩ => ⟨S8x2048x2048, .f32⟩
  | .hbm, ⟨41, _⟩ => ⟨S_, .f32⟩
  | .hbm, ⟨42, _⟩ => ⟨S8x2048, .f32⟩
  | .hbm, ⟨43, _⟩ => ⟨S_, .f32⟩
  | .hbm, ⟨44, _⟩ => ⟨S8x2048, .f32⟩
  | .hbm, ⟨45, _⟩ => ⟨S8x2048, .f32⟩
  | .hbm, ⟨46, _⟩ => ⟨S_, .f32⟩
  | .hbm, ⟨47, _⟩ => ⟨S8x2048, .f32⟩
  | .hbm, ⟨48, _⟩ => ⟨S8x2048, .i1⟩
  | .hbm, ⟨49, _⟩ => ⟨S_, .f32⟩
  | .hbm, ⟨50, _⟩ => ⟨S8x2048, .f32⟩
  | .hbm, ⟨51, _⟩ => ⟨S8x2048, .i1⟩
  | .hbm, ⟨52, _⟩ => ⟨S_, .f32⟩
  | .hbm, ⟨53, _⟩ => ⟨S8x2048, .f32⟩
  | .hbm, ⟨54, _⟩ => ⟨S_, .f32⟩
  | .hbm, ⟨55, _⟩ => ⟨S8x2048, .f32⟩
  | .hbm, ⟨56, _⟩ => ⟨S_, .f32⟩
  | .hbm, ⟨57, _⟩ => ⟨S8x2048, .f32⟩
  | .hbm, ⟨58, _⟩ => ⟨S8x2048, .f32⟩
  | .hbm, ⟨59, _⟩ => ⟨S8x2048, .f32⟩
  | .hbm, ⟨60, _⟩ => ⟨S8x2048x1, .f32⟩
  | .hbm, ⟨61, _⟩ => ⟨S8x2048x2048, .f32⟩
  | .hbm, ⟨62, _⟩ => ⟨S8x2048x2048, .f32⟩
  | .hbm, ⟨63, _⟩ => ⟨S8x2048x2048, .f32⟩
  | .hbm, ⟨64, _⟩ => ⟨S_, .f32⟩
  | .hbm, ⟨65, _⟩ => ⟨S8x2048, .f32⟩
  | .hbm, ⟨66, _⟩ => ⟨S8x2048x1, .f32⟩
  | .hbm, ⟨67, _⟩ => ⟨S8x2048x2048, .f32⟩
  | .hbm, ⟨68, _⟩ => ⟨S8x2048x2048, .f32⟩
  | .hbm, ⟨69, _⟩ => ⟨S8x2048x1, .f32⟩
  | .hbm, ⟨70, _⟩ => ⟨S_, .f32⟩
  | .hbm, ⟨71, _⟩ => ⟨S8x2048x1, .f32⟩
  | .hbm, ⟨72, _⟩ => ⟨S8x2048x1, .f32⟩
  | .hbm, ⟨73, _⟩ => ⟨S8x128x2048, .f32⟩
  | .hbm, ⟨74, _⟩ => ⟨S2048x8x128, .f32⟩
  | .hbm, ⟨75, _⟩ => ⟨S8x128x2048, .f32⟩
  | .hbm, ⟨76, _⟩ => ⟨S8x2048x2048, .f32⟩
  | .hbm, ⟨77, _⟩ => ⟨S8x128x2048, .f32⟩
  | .hbm, ⟨78, _⟩ => ⟨S2048x8x128, .f32⟩
  | .hbm, ⟨79, _⟩ => ⟨S8x2048x2048, .f32⟩
  | .hbm, ⟨80, _⟩ => ⟨S8x2048x2048, .f32⟩
  | .hbm, ⟨81, _⟩ => ⟨S8x2048x2048, .f32⟩
  | .hbm, ⟨82, _⟩ => ⟨S_, .f32⟩
  | .hbm, ⟨83, _⟩ => ⟨S8x2048, .f32⟩
  | .hbm, ⟨84, _⟩ => ⟨S8x2048x1, .f32⟩
  | .hbm, ⟨85, _⟩ => ⟨S8x2048x1, .f32⟩
  | .hbm, ⟨86, _⟩ => ⟨S8x2048x2048, .f32⟩
  | .hbm, ⟨87, _⟩ => ⟨S8x2048x2048, .f32⟩
  | .hbm, ⟨88, _⟩ => ⟨S_, .f32⟩
  | .hbm, ⟨89, _⟩ => ⟨S8x2048, .f32⟩
  | .hbm, ⟨90, _⟩ => ⟨S8x2048x2048, .f32⟩
  | .hbm, ⟨91, _⟩ => ⟨S8x2048x2048, .f32⟩
  | .hbm, ⟨92, _⟩ => ⟨S8x2048x2048, .f32⟩
  | .hbm, ⟨93, _⟩ => ⟨S_, .f32⟩
  | .hbm, ⟨94, _⟩ => ⟨S8x2048x2048, .f32⟩
  | .hbm, ⟨95, _⟩ => ⟨S8x2048x2048, .f32⟩
  | .hbm, ⟨96, _⟩ => ⟨S8x2048x2048, .f32⟩
  | .hbm, ⟨97, _⟩ => ⟨S_, .f32⟩
  | .hbm, ⟨98, _⟩ => ⟨S8x2048, .f32⟩
  | .hbm, ⟨99, _⟩ => ⟨S8x1x2048, .f32⟩
  | .hbm, ⟨100, _⟩ => ⟨S_, .f32⟩
  | .hbm, ⟨101, _⟩ => ⟨S8x2048, .f32⟩
  | .hbm, ⟨102, _⟩ => ⟨S_, .f32⟩
  | .hbm, ⟨103, _⟩ => ⟨S8x2048, .f32⟩
  | .hbm, ⟨104, _⟩ => ⟨S8x2048x1, .f32⟩
  | .hbm, ⟨105, _⟩ => ⟨S_, .f32⟩
  | .hbm, ⟨106, _⟩ => ⟨S8x2048, .f32⟩
  | .hbm, ⟨107, _⟩ => ⟨S_, .f32⟩
  | .hbm, ⟨108, _⟩ => ⟨S8x2048x2048, .f32⟩
  | .hbm, ⟨109, _⟩ => ⟨S8x2048x2048, .f32⟩
  | .hbm, ⟨110, _⟩ => ⟨S8x2048x128, .f32⟩
  | .hbm, ⟨111, _⟩ => ⟨S2048x8x128, .f32⟩
  | .hbm, ⟨112, _⟩ => ⟨S8x2048x128, .f32⟩
  | .hbm, ⟨113, _⟩ => ⟨S2048x8x128, .f32⟩
  | .hbm, ⟨114, _⟩ => ⟨S2048x1024, .f32⟩
  | .hbm, ⟨115, _⟩ => ⟨S2048x1024, .bf16⟩
  | .hbm, ⟨116, _⟩ => ⟨S2048x1024, .f32⟩
  | .hbm, ⟨117, _⟩ => ⟨S2048x1024, .bf16⟩
  | .hbm, ⟨118, _⟩ => ⟨S2048x1024, .f32⟩
  | .hbm, ⟨119, _⟩ => ⟨S2048x1024, .bf16⟩
  | .hbm, ⟨120, _⟩ => ⟨S8x2048x1, .f32⟩
  | .hbm, ⟨121, _⟩ => ⟨S8x1x2048, .f32⟩
  | .hbm, ⟨122, _⟩ => ⟨S8x1x2048, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_call0_v0 : Ref sig .tc := ⟨.hbm, 29, rfl⟩
abbrev main_v24_1 : Ref sig .tc := ⟨.hbm, 30, rfl⟩
abbrev main_call0_v2 : Ref sig .tc := ⟨.hbm, 31, rfl⟩
abbrev main_v24_0 : Ref sig .tc := ⟨.hbm, 32, rfl⟩
abbrev main_call0_cst : Ref sig .tc := ⟨.hbm, 33, rfl⟩
abbrev main_v24_2 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_11 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_12 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_call1_cst : Ref sig .tc := ⟨.hbm, 93, rfl⟩
abbrev main_call1_v0 : Ref sig .tc := ⟨.hbm, 94, rfl⟩
abbrev main_v71 : Ref sig .tc := ⟨.hbm, 95, rfl⟩
abbrev main_v72 : Ref sig .tc := ⟨.hbm, 96, rfl⟩
abbrev main_cst_13 : Ref sig .tc := ⟨.hbm, 97, rfl⟩
abbrev main_v73 : Ref sig .tc := ⟨.hbm, 98, rfl⟩
abbrev main_v74 : Ref sig .tc := ⟨.hbm, 99, rfl⟩
abbrev main_cst_14 : Ref sig .tc := ⟨.hbm, 100, rfl⟩
abbrev main_v75 : Ref sig .tc := ⟨.hbm, 101, rfl⟩
abbrev main_cst_15 : Ref sig .tc := ⟨.hbm, 102, rfl⟩
abbrev main_v76 : Ref sig .tc := ⟨.hbm, 103, rfl⟩
abbrev main_v77 : Ref sig .tc := ⟨.hbm, 104, rfl⟩
abbrev main_cst_16 : Ref sig .tc := ⟨.hbm, 105, rfl⟩
abbrev main_v78 : Ref sig .tc := ⟨.hbm, 106, rfl⟩
abbrev main_cst_17 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩

abbrev nD : Nat := 1
abbrev τ : Topo := Topo.v7x

variable {F : FTy → Type} [FloatOps F]
-- ==== Kernel2.lean ====
abbrev S2048x11008 : Shape := ⟨2, ![2048, 11008]⟩
abbrev S2048x2x2x2752 : Shape := ⟨4, ![2048, 2, 2, 2752]⟩
abbrev S2x2x2048x2752 : Shape := ⟨4, ![2, 2, 2048, 2752]⟩
abbrev S4x2048x2752 : Shape := ⟨3, ![4, 2048, 2752]⟩
abbrev S11008x2048 : Shape := ⟨2, ![11008, 2048]⟩
abbrev S4x2752x2048 : Shape := ⟨3, ![4, 2752, 2048]⟩
abbrev S1x2048x2048 : Shape := ⟨3, ![1, 2048, 2048]⟩
abbrev S1x512x2752 : Shape := ⟨3, ![1, 512, 2752]⟩
abbrev S1x2752x1024 : Shape := ⟨3, ![1, 2752, 1024]⟩
abbrev S1x512x1024 : Shape := ⟨3, ![1, 512, 1024]⟩
abbrev S512x1024 : Shape := ⟨2, ![512, 1024]⟩
abbrev S512x2752 : Shape := ⟨2, ![512, 2752]⟩
abbrev S2752x1024 : Shape := ⟨2, ![2752, 1024]⟩

abbrev nBuf : Space → Nat
  | .hbm => 10
  | .vmem => 7
  | .smem => 0
  | _ => 0

abbrev bufTy : (tb : Table) → Fin (tcTables nBuf tb) → BufTy
  | .hbm, ⟨0, _⟩ => ⟨S2048x11008, .f32⟩
  | .hbm, ⟨1, _⟩ => ⟨S2048x11008, .f32⟩
  | .hbm, ⟨2, _⟩ => ⟨S2048x2x2x2752, .f32⟩
  | .hbm, ⟨3, _⟩ => ⟨S2x2x2048x2752, .f32⟩
  | .hbm, ⟨4, _⟩ => ⟨S4x2048x2752, .f32⟩
  | .hbm, ⟨5, _⟩ => ⟨S4x2048x2752, .bf16⟩
  | .hbm, ⟨6, _⟩ => ⟨S11008x2048, .f32⟩
  | .hbm, ⟨7, _⟩ => ⟨S4x2752x2048, .f32⟩
  | .hbm, ⟨8, _⟩ => ⟨S4x2752x2048, .bf16⟩
  | .hbm, ⟨9, _⟩ => ⟨S1x2048x2048, .f32⟩
  | .local _ .vmem, ⟨0, _⟩ => ⟨S1x512x2752, .bf16⟩
  | .local _ .vmem, ⟨1, _⟩ => ⟨S1x512x2752, .bf16⟩
  | .local _ .vmem, ⟨2, _⟩ => ⟨S1x2752x1024, .bf16⟩
  | .local _ .vmem, ⟨3, _⟩ => ⟨S1x2752x1024, .bf16⟩
  | .local _ .vmem, ⟨4, _⟩ => ⟨S1x512x1024, .f32⟩
  | .local _ .vmem, ⟨5, _⟩ => ⟨S1x512x1024, .f32⟩
  | .local _ .vmem, ⟨6, _⟩ => ⟨S512x1024, .f32⟩
  | _, _ => ⟨S2048x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![1, 4, 2, 4, 1], ![false, false, false, false, false]⟩

def k0_cond3 (i : grid0.Coords) : BitVec 1 :=
  let arg3 : BitVec 32 := BitVec.ofNat 32 (i 3).val
  let c1_i32 : BitVec 32 := 1#32
  let v5 : BitVec 32 := Scalar.muli arg3 c1_i32
  let arg4 : BitVec 32 := BitVec.ofNat 32 (i 4).val
  let v6 : BitVec 32 := Scalar.addi v5 arg4
  let c3_i32 : BitVec 32 := 3#32
  let v13 : BitVec 1 := Scalar.cmpi .eq v6 c3_i32
  let v14 : BitVec 32 := Scalar.extui v13
  let c0_i32_8 : BitVec 32 := 0#32
  let v15 : BitVec 1 := Scalar.cmpi .ne v14 c0_i32_8
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let v0 : BitVec 32 := Scalar.addi arg0 arg3
  let c0_i32 : BitVec 32 := 0#32
  ![v0.toNat, arg1.toNat, arg4.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let v0 : BitVec 32 := Scalar.addi arg0 arg3
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c2_i32_3 : BitVec 32 := 2#32
  let v11 : BitVec 32 := Scalar.muli v10 c2_i32_3
  let c2_i32_4 : BitVec 32 := 2#32
  let v12 : BitVec 32 := Scalar.divsi v0 c2_i32_4
  let c0_i32_5 : BitVec 32 := 0#32
  let v13 : BitVec 1 := Scalar.cmpi .sgt v0 c0_i32_5
  let v14 : BitVec 32 := Scalar.extui v13
  let c0_i32_6 : BitVec 32 := 0#32
  let v15 : BitVec 1 := Scalar.cmpi .slt v0 c0_i32_6
  let v16 : BitVec 32 := Scalar.extui v15
  let v17 : BitVec 32 := Scalar.subi v14 v16
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v0 c2_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let v29 : BitVec 32 := Scalar.addi v11 v28
  let c0_i32_11 : BitVec 32 := 0#32
  ![v29.toNat, arg4.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg1.toNat, arg2.toNat]

abbrev stage0_0 : Fin 2 → Memref sig .tc .vmem S1x512x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true, true]

abbrev stage0_1 : Fin 2 → Memref sig .tc .vmem S1x2752x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== Reference2Ideal.lean ====
abbrev S2048x11008 : Shape := ⟨2, ![2048, 11008]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x11008, .f32⟩
  | .hbm, ⟨1, _⟩ => ⟨S2048x11008, .f32⟩
  | .hbm, ⟨2, _⟩ => ⟨S_, .f32⟩
  | .hbm, ⟨3, _⟩ => ⟨S2048x2048, .f32⟩
  | .hbm, ⟨4, _⟩ => ⟨S2048x11008, .f32⟩
  | .hbm, ⟨5, _⟩ => ⟨S2048x2048, .f32⟩
  | .hbm, ⟨6, _⟩ => ⟨S1x2048x2048, .f32⟩
  | _, _ => ⟨S2048x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S2048x11008 : Shape := ⟨2, ![2048, 11008]⟩
abbrev S2048x2048 : Shape := ⟨2, ![2048, 2048]⟩
abbrev S2048x2x2x2752 : Shape := ⟨4, ![2048, 2, 2, 2752]⟩
abbrev S2x2x2048x2752 : Shape := ⟨4, ![2, 2, 2048, 2752]⟩
abbrev S4x2048x2752 : Shape := ⟨3, ![4, 2048, 2752]⟩
abbrev S1x2048x2048 : Shape := ⟨3, ![1, 2048, 2048]⟩
abbrev S4x2752x2048 : Shape := ⟨3, ![4, 2752, 2048]⟩
abbrev S1x2048x2752 : Shape := ⟨3, ![1, 2048, 2752]⟩
abbrev S1x2048x512 : Shape := ⟨3, ![1, 2048, 512]⟩
abbrev S1x2752x512 : Shape := ⟨3, ![1, 2752, 512]⟩
abbrev S2048x2752 : Shape := ⟨2, ![2048, 2752]⟩
abbrev S2048x512 : Shape := ⟨2, ![2048, 512]⟩
abbrev S2752x512 : Shape := ⟨2, ![2752, 512]⟩

abbrev nBuf : Space → Nat
  | .hbm => 8
  | .vmem => 6
  | .smem => 0
  | _ => 0

abbrev bufTy : (tb : Table) → Fin (tcTables nBuf tb) → BufTy
  | .hbm, ⟨0, _⟩ => ⟨S2048x11008, .f32⟩
  | .hbm, ⟨1, _⟩ => ⟨S2048x2048, .f32⟩
  | .hbm, ⟨2, _⟩ => ⟨S2048x2x2x2752, .f32⟩
  | .hbm, ⟨3, _⟩ => ⟨S2x2x2048x2752, .f32⟩
  | .hbm, ⟨4, _⟩ => ⟨S4x2048x2752, .f32⟩
  | .hbm, ⟨5, _⟩ => ⟨S4x2048x2752, .bf16⟩
  | .hbm, ⟨6, _⟩ => ⟨S1x2048x2048, .f32⟩
  | .hbm, ⟨7, _⟩ => ⟨S4x2752x2048, .bf16⟩
  | .local _ .vmem, ⟨0, _⟩ => ⟨S1x2048x2752, .bf16⟩
  | .local _ .vmem, ⟨1, _⟩ => ⟨S1x2048x2752, .bf16⟩
  | .local _ .vmem, ⟨2, _⟩ => ⟨S1x2048x512, .f32⟩
  | .local _ .vmem, ⟨3, _⟩ => ⟨S1x2048x512, .f32⟩
  | .local _ .vmem, ⟨4, _⟩ => ⟨S1x2752x512, .bf16⟩
  | .local _ .vmem, ⟨5, _⟩ => ⟨S1x2752x512, .bf16⟩
  | _, _ => ⟨S2048x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![4, 1, 4, 1, 1], ![false, false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let v0 : BitVec 32 := Scalar.addi arg0 arg3
  let c0_i32 : BitVec 32 := 0#32
  ![v0.toNat, arg4.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg4.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let v0 : BitVec 32 := Scalar.addi arg0 arg3
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c2_i32_3 : BitVec 32 := 2#32
  let v11 : BitVec 32 := Scalar.muli v10 c2_i32_3
  let c2_i32_4 : BitVec 32 := 2#32
  let v12 : BitVec 32 := Scalar.divsi v0 c2_i32_4
  let c0_i32_5 : BitVec 32 := 0#32
  let v13 : BitVec 1 := Scalar.cmpi .sgt v0 c0_i32_5
  let v14 : BitVec 32 := Scalar.extui v13
  let c0_i32_6 : BitVec 32 := 0#32
  let v15 : BitVec 1 := Scalar.cmpi .slt v0 c0_i32_6
  let v16 : BitVec 32 := Scalar.extui v15
  let v17 : BitVec 32 := Scalar.subi v14 v16
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v0 c2_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let v29 : BitVec 32 := Scalar.addi v11 v28
  let c0_i32_11 : BitVec 32 := 0#32
  ![v29.toNat, arg1.toNat, arg2.toNat]

abbrev stage0_0 : Fin 2 → Memref sig .tc .vmem S1x2048x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S1x2752x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true, false]
-- ==== Reference3Ideal.lean ====
abbrev S2048x11008 : Shape := ⟨2, ![2048, 11008]⟩
abbrev S2048x2048 : Shape := ⟨2, ![2048, 2048]⟩
abbrev S_ : Shape := ⟨0, ![]⟩
abbrev S11008x2048 : Shape := ⟨2, ![11008, 2048]⟩
abbrev S4x2752x2048 : Shape := ⟨3, ![4, 2752, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x11008, .f32⟩
  | .hbm, ⟨1, _⟩ => ⟨S2048x2048, .f32⟩
  | .hbm, ⟨2, _⟩ => ⟨S_, .f32⟩
  | .hbm, ⟨3, _⟩ => ⟨S2048x11008, .f32⟩
  | .hbm, ⟨4, _⟩ => ⟨S2048x11008, .f32⟩
  | .hbm, ⟨5, _⟩ => ⟨S11008x2048, .f32⟩
  | .hbm, ⟨6, _⟩ => ⟨S2048x11008, .f32⟩
  | .hbm, ⟨7, _⟩ => ⟨S11008x2048, .f32⟩
  | .hbm, ⟨8, _⟩ => ⟨S4x2752x2048, .f32⟩
  | .hbm, ⟨9, _⟩ => ⟨S4x2752x2048, .bf16⟩
  | _, _ => ⟨S2048x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S2048x2048 : Shape := ⟨2, ![2048, 2048]⟩
abbrev S5504x2048 : Shape := ⟨2, ![5504, 2048]⟩
abbrev S2x2752x2048 : Shape := ⟨3, ![2, 2752, 2048]⟩
abbrev S1x2048x2048 : Shape := ⟨3, ![1, 2048, 2048]⟩
abbrev S2x2048x2752 : Shape := ⟨3, ![2, 2048, 2752]⟩
abbrev S1x512x2048 : Shape := ⟨3, ![1, 512, 2048]⟩
abbrev S1x2752x2048 : Shape := ⟨3, ![1, 2752, 2048]⟩
abbrev S1x512x2752 : Shape := ⟨3, ![1, 512, 2752]⟩
abbrev S512x2048 : Shape := ⟨2, ![512, 2048]⟩
abbrev S2752x2048 : Shape := ⟨2, ![2752, 2048]⟩
abbrev S512x2752 : Shape := ⟨2, ![512, 2752]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S5504x2048, .f32⟩
  | .hbm, ⟨2, _⟩ => ⟨S2x2752x2048, .f32⟩
  | .hbm, ⟨3, _⟩ => ⟨S2x2752x2048, .bf16⟩
  | .hbm, ⟨4, _⟩ => ⟨S1x2048x2048, .f32⟩
  | .hbm, ⟨5, _⟩ => ⟨S2x2048x2752, .f32⟩
  | .local _ .vmem, ⟨0, _⟩ => ⟨S1x512x2048, .f32⟩
  | .local _ .vmem, ⟨1, _⟩ => ⟨S1x512x2048, .f32⟩
  | .local _ .vmem, ⟨2, _⟩ => ⟨S1x2752x2048, .bf16⟩
  | .local _ .vmem, ⟨3, _⟩ => ⟨S1x2752x2048, .bf16⟩
  | .local _ .vmem, ⟨4, _⟩ => ⟨S1x512x2752, .f32⟩
  | .local _ .vmem, ⟨5, _⟩ => ⟨S1x512x2752, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![2, 4, 1, 1, 1], ![false, false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg1.toNat, arg4.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let v0 : BitVec 32 := Scalar.addi arg0 arg3
  let c0_i32 : BitVec 32 := 0#32
  ![v0.toNat, arg2.toNat, arg4.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let v0 : BitVec 32 := Scalar.addi arg0 arg3
  let c0_i32 : BitVec 32 := 0#32
  ![v0.toNat, arg1.toNat, arg2.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 2 → Memref sig .tc .vmem S1x2752x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true, true]

abbrev stage0_2 : Fin 2 → Memref sig .tc .vmem S1x512x2752 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true, false]
-- ==== Reference4Ideal.lean ====
abbrev S2048x2048 : Shape := ⟨2, ![2048, 2048]⟩
abbrev S5504x2048 : Shape := ⟨2, ![5504, 2048]⟩
abbrev S_ : Shape := ⟨0, ![]⟩
abbrev S2048x5504 : Shape := ⟨2, ![2048, 5504]⟩
abbrev S2048x2752 : Shape := ⟨2, ![2048, 2752]⟩
abbrev S1x2048x2752 : Shape := ⟨3, ![1, 2048, 2752]⟩
abbrev S2x2048x2752 : Shape := ⟨3, ![2, 2048, 2752]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S5504x2048, .f32⟩
  | .hbm, ⟨2, _⟩ => ⟨S_, .f32⟩
  | .hbm, ⟨3, _⟩ => ⟨S2048x5504, .f32⟩
  | .hbm, ⟨4, _⟩ => ⟨S2048x2048, .f32⟩
  | .hbm, ⟨5, _⟩ => ⟨S2048x5504, .f32⟩
  | .hbm, ⟨6, _⟩ => ⟨S2048x2752, .f32⟩
  | .hbm, ⟨7, _⟩ => ⟨S2048x2752, .f32⟩
  | .hbm, ⟨8, _⟩ => ⟨S1x2048x2752, .f32⟩
  | .hbm, ⟨9, _⟩ => ⟨S1x2048x2752, .f32⟩
  | .hbm, ⟨10, _⟩ => ⟨S2x2048x2752, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S2048x5504 : Shape := ⟨2, ![2048, 5504]⟩
abbrev S2048x2048 : Shape := ⟨2, ![2048, 2048]⟩
abbrev S2048x2x2752 : Shape := ⟨3, ![2048, 2, 2752]⟩
abbrev S2x2048x2752 : Shape := ⟨3, ![2, 2048, 2752]⟩
abbrev S1x2048x2048 : Shape := ⟨3, ![1, 2048, 2048]⟩
abbrev S2x2752x2048 : Shape := ⟨3, ![2, 2752, 2048]⟩
abbrev S1x2048x2752 : Shape := ⟨3, ![1, 2048, 2752]⟩
abbrev S1x2048x512 : Shape := ⟨3, ![1, 2048, 512]⟩
abbrev S1x2752x512 : Shape := ⟨3, ![1, 2752, 512]⟩
abbrev S2048x2752 : Shape := ⟨2, ![2048, 2752]⟩
abbrev S2048x512 : Shape := ⟨2, ![2048, 512]⟩
abbrev S2752x512 : Shape := ⟨2, ![2752, 512]⟩

abbrev nBuf : Space → Nat
  | .hbm => 7
  | .vmem => 6
  | .smem => 0
  | _ => 0

abbrev bufTy : (tb : Table) → Fin (tcTables nBuf tb) → BufTy
  | .hbm, ⟨0, _⟩ => ⟨S2048x5504, .f32⟩
  | .hbm, ⟨1, _⟩ => ⟨S2048x2048, .f32⟩
  | .hbm, ⟨2, _⟩ => ⟨S2048x2x2752, .f32⟩
  | .hbm, ⟨3, _⟩ => ⟨S2x2048x2752, .f32⟩
  | .hbm, ⟨4, _⟩ => ⟨S2x2048x2752, .bf16⟩
  | .hbm, ⟨5, _⟩ => ⟨S1x2048x2048, .f32⟩
  | .hbm, ⟨6, _⟩ => ⟨S2x2752x2048, .bf16⟩
  | .local _ .vmem, ⟨0, _⟩ => ⟨S1x2048x2752, .bf16⟩
  | .local _ .vmem, ⟨1, _⟩ => ⟨S1x2048x2752, .bf16⟩
  | .local _ .vmem, ⟨2, _⟩ => ⟨S1x2048x512, .f32⟩
  | .local _ .vmem, ⟨3, _⟩ => ⟨S1x2048x512, .f32⟩
  | .local _ .vmem, ⟨4, _⟩ => ⟨S1x2752x512, .bf16⟩
  | .local _ .vmem, ⟨5, _⟩ => ⟨S1x2752x512, .bf16⟩
  | _, _ => ⟨S2048x5504, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![2, 1, 4, 1, 1], ![false, false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let v0 : BitVec 32 := Scalar.addi arg0 arg3
  let c0_i32 : BitVec 32 := 0#32
  ![v0.toNat, arg4.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg4.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let v0 : BitVec 32 := Scalar.addi arg0 arg3
  let c0_i32 : BitVec 32 := 0#32
  ![v0.toNat, arg1.toNat, arg2.toNat]

abbrev stage0_0 : Fin 2 → Memref sig .tc .vmem S1x2048x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S1x2752x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true, false]
-- ==== Reference5Ideal.lean ====
abbrev S2048x5504 : Shape := ⟨2, ![2048, 5504]⟩
abbrev S2048x2048 : Shape := ⟨2, ![2048, 2048]⟩
abbrev S_ : Shape := ⟨0, ![]⟩
abbrev S5504x2048 : Shape := ⟨2, ![5504, 2048]⟩
abbrev S2x2752x2048 : Shape := ⟨3, ![2, 2752, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x5504, .f32⟩
  | .hbm, ⟨1, _⟩ => ⟨S2048x2048, .f32⟩
  | .hbm, ⟨2, _⟩ => ⟨S_, .f32⟩
  | .hbm, ⟨3, _⟩ => ⟨S5504x2048, .f32⟩
  | .hbm, ⟨4, _⟩ => ⟨S2048x2048, .f32⟩
  | .hbm, ⟨5, _⟩ => ⟨S2048x5504, .f32⟩
  | .hbm, ⟨6, _⟩ => ⟨S5504x2048, .f32⟩
  | .hbm, ⟨7, _⟩ => ⟨S2x2752x2048, .f32⟩
  | .hbm, ⟨8, _⟩ => ⟨S2x2752x2048, .bf16⟩
  | _, _ => ⟨S2048x5504, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S2048x2048 : Shape := ⟨2, ![2048, 2048]⟩
abbrev S2048x11008 : Shape := ⟨2, ![2048, 11008]⟩
abbrev S11008x2048 : Shape := ⟨2, ![11008, 2048]⟩
abbrev S4x2752x2048 : Shape := ⟨3, ![4, 2752, 2048]⟩
abbrev S1x2048x2048 : Shape := ⟨3, ![1, 2048, 2048]⟩
abbrev S4x2048x2752 : Shape := ⟨3, ![4, 2048, 2752]⟩
abbrev S1x512x2048 : Shape := ⟨3, ![1, 512, 2048]⟩
abbrev S1x2752x2048 : Shape := ⟨3, ![1, 2752, 2048]⟩
abbrev S1x512x2752 : Shape := ⟨3, ![1, 512, 2752]⟩
abbrev S512x2048 : Shape := ⟨2, ![512, 2048]⟩
abbrev S2752x2048 : Shape := ⟨2, ![2752, 2048]⟩
abbrev S512x2752 : Shape := ⟨2, ![512, 2752]⟩

abbrev nBuf : Space → Nat
  | .hbm => 7
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x11008, .f32⟩
  | .hbm, ⟨2, _⟩ => ⟨S11008x2048, .f32⟩
  | .hbm, ⟨3, _⟩ => ⟨S4x2752x2048, .f32⟩
  | .hbm, ⟨4, _⟩ => ⟨S4x2752x2048, .bf16⟩
  | .hbm, ⟨5, _⟩ => ⟨S1x2048x2048, .f32⟩
  | .hbm, ⟨6, _⟩ => ⟨S4x2048x2752, .f32⟩
  | .local _ .vmem, ⟨0, _⟩ => ⟨S1x512x2048, .f32⟩
  | .local _ .vmem, ⟨1, _⟩ => ⟨S1x512x2048, .f32⟩
  | .local _ .vmem, ⟨2, _⟩ => ⟨S1x2752x2048, .bf16⟩
  | .local _ .vmem, ⟨3, _⟩ => ⟨S1x2752x2048, .bf16⟩
  | .local _ .vmem, ⟨4, _⟩ => ⟨S1x512x2752, .f32⟩
  | .local _ .vmem, ⟨5, _⟩ => ⟨S1x512x2752, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![4, 4, 1, 1, 1], ![false, false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg1.toNat, arg4.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let v0 : BitVec 32 := Scalar.addi arg0 arg3
  let c0_i32 : BitVec 32 := 0#32
  ![v0.toNat, arg2.toNat, arg4.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let v0 : BitVec 32 := Scalar.addi arg0 arg3
  let c0_i32 : BitVec 32 := 0#32
  ![v0.toNat, arg1.toNat, arg2.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 2 → Memref sig .tc .vmem S1x2752x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true, true]

abbrev stage0_2 : Fin 2 → Memref sig .tc .vmem S1x512x2752 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true, false]
-- ==== Reference6Ideal.lean ====
abbrev S2048x2048 : Shape := ⟨2, ![2048, 2048]⟩
abbrev S2048x11008 : Shape := ⟨2, ![2048, 11008]⟩
abbrev S2048x2752 : Shape := ⟨2, ![2048, 2752]⟩
abbrev S1x2048x2752 : Shape := ⟨3, ![1, 2048, 2752]⟩
abbrev S4x2048x2752 : Shape := ⟨3, ![4, 2048, 2752]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x11008, .f32⟩
  | .hbm, ⟨2, _⟩ => ⟨S2048x11008, .f32⟩
  | .hbm, ⟨3, _⟩ => ⟨S2048x2752, .f32⟩
  | .hbm, ⟨4, _⟩ => ⟨S2048x2752, .f32⟩
  | .hbm, ⟨5, _⟩ => ⟨S2048x2752, .f32⟩
  | .hbm, ⟨6, _⟩ => ⟨S2048x2752, .f32⟩
  | .hbm, ⟨7, _⟩ => ⟨S1x2048x2752, .f32⟩
  | .hbm, ⟨8, _⟩ => ⟨S1x2048x2752, .f32⟩
  | .hbm, ⟨9, _⟩ => ⟨S1x2048x2752, .f32⟩
  | .hbm, ⟨10, _⟩ => ⟨S1x2048x2752, .f32⟩
  | .hbm, ⟨11, _⟩ => ⟨S4x2048x2752, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel7.lean ====
abbrev S2048x5504 : Shape := ⟨2, ![2048, 5504]⟩
abbrev S5504x2048 : Shape := ⟨2, ![5504, 2048]⟩
abbrev S2048x2x2752 : Shape := ⟨3, ![2048, 2, 2752]⟩
abbrev S2x2048x2752 : Shape := ⟨3, ![2, 2048, 2752]⟩
abbrev S2x2752x2048 : Shape := ⟨3, ![2, 2752, 2048]⟩
abbrev S1x2048x2048 : Shape := ⟨3, ![1, 2048, 2048]⟩
abbrev S1x512x2752 : Shape := ⟨3, ![1, 512, 2752]⟩
abbrev S1x2752x1024 : Shape := ⟨3, ![1, 2752, 1024]⟩
abbrev S1x512x1024 : Shape := ⟨3, ![1, 512, 1024]⟩
abbrev S512x1024 : Shape := ⟨2, ![512, 1024]⟩
abbrev S512x2752 : Shape := ⟨2, ![512, 2752]⟩
abbrev S2752x1024 : Shape := ⟨2, ![2752, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2048x5504, .f32⟩
  | .hbm, ⟨1, _⟩ => ⟨S5504x2048, .f32⟩
  | .hbm, ⟨2, _⟩ => ⟨S2048x2x2752, .f32⟩
  | .hbm, ⟨3, _⟩ => ⟨S2x2048x2752, .f32⟩
  | .hbm, ⟨4, _⟩ => ⟨S2x2048x2752, .bf16⟩
  | .hbm, ⟨5, _⟩ => ⟨S2x2752x2048, .f32⟩
  | .hbm, ⟨6, _⟩ => ⟨S2x2752x2048, .bf16⟩
  | .hbm, ⟨7, _⟩ => ⟨S1x2048x2048, .f32⟩
  | .local _ .vmem, ⟨0, _⟩ => ⟨S1x512x2752, .bf16⟩
  | .local _ .vmem, ⟨1, _⟩ => ⟨S1x512x2752, .bf16⟩
  | .local _ .vmem, ⟨2, _⟩ => ⟨S1x2752x1024, .bf16⟩
  | .local _ .vmem, ⟨3, _⟩ => ⟨S1x2752x1024, .bf16⟩
  | .local _ .vmem, ⟨4, _⟩ => ⟨S1x512x1024, .f32⟩
  | .local _ .vmem, ⟨5, _⟩ => ⟨S1x512x1024, .f32⟩
  | .local _ .vmem, ⟨6, _⟩ => ⟨S512x1024, .f32⟩
  | _, _ => ⟨S2048x5504, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![1, 4, 2, 2, 1], ![false, false, false, false, false]⟩

def k0_cond3 (i : grid0.Coords) : BitVec 1 :=
  let arg3 : BitVec 32 := BitVec.ofNat 32 (i 3).val
  let c1_i32 : BitVec 32 := 1#32
  let v5 : BitVec 32 := Scalar.muli arg3 c1_i32
  let arg4 : BitVec 32 := BitVec.ofNat 32 (i 4).val
  let v6 : BitVec 32 := Scalar.addi v5 arg4
  let c1_i32_8 : BitVec 32 := 1#32
  let v13 : BitVec 1 := Scalar.cmpi .eq v6 c1_i32_8
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let v0 : BitVec 32 := Scalar.addi arg0 arg3
  let c0_i32 : BitVec 32 := 0#32
  ![v0.toNat, arg1.toNat, arg4.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let v0 : BitVec 32 := Scalar.addi arg0 arg3
  let c0_i32 : BitVec 32 := 0#32
  ![v0.toNat, arg4.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg1.toNat, arg2.toNat]

abbrev stage0_0 : Fin 2 → Memref sig .tc .vmem S1x512x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true, true]

abbrev stage0_1 : Fin 2 → Memref sig .tc .vmem S1x2752x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== Reference7Ideal.lean ====
abbrev S2048x5504 : Shape := ⟨2, ![2048, 5504]⟩
abbrev S5504x2048 : Shape := ⟨2, ![5504, 2048]⟩
abbrev S2048x2048 : Shape := ⟨2, ![2048, 2048]⟩
abbrev S1x2048x2048 : Shape := ⟨3, ![1, 2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x5504, .f32⟩
  | .hbm, ⟨1, _⟩ => ⟨S5504x2048, .f32⟩
  | .hbm, ⟨2, _⟩ => ⟨S2048x2048, .f32⟩
  | .hbm, ⟨3, _⟩ => ⟨S1x2048x2048, .f32⟩
  | _, _ => ⟨S2048x5504, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel8.lean ====
abbrev S2048x2048 : Shape := ⟨2, ![2048, 2048]⟩
abbrev S2048x4096 : Shape := ⟨2, ![2048, 4096]⟩
abbrev S4096x2048 : Shape := ⟨2, ![4096, 2048]⟩
abbrev S1x2048x2048 : Shape := ⟨3, ![1, 2048, 2048]⟩
abbrev S1x4096x2048 : Shape := ⟨3, ![1, 4096, 2048]⟩
abbrev S1x2048x4096 : Shape := ⟨3, ![1, 2048, 4096]⟩
abbrev S1x512x2048 : Shape := ⟨3, ![1, 512, 2048]⟩
abbrev S1x1024x2048 : Shape := ⟨3, ![1, 1024, 2048]⟩
abbrev S1x512x1024 : Shape := ⟨3, ![1, 512, 1024]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x4096, .f32⟩
  | .hbm, ⟨2, _⟩ => ⟨S4096x2048, .f32⟩
  | .hbm, ⟨3, _⟩ => ⟨S4096x2048, .bf16⟩
  | .hbm, ⟨4, _⟩ => ⟨S1x2048x2048, .f32⟩
  | .hbm, ⟨5, _⟩ => ⟨S1x4096x2048, .bf16⟩
  | .hbm, ⟨6, _⟩ => ⟨S1x2048x4096, .f32⟩
  | .local _ .vmem, ⟨0, _⟩ => ⟨S1x512x2048, .f32⟩
  | .local _ .vmem, ⟨1, _⟩ => ⟨S1x512x2048, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1x512x1024, .f32⟩
  | .local _ .vmem, ⟨5, _⟩ => ⟨S1x512x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![1, 4, 4, 1, 1], ![false, false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg1.toNat, arg4.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg2.toNat, arg4.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg1.toNat, arg2.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== Reference8Ideal.lean ====
abbrev S2048x2048 : Shape := ⟨2, ![2048, 2048]⟩
abbrev S2048x4096 : Shape := ⟨2, ![2048, 4096]⟩
abbrev S1x2048x4096 : Shape := ⟨3, ![1, 2048, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x4096, .f32⟩
  | .hbm, ⟨2, _⟩ => ⟨S2048x4096, .f32⟩
  | .hbm, ⟨3, _⟩ => ⟨S1x2048x4096, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel9.lean ====
abbrev S2048x1024 : Shape := ⟨2, ![2048, 1024]⟩
abbrev S1024x2048 : Shape := ⟨2, ![1024, 2048]⟩
abbrev S1x2048x1024 : Shape := ⟨3, ![1, 2048, 1024]⟩
abbrev S1x1024x2048 : Shape := ⟨3, ![1, 1024, 2048]⟩
abbrev S1x2048x2048 : Shape := ⟨3, ![1, 2048, 2048]⟩
abbrev S1x512x1024 : Shape := ⟨3, ![1, 512, 1024]⟩
abbrev S1x1024x1024 : Shape := ⟨3, ![1, 1024, 1024]⟩
abbrev S512x1024 : Shape := ⟨2, ![512, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x1024, .bf16⟩
  | .hbm, ⟨3, _⟩ => ⟨S1024x2048, .bf16⟩
  | .hbm, ⟨4, _⟩ => ⟨S1x2048x1024, .bf16⟩
  | .hbm, ⟨5, _⟩ => ⟨S1x1024x2048, .bf16⟩
  | .hbm, ⟨6, _⟩ => ⟨S1x2048x2048, .f32⟩
  | .local _ .vmem, ⟨0, _⟩ => ⟨S1x512x1024, .bf16⟩
  | .local _ .vmem, ⟨1, _⟩ => ⟨S1x512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x512x1024, .f32⟩
  | .local _ .vmem, ⟨5, _⟩ => ⟨S1x512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![1, 4, 2, 1, 1], ![false, false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg1.toNat, arg4.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg4.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg1.toNat, arg2.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== Reference9Ideal.lean ====
abbrev S2048x1024 : Shape := ⟨2, ![2048, 1024]⟩
abbrev S1024x2048 : Shape := ⟨2, ![1024, 2048]⟩
abbrev S2048x2048 : Shape := ⟨2, ![2048, 2048]⟩
abbrev S1x2048x2048 : Shape := ⟨3, ![1, 2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | .hbm, ⟨3, _⟩ => ⟨S1x2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel10.lean ====
abbrev S2048x2048 : Shape := ⟨2, ![2048, 2048]⟩
abbrev S1x2048x2048 : Shape := ⟨3, ![1, 2048, 2048]⟩
abbrev S1x512x2048 : Shape := ⟨3, ![1, 512, 2048]⟩
abbrev S1x2048x1024 : Shape := ⟨3, ![1, 2048, 1024]⟩
abbrev S1x512x1024 : Shape := ⟨3, ![1, 512, 1024]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S1x2048x2048, .bf16⟩
  | .hbm, ⟨5, _⟩ => ⟨S1x2048x2048, .bf16⟩
  | .hbm, ⟨6, _⟩ => ⟨S1x2048x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x512x1024, .f32⟩
  | .local _ .vmem, ⟨5, _⟩ => ⟨S1x512x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![1, 4, 2, 1, 1], ![false, false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg1.toNat, arg4.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg4.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg1.toNat, arg2.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== Reference10Ideal.lean ====
abbrev S2048x2048 : Shape := ⟨2, ![2048, 2048]⟩
abbrev S1x2048x2048 : Shape := ⟨3, ![1, 2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel11.lean ====
abbrev S2048x2048 : Shape := ⟨2, ![2048, 2048]⟩
abbrev S2048x2560 : Shape := ⟨2, ![2048, 2560]⟩
abbrev S1x2048x2048 : Shape := ⟨3, ![1, 2048, 2048]⟩
abbrev S1x2048x2560 : Shape := ⟨3, ![1, 2048, 2560]⟩
abbrev S1x512x2048 : Shape := ⟨3, ![1, 512, 2048]⟩
abbrev S1x2048x640 : Shape := ⟨3, ![1, 2048, 640]⟩
abbrev S1x512x640 : Shape := ⟨3, ![1, 512, 640]⟩
abbrev S512x2048 : Shape := ⟨2, ![512, 2048]⟩
abbrev S2048x640 : Shape := ⟨2, ![2048, 640]⟩
abbrev S512x640 : Shape := ⟨2, ![512, 640]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2560, .f32⟩
  | .hbm, ⟨2, _⟩ => ⟨S2048x2560, .bf16⟩
  | .hbm, ⟨3, _⟩ => ⟨S1x2048x2048, .f32⟩
  | .hbm, ⟨4, _⟩ => ⟨S1x2048x2560, .bf16⟩
  | .hbm, ⟨5, _⟩ => ⟨S1x2048x2560, .f32⟩
  | .local _ .vmem, ⟨0, _⟩ => ⟨S1x512x2048, .f32⟩
  | .local _ .vmem, ⟨1, _⟩ => ⟨S1x512x2048, .f32⟩
  | .local _ .vmem, ⟨2, _⟩ => ⟨S1x2048x640, .bf16⟩
  | .local _ .vmem, ⟨3, _⟩ => ⟨S1x2048x640, .bf16⟩
  | .local _ .vmem, ⟨4, _⟩ => ⟨S1x512x640, .f32⟩
  | .local _ .vmem, ⟨5, _⟩ => ⟨S1x512x640, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![1, 4, 4, 1, 1], ![false, false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg1.toNat, arg4.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg4.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg1.toNat, arg2.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 2 → Memref sig .tc .vmem S1x2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S1x512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== Reference11Ideal.lean ====
abbrev S2048x2048 : Shape := ⟨2, ![2048, 2048]⟩
abbrev S2048x2560 : Shape := ⟨2, ![2048, 2560]⟩
abbrev S1x2048x2560 : Shape := ⟨3, ![1, 2048, 2560]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2560, .f32⟩
  | .hbm, ⟨2, _⟩ => ⟨S2048x2560, .f32⟩
  | .hbm, ⟨3, _⟩ => ⟨S1x2048x2560, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel12.lean ====
abbrev S2048x2048 : Shape := ⟨2, ![2048, 2048]⟩
abbrev S1x2048x2048 : Shape := ⟨3, ![1, 2048, 2048]⟩
abbrev S1x512x2048 : Shape := ⟨3, ![1, 512, 2048]⟩
abbrev S1x1024x2048 : Shape := ⟨3, ![1, 1024, 2048]⟩
abbrev S1x512x1024 : Shape := ⟨3, ![1, 512, 1024]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S1x2048x2048, .f32⟩
  | .hbm, ⟨4, _⟩ => ⟨S1x2048x2048, .bf16⟩
  | .hbm, ⟨5, _⟩ => ⟨S1x2048x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1x512x1024, .f32⟩
  | .local _ .vmem, ⟨5, _⟩ => ⟨S1x512x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![1, 4, 2, 1, 1], ![false, false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg1.toNat, arg4.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg2.toNat, arg4.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg1.toNat, arg2.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== Reference12Ideal.lean ====
abbrev S2048x2048 : Shape := ⟨2, ![2048, 2048]⟩
abbrev S_ : Shape := ⟨0, ![]⟩
abbrev S1x2048x2048 : Shape := ⟨3, ![1, 2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S1x2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S2048x2048 : Shape := ⟨2, ![2048, 2048]⟩
abbrev S1024x2048 : Shape := ⟨2, ![1024, 2048]⟩
abbrev S1x2048x2048 : Shape := ⟨3, ![1, 2048, 2048]⟩
abbrev S1x1024x2048 : Shape := ⟨3, ![1, 1024, 2048]⟩
abbrev S1x2048x1024 : Shape := ⟨3, ![1, 2048, 1024]⟩
abbrev S1x512x2048 : Shape := ⟨3, ![1, 512, 2048]⟩
abbrev S1x512x1024 : Shape := ⟨3, ![1, 512, 1024]⟩
abbrev S512x2048 : Shape := ⟨2, ![512, 2048]⟩
abbrev S512x1024 : Shape := ⟨2, ![512, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1024x2048, .f32⟩
  | .hbm, ⟨2, _⟩ => ⟨S2048x2048, .bf16⟩
  | .hbm, ⟨3, _⟩ => ⟨S1024x2048, .bf16⟩
  | .hbm, ⟨4, _⟩ => ⟨S1x2048x2048, .bf16⟩
  | .hbm, ⟨5, _⟩ => ⟨S1x1024x2048, .bf16⟩
  | .hbm, ⟨6, _⟩ => ⟨S1x2048x1024, .f32⟩
  | .local _ .vmem, ⟨0, _⟩ => ⟨S1x512x2048, .bf16⟩
  | .local _ .vmem, ⟨1, _⟩ => ⟨S1x512x2048, .bf16⟩
  | .local _ .vmem, ⟨2, _⟩ => ⟨S1x1024x2048, .bf16⟩
  | .local _ .vmem, ⟨3, _⟩ => ⟨S1x512x1024, .f32⟩
  | .local _ .vmem, ⟨4, _⟩ => ⟨S1x512x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨5, ![1, 4, 1, 1, 1], ![false, false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg1.toNat, arg4.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg2.toNat, arg4.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg1.toNat, arg2.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== Reference13Ideal.lean ====
abbrev S2048x2048 : Shape := ⟨2, ![2048, 2048]⟩
abbrev S1024x2048 : Shape := ⟨2, ![1024, 2048]⟩
abbrev S_ : Shape := ⟨0, ![]⟩
abbrev S2048x1024 : Shape := ⟨2, ![2048, 1024]⟩
abbrev S1x2048x1024 : Shape := ⟨3, ![1, 2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1024x2048, .f32⟩
  | .hbm, ⟨2, _⟩ => ⟨S_, .f32⟩
  | .hbm, ⟨3, _⟩ => ⟨S2048x1024, .f32⟩
  | .hbm, ⟨4, _⟩ => ⟨S2048x2048, .f32⟩
  | .hbm, ⟨5, _⟩ => ⟨S2048x1024, .f32⟩
  | .hbm, ⟨6, _⟩ => ⟨S1x2048x1024, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S2048x2048 : Shape := ⟨2, ![2048, 2048]⟩
abbrev S1x2048x2048 : Shape := ⟨3, ![1, 2048, 2048]⟩
abbrev S1x2048x512 : Shape := ⟨3, ![1, 2048, 512]⟩
abbrev S1x2048x1024 : Shape := ⟨3, ![1, 2048, 1024]⟩
abbrev S1x512x1024 : Shape := ⟨3, ![1, 512, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S1x2048x2048, .bf16⟩
  | .hbm, ⟨4, _⟩ => ⟨S1x2048x2048, .f32⟩
  | .hbm, ⟨5, _⟩ => ⟨S1x2048x2048, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x512x1024, .bf16⟩
  | .local _ .vmem, ⟨5, _⟩ => ⟨S1x512x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![1, 4, 2, 1, 1], ![false, false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg4.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg4.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg1.toNat, arg2.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== Reference14Ideal.lean ====
abbrev S2048x2048 : Shape := ⟨2, ![2048, 2048]⟩
abbrev S_ : Shape := ⟨0, ![]⟩
abbrev S1x2048x2048 : Shape := ⟨3, ![1, 2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | .hbm, ⟨8, _⟩ => ⟨S1x2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S2048x1024 : Shape := ⟨2, ![2048, 1024]⟩
abbrev S2048x2048 : Shape := ⟨2, ![2048, 2048]⟩
abbrev S1x2048x1024 : Shape := ⟨3, ![1, 2048, 1024]⟩
abbrev S1x2048x2048 : Shape := ⟨3, ![1, 2048, 2048]⟩
abbrev S1x1024x2048 : Shape := ⟨3, ![1, 1024, 2048]⟩
abbrev S1x2048x512 : Shape := ⟨3, ![1, 2048, 512]⟩
abbrev S1x512x1024 : Shape := ⟨3, ![1, 512, 1024]⟩
abbrev S2048x512 : Shape := ⟨2, ![2048, 512]⟩
abbrev S512x1024 : Shape := ⟨2, ![512, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x1024, .bf16⟩
  | .hbm, ⟨3, _⟩ => ⟨S2048x2048, .bf16⟩
  | .hbm, ⟨4, _⟩ => ⟨S1x2048x1024, .bf16⟩
  | .hbm, ⟨5, _⟩ => ⟨S1x2048x2048, .bf16⟩
  | .hbm, ⟨6, _⟩ => ⟨S1x1024x2048, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x512x1024, .bf16⟩
  | .local _ .vmem, ⟨5, _⟩ => ⟨S1x512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![1, 2, 2, 1, 1], ![false, false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg4.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg4.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg1.toNat, arg2.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== Reference15Ideal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩
abbrev S1x1024x2048 : Shape := ⟨3, ![1, 1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S_, .f32⟩
  | .hbm, ⟨3, _⟩ => ⟨S1024x2048, .f32⟩
  | .hbm, ⟨4, _⟩ => ⟨S2048x2048, .f32⟩
  | .hbm, ⟨5, _⟩ => ⟨S2048x1024, .f32⟩
  | .hbm, ⟨6, _⟩ => ⟨S1024x2048, .f32⟩
  | .hbm, ⟨7, _⟩ => ⟨S1024x2048, .bf16⟩
  | .hbm, ⟨8, _⟩ => ⟨S1x1024x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S2048x2048 : Shape := ⟨2, ![2048, 2048]⟩
abbrev S2048x2560 : Shape := ⟨2, ![2048, 2560]⟩
abbrev S1x2048x2048 : Shape := ⟨3, ![1, 2048, 2048]⟩
abbrev S1x2048x2560 : Shape := ⟨3, ![1, 2048, 2560]⟩
abbrev S1x2048x512 : Shape := ⟨3, ![1, 2048, 512]⟩
abbrev S1x2048x640 : Shape := ⟨3, ![1, 2048, 640]⟩
abbrev S1x512x640 : Shape := ⟨3, ![1, 512, 640]⟩
abbrev S2048x512 : Shape := ⟨2, ![2048, 512]⟩
abbrev S2048x640 : Shape := ⟨2, ![2048, 640]⟩
abbrev S512x640 : Shape := ⟨2, ![512, 640]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2560, .f32⟩
  | .hbm, ⟨2, _⟩ => ⟨S2048x2560, .bf16⟩
  | .hbm, ⟨3, _⟩ => ⟨S1x2048x2048, .f32⟩
  | .hbm, ⟨4, _⟩ => ⟨S1x2048x2560, .bf16⟩
  | .hbm, ⟨5, _⟩ => ⟨S1x2048x2560, .bf16⟩
  | .local _ .vmem, ⟨0, _⟩ => ⟨S1x2048x512, .f32⟩
  | .local _ .vmem, ⟨1, _⟩ => ⟨S1x2048x512, .f32⟩
  | .local _ .vmem, ⟨2, _⟩ => ⟨S1x2048x640, .bf16⟩
  | .local _ .vmem, ⟨3, _⟩ => ⟨S1x2048x640, .bf16⟩
  | .local _ .vmem, ⟨4, _⟩ => ⟨S1x512x640, .bf16⟩
  | .local _ .vmem, ⟨5, _⟩ => ⟨S1x512x640, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![1, 4, 4, 1, 1], ![false, false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg4.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg4.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg1.toNat, arg2.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 2 → Memref sig .tc .vmem S1x2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S1x512x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== Reference16Ideal.lean ====
abbrev S2048x2048 : Shape := ⟨2, ![2048, 2048]⟩
abbrev S2048x2560 : Shape := ⟨2, ![2048, 2560]⟩
abbrev S_ : Shape := ⟨0, ![]⟩
abbrev S2560x2048 : Shape := ⟨2, ![2560, 2048]⟩
abbrev S1x2048x2560 : Shape := ⟨3, ![1, 2048, 2560]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2560, .f32⟩
  | .hbm, ⟨2, _⟩ => ⟨S_, .f32⟩
  | .hbm, ⟨3, _⟩ => ⟨S2048x2560, .f32⟩
  | .hbm, ⟨4, _⟩ => ⟨S2048x2560, .f32⟩
  | .hbm, ⟨5, _⟩ => ⟨S2560x2048, .f32⟩
  | .hbm, ⟨6, _⟩ => ⟨S2048x2560, .f32⟩
  | .hbm, ⟨7, _⟩ => ⟨S2048x2560, .bf16⟩
  | .hbm, ⟨8, _⟩ => ⟨S1x2048x2560, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S2048x4096 : Shape := ⟨2, ![2048, 4096]⟩
abbrev S2048x2048 : Shape := ⟨2, ![2048, 2048]⟩
abbrev S1x2048x4096 : Shape := ⟨3, ![1, 2048, 4096]⟩
abbrev S1x2048x2048 : Shape := ⟨3, ![1, 2048, 2048]⟩
abbrev S1x4096x2048 : Shape := ⟨3, ![1, 4096, 2048]⟩
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x4096, .f32⟩
  | .hbm, ⟨1, _⟩ => ⟨S2048x2048, .f32⟩
  | .hbm, ⟨2, _⟩ => ⟨S2048x4096, .bf16⟩
  | .hbm, ⟨3, _⟩ => ⟨S1x2048x4096, .bf16⟩
  | .hbm, ⟨4, _⟩ => ⟨S1x2048x2048, .f32⟩
  | .hbm, ⟨5, _⟩ => ⟨S1x4096x2048, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x1024x1024, .bf16⟩
  | .local _ .vmem, ⟨5, _⟩ => ⟨S1x1024x1024, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![1, 4, 2, 1, 1], ![false, false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg4.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg4.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg1.toNat, arg2.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== Reference17Ideal.lean ====
abbrev S2048x4096 : Shape := ⟨2, ![2048, 4096]⟩
abbrev S2048x2048 : Shape := ⟨2, ![2048, 2048]⟩
abbrev S_ : Shape := ⟨0, ![]⟩
abbrev S4096x2048 : Shape := ⟨2, ![4096, 2048]⟩
abbrev S1x4096x2048 : Shape := ⟨3, ![1, 4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x2048, .f32⟩
  | .hbm, ⟨2, _⟩ => ⟨S_, .f32⟩
  | .hbm, ⟨3, _⟩ => ⟨S2048x4096, .f32⟩
  | .hbm, ⟨4, _⟩ => ⟨S2048x4096, .f32⟩
  | .hbm, ⟨5, _⟩ => ⟨S4096x2048, .f32⟩
  | .hbm, ⟨6, _⟩ => ⟨S2048x4096, .f32⟩
  | .hbm, ⟨7, _⟩ => ⟨S4096x2048, .f32⟩
  | .hbm, ⟨8, _⟩ => ⟨S4096x2048, .bf16⟩
  | .hbm, ⟨9, _⟩ => ⟨S1x4096x2048, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel18.lean ====
abbrev S2048x2560 : Shape := ⟨2, ![2048, 2560]⟩
abbrev S1x2048x2560 : Shape := ⟨3, ![1, 2048, 2560]⟩
abbrev S1x2048x2048 : Shape := ⟨3, ![1, 2048, 2048]⟩
abbrev S1x512x1280 : Shape := ⟨3, ![1, 512, 1280]⟩
abbrev S1x1024x1280 : Shape := ⟨3, ![1, 1024, 1280]⟩
abbrev S1x512x1024 : Shape := ⟨3, ![1, 512, 1024]⟩
abbrev S512x1024 : Shape := ⟨2, ![512, 1024]⟩
abbrev S512x1280 : Shape := ⟨2, ![512, 1280]⟩
abbrev S1024x1280 : Shape := ⟨2, ![1024, 1280]⟩

abbrev nBuf : Space → Nat
  | .hbm => 7
  | .vmem => 7
  | .smem => 0
  | _ => 0

abbrev bufTy : (tb : Table) → Fin (tcTables nBuf tb) → BufTy
  | .hbm, ⟨0, _⟩ => ⟨S2048x2560, .f32⟩
  | .hbm, ⟨1, _⟩ => ⟨S2048x2560, .f32⟩
  | .hbm, ⟨2, _⟩ => ⟨S2048x2560, .bf16⟩
  | .hbm, ⟨3, _⟩ => ⟨S2048x2560, .bf16⟩
  | .hbm, ⟨4, _⟩ => ⟨S1x2048x2560, .bf16⟩
  | .hbm, ⟨5, _⟩ => ⟨S1x2048x2560, .bf16⟩
  | .hbm, ⟨6, _⟩ => ⟨S1x2048x2048, .f32⟩
  | .local _ .vmem, ⟨0, _⟩ => ⟨S1x512x1280, .bf16⟩
  | .local _ .vmem, ⟨1, _⟩ => ⟨S1x512x1280, .bf16⟩
  | .local _ .vmem, ⟨2, _⟩ => ⟨S1x1024x1280, .bf16⟩
  | .local _ .vmem, ⟨3, _⟩ => ⟨S1x1024x1280, .bf16⟩
  | .local _ .vmem, ⟨4, _⟩ => ⟨S1x512x1024, .f32⟩
  | .local _ .vmem, ⟨5, _⟩ => ⟨S1x512x1024, .f32⟩
  | .local _ .vmem, ⟨6, _⟩ => ⟨S512x1024, .f32⟩
  | _, _ => ⟨S2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![1, 4, 2, 1, 2], ![false, false, false, false, false]⟩

def k0_cond3 (i : grid0.Coords) : BitVec 1 :=
  let arg3 : BitVec 32 := BitVec.ofNat 32 (i 3).val
  let c2_i32 : BitVec 32 := 2#32
  let v5 : BitVec 32 := Scalar.muli arg3 c2_i32
  let arg4 : BitVec 32 := BitVec.ofNat 32 (i 4).val
  let v6 : BitVec 32 := Scalar.addi v5 arg4
  let c1_i32 : BitVec 32 := 1#32
  let v13 : BitVec 1 := Scalar.cmpi .eq v6 c1_i32
  let v14 : BitVec 32 := Scalar.extui v13
  let c0_i32_8 : BitVec 32 := 0#32
  let v15 : BitVec 1 := Scalar.cmpi .ne v14 c0_i32_8
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg1.toNat, arg4.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg2.toNat, arg4.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg1.toNat, arg2.toNat]

abbrev stage0_0 : Fin 2 → Memref sig .tc .vmem S1x512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 2 → Memref sig .tc .vmem S1x1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== Reference18Ideal.lean ====
abbrev S2048x2560 : Shape := ⟨2, ![2048, 2560]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2560, .f32⟩
  | .hbm, ⟨1, _⟩ => ⟨S2048x2560, .f32⟩
  | .hbm, ⟨2, _⟩ => ⟨S_, .f32⟩
  | .hbm, ⟨3, _⟩ => ⟨S2048x2048, .f32⟩
  | .hbm, ⟨4, _⟩ => ⟨S2048x2560, .f32⟩
  | .hbm, ⟨5, _⟩ => ⟨S2048x2048, .f32⟩
  | .hbm, ⟨6, _⟩ => ⟨S1x2048x2048, .f32⟩
  | _, _ => ⟨S2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel19.lean ====
abbrev S2048x4096 : Shape := ⟨2, ![2048, 4096]⟩
abbrev S2048x2048 : Shape := ⟨2, ![2048, 2048]⟩
abbrev S4096x2048 : Shape := ⟨2, ![4096, 2048]⟩
abbrev S1x2048x4096 : Shape := ⟨3, ![1, 2048, 4096]⟩
abbrev S1x4096x2048 : Shape := ⟨3, ![1, 4096, 2048]⟩
abbrev S1x2048x2048 : Shape := ⟨3, ![1, 2048, 2048]⟩
abbrev S1x512x2048 : Shape := ⟨3, ![1, 512, 2048]⟩
abbrev S1x2048x1024 : Shape := ⟨3, ![1, 2048, 1024]⟩
abbrev S1x512x1024 : Shape := ⟨3, ![1, 512, 1024]⟩
abbrev S512x1024 : Shape := ⟨2, ![512, 1024]⟩
abbrev S512x2048 : Shape := ⟨2, ![512, 2048]⟩
abbrev S2048x1024 : Shape := ⟨2, ![2048, 1024]⟩

abbrev nBuf : Space → Nat
  | .hbm => 12
  | .vmem => 11
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x2048, .f32⟩
  | .hbm, ⟨3, _⟩ => ⟨S2048x2048, .f32⟩
  | .hbm, ⟨4, _⟩ => ⟨S2048x4096, .bf16⟩
  | .hbm, ⟨5, _⟩ => ⟨S4096x2048, .f32⟩
  | .hbm, ⟨6, _⟩ => ⟨S4096x2048, .bf16⟩
  | .hbm, ⟨7, _⟩ => ⟨S1x2048x4096, .bf16⟩
  | .hbm, ⟨8, _⟩ => ⟨S1x4096x2048, .bf16⟩
  | .hbm, ⟨9, _⟩ => ⟨S1x2048x2048, .f32⟩
  | .hbm, ⟨10, _⟩ => ⟨S1x2048x2048, .f32⟩
  | .hbm, ⟨11, _⟩ => ⟨S1x2048x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S512x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨5, ![1, 4, 2, 1, 2], ![false, false, false, false, false]⟩

def k0_cond3 (i : grid0.Coords) : BitVec 1 :=
  let arg3 : BitVec 32 := BitVec.ofNat 32 (i 3).val
  let c2_i32 : BitVec 32 := 2#32
  let v5 : BitVec 32 := Scalar.muli arg3 c2_i32
  let arg4 : BitVec 32 := BitVec.ofNat 32 (i 4).val
  let v6 : BitVec 32 := Scalar.addi v5 arg4
  let c1_i32 : BitVec 32 := 1#32
  let v13 : BitVec 1 := Scalar.cmpi .eq v6 c1_i32
  let v14 : BitVec 32 := Scalar.extui v13
  let c0_i32_8 : BitVec 32 := 0#32
  let v15 : BitVec 1 := Scalar.cmpi .ne v14 c0_i32_8
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg1.toNat, arg4.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg4.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg1.toNat, arg2.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true, false, false]
-- ==== Reference19Ideal.lean ====
abbrev S2048x4096 : Shape := ⟨2, ![2048, 4096]⟩
abbrev S2048x2048 : Shape := ⟨2, ![2048, 2048]⟩
abbrev S_ : Shape := ⟨0, ![]⟩
abbrev S1x2048x2048 : Shape := ⟨3, ![1, 2048, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x4096, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S1x2048x2048, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel20.lean ====
abbrev S2048x2048 : Shape := ⟨2, ![2048, 2048]⟩
abbrev S256x1024 : Shape := ⟨2, ![256, 1024]⟩
abbrev S256x2048 : Shape := ⟨2, ![256, 2048]⟩

abbrev nBuf : Space → Nat
  | .hbm => 3
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x2048, .bf16⟩
  | .local _ .vmem, ⟨7, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference20Ideal.lean ====
abbrev S2048x2048 : Shape := ⟨2, ![2048, 2048]⟩
abbrev S2048x1024 : Shape := ⟨2, ![2048, 1024]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel21.lean ====
abbrev S2048x2048 : Shape := ⟨2, ![2048, 2048]⟩
abbrev S2048x1024 : Shape := ⟨2, ![2048, 1024]⟩
abbrev S256x1024 : Shape := ⟨2, ![256, 1024]⟩
abbrev S256x2048 : Shape := ⟨2, ![256, 2048]⟩

abbrev nBuf : Space → Nat
  | .hbm => 3
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x2048, .bf16⟩
  | .local _ .vmem, ⟨7, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference21Ideal.lean ====
abbrev S2048x2048 : Shape := ⟨2, ![2048, 2048]⟩
abbrev S2048x1024 : Shape := ⟨2, ![2048, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x2048, .f32⟩
  | .hbm, ⟨14, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel22.lean ====
abbrev S1x2560x128 : Shape := ⟨3, ![1, 2560, 128]⟩
abbrev S2560x128 : Shape := ⟨2, ![2560, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x2560x128, .f32⟩
  | .hbm, ⟨1, _⟩ => ⟨S1x2560x128, .f32⟩
  | .hbm, ⟨2, _⟩ => ⟨S1x2560x128, .f32⟩
  | .hbm, ⟨3, _⟩ => ⟨S1x2560x128, .f32⟩
  | .hbm, ⟨4, _⟩ => ⟨S1x2560x128, .f32⟩
  | .hbm, ⟨5, _⟩ => ⟨S1x2560x128, .f32⟩
  | .hbm, ⟨6, _⟩ => ⟨S1x2560x128, .f32⟩
  | .hbm, ⟨7, _⟩ => ⟨S1x2560x128, .f32⟩
  | .local _ .vmem, ⟨0, _⟩ => ⟨S1x2560x128, .f32⟩
  | .local _ .vmem, ⟨1, _⟩ => ⟨S1x2560x128, .f32⟩
  | .local _ .vmem, ⟨2, _⟩ => ⟨S1x2560x128, .f32⟩
  | .local _ .vmem, ⟨3, _⟩ => ⟨S1x2560x128, .f32⟩
  | .local _ .vmem, ⟨4, _⟩ => ⟨S1x2560x128, .f32⟩
  | .local _ .vmem, ⟨5, _⟩ => ⟨S1x2560x128, .f32⟩
  | .local _ .vmem, ⟨6, _⟩ => ⟨S1x2560x128, .f32⟩
  | .local _ .vmem, ⟨7, _⟩ => ⟨S1x2560x128, .f32⟩
  | _, _ => ⟨S1x2560x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨4, ![1, 1, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

abbrev stage0_0 : Fin 1 → Memref sig .tc .vmem S1x2560x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true, true]

abbrev stage0_1 : Fin 1 → Memref sig .tc .vmem S1x2560x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true, true]

abbrev stage0_2 : Fin 1 → Memref sig .tc .vmem S1x2560x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, true, true]

abbrev stage0_3 : Fin 1 → Memref sig .tc .vmem S1x2560x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, true, true]

abbrev stage0_4 : Fin 1 → Memref sig .tc .vmem S1x2560x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, true, true]

abbrev stage0_5 : Fin 1 → Memref sig .tc .vmem S1x2560x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false, true, true]

abbrev stage0_6 : Fin 1 → Memref sig .tc .vmem S1x2560x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false, true, true]

abbrev stage0_7 : Fin 1 → Memref sig .tc .vmem S1x2560x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false, true, true]
-- ==== Kernel22Ideal.lean ====
variable {F : FTy → Type} [FloatOps F] [Named F]
def κ : String → Option EReal := fun
  | "scale1" => some ((8388608 / 5463681 : ℝ) : EReal)
  | "scale2" => some ((268435456 / 2672307 : ℝ) : EReal)
  | _ => none
-- ==== Reference22Ideal.lean ====
abbrev S1x2560x128 : Shape := ⟨3, ![1, 2560, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2560x128, .f32⟩
  | .hbm, ⟨1, _⟩ => ⟨S1x2560x128, .f32⟩
  | .hbm, ⟨2, _⟩ => ⟨S1x2560x128, .f32⟩
  | .hbm, ⟨3, _⟩ => ⟨S1x2560x128, .f32⟩
  | .hbm, ⟨4, _⟩ => ⟨S_, .f32⟩
  | .hbm, ⟨5, _⟩ => ⟨S1x2560x128, .f32⟩
  | .hbm, ⟨6, _⟩ => ⟨S1x2560x128, .f32⟩
  | .hbm, ⟨7, _⟩ => ⟨S_, .f32⟩
  | .hbm, ⟨8, _⟩ => ⟨S1x2560x128, .f32⟩
  | .hbm, ⟨9, _⟩ => ⟨S1x2560x128, .f32⟩
  | .hbm, ⟨10, _⟩ => ⟨S1x2560x128, .f32⟩
  | .hbm, ⟨11, _⟩ => ⟨S_, .f32⟩
  | .hbm, ⟨12, _⟩ => ⟨S1x2560x128, .f32⟩
  | .hbm, ⟨13, _⟩ => ⟨S1x2560x128, .f32⟩
  | .hbm, ⟨14, _⟩ => ⟨S1x2560x128, .f32⟩
  | .hbm, ⟨15, _⟩ => ⟨S_, .f32⟩
  | .hbm, ⟨16, _⟩ => ⟨S1x2560x128, .f32⟩
  | .hbm, ⟨17, _⟩ => ⟨S1x2560x128, .f32⟩
  | .hbm, ⟨18, _⟩ => ⟨S1x2560x128, .f32⟩
  | .hbm, ⟨19, _⟩ => ⟨S_, .f32⟩
  | .hbm, ⟨20, _⟩ => ⟨S1x2560x128, .f32⟩
  | .hbm, ⟨21, _⟩ => ⟨S1x2560x128, .f32⟩
  | .hbm, ⟨22, _⟩ => ⟨S_, .f32⟩
  | .hbm, ⟨23, _⟩ => ⟨S1x2560x128, .f32⟩
  | .hbm, ⟨24, _⟩ => ⟨S1x2560x128, .f32⟩
  | .hbm, ⟨25, _⟩ => ⟨S1x2560x128, .f32⟩
  | .hbm, ⟨26, _⟩ => ⟨S_, .f32⟩
  | .hbm, ⟨27, _⟩ => ⟨S1x2560x128, .f32⟩
  | .hbm, ⟨28, _⟩ => ⟨S1x2560x128, .f32⟩
  | .hbm, ⟨29, _⟩ => ⟨S1x2560x128, .f32⟩
  | .hbm, ⟨30, _⟩ => ⟨S_, .f32⟩
  | .hbm, ⟨31, _⟩ => ⟨S1x2560x128, .f32⟩
  | .hbm, ⟨32, _⟩ => ⟨S1x2560x128, .f32⟩
  | .hbm, ⟨33, _⟩ => ⟨S1x2560x128, .f32⟩
  | .hbm, ⟨34, _⟩ => ⟨S_, .f32⟩
  | .hbm, ⟨35, _⟩ => ⟨S1x2560x128, .f32⟩
  | .hbm, ⟨36, _⟩ => ⟨S1x2560x128, .f32⟩
  | _, _ => ⟨S1x2560x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S2048x4096 : Shape := ⟨2, ![2048, 4096]⟩
abbrev S8x2048 : Shape := ⟨2, ![8, 2048]⟩
abbrev S8x2048x1 : Shape := ⟨3, ![8, 2048, 1]⟩
abbrev S8x1x2048 : Shape := ⟨3, ![8, 1, 2048]⟩
abbrev S2048x1024 : Shape := ⟨2, ![2048, 1024]⟩
abbrev S256x128 : Shape := ⟨2, ![256, 128]⟩
abbrev S2048x128 : Shape := ⟨2, ![2048, 128]⟩
abbrev S1x256x1 : Shape := ⟨3, ![1, 256, 1]⟩
abbrev S1x1x2048 : Shape := ⟨3, ![1, 1, 2048]⟩
abbrev S256x2048 : Shape := ⟨2, ![256, 2048]⟩
abbrev S256x1 : Shape := ⟨2, ![256, 1]⟩
abbrev S1x2048 : Shape := ⟨2, ![1, 2048]⟩
abbrev S256 : Shape := ⟨1, ![256]⟩

abbrev nBuf : Space → Nat
  | .hbm => 6
  | .vmem => 14
  | .smem => 0
  | _ => 0

abbrev bufTy : (tb : Table) → Fin (tcTables nBuf tb) → BufTy
  | .hbm, ⟨0, _⟩ => ⟨S2048x4096, .f32⟩
  | .hbm, ⟨1, _⟩ => ⟨S8x2048, .f32⟩
  | .hbm, ⟨2, _⟩ => ⟨S8x2048x1, .f32⟩
  | .hbm, ⟨3, _⟩ => ⟨S8x1x2048, .f32⟩
  | .hbm, ⟨4, _⟩ => ⟨S2048x1024, .f32⟩
  | .hbm, ⟨5, _⟩ => ⟨S8x2048x1, .f32⟩
  | .local _ .vmem, ⟨0, _⟩ => ⟨S256x128, .f32⟩
  | .local _ .vmem, ⟨1, _⟩ => ⟨S256x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S1x256x1, .f32⟩
  | .local _ .vmem, ⟨7, _⟩ => ⟨S1x256x1, .f32⟩
  | .local _ .vmem, ⟨8, _⟩ => ⟨S1x1x2048, .f32⟩
  | .local _ .vmem, ⟨9, _⟩ => ⟨S1x1x2048, .f32⟩
  | .local _ .vmem, ⟨10, _⟩ => ⟨S256x128, .f32⟩
  | .local _ .vmem, ⟨11, _⟩ => ⟨S256x128, .f32⟩
  | .local _ .vmem, ⟨12, _⟩ => ⟨S1x256x1, .f32⟩
  | .local _ .vmem, ⟨13, _⟩ => ⟨S1x256x1, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel23Ideal.lean ====
variable {F : FTy → Type} [FloatOps F] [Named F]
def κ : String → Option EReal := fun
  | "mask" => some ⊥
  | _ => none
-- ==== Reference23Ideal.lean ====
abbrev S2048x4096 : Shape := ⟨2, ![2048, 4096]⟩
abbrev S8x2048 : Shape := ⟨2, ![8, 2048]⟩
abbrev S2048x1024 : Shape := ⟨2, ![2048, 1024]⟩
abbrev S2048x8x128 : Shape := ⟨3, ![2048, 8, 128]⟩
abbrev S8x2048x2048 : Shape := ⟨3, ![8, 2048, 2048]⟩
abbrev S_ : Shape := ⟨0, ![]⟩
abbrev S8x2048x1 : Shape := ⟨3, ![8, 2048, 1]⟩
abbrev S8x1x2048 : Shape := ⟨3, ![8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x128x2048 : Shape := ⟨3, ![8, 128, 2048]⟩

abbrev nBuf : Space → Nat
  | .hbm => 74
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S8x2048, .f32⟩
  | .hbm, ⟨2, _⟩ => ⟨S2048x1024, .f32⟩
  | .hbm, ⟨3, _⟩ => ⟨S2048x8x128, .f32⟩
  | .hbm, ⟨4, _⟩ => ⟨S2048x1024, .f32⟩
  | .hbm, ⟨5, _⟩ => ⟨S2048x8x128, .f32⟩
  | .hbm, ⟨6, _⟩ => ⟨S2048x1024, .f32⟩
  | .hbm, ⟨7, _⟩ => ⟨S2048x8x128, .f32⟩
  | .hbm, ⟨8, _⟩ => ⟨S8x2048x2048, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S8x2048x1, .f32⟩
  | .hbm, ⟨13, _⟩ => ⟨S8x2048x2048, .f32⟩
  | .hbm, ⟨14, _⟩ => ⟨S8x2048x2048, .f32⟩
  | .hbm, ⟨15, _⟩ => ⟨S8x1x2048, .f32⟩
  | .hbm, ⟨16, _⟩ => ⟨S8x2048x2048, .f32⟩
  | .hbm, ⟨17, _⟩ => ⟨S8x2048x2048, .f32⟩
  | .hbm, ⟨18, _⟩ => ⟨S2048, .i32⟩
  | .hbm, ⟨19, _⟩ => ⟨S2048x1, .i32⟩
  | .hbm, ⟨20, _⟩ => ⟨S2048, .i32⟩
  | .hbm, ⟨21, _⟩ => ⟨S1x2048, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S_, .f32⟩
  | .hbm, ⟨26, _⟩ => ⟨S_, .f32⟩
  | .hbm, ⟨27, _⟩ => ⟨S8x2048x2048, .i1⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S_, .f32⟩
  | .hbm, ⟨32, _⟩ => ⟨S8x2048, .f32⟩
  | .hbm, ⟨33, _⟩ => ⟨S8x2048, .f32⟩
  | .hbm, ⟨34, _⟩ => ⟨S8x2048x2048, .f32⟩
  | .hbm, ⟨35, _⟩ => ⟨S_, .f32⟩
  | .hbm, ⟨36, _⟩ => ⟨S8x2048x2048, .f32⟩
  | .hbm, ⟨37, _⟩ => ⟨S8x2048x2048, .f32⟩
  | .hbm, ⟨38, _⟩ => ⟨S8x2048x1, .f32⟩
  | .hbm, ⟨39, _⟩ => ⟨S8x2048x2048, .f32⟩
  | .hbm, ⟨40, _⟩ => ⟨S8x2048x2048, .f32⟩
  | .hbm, ⟨41, _⟩ => ⟨S8x1x2048, .f32⟩
  | .hbm, ⟨42, _⟩ => ⟨S8x2048x2048, .f32⟩
  | .hbm, ⟨43, _⟩ => ⟨S8x2048x2048, .f32⟩
  | .hbm, ⟨44, _⟩ => ⟨S2048, .i32⟩
  | .hbm, ⟨45, _⟩ => ⟨S2048x1, .i32⟩
  | .hbm, ⟨46, _⟩ => ⟨S2048, .i32⟩
  | .hbm, ⟨47, _⟩ => ⟨S1x2048, .i32⟩
  | .hbm, ⟨48, _⟩ => ⟨S2048x2048, .i32⟩
  | .hbm, ⟨49, _⟩ => ⟨S2048x2048, .i32⟩
  | .hbm, ⟨50, _⟩ => ⟨S2048x2048, .i1⟩
  | .hbm, ⟨51, _⟩ => ⟨S_, .f32⟩
  | .hbm, ⟨52, _⟩ => ⟨S_, .f32⟩
  | .hbm, ⟨53, _⟩ => ⟨S8x2048x2048, .i1⟩
  | .hbm, ⟨54, _⟩ => ⟨S8x2048x2048, .f32⟩
  | .hbm, ⟨55, _⟩ => ⟨S8x2048x2048, .f32⟩
  | .hbm, ⟨56, _⟩ => ⟨S_, .f32⟩
  | .hbm, ⟨57, _⟩ => ⟨S8x2048, .f32⟩
  | .hbm, ⟨58, _⟩ => ⟨S_, .f32⟩
  | .hbm, ⟨59, _⟩ => ⟨S8x2048, .f32⟩
  | .hbm, ⟨60, _⟩ => ⟨S8x2048, .f32⟩
  | .hbm, ⟨61, _⟩ => ⟨S8x2048x1, .f32⟩
  | .hbm, ⟨62, _⟩ => ⟨S8x2048x2048, .f32⟩
  | .hbm, ⟨63, _⟩ => ⟨S8x2048x2048, .f32⟩
  | .hbm, ⟨64, _⟩ => ⟨S8x2048x2048, .f32⟩
  | .hbm, ⟨65, _⟩ => ⟨S_, .f32⟩
  | .hbm, ⟨66, _⟩ => ⟨S8x2048, .f32⟩
  | .hbm, ⟨67, _⟩ => ⟨S8x2048x1, .f32⟩
  | .hbm, ⟨68, _⟩ => ⟨S8x2048x2048, .f32⟩
  | .hbm, ⟨69, _⟩ => ⟨S8x2048x2048, .f32⟩
  | .hbm, ⟨70, _⟩ => ⟨S8x128x2048, .f32⟩
  | .hbm, ⟨71, _⟩ => ⟨S2048x8x128, .f32⟩
  | .hbm, ⟨72, _⟩ => ⟨S2048x1024, .f32⟩
  | .hbm, ⟨73, _⟩ => ⟨S8x2048x1, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_3 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v42 : Ref sig .tc := ⟨.hbm, 55, rfl⟩
abbrev main_cst_4 : Ref sig .tc := ⟨.hbm, 56, rfl⟩
abbrev main_v43 : Ref sig .tc := ⟨.hbm, 57, rfl⟩
abbrev main_cst_5 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_6 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩

abbrev nD : Nat := 1
abbrev τ : Topo := Topo.v7x

variable {F : FTy → Type} [FloatOps F]
-- ==== Kernel24.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S256x2048 : Shape := ⟨2, ![256, 2048]⟩
abbrev S256x1 : Shape := ⟨2, ![256, 1]⟩
abbrev S256 : Shape := ⟨1, ![256]⟩

abbrev nBuf : Space → Nat
  | .hbm => 29
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x2048, .f32⟩
  | .hbm, ⟨24, _⟩ => ⟨S2048x2048, .f32⟩
  | .hbm, ⟨25, _⟩ => ⟨S1x2048, .f32⟩
  | .hbm, ⟨26, _⟩ => ⟨S2048x2048, .f32⟩
  | .hbm, ⟨27, _⟩ => ⟨S1x2048, .f32⟩
  | .hbm, ⟨28, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x1, .f32⟩
  | .local _ .vmem, ⟨7, _⟩ => ⟨S256x1, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_17 : BitVec 32 := 0#32
  let v37 : BitVec 1 := Scalar.cmpi .ne v36 c0_i32_17
  v37

def k0_cond2 (i : grid0.Coords) : BitVec 1 :=
  let arg0 : BitVec 32 := BitVec.ofNat 32 (i 0).val
  let c0_i32_18 : BitVec 32 := 0#32
  let v38 : BitVec 1 := Scalar.cmpi .sgt arg0 c0_i32_18
  let v39 : BitVec 32 := Scalar.extui v38
  let c0_i32_19 : BitVec 32 := 0#32
  let v40 : BitVec 1 := Scalar.cmpi .ne v39 c0_i32_19
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference24Ideal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 85
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S_, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x2048, .f32⟩
  | .hbm, ⟨33, _⟩ => ⟨S2048x2048, .f32⟩
  | .hbm, ⟨34, _⟩ => ⟨S1x2048, .f32⟩
  | .hbm, ⟨35, _⟩ => ⟨S2048x2048, .f32⟩
  | .hbm, ⟨36, _⟩ => ⟨S2048x2048, .f32⟩
  | .hbm, ⟨37, _⟩ => ⟨S1x2048, .f32⟩
  | .hbm, ⟨38, _⟩ => ⟨S2048x2048, .f32⟩
  | .hbm, ⟨39, _⟩ => ⟨S2048x2048, .f32⟩
  | .hbm, ⟨40, _⟩ => ⟨S_, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S_, .f32⟩
  | .hbm, ⟨48, _⟩ => ⟨S2048, .f32⟩
  | .hbm, ⟨49, _⟩ => ⟨S2048x2048, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S2048x2048, .f32⟩
  | .hbm, ⟨54, _⟩ => ⟨S2048x2048, .f32⟩
  | .hbm, ⟨55, _⟩ => ⟨S_, .f32⟩
  | .hbm, ⟨56, _⟩ => ⟨S2048, .f32⟩
  | .hbm, ⟨57, _⟩ => ⟨S2048x2048, .f32⟩
  | .hbm, ⟨58, _⟩ => ⟨S_, .f32⟩
  | .hbm, ⟨59, _⟩ => ⟨S2048, .f32⟩
  | .hbm, ⟨60, _⟩ => ⟨S2048x1, .f32⟩
  | .hbm, ⟨61, _⟩ => ⟨S2048x2048, .f32⟩
  | .hbm, ⟨62, _⟩ => ⟨S2048x2048, .f32⟩
  | .hbm, ⟨63, _⟩ => ⟨S2048x1, .f32⟩
  | .hbm, ⟨64, _⟩ => ⟨S_, .f32⟩
  | .hbm, ⟨65, _⟩ => ⟨S2048x1, .f32⟩
  | .hbm, ⟨66, _⟩ => ⟨S2048x1, .f32⟩
  | .hbm, ⟨67, _⟩ => ⟨S_, .f32⟩
  | .hbm, ⟨68, _⟩ => ⟨S2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S_, .f32⟩
  | .hbm, ⟨74, _⟩ => ⟨S2048, .f32⟩
  | .hbm, ⟨75, _⟩ => ⟨S2048x1, .f32⟩
  | .hbm, ⟨76, _⟩ => ⟨S_, .f32⟩
  | .hbm, ⟨77, _⟩ => ⟨S2048x1, .f32⟩
  | .hbm, ⟨78, _⟩ => ⟨S2048x1, .f32⟩
  | .hbm, ⟨79, _⟩ => ⟨S_, .f32⟩
  | .hbm, ⟨80, _⟩ => ⟨S2048, .f32⟩
  | .hbm, ⟨81, _⟩ => ⟨S2048x2048, .f32⟩
  | .hbm, ⟨82, _⟩ => ⟨S2048x2048, .f32⟩
  | .hbm, ⟨83, _⟩ => ⟨S1x2048, .f32⟩
  | .hbm, ⟨84, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_cst_10 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_11 : Ref sig .tc := ⟨.hbm, 55, rfl⟩
abbrev main_v39 : Ref sig .tc := ⟨.hbm, 56, rfl⟩
abbrev main_v40 : Ref sig .tc := ⟨.hbm, 57, rfl⟩
abbrev main_cst_12 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_13 : Ref sig .tc := ⟨.hbm, 64, rfl⟩
abbrev main_v46 : Ref sig .tc := ⟨.hbm, 65, rfl⟩
abbrev main_v47 : Ref sig .tc := ⟨.hbm, 66, rfl⟩
abbrev main_cst_14 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_15 : Ref sig .tc := ⟨.hbm, 73, rfl⟩
abbrev main_v53 : Ref sig .tc := ⟨.hbm, 74, rfl⟩
abbrev main_v54 : Ref sig .tc := ⟨.hbm, 75, rfl⟩
abbrev main_cst_16 : Ref sig .tc := ⟨.hbm, 76, rfl⟩
abbrev main_v55 : Ref sig .tc := ⟨.hbm, 77, rfl⟩
abbrev main_v56 : Ref sig .tc := ⟨.hbm, 78, rfl⟩
abbrev main_cst_17 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]
-- ==== Kernel25.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S1x1 : Shape := ⟨2, ![1, 1]⟩
abbrev S256x2048 : Shape := ⟨2, ![256, 2048]⟩
abbrev S256x1 : Shape := ⟨2, ![256, 1]⟩
abbrev S256 : Shape := ⟨1, ![256]⟩
abbrev S1 : Shape := ⟨1, ![1]⟩

abbrev nBuf : Space → Nat
  | .hbm => 31
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x2048, .f32⟩
  | .hbm, ⟨24, _⟩ => ⟨S2048x2048, .f32⟩
  | .hbm, ⟨25, _⟩ => ⟨S1x2048, .f32⟩
  | .hbm, ⟨26, _⟩ => ⟨S1x2048, .f32⟩
  | .hbm, ⟨27, _⟩ => ⟨S2048x2048, .f32⟩
  | .hbm, ⟨28, _⟩ => ⟨S1x2048, .f32⟩
  | .hbm, ⟨29, _⟩ => ⟨S1x2048, .f32⟩
  | .hbm, ⟨30, _⟩ => ⟨S1x1, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x1, .f32⟩
  | .local _ .vmem, ⟨5, _⟩ => ⟨S256x1, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | .local _ .vmem, ⟨12, _⟩ => ⟨S1x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v51 : BitVec 1 := Scalar.cmpi .eq arg0 c0_i32
  let v52 : BitVec 32 := Scalar.extui v51
  let c0_i32_23 : BitVec 32 := 0#32
  let v53 : BitVec 1 := Scalar.cmpi .ne v52 c0_i32_23
  v53

def k0_cond2 (i : grid0.Coords) : BitVec 1 :=
  let arg0 : BitVec 32 := BitVec.ofNat 32 (i 0).val
  let c0_i32_24 : BitVec 32 := 0#32
  let v54 : BitVec 1 := Scalar.cmpi .sgt arg0 c0_i32_24
  let v55 : BitVec 32 := Scalar.extui v54
  let c0_i32_25 : BitVec 32 := 0#32
  let v56 : BitVec 1 := Scalar.cmpi .ne v55 c0_i32_25
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference25Ideal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S1x1 : Shape := ⟨2, ![1, 1]⟩

abbrev nBuf : Space → Nat
  | .hbm => 103
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x2048, .f32⟩
  | .hbm, ⟨31, _⟩ => ⟨S2048x2048, .f32⟩
  | .hbm, ⟨32, _⟩ => ⟨S1x2048, .f32⟩
  | .hbm, ⟨33, _⟩ => ⟨S2048x2048, .f32⟩
  | .hbm, ⟨34, _⟩ => ⟨S2048x2048, .f32⟩
  | .hbm, ⟨35, _⟩ => ⟨S1x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S_, .f32⟩
  | .hbm, ⟨41, _⟩ => ⟨S2048x2048, .f32⟩
  | .hbm, ⟨42, _⟩ => ⟨S2048x2048, .f32⟩
  | .hbm, ⟨43, _⟩ => ⟨S_, .f32⟩
  | .hbm, ⟨44, _⟩ => ⟨S2048, .f32⟩
  | .hbm, ⟨45, _⟩ => ⟨S_, .f32⟩
  | .hbm, ⟨46, _⟩ => ⟨S2048, .f32⟩
  | .hbm, ⟨47, _⟩ => ⟨S2048, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S2048, .f32⟩
  | .hbm, ⟨56, _⟩ => ⟨S_, .f32⟩
  | .hbm, ⟨57, _⟩ => ⟨S2048, .f32⟩
  | .hbm, ⟨58, _⟩ => ⟨S2048, .f32⟩
  | .hbm, ⟨59, _⟩ => ⟨S2048x2048, .f32⟩
  | .hbm, ⟨60, _⟩ => ⟨S2048x2048, .f32⟩
  | .hbm, ⟨61, _⟩ => ⟨S_, .f32⟩
  | .hbm, ⟨62, _⟩ => ⟨S2048, .f32⟩
  | .hbm, ⟨63, _⟩ => ⟨S1x2048, .f32⟩
  | .hbm, ⟨64, _⟩ => ⟨S_, .f32⟩
  | .hbm, ⟨65, _⟩ => ⟨S2048, .f32⟩
  | .hbm, ⟨66, _⟩ => ⟨S2048x2048, .f32⟩
  | .hbm, ⟨67, _⟩ => ⟨S_, .f32⟩
  | .hbm, ⟨68, _⟩ => ⟨S2048, .f32⟩
  | .hbm, ⟨69, _⟩ => ⟨S1x2048, .f32⟩
  | .hbm, ⟨70, _⟩ => ⟨S2048x2048, .f32⟩
  | .hbm, ⟨71, _⟩ => ⟨S2048x2048, .f32⟩
  | .hbm, ⟨72, _⟩ => ⟨S_, .f32⟩
  | .hbm, ⟨73, _⟩ => ⟨S2048, .f32⟩
  | .hbm, ⟨74, _⟩ => ⟨S2048x2048, .f32⟩
  | .hbm, ⟨75, _⟩ => ⟨S_, .f32⟩
  | .hbm, ⟨76, _⟩ => ⟨S2048, .f32⟩
  | .hbm, ⟨77, _⟩ => ⟨S2048x1, .f32⟩
  | .hbm, ⟨78, _⟩ => ⟨S2048x2048, .f32⟩
  | .hbm, ⟨79, _⟩ => ⟨S2048x2048, .f32⟩
  | .hbm, ⟨80, _⟩ => ⟨S2048x1, .f32⟩
  | .hbm, ⟨81, _⟩ => ⟨S_, .f32⟩
  | .hbm, ⟨82, _⟩ => ⟨S2048x1, .f32⟩
  | .hbm, ⟨83, _⟩ => ⟨S2048x1, .f32⟩
  | .hbm, ⟨84, _⟩ => ⟨S_, .f32⟩
  | .hbm, ⟨85, _⟩ => ⟨S2048, .f32⟩
  | .hbm, ⟨86, _⟩ => ⟨S2048x2048, .f32⟩
  | .hbm, ⟨87, _⟩ => ⟨S2048x2048, .f32⟩
  | .hbm, ⟨88, _⟩ => ⟨S2048x2048, .f32⟩
  | .hbm, ⟨89, _⟩ => ⟨S2048x2048, .f32⟩
  | .hbm, ⟨90, _⟩ => ⟨S_, .f32⟩
  | .hbm, ⟨91, _⟩ => ⟨S2048, .f32⟩
  | .hbm, ⟨92, _⟩ => ⟨S2048x1, .f32⟩
  | .hbm, ⟨93, _⟩ => ⟨S_, .f32⟩
  | .hbm, ⟨94, _⟩ => ⟨S2048x1, .f32⟩
  | .hbm, ⟨95, _⟩ => ⟨S2048x1, .f32⟩
  | .hbm, ⟨96, _⟩ => ⟨S_, .f32⟩
  | .hbm, ⟨97, _⟩ => ⟨S2048, .f32⟩
  | .hbm, ⟨98, _⟩ => ⟨S2048x2048, .f32⟩
  | .hbm, ⟨99, _⟩ => ⟨S2048x2048, .f32⟩
  | .hbm, ⟨100, _⟩ => ⟨S1x2048, .f32⟩
  | .hbm, ⟨101, _⟩ => ⟨S1x2048, .f32⟩
  | .hbm, ⟨102, _⟩ => ⟨S1x1, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_cst_10 : Ref sig .tc := ⟨.hbm, 50, rfl⟩
abbrev main_v35 : Ref sig .tc := ⟨.hbm, 51, rfl⟩
abbrev main_cst_11 : Ref sig .tc := ⟨.hbm, 52, rfl⟩
abbrev main_cst_12 : Ref sig .tc := ⟨.hbm, 53, rfl⟩
abbrev main_v36 : Ref sig .tc := ⟨.hbm, 54, rfl⟩
abbrev main_v37 : Ref sig .tc := ⟨.hbm, 55, rfl⟩
abbrev main_cst_13 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_14 : Ref sig .tc := ⟨.hbm, 61, rfl⟩
abbrev main_v42 : Ref sig .tc := ⟨.hbm, 62, rfl⟩
abbrev main_v43 : Ref sig .tc := ⟨.hbm, 63, rfl⟩
abbrev main_cst_15 : Ref sig .tc := ⟨.hbm, 64, rfl⟩
abbrev main_v44 : Ref sig .tc := ⟨.hbm, 65, rfl⟩
abbrev main_v45 : Ref sig .tc := ⟨.hbm, 66, rfl⟩
abbrev main_cst_16 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_17 : Ref sig .tc := ⟨.hbm, 72, rfl⟩
abbrev main_v50 : Ref sig .tc := ⟨.hbm, 73, rfl⟩
abbrev main_v51 : Ref sig .tc := ⟨.hbm, 74, rfl⟩
abbrev main_cst_18 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_19 : Ref sig .tc := ⟨.hbm, 81, rfl⟩
abbrev main_v57 : Ref sig .tc := ⟨.hbm, 82, rfl⟩
abbrev main_v58 : Ref sig .tc := ⟨.hbm, 83, rfl⟩
abbrev main_cst_20 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_21 : Ref sig .tc := ⟨.hbm, 90, rfl⟩
abbrev main_v64 : Ref sig .tc := ⟨.hbm, 91, rfl⟩
abbrev main_v65 : Ref sig .tc := ⟨.hbm, 92, rfl⟩
abbrev main_cst_22 : Ref sig .tc := ⟨.hbm, 93, rfl⟩
abbrev main_v66 : Ref sig .tc := ⟨.hbm, 94, rfl⟩
abbrev main_v67 : Ref sig .tc := ⟨.hbm, 95, rfl⟩
abbrev main_cst_23 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩

abbrev nD : Nat := 1
abbrev τ : Topo := Topo.v7x

variable {F : FTy → Type} [FloatOps F]
-- ==== Kernel26.lean ====
abbrev S2048x2048 : Shape := ⟨2, ![2048, 2048]⟩
abbrev S2048 : Shape := ⟨1, ![2048]⟩
abbrev S1x2048 : Shape := ⟨2, ![1, 2048]⟩
abbrev S2048x1 : Shape := ⟨2, ![2048, 1]⟩
abbrev S256x2048 : Shape := ⟨2, ![256, 2048]⟩
abbrev S256x1 : Shape := ⟨2, ![256, 1]⟩
abbrev S256 : Shape := ⟨1, ![256]⟩

abbrev nBuf : Space → Nat
  | .hbm => 9
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .f32⟩
  | .hbm, ⟨8, _⟩ => ⟨S2048x1, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x1, .f32⟩
  | .local _ .vmem, ⟨11, _⟩ => ⟨S256x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference26Ideal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 35
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S2048x2048, .f32⟩
  | .hbm, ⟨28, _⟩ => ⟨S2048x2048, .f32⟩
  | .hbm, ⟨29, _⟩ => ⟨S1x2048, .f32⟩
  | .hbm, ⟨30, _⟩ => ⟨S2048x2048, .f32⟩
  | .hbm, ⟨31, _⟩ => ⟨S2048x2048, .f32⟩
  | .hbm, ⟨32, _⟩ => ⟨S1x2048, .f32⟩
  | .hbm, ⟨33, _⟩ => ⟨S2048x2048, .f32⟩
  | .hbm, ⟨34, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Proof.FoxSteps.lean ====
/-
  The backward sweep of the forgetting attention, point by point: what each grid point leaves in the five outputs
  and in the two carried accumulators, as the body's own values over the point's input blocks.
-/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Fox

open Cert.KernelIdeal Cert.KernelIdeal.Gen Cert.KernelIdeal.Value
open Idealize.ShloMosaic Idealize.ShloMosaic.TcCoe Idealize.SL.Sem

variable {F : FTy → Type} [FloatOps F]
variable (m : (ℓ : Loc nD τ sig) → Buf (Elt F) ℓ)

/-- The probabilities of point `t`'s query rows. -/
abbrev pAt (c : Dev nD) (t : Fin cfg0.N) : FVec F S512x2048 .f32 :=
  k0_pay3 (grid0.coords t) (iblk m c 0 t) (iblk m c 1 t) (iblk m c 3 t) (iblk m c 4 t) (iblk m c 6 t)

/-- The gradient of the probabilities of point `t`'s query rows. -/
abbrev dpAt (c : Dev nD) (t : Fin cfg0.N) : FVec F S512x2048 .f32 := k0_pay5 (iblk m c 7 t) (iblk m c 2 t)

/-- The state a point starts from and leaves: the five outputs' blocks and the two accumulators. -/
abbrev St : Type := Vec F S512x128 .bf16 × Vec F S2048x128 .bf16 × Vec F S2048x128 .bf16 × Vec F S1x512x1 .f32 × Vec F S1x1x2048 .f32 × Vec F S2048x128 .f32 × Vec F S2048x128 .f32

variable (c : Dev nD) (t : Fin cfg0.N)

/-- The query gradient's block. -/
theorem st_dq (acc : St (F := F)) : (stAt0 m c t.val t.isLt acc).1
    = k0_pay8 (pAt m c t) (iblk m c 7 t) (dpAt m c t) (iblk m c 5 t) (iblk m c 1 t) := by
  by_cases h0 : t.val % 4 = 0
  · rw [stAt0_A m c t acc h0 (by omega) (by omega)]; frame_out
  · by_cases h2 : t.val % 4 = 3
    · rw [stAt0_C m c t acc h0 (by omega) h2]; frame_out
    · rw [stAt0_B m c t acc h0 (by omega) h2]; frame_out

/-- The row sums' block. -/
theorem st_dcc (acc : St (F := F)) : (stAt0 m c t.val t.isLt acc).2.2.2.1
    = k0_pay11 (pAt m c t) (iblk m c 7 t) (dpAt m c t) (iblk m c 5 t) := by
  by_cases h0 : t.val % 4 = 0
  · rw [stAt0_A m c t acc h0 (by omega) (by omega)]; frame_out
  · by_cases h2 : t.val % 4 = 3
    · rw [stAt0_C m c t acc h0 (by omega) h2]; frame_out
    · rw [stAt0_B m c t acc h0 (by omega) h2]; frame_out

/-- The column sums' block, at a head's first point. -/
theorem st_dcr_first (acc : St (F := F)) (h0 : t.val % 4 = 0) : (stAt0 m c t.val t.isLt acc).2.2.2.2.1
    = k0_pay15 (pAt m c t) (iblk m c 7 t) (dpAt m c t) (iblk m c 5 t) := by
  rw [stAt0_A m c t acc h0 (by omega) (by omega)]; frame_out

/-- The column sums' block, at a later point: what the point before left, and this point's. -/
theorem st_dcr_next (acc : St (F := F)) (h0 : ¬ t.val % 4 = 0) : (stAt0 m c t.val t.isLt acc).2.2.2.2.1
    = k0_pay18 (pAt m c t) (iblk m c 7 t) (dpAt m c t) (iblk m c 5 t) acc.2.2.2.2.1 := by
  by_cases h2 : t.val % 4 = 3
  · rw [stAt0_C m c t acc h0 (by omega) h2]; frame_out
  · rw [stAt0_B m c t acc h0 (by omega) h2]; frame_out

/-- The key gradient's accumulator, at a head's first point. -/
theorem st_dk_first (acc : St (F := F)) (h0 : t.val % 4 = 0) : (stAt0 m c t.val t.isLt acc).2.2.2.2.2.1
    = k0_pay13 (pAt m c t) (iblk m c 7 t) (dpAt m c t) (iblk m c 5 t) (iblk m c 0 t) := by
  rw [stAt0_A m c t acc h0 (by omega) (by omega)]; frame_out

/-- The key gradient's accumulator, at a later point. -/
theorem st_dk_next (acc : St (F := F)) (h0 : ¬ t.val % 4 = 0) : (stAt0 m c t.val t.isLt acc).2.2.2.2.2.1
    = k0_pay16 (pAt m c t) (iblk m c 7 t) (dpAt m c t) (iblk m c 5 t) (iblk m c 0 t) acc.2.2.2.2.2.1 := by
  by_cases h2 : t.val % 4 = 3
  · rw [stAt0_C m c t acc h0 (by omega) h2]; frame_out; rw [read_unread_whole]
  · rw [stAt0_B m c t acc h0 (by omega) h2]; frame_out; rw [read_unread_whole]

/-- The value gradient's accumulator, at a head's first point. -/
theorem st_dv_first (acc : St (F := F)) (h0 : t.val % 4 = 0) : (stAt0 m c t.val t.isLt acc).2.2.2.2.2.2
    = k0_pay14 (pAt m c t) (k0_pay4 (iblk m c 7 t)) := by
  rw [stAt0_A m c t acc h0 (by omega) (by omega)]; frame_out

/-- The value gradient's accumulator, at a later point. -/
theorem st_dv_next (acc : St (F := F)) (h0 : ¬ t.val % 4 = 0) : (stAt0 m c t.val t.isLt acc).2.2.2.2.2.2
    = k0_pay17 (pAt m c t) (k0_pay4 (iblk m c 7 t)) acc.2.2.2.2.2.2 := by
  by_cases h2 : t.val % 4 = 3
  · rw [stAt0_C m c t acc h0 (by omega) h2]; frame_out; rw [read_unread_whole]
  · rw [stAt0_B m c t acc h0 (by omega) h2]; frame_out; rw [read_unread_whole]

/-- At a head's last point the key gradient's block is the accumulator, rounded. -/
theorem st_dk_last (acc : St (F := F)) (h2 : t.val % 4 = 3) : (stAt0 m c t.val t.isLt acc).2.1
    = k0_pay1 (stAt0 m c t.val t.isLt acc).2.2.2.2.2.1 := by
  rw [stAt0_C m c t acc (by omega) (by omega) h2]; frame_out

/-- At a head's last point the value gradient's block is the accumulator, rounded. -/
theorem st_dv_last (acc : St (F := F)) (h2 : t.val % 4 = 3) : (stAt0 m c t.val t.isLt acc).2.2.1
    = k0_pay2 (stAt0 m c t.val t.isLt acc).2.2.2.2.2.2 := by
  rw [stAt0_C m c t acc (by omega) (by omega) h2]; frame_out

end Cert.KernelIdeal.Fox

end
-- ==== Proof.FoxPay.lean ====
/-
  The values the attention's backward body writes, read at one index.
-/
module

public import proofs.«01_k».proof.Proof.Gen.KernelIdeal.Skeleton
public import Idealize.ShloMosaic.Lib.Pointwise
public import Idealize.ShloMosaic.Lib.WordCmp

@[expose] public section

set_option maxRecDepth 16384

noncomputable section

namespace Cert.KernelIdeal.Fox

open Cert.KernelIdeal Cert.KernelIdeal.Gen
open Idealize.ShloMosaic Idealize.ShloMosaic.TcCoe Idealize.SL.Sem
open Idealize.ShloMosaic.Pointwise

/-- The scale of the logits. -/
abbrev scE : EReal := Ideal.ofBits .f32 0x3DB504F3#32

theorem sge_small {α : Type} (a b r : ℕ) (ha : a < 512) (hb : b < 4) (hr : r < 2048) (x y : α) :
    Scalar.select (IntOp.cmpi .sge (IntOp.addi (BitVec.ofNat 32 a) (Scalar.muli (BitVec.ofNat 32 b) 512#32)) (BitVec.ofNat 32 r)) x y
      = if r ≤ b * 512 + a then x else y := by
  have e : IntOp.addi (BitVec.ofNat 32 a) (Scalar.muli (BitVec.ofNat 32 b) 512#32) = BitVec.ofNat 32 (b * 512 + a) := by
    apply BitVec.eq_of_toNat_eq
    show (BitVec.ofNat 32 a + BitVec.ofNat 32 b * 512#32).toNat = _
    simp [BitVec.toNat_add, BitVec.toNat_mul]; omega
  rw [e, WordCmp.cmpi_sge_ofNat (w := 32) (by omega) (by omega)]
  by_cases h : r ≤ b * 512 + a <;> simp [h, Scalar.select]

/-- The probabilities, from the saved log-sum. -/
theorem pay3_at (i : grid0.Coords) (q : Vec Ideal S512x128 .f32) (k : Vec Ideal S2048x128 .f32)
    (cc : Vec Ideal S1x512x1 .f32) (cr : Vec Ideal S1x1x2048 .f32) (l : Vec Ideal S1x512x1 .f32) (a : Fin 512) (j : Fin 2048) :
    k0_pay3 i q k cc cr l (ix2 a j)
      = if j.val ≤ (i 1).val * 512 + a.val then
          Ideal.exp ((∑ x : Fin 128, q (ix2 a x) * k (ix2 j x)) * scE + cc (ix3 0 a 0) - cr (ix3 0 0 j) - l (ix3 0 a 0))
        else 0 := by
  pointwise [k0_pay3]
  exact sge_small _ _ _ a.isLt (i 1).isLt j.isLt _ _

/-- The gradient of the probabilities. -/
theorem pay5_at (d : Vec Ideal S512x128 .f32) (v : Vec Ideal S2048x128 .f32) (a : Fin 512) (j : Fin 2048) :
    k0_pay5 d v (ix2 a j) = ∑ x : Fin 128, d (ix2 a x) * v (ix2 j x) := by
  pointwise [k0_pay5, k0_pay4]

variable (p : FVec Ideal S512x2048 .f32) (d : Vec Ideal S512x128 .f32) (dp : FVec Ideal S512x2048 .f32) (o : Vec Ideal S512x128 .f32)

/-- The gradient of the logits. -/
theorem pay6_at (a : Fin 512) (j : Fin 2048) :
    k0_pay6 p d dp o (ix2 a j) = p (ix2 a j) * (dp (ix2 a j) - ∑ x : Fin 128, d (ix2 a x) * o (ix2 a x)) := by
  pointwise [k0_pay6]

theorem pay8_at (k : Vec Ideal S2048x128 .f32) (a : Fin 512) (x : Fin 128) :
    k0_pay8 p d dp o k (ix2 a x) = (∑ j : Fin 2048, k0_pay6 p d dp o (ix2 a j) * k (ix2 j x)) * scE := by
  pointwise [k0_pay8, k0_pay7]

theorem pay9_at (k : Vec Ideal S512x128 .f32) (j : Fin 2048) (x : Fin 128) :
    k0_pay9 p d dp o k (ix2 j x) = (∑ a : Fin 512, k0_pay6 p d dp o (ix2 a j) * k (ix2 a x)) * scE := by
  pointwise [k0_pay9, k0_pay7]

theorem pay10_at (j : Fin 2048) (x : Fin 128) :
    k0_pay10 p (k0_pay4 d) (ix2 j x) = ∑ a : Fin 512, p (ix2 a j) * d (ix2 a x) := by
  pointwise [k0_pay10, k0_pay4]

theorem pay11_at (a : Fin 512) : k0_pay11 p d dp o (ix3 0 a 0) = ∑ j : Fin 2048, k0_pay6 p d dp o (ix2 a j) := by
  pointwise [k0_pay11]

theorem pay15_at (j : Fin 2048) : k0_pay15 p d dp o (ix3 0 0 j) = ∑ a : Fin 512, k0_pay6 p d dp o (ix2 a j) := by
  pointwise [k0_pay15, k0_pay12]

theorem pay18_at (acc : Vec Ideal S1x1x2048 .f32) (j : Fin 2048) :
    k0_pay18 p d dp o acc (ix3 0 0 j) = acc (ix3 0 0 j) + ∑ a : Fin 512, k0_pay6 p d dp o (ix2 a j) := by
  pointwise [k0_pay18, k0_pay12]

theorem pay13_at (k : Vec Ideal S512x128 .f32) (j : Fin 2048) (x : Fin 128) :
    k0_pay13 p d dp o k (ix2 j x) = k0_pay9 p d dp o k (ix2 j x) := by
  pointwise [k0_pay13]

theorem pay16_at (k : Vec Ideal S512x128 .f32) (acc : Vec Ideal S2048x128 .f32) (j : Fin 2048) (x : Fin 128) :
    k0_pay16 p d dp o k acc (ix2 j x) = acc (ix2 j x) + k0_pay9 p d dp o k (ix2 j x) := by
  pointwise [k0_pay16]

theorem pay14_at (d' : FVec Ideal S512x128 .bf16) (j : Fin 2048) (x : Fin 128) :
    k0_pay14 p d' (ix2 j x) = k0_pay10 p d' (ix2 j x) := by
  pointwise [k0_pay14]

theorem pay17_at (d' : FVec Ideal S512x128 .bf16) (acc : Vec Ideal S2048x128 .f32) (j : Fin 2048) (x : Fin 128) :
    k0_pay17 p d' acc (ix2 j x) = acc (ix2 j x) + k0_pay10 p d' (ix2 j x) := by
  pointwise [k0_pay17]

theorem pay1_at (acc : Vec Ideal S2048x128 .f32) (j : Fin 2048) (x : Fin 128) : k0_pay1 (F := Ideal) acc (ix2 j x) = acc (ix2 j x) := by
  pointwise [k0_pay1]

theorem pay2_at (acc : Vec Ideal S2048x128 .f32) (j : Fin 2048) (x : Fin 128) : k0_pay2 (F := Ideal) acc (ix2 j x) = acc (ix2 j x) := by
  pointwise [k0_pay2]

end Cert.KernelIdeal.Fox

end
-- ==== Proof.FoxMath.lean ====
/-
  One head of the forgetting attention over the real numbers, and the facts about the extended reals that carry the
  two programs' terms to it: a causal softmax row, from its greatest logit or from its saved log-sum, and the gradient of
  the logits.
-/
module

public import Mathlib.Tactic.FieldSimp
public import Mathlib.Tactic.Positivity
public import Mathlib.Tactic.Linarith
public import Mathlib.Tactic.Ring
public import Idealize.ShloMosaic.PureOps.Ideal.Laws

@[expose] public section

noncomputable section

namespace Cert.FoxMath

open Idealize.ShloMosaic

/-- A sum of reals is the same sum of extended reals. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum of products of reals. -/
theorem sum_mul_coe {n : ℕ} {a b : Fin n → EReal} (a' b' : Fin n → ℝ) (ha : ∀ x, a x = a' x) (hb : ∀ x, b x = b' x) :
    ∑ x, a x * b x = ((∑ x, a' x * b' x : ℝ) : EReal) := by
  rw [← coe_sum]; exact Finset.sum_congr rfl fun x _ => by rw [ha, hb, ← EReal.coe_mul]

/-- An extended real below `⊤` in absolute value is a real. -/
theorem real_of_abs_lt {x : EReal} (h : x < ⊤) (h' : -x < ⊤) : ∃ r : ℝ, x = r := by
  refine ⟨x.toReal, (EReal.coe_toReal h.ne fun hb => ?_).symm⟩
  subst hb; simp at h'

section Row
variable {n : ℕ} (ok : Fin n → Prop) [DecidablePred ok] (s : Fin n → ℝ)

/-- The unnormalised weight of an entry: the exponential of its logit where it is allowed. -/
def w (j : Fin n) : ℝ := if ok j then Real.exp (s j) else 0

/-- The row's sum of weights. -/
def W : ℝ := ∑ j, w ok s j

/-- The masked row of logits. -/
def masked (j : Fin n) : EReal := if ok j then (s j : EReal) else ⊥

theorem w_nonneg (j : Fin n) : 0 ≤ w ok s j := by unfold w; split <;> positivity

theorem W_pos (i : Fin n) (hi : ok i) : 0 < W ok s := by
  refine Finset.sum_pos' (fun j _ => w_nonneg ok s j) ⟨i, Finset.mem_univ i, ?_⟩
  simp [w, hi, Real.exp_pos]

/-- The greatest of the masked logits is a real. -/
theorem fold_max_real (i : Fin n) (hi : ok i) : ∃ M : ℝ, Finset.univ.fold max (⊥ : EReal) (masked ok s) = M := by
  have hb : (s i : EReal) ≤ Finset.univ.fold max (⊥ : EReal) (masked ok s) := by
    rw [Finset.le_fold_max]; exact Or.inr ⟨i, Finset.mem_univ i, by simp [masked, hi]⟩
  have ht : Finset.univ.fold max (⊥ : EReal) (masked ok s) < ⊤ := by
    rw [Finset.fold_max_lt]; refine ⟨bot_lt_top, fun j _ => ?_⟩
    unfold masked; split
    · exact EReal.coe_lt_top _
    · exact bot_lt_top
  refine ⟨(Finset.univ.fold max (⊥ : EReal) (masked ok s)).toReal, (EReal.coe_toReal ht.ne fun h => ?_).symm⟩
  rw [h] at hb; simp at hb

variable (M : ℝ)

/-- An entry's exponential below a real `M`. -/
theorem exp_masked (j : Fin n) : Ideal.exp (masked ok s j - (M : EReal)) = ((w ok s j * Real.exp (-M) : ℝ) : EReal) := by
  unfold masked w; split
  · rw [← EReal.coe_sub, Ideal.exp_coe, ← Real.exp_add, sub_eq_add_neg]
  · rw [EReal.bot_sub, Ideal.exp_bot]; simp

theorem sum_exp_masked : ∑ j, Ideal.exp (masked ok s j - (M : EReal)) = ((W ok s * Real.exp (-M) : ℝ) : EReal) := by
  simp only [exp_masked, coe_sum, W, Finset.sum_mul]

theorem div_real {a b : ℝ} (h : b ≠ 0) : Ideal.div (a : EReal) (b : EReal) = ((a / b : ℝ) : EReal) := by
  rw [Ideal.div_coe h, ← EReal.coe_mul, mul_one_div]

/-- The softmax of an entry. -/
theorem softmax_entry (hW : 0 < W ok s) (j : Fin n) :
    Ideal.div ((w ok s j * Real.exp (-M) : ℝ) : EReal) ((W ok s * Real.exp (-M) : ℝ) : EReal) = ((w ok s j / W ok s : ℝ) : EReal) := by
  rw [div_real (by positivity)]; congr 1; have := Real.exp_pos (-M); field_simp

/-- The saved log-sum. -/
theorem lse_eq (hW : 0 < W ok s) :
    (M : EReal) + Ideal.log ((W ok s * Real.exp (-M) : ℝ) : EReal) = ((Real.log (W ok s) : ℝ) : EReal) := by
  rw [Ideal.log_coe, if_neg (by have := mul_pos hW (Real.exp_pos (-M)); linarith), ← EReal.coe_add,
    Real.log_mul hW.ne' (Real.exp_pos _).ne', Real.log_exp]; congr 1; ring

/-- The probability from the saved log-sum. -/
theorem exp_sub_lse (hW : 0 < W ok s) (j : Fin n) :
    (if ok j then Ideal.exp ((s j : EReal) - ((Real.log (W ok s) : ℝ) : EReal)) else 0) = ((w ok s j / W ok s : ℝ) : EReal) := by
  unfold w; split
  · rw [← EReal.coe_sub, Ideal.exp_coe, Real.exp_sub, Real.exp_log hW]
  · simp

/-- The gradient of a logit, as the vector-Jacobian product of the softmax's quotient writes it: `g` is the gradient of
    the row's probabilities. -/
theorem ds_quotient (hW : 0 < W ok s) (g : Fin n → ℝ) (j : Fin n) :
    (Ideal.div (g j : EReal) ((W ok s * Real.exp (-M) : ℝ) : EReal)
      + -(∑ l, (g l : EReal) * Ideal.div 1 (((W ok s * Real.exp (-M) : ℝ) : EReal) * ((W ok s * Real.exp (-M) : ℝ) : EReal))
          * ((w ok s l * Real.exp (-M) : ℝ) : EReal))) * ((w ok s j * Real.exp (-M) : ℝ) : EReal)
    = ((w ok s j / W ok s * (g j - ∑ l, g l * (w ok s l / W ok s)) : ℝ) : EReal) := by
  have he := Real.exp_pos (-M)
  have hD : W ok s * Real.exp (-M) ≠ 0 := by positivity
  rw [← EReal.coe_mul, ← EReal.coe_one, div_real hD, div_real (by positivity)]
  simp only [← EReal.coe_mul]
  rw [coe_sum, ← EReal.coe_neg, ← EReal.coe_add, ← EReal.coe_mul]
  congr 1
  have hs : ∑ l, g l * (1 / (W ok s * Real.exp (-M) * (W ok s * Real.exp (-M)))) * (w ok s l * Real.exp (-M))
      = (∑ l, g l * (w ok s l / W ok s)) * (1 / (W ok s * Real.exp (-M))) := by
    rw [Finset.sum_mul]; exact Finset.sum_congr rfl fun l _ => by field_simp
  rw [hs]; field_simp; ring

end Row

/-! ### A head -/
section Head
variable {n d : ℕ} (sc : ℝ) (q k v g : Fin n → Fin d → ℝ) (c : Fin n → ℝ)

/-- The logit of query `i` and key `j`. -/
def S (i j : Fin n) : ℝ := (∑ x, q i x * k j x) * sc + c i - c j

/-- The probability of key `j` at query `i`. -/
def P (i j : Fin n) : ℝ := w (fun j : Fin n => j ≤ i) (S sc q k c i) j / W (fun j : Fin n => j ≤ i) (S sc q k c i)

/-- The gradient of that probability. -/
def dP (i j : Fin n) : ℝ := ∑ x, g i x * v j x

/-- The gradient of the logit. -/
def DS (i j : Fin n) : ℝ := P sc q k c i j * (dP v g i j - ∑ l, dP v g i l * P sc q k c i l)

theorem W_pos' (i : Fin n) : 0 < W (fun j : Fin n => j ≤ i) (S sc q k c i) := W_pos _ _ i le_rfl

/-- The attention's output. -/
def O (i : Fin n) (x : Fin d) : ℝ := ∑ j, P sc q k c i j * v j x

/-- The row sum of the output times its gradient is the row sum of the probabilities times theirs. -/
theorem delta_eq (i : Fin n) : ∑ x, g i x * O sc q k v c i x = ∑ l, dP v g i l * P sc q k c i l := by
  simp only [O, dP, Finset.mul_sum, Finset.sum_mul]
  rw [Finset.sum_comm]
  exact Finset.sum_congr rfl fun l _ => Finset.sum_congr rfl fun x _ => by ring

/-- A disallowed logit has no gradient. -/
theorem DS_of_not_le {i j : Fin n} (h : ¬ j ≤ i) : DS sc q k v g c i j = 0 := by simp [DS, P, w, h]

def dQ (i : Fin n) (x : Fin d) : ℝ := (∑ j, DS sc q k v g c i j * k j x) * sc
def dK (j : Fin n) (x : Fin d) : ℝ := (∑ i, DS sc q k v g c i j * q i x) * sc
def dV (j : Fin n) (x : Fin d) : ℝ := ∑ i, P sc q k c i j * g i x
def dRow (i : Fin n) : ℝ := ∑ j, DS sc q k v g c i j
def dCol (j : Fin n) : ℝ := ∑ i, DS sc q k v g c i j

end Head

/-! ### Sums by blocks of rows -/

/-- The sum of the first `r` of `n` terms. -/
def part {n : ℕ} (f : Fin n → ℝ) (r : ℕ) : ℝ := ∑ i ∈ Finset.range r, if h : i < n then f ⟨i, h⟩ else 0

theorem part_all {n : ℕ} (f : Fin n → ℝ) : part f n = ∑ i, f i := by
  rw [part, ← Fin.sum_univ_eq_sum_range (fun i => if h : i < n then f ⟨i, h⟩ else 0) n]
  exact Finset.sum_congr rfl fun i _ => by rw [dif_pos i.isLt]

theorem part_add {n : ℕ} (f : Fin n → ℝ) (r b : ℕ) (h : r + b ≤ n) :
    part f (r + b) = part f r + ∑ a : Fin b, f ⟨r + a.val, by omega⟩ := by
  rw [part, Finset.sum_range_add, ← part, ← Fin.sum_univ_eq_sum_range (fun i => if h : r + i < n then f ⟨r + i, h⟩ else 0) b]
  congr 1
  exact Finset.sum_congr rfl fun i _ => by rw [dif_pos (by omega)]

end Cert.FoxMath

end
-- ==== Proof.FoxHead.lean ====
/-
  The arrays of the attention's backward call as the heads' real matrices: head `h` owns 128 columns of the queries,
  of the keys and of the values, which lie side by side in one array, and 128 columns of the output's gradient.
-/
module

public import proofs.«01_k».proof.Proof.FoxMath
public import Idealize.ShloMosaic.Lib.Pointwise

@[expose] public section

noncomputable section

namespace Cert.FoxHead

open Idealize.ShloMosaic Idealize.ShloMosaic.Pointwise

/-- The scale of the logits, 1/√128 rounded to a float. -/
abbrev scE : EReal := Ideal.ofBits .f32 0x3DB504F3#32

theorem scE_real : ∃ r : ℝ, scE = r := by
  simp only [scE, Ideal.ofBits, Ideal.ieee]
  rw [if_neg (by decide), if_neg (by decide)]
  exact ⟨_, rfl⟩

/-- The scale as a real. -/
def sc : ℝ := scE.toReal

theorem scE_eq : scE = (sc : EReal) := by
  obtain ⟨r, hr⟩ := scE_real
  rw [sc, hr, EReal.toReal_coe]

theorem negInf : Ideal.ofBits .f32 0xFF800000#32 = (⊥ : EReal) := by simp [Ideal.ofBits, Ideal.ieee]

/-- A reduction by the maximum over the last of three axes, read at an index. -/
theorem reduce_max_last {u : Shape} {n0 n1 n2 : ℕ} (x : (⟨3, ![n0, n1, n2]⟩ : Shape).Idx → EReal) (e : EReal)
    (hr : (⟨3, ![n0, n1, n2]⟩ : Shape).ReducesTo [2] ⟨2, ![n0, n1]⟩) (hu : 0 < u.numel) (i : Fin n0) (j : Fin n1) :
    Host.reduce (u := u) (max : EReal → EReal → EReal) x (fun _ => e) hr hu (ix2 i j)
      = Finset.univ.fold max e (fun k : Fin n2 => x (ix3 i j k)) := by
  rw [Host.reduce_eq_fold, Shape.ReducesTo.fold_fiber_r3_a2]
  rfl

/-- The head and the lane of one of the 1024 columns. -/
def hd (a : Fin 1024) : Fin 8 := ⟨a.val / 128, by omega⟩
def ln (a : Fin 1024) : Fin 128 := ⟨a.val % 128, by omega⟩

/-- The column of a head's lane, in the queries, the keys, the values and the output's gradient. -/
def qcol (h : Fin 8) (d : Fin 128) : Fin 4096 := ⟨h.val * 128 + d.val, by omega⟩
def kcol (h : Fin 8) (d : Fin 128) : Fin 4096 := ⟨1024 + (h.val * 128 + d.val), by omega⟩
def vcol (h : Fin 8) (d : Fin 128) : Fin 4096 := ⟨2048 + (h.val * 128 + d.val), by omega⟩
def gcol (h : Fin 8) (d : Fin 128) : Fin 2048 := ⟨h.val * 128 + d.val, by omega⟩

variable (x0 : (⟨2, ![2048, 4096]⟩ : Shape).Idx → EReal) (x1 : (⟨2, ![8, 2048]⟩ : Shape).Idx → EReal)
  (x2 : (⟨2, ![2048, 2048]⟩ : Shape).Idx → EReal)

def q (h : Fin 8) (i : Fin 2048) (d : Fin 128) : ℝ := (x0 (ix2 i (qcol h d))).toReal
def k (h : Fin 8) (i : Fin 2048) (d : Fin 128) : ℝ := (x0 (ix2 i (kcol h d))).toReal
def v (h : Fin 8) (i : Fin 2048) (d : Fin 128) : ℝ := (x0 (ix2 i (vcol h d))).toReal
def g (h : Fin 8) (i : Fin 2048) (d : Fin 128) : ℝ := (x2 (ix2 i (gcol h d))).toReal
def c (h : Fin 8) (i : Fin 2048) : ℝ := (x1 (ix2 h i)).toReal

/-- The used entries of the three arrays are reals. -/
structure FiniteLogits : Prop where
  proj : ∀ (i : Fin 2048) (a : Fin 4096), a.val < 2048 → ∃ r : ℝ, x0 (ix2 i a) = r
  gate : ∀ (h : Fin 8) (i : Fin 2048), ∃ r : ℝ, x1 (ix2 h i) = r

/-- The entries of the whole call are reals too. -/
structure Finite : Prop where
  proj : ∀ (i : Fin 2048) (a : Fin 4096), a.val < 3072 → ∃ r : ℝ, x0 (ix2 i a) = r
  gate : ∀ (h : Fin 8) (i : Fin 2048), ∃ r : ℝ, x1 (ix2 h i) = r
  grad : ∀ (i : Fin 2048) (a : Fin 2048), a.val < 1024 → ∃ r : ℝ, x2 (ix2 i a) = r

variable {x0 x1 x2}

theorem Finite.logits (H : Finite x0 x1 x2) : FiniteLogits x0 x1 := ⟨fun i a ha => H.proj i a (by omega), H.gate⟩

variable (L : FiniteLogits x0 x1) (H : Finite x0 x1 x2)

include L in
theorem q_eq (h : Fin 8) (i : Fin 2048) (d : Fin 128) : x0 (ix2 i (qcol h d)) = (q x0 h i d : EReal) := by
  obtain ⟨r, hr⟩ := L.proj i (qcol h d) (by simp only [qcol]; omega)
  rw [q, hr, EReal.toReal_coe]

include L in
theorem k_eq (h : Fin 8) (i : Fin 2048) (d : Fin 128) : x0 (ix2 i (kcol h d)) = (k x0 h i d : EReal) := by
  obtain ⟨r, hr⟩ := L.proj i (kcol h d) (by simp only [kcol]; omega)
  rw [k, hr, EReal.toReal_coe]

include H in
theorem v_eq (h : Fin 8) (i : Fin 2048) (d : Fin 128) : x0 (ix2 i (vcol h d)) = (v x0 h i d : EReal) := by
  obtain ⟨r, hr⟩ := H.proj i (vcol h d) (by simp only [vcol]; omega)
  rw [v, hr, EReal.toReal_coe]

include H in
theorem g_eq (h : Fin 8) (i : Fin 2048) (d : Fin 128) : x2 (ix2 i (gcol h d)) = (g x2 h i d : EReal) := by
  obtain ⟨r, hr⟩ := H.grad i (gcol h d) (by simp only [gcol]; omega)
  rw [g, hr, EReal.toReal_coe]

include L in
theorem c_eq (h : Fin 8) (i : Fin 2048) : x1 (ix2 h i) = (c x1 h i : EReal) := by
  obtain ⟨r, hr⟩ := L.gate h i
  rw [c, hr, EReal.toReal_coe]

/-- The logit of head `h`. -/
abbrev S (x0 : (⟨2, ![2048, 4096]⟩ : Shape).Idx → EReal) (x1 : (⟨2, ![8, 2048]⟩ : Shape).Idx → EReal) (h : Fin 8) (i j : Fin 2048) : ℝ :=
  FoxMath.S sc (q x0 h) (k x0 h) (c x1 h) i j

/-- The row of head `h`'s masked logits. -/
abbrev row (x0 : (⟨2, ![2048, 4096]⟩ : Shape).Idx → EReal) (x1 : (⟨2, ![8, 2048]⟩ : Shape).Idx → EReal) (h : Fin 8) (i : Fin 2048) : Fin 2048 → EReal :=
  FoxMath.masked (fun j : Fin 2048 => j ≤ i) (S x0 x1 h i)

include L in
/-- The logit from the arrays' entries. -/
theorem logit_eq (h : Fin 8) (i j : Fin 2048) :
    (∑ d : Fin 128, x0 (ix2 i (qcol h d)) * x0 (ix2 j (kcol h d))) * scE + x1 (ix2 h i) - x1 (ix2 h j) = (S x0 x1 h i j : EReal) := by
  rw [FoxMath.sum_mul_coe _ _ (fun d => q_eq L h i d) (fun d => k_eq L h j d), c_eq L h i, c_eq L h j, scE_eq,
    ← EReal.coe_mul, ← EReal.coe_add, ← EReal.coe_sub]
  rfl

end Cert.FoxHead

end
-- ==== Proof.FoxHost.lean ====
/-
  The arrays the host prepares for the attention's backward call: the gate's cumulative sums as a column and a row, the
  forward's output and the logarithms of the rows' sums, as the host's operations on the arguments.
-/
module

public import proofs.«01_k».proof.Proof.FoxSteps
public import Idealize.ShloMosaic.Lib.StableHlo.ReadAt
public import Idealize.ShloMosaic.Lib.Claim

@[expose] public section

set_option maxRecDepth 16384

noncomputable section

namespace Cert.KernelIdeal.Fox

open Cert.KernelIdeal Cert.KernelIdeal.Gen Cert.KernelIdeal.Value
open Idealize.ShloMosaic Idealize.ShloMosaic.TcCoe Idealize.SL.Sem
open Idealize.ShloMosaic.Pointwise

/-! ### The host's operations -/

section
variable (x0 : FVec Ideal S2048x4096 .f32) (x1 : FVec Ideal S8x2048 .f32)

/-- The causal mask. -/
def hostMask : IVec S2048x2048 1 :=
  cmpi CmpIPredicate.sge
    (broadcastInDim S2048x2048 ![0, 1] bcast_S2048x1_S2048x2048_0_1 (broadcastInDim S2048x1 ![0] bcast_S2048_S2048x1_0 (iotaInDim S2048 32 0)))
    (broadcastInDim S2048x2048 ![0, 1] bcast_S1x2048_S2048x2048_0_1 (broadcastInDim S1x2048 ![1] bcast_S2048_S1x2048_1 (iotaInDim S2048 32 0)))

/-- The logits before the mask. -/
def hostLogit : FVec Ideal S8x2048x2048 .f32 :=
  subf
    (addf
      (mulf
        (Host.dotGeneral dot_S2048x8x128_S2048x8x128_S8x2048x2048_2_2_0_0_1_1 none
          (shapeCast S2048x8x128 (extractStridedSlice S2048x1024 ![0, 0] x0 slices_S2048x4096_S2048x1024_0_0) shapeCasts_S2048x1024_S2048x8x128)
          (shapeCast S2048x8x128 (extractStridedSlice S2048x1024 ![0, 1024] x0 slices_S2048x4096_S2048x1024_0_1024) shapeCasts_S2048x1024_S2048x8x128))
        (broadcastInDim S8x2048x2048 ![] bcast_S_S8x2048x2048 (constant S_ FTy.f32 1035273459#32)))
      (broadcastInDim S8x2048x2048 ![0, 1, 2] bcast_S8x2048x1_S8x2048x2048_0_1_2 (broadcastInDim S8x2048x1 ![0, 1] bcast_S8x2048_S8x2048x1_0_1 x1)))
    (broadcastInDim S8x2048x2048 ![0, 1, 2] bcast_S8x1x2048_S8x2048x2048_0_1_2 (broadcastInDim S8x1x2048 ![0, 2] bcast_S8x2048_S8x1x2048_0_2 x1))

/-- The masked logits. -/
def hostMasked : FVec Ideal S8x2048x2048 .f32 :=
  select (broadcastInDim S8x2048x2048 ![1, 2] bcast_S2048x2048_S8x2048x2048_1_2 hostMask) (hostLogit x0 x1)
    (broadcastInDim S8x2048x2048 ![] bcast_S_S8x2048x2048 (constant S_ FTy.f32 4286578688#32))

/-- The rows' greatest logits. -/
def hostMax : FVec Ideal S8x2048 .f32 :=
  Host.reduce FloatOps.maximumf (hostMasked x0 x1) (constant S_ FTy.f32 4286578688#32) reducesTo_S8x2048x2048_S8x2048_d2 h_S_

/-- The exponentials. -/
def hostExp : FVec Ideal S8x2048x2048 .f32 :=
  Host.exp (subf (hostMasked x0 x1)
    (broadcastInDim S8x2048x2048 ![0, 1, 2] bcast_S8x2048x1_S8x2048x2048_0_1_2 (broadcastInDim S8x2048x1 ![0, 1] bcast_S8x2048_S8x2048x1_0_1 (hostMax x0 x1))))

/-- The rows' sums of exponentials. -/
def hostDen : FVec Ideal S8x2048 .f32 :=
  Host.reduceAdd (hostExp x0 x1) (constant S_ FTy.f32 0#32) reducesTo_S8x2048x2048_S8x2048_d2 h_S_

/-- The probabilities. -/
def hostProb : FVec Ideal S8x2048x2048 .f32 :=
  Host.divf (hostExp x0 x1)
    (broadcastInDim S8x2048x2048 ![0, 1, 2] bcast_S8x2048x1_S8x2048x2048_0_1_2 (broadcastInDim S8x2048x1 ![0, 1] bcast_S8x2048_S8x2048x1_0_1 (hostDen x0 x1)))

/-- The forward's output. -/
def hostOut : FVec Ideal S2048x1024 .f32 :=
  shapeCast S2048x1024 (transpose S2048x8x128 [2, 0, 1]
    (Host.dotGeneral dot_S2048x8x128_S8x2048x2048_S8x128x2048_0_2_2_1_1_0 none
      (shapeCast S2048x8x128 (extractStridedSlice S2048x1024 ![0, 2048] x0 slices_S2048x4096_S2048x1024_0_2048) shapeCasts_S2048x1024_S2048x8x128)
      (hostProb x0 x1)) transposes_S8x128x2048_S2048x8x128_2_0_1) shapeCasts_S2048x8x128_S2048x1024

/-- The logarithms of the rows' sums. -/
def hostLse : FVec Ideal S8x2048x1 .f32 :=
  broadcastInDim S8x2048x1 ![0, 1] bcast_S8x2048_S8x2048x1_0_1 (addf (hostMax x0 x1) (Host.log (hostDen x0 x1)))
end

/-! ### The buffers at the call's entry -/

variable (m : (ℓ : Loc nD τ sig) → Buf (Elt Ideal) ℓ) (c : Dev nD)

/-- The arguments' arrays. -/
abbrev X0 : FVec Ideal S2048x4096 .f32 := m ((c : Thread nD τ).loc main_arg0)
abbrev X1 : FVec Ideal S8x2048 .f32 := m ((c : Thread nD τ).loc main_arg1)
abbrev X2 : FVec Ideal S2048x2048 .f32 := m ((c : Thread nD τ).loc main_arg2)

theorem V38 : (V m c main_v38 : FVec Ideal S8x2048x1 .f32) = broadcastInDim S8x2048x1 ![0, 1] bcast_S8x2048_S8x2048x1_0_1 (X1 m c) := by
  unfold V
  simp only [hostOps0, hostOps0_1, hostOps0_2, List.flatten_cons, List.flatten_nil, List.append_nil, List.cons_append, List.nil_append]
  entry_read
  rfl

theorem V39 : (V m c main_v39 : FVec Ideal S8x1x2048 .f32) = broadcastInDim S8x1x2048 ![0, 2] bcast_S8x2048_S8x1x2048_0_2 (X1 m c) := by
  unfold V
  simp only [hostOps0, hostOps0_1, hostOps0_2, List.flatten_cons, List.flatten_nil, List.append_nil, List.cons_append, List.nil_append]
  entry_read
  rfl

theorem V37 : (V m c main_v37 : FVec Ideal S8x2048x1 .f32) = hostLse (X0 m c) (X1 m c) := by
  unfold V
  simp only [hostOps0, hostOps0_1, hostOps0_2, List.flatten_cons, List.flatten_nil, List.append_nil, List.cons_append, List.nil_append]
  entry_read
  simp -implicitDefEqProofs only [StableHlo.TRef.toBuf, StableHlo.TRef.ofBuf, cast_eq]
  rfl

theorem V34 : (V m c main_v34 : Vec Ideal S2048x1024 .f32) = hostOut (X0 m c) (X1 m c) := by
  unfold V
  simp only [hostOps0, hostOps0_1, hostOps0_2, List.flatten_cons, List.flatten_nil, List.append_nil, List.cons_append, List.nil_append]
  entry_read
  simp -implicitDefEqProofs only [StableHlo.TRef.toBuf, StableHlo.TRef.ofBuf, cast_eq]
  rfl

end Cert.KernelIdeal.Fox

end
-- ==== Proof.FoxBlocks.lean ====
/-
  The blocks of a grid point as entries of the call's arrays: point `t` works on head `t / 4` and on query rows
  `512 (t % 4)` and following.
-/
module

public import proofs.«01_k».proof.Proof.FoxSteps
public import proofs.«01_k».proof.Proof.FoxPay
public import proofs.«01_k».proof.Proof.FoxHead
public import proofs.«01_k».proof.Proof.FoxHost

@[expose] public section

set_option maxRecDepth 16384

noncomputable section

namespace Cert.KernelIdeal.Fox

open Cert.KernelIdeal Cert.KernelIdeal.Gen Cert.KernelIdeal.Value
open Idealize.ShloMosaic Idealize.ShloMosaic.TcCoe Idealize.SL.Sem
open Idealize.ShloMosaic.Pointwise

/-- The block indices of the windows at a point. -/
theorem idx : ∀ t : Fin cfg0.N,
    win0_0.index t = ![t.val % 4, t.val / 4] ∧ win0_1.index t = ![0, 8 + t.val / 4] ∧ win0_2.index t = ![0, 16 + t.val / 4]
    ∧ win0_3.index t = ![t.val / 4, t.val % 4, 0] ∧ win0_4.index t = ![t.val / 4, 0, 0] ∧ win0_5.index t = ![t.val % 4, t.val / 4]
    ∧ win0_6.index t = ![t.val / 4, t.val % 4, 0] ∧ win0_7.index t = ![t.val % 4, t.val / 4] ∧ (grid0.coords t 1).val = t.val % 4 :=
  (by decide +kernel : ∀ t : Fin grid0.N, _)

theorem lt32 (t : Fin cfg0.N) : t.val < 32 := lt_of_lt_of_eq t.isLt (show cfg0.N = 32 from N_0)

/-- The head of a point, and the array's row of one of its query rows. -/
def hOf (t : Fin cfg0.N) : Fin 8 := ⟨t.val / 4, by have := lt32 t; omega⟩
def rOf (t : Fin cfg0.N) (a : Fin 512) : Fin 2048 := ⟨t.val % 4 * 512 + a.val, by omega⟩

variable (m : (ℓ : Loc nD τ sig) → Buf (Elt Ideal) ℓ) (c : Dev nD) (t : Fin cfg0.N)

theorem blk0 (a : Fin 512) (x : Fin 128) : iblk m c 0 t (ix2 a x) = X0 m c (ix2 (rOf t a) (FoxHead.qcol (hOf t) x)) := by
  obtain ⟨e0, e1, e2, e3, e4, e5, e6, e7, e8⟩ := idx t
  blk_point [iblk, V, e0, rOf, hOf, FoxHead.qcol]

theorem blk1 (j : Fin 2048) (x : Fin 128) : iblk m c 1 t (ix2 j x) = X0 m c (ix2 j (FoxHead.kcol (hOf t) x)) := by
  obtain ⟨e0, e1, e2, e3, e4, e5, e6, e7, e8⟩ := idx t
  blk_point [iblk, V, e1, rOf, hOf, FoxHead.kcol]

theorem blk2 (j : Fin 2048) (x : Fin 128) : iblk m c 2 t (ix2 j x) = X0 m c (ix2 j (FoxHead.vcol (hOf t) x)) := by
  obtain ⟨e0, e1, e2, e3, e4, e5, e6, e7, e8⟩ := idx t
  blk_point [iblk, V, e2, rOf, hOf, FoxHead.vcol]

theorem blk7 (a : Fin 512) (x : Fin 128) : iblk m c 7 t (ix2 a x) = X2 m c (ix2 (rOf t a) (FoxHead.gcol (hOf t) x)) := by
  obtain ⟨e0, e1, e2, e3, e4, e5, e6, e7, e8⟩ := idx t
  blk_point [iblk, V, e7, rOf, hOf, FoxHead.gcol]

theorem blk3 (a : Fin 512) : iblk m c 3 t (ix3 0 a 0) = X1 m c (ix2 (hOf t) (rOf t a)) := by
  obtain ⟨e0, e1, e2, e3, e4, e5, e6, e7, e8⟩ := idx t
  have e : iblk m c 3 t (ix3 0 a 0) = V m c main_v38 (ix3 (hOf t) (rOf t a) 0) := by
    blk_point [iblk, e3, rOf, hOf]
  rw [e]
  refine (congrFun (V38 m c) _).trans ?_
  pointwise

theorem blk4 (j : Fin 2048) : iblk m c 4 t (ix3 0 0 j) = X1 m c (ix2 (hOf t) j) := by
  obtain ⟨e0, e1, e2, e3, e4, e5, e6, e7, e8⟩ := idx t
  have e : iblk m c 4 t (ix3 0 0 j) = V m c main_v39 (ix3 (hOf t) 0 j) := by
    blk_point [iblk, e4, rOf, hOf]
  rw [e]
  refine (congrFun (V39 m c) _).trans ?_
  pointwise

theorem blk5 (a : Fin 512) (x : Fin 128) : iblk m c 5 t (ix2 a x) = hostOut (X0 m c) (X1 m c) (ix2 (rOf t a) ⟨(hOf t).val * 128 + x.val, by omega⟩) := by
  obtain ⟨e0, e1, e2, e3, e4, e5, e6, e7, e8⟩ := idx t
  have e : iblk m c 5 t (ix2 a x) = V m c main_v34 (ix2 (rOf t a) ⟨(hOf t).val * 128 + x.val, by omega⟩) := by
    blk_point [iblk, e5, rOf, hOf]
  rw [e]
  exact congrFun (V34 m c) _

theorem iblk6 : iblk m c 6 t = ((cfg0.win 6).blk t).view.read (Elt Ideal) (hostLse (X0 m c) (X1 m c)) :=
  congrArg (fun W => ((cfg0.win 6).blk t).view.read (Elt Ideal) W) (V37 m c)

theorem read6 (W : Vec Ideal S8x2048x1 .f32) (a : Fin 512) :
    (((cfg0.win 6).blk t).view.read (Elt Ideal) W : Vec Ideal S1x512x1 .f32) (ix3 0 a 0) = W (ix3 (hOf t) (rOf t a) 0) := by
  obtain ⟨e0, e1, e2, e3, e4, e5, e6, e7, e8⟩ := idx t
  show W ((win0_6.blk t).view.emb (ix3 0 a 0)) = _
  blk_point [e6, rOf, hOf]

theorem blk6 (a : Fin 512) : iblk m c 6 t (ix3 0 a 0) = hostLse (X0 m c) (X1 m c) (ix3 (hOf t) (rOf t a) 0) := by
  rw [iblk6]
  exact read6 t _ a

end Cert.KernelIdeal.Fox

end
-- ==== Proof.FoxHostVal.lean ====
/-
  The arrays the host prepares for the attention's backward call, read at an index: for finite arguments the saved
  output is the attention's output and the saved log-sum the logarithm of the row's sum of weights.
-/
module

public import proofs.«01_k».proof.Proof.FoxHost
public import proofs.«01_k».proof.Proof.FoxHead
public import Idealize.ShloMosaic.Lib.Pointwise
public import Idealize.ShloMosaic.Lib.WordCmp

@[expose] public section

set_option maxRecDepth 16384

noncomputable section

namespace Cert.KernelIdeal.Fox

open Cert.KernelIdeal Cert.KernelIdeal.Gen Cert.KernelIdeal.Value
open Idealize.ShloMosaic Idealize.ShloMosaic.TcCoe Idealize.SL.Sem
open Idealize.ShloMosaic.Pointwise

variable (x0 : FVec Ideal S2048x4096 .f32) (x1 : FVec Ideal S8x2048 .f32) (x2 : FVec Ideal S2048x2048 .f32)

/-- The mask of a query and a key. -/
theorem hostMask_at {α : Type} (i j : Fin 2048) (x y : α) : Scalar.select (hostMask (ix2 i j)) x y = if j ≤ i then x else y := by
  have e : hostMask (ix2 i j) = IntOp.cmpi .sge (BitVec.ofNat 32 i.val) (BitVec.ofNat 32 j.val) := by
    pointwise [hostMask]
  rw [e, WordCmp.cmpi_sge_ofNat (w := 32) (by omega) (by omega)]
  by_cases h : j.val ≤ i.val <;> simp [h, Scalar.select, Fin.le_def]

theorem hostLogit_at (h : Fin 8) (i j : Fin 2048) : hostLogit x0 x1 (ix3 h i j)
    = (∑ d : Fin 128, x0 (ix2 i (FoxHead.qcol h d)) * x0 (ix2 j (FoxHead.kcol h d))) * FoxHead.scE + x1 (ix2 h i) - x1 (ix2 h j) := by
  pointwise [hostLogit, FoxHead.qcol, FoxHead.kcol]

theorem lse_col (a b : FVec Ideal S8x2048 .f32) (h : Fin 8) (i : Fin 2048) :
    broadcastInDim S8x2048x1 ![0, 1] bcast_S8x2048_S8x2048x1_0_1 (addf a (Host.log b)) (ix3 h i 0) = a (ix2 h i) + Ideal.log (b (ix2 h i)) := by
  pointwise

section
variable {x0 x1 x2} (H : FoxHead.Finite x0 x1 x2)
include H

theorem hostMasked_at (h : Fin 8) (i j : Fin 2048) : hostMasked x0 x1 (ix3 h i j) = FoxHead.row x0 x1 h i j := by
  have e : hostMasked x0 x1 (ix3 h i j) = if j ≤ i then hostLogit x0 x1 (ix3 h i j) else Ideal.ofBits .f32 0xFF800000#32 := by
    rw [← hostMask_at]
    pointwise [hostMasked]
  rw [e, hostLogit_at, FoxHead.logit_eq H.logits, FoxHead.negInf]
  rfl

/-- The greatest logit of a row is a real. -/
theorem hostMax_real (h : Fin 8) (i : Fin 2048) : ∃ M : ℝ, hostMax x0 x1 (ix2 h i) = M := by
  obtain ⟨M, hM⟩ := FoxMath.fold_max_real (fun j : Fin 2048 => j ≤ i) (FoxHead.S x0 x1 h i) i le_rfl
  refine ⟨M, ?_⟩
  have e' : hostMax x0 x1 (ix2 h i)
      = Finset.univ.fold max (Ideal.ofBits .f32 0xFF800000#32) (fun j : Fin 2048 => hostMasked x0 x1 (ix3 h i j)) :=
    FoxHead.reduce_max_last _ _ _ _ h i
  rw [e', FoxHead.negInf]
  simp only [hostMasked_at H]
  exact hM

/-- The weight of a row's sum of exponentials, for its greatest logit `M`. -/
theorem hostExp_at (h : Fin 8) (i j : Fin 2048) {M : ℝ} (hM : hostMax x0 x1 (ix2 h i) = M) :
    hostExp x0 x1 (ix3 h i j) = ((FoxMath.w (fun j : Fin 2048 => j ≤ i) (FoxHead.S x0 x1 h i) j * Real.exp (-M) : ℝ) : EReal) := by
  have e : hostExp x0 x1 (ix3 h i j) = Ideal.exp (hostMasked x0 x1 (ix3 h i j) - hostMax x0 x1 (ix2 h i)) := by
    pointwise [hostExp]
  rw [e, hostMasked_at H, hM]; exact FoxMath.exp_masked _ _ M j

theorem hostDen_at (h : Fin 8) (i : Fin 2048) {M : ℝ} (hM : hostMax x0 x1 (ix2 h i) = M) :
    hostDen x0 x1 (ix2 h i) = ((FoxMath.W (fun j : Fin 2048 => j ≤ i) (FoxHead.S x0 x1 h i) * Real.exp (-M) : ℝ) : EReal) := by
  have e : hostDen x0 x1 (ix2 h i) = ∑ j : Fin 2048, hostExp x0 x1 (ix3 h i j) := by
    pointwise [hostDen]
  rw [e]; simp only [hostExp_at H h i _ hM, FoxMath.coe_sum, FoxMath.W, Finset.sum_mul]

/-- The probabilities. -/
theorem hostProb_at (h : Fin 8) (i j : Fin 2048) :
    hostProb x0 x1 (ix3 h i j) = (FoxMath.P FoxHead.sc (FoxHead.q x0 h) (FoxHead.k x0 h) (FoxHead.c x1 h) i j : EReal) := by
  obtain ⟨M, hM⟩ := hostMax_real H h i
  have e : hostProb x0 x1 (ix3 h i j) = Ideal.div (hostExp x0 x1 (ix3 h i j)) (hostDen x0 x1 (ix2 h i)) := by
    pointwise [hostProb]
  rw [e, hostExp_at H h i j hM, hostDen_at H h i hM]
  exact FoxMath.softmax_entry _ _ M (FoxMath.W_pos' ..) j

/-- The attention's output. -/
theorem hostOut_at (i : Fin 2048) (h : Fin 8) (x : Fin 128) : hostOut x0 x1 (ix2 i ⟨h.val * 128 + x.val, by omega⟩)
    = (FoxMath.O FoxHead.sc (FoxHead.q x0 h) (FoxHead.k x0 h) (FoxHead.v x0 h) (FoxHead.c x1 h) i x : EReal) := by
  have e : hostOut x0 x1 (ix2 i ⟨h.val * 128 + x.val, by omega⟩) = ∑ j : Fin 2048, x0 (ix2 j (FoxHead.vcol h x)) * hostProb x0 x1 (ix3 h i j) := by
    pointwise [hostOut, FoxHead.vcol]
  rw [e, FoxMath.sum_mul_coe _ _ (fun j => FoxHead.v_eq H h j x) (fun j => hostProb_at H h i j)]
  congr 1
  exact Finset.sum_congr rfl fun j _ => mul_comm _ _

/-- The logarithm of a row's sum of weights. -/
theorem hostLse_at (h : Fin 8) (i : Fin 2048) : hostLse x0 x1 (ix3 h i 0)
    = ((Real.log (FoxMath.W (fun j : Fin 2048 => j ≤ i) (FoxHead.S x0 x1 h i)) : ℝ) : EReal) := by
  obtain ⟨M, hM⟩ := hostMax_real H h i
  have e : hostLse x0 x1 (ix3 h i 0) = hostMax x0 x1 (ix2 h i) + Ideal.log (hostDen x0 x1 (ix2 h i)) := lse_col _ _ h i
  rw [e, hM, hostDen_at H h i hM]
  exact FoxMath.lse_eq _ _ M (FoxMath.W_pos' ..)

end

end Cert.KernelIdeal.Fox

end
-- ==== Proof.FoxPoint.lean ====
/-
  One grid point in numbers: the probabilities and the logits' gradient of its query rows are the head's real matrices.
-/
module

public import proofs.«01_k».proof.Proof.FoxBlocks
public import proofs.«01_k».proof.Proof.FoxHostVal

@[expose] public section

set_option maxRecDepth 16384

noncomputable section

namespace Cert.KernelIdeal.Fox

open Cert.KernelIdeal Cert.KernelIdeal.Gen Cert.KernelIdeal.Value
open Idealize.ShloMosaic Idealize.ShloMosaic.TcCoe Idealize.SL.Sem
open Idealize.ShloMosaic.Pointwise

variable (m : (ℓ : Loc nD τ sig) → Buf (Elt Ideal) ℓ) (c : Dev nD)

/-- Head `h`'s real matrices, from the arguments' arrays. -/
abbrev RP (h : Fin 8) (i j : Fin 2048) : ℝ :=
  FoxMath.P FoxHead.sc (FoxHead.q (X0 m c) h) (FoxHead.k (X0 m c) h) (FoxHead.c (X1 m c) h) i j
abbrev RD (h : Fin 8) (i j : Fin 2048) : ℝ :=
  FoxMath.DS FoxHead.sc (FoxHead.q (X0 m c) h) (FoxHead.k (X0 m c) h) (FoxHead.v (X0 m c) h) (FoxHead.g (X2 m c) h) (FoxHead.c (X1 m c) h) i j

variable {m c} (H : FoxHead.Finite (X0 m c) (X1 m c) (X2 m c)) (t : Fin cfg0.N)
include H

theorem pAt_at (a : Fin 512) (j : Fin 2048) : pAt m c t (ix2 a j) = (RP m c (hOf t) (rOf t a) j : EReal) := by
  have e8 : (grid0.coords t 1).val = t.val % 4 := (idx t).2.2.2.2.2.2.2.2
  rw [pAt, pay3_at, blk3, blk4, blk6, hostLse_at H, e8]
  simp only [blk0, blk1]
  rw [FoxHead.logit_eq H.logits]
  exact FoxMath.exp_sub_lse (fun j : Fin 2048 => j ≤ rOf t a) _ (FoxMath.W_pos' ..) j

theorem dpAt_at (a : Fin 512) (j : Fin 2048) : dpAt m c t (ix2 a j)
    = (FoxMath.dP (FoxHead.v (X0 m c) (hOf t)) (FoxHead.g (X2 m c) (hOf t)) (rOf t a) j : EReal) := by
  rw [dpAt, pay5_at]
  simp only [blk7, blk2]
  exact FoxMath.sum_mul_coe _ _ (fun x => FoxHead.g_eq H (hOf t) (rOf t a) x) (fun x => FoxHead.v_eq H (hOf t) j x)

/-- The logits' gradient. -/
theorem ds_at (a : Fin 512) (j : Fin 2048) :
    k0_pay6 (pAt m c t) (iblk m c 7 t) (dpAt m c t) (iblk m c 5 t) (ix2 a j) = (RD m c (hOf t) (rOf t a) j : EReal) := by
  rw [pay6_at, pAt_at H, dpAt_at H]
  simp only [blk7, blk5, hostOut_at H]
  rw [FoxMath.sum_mul_coe _ _ (fun x => FoxHead.g_eq H (hOf t) (rOf t a) x) (fun x => rfl), FoxMath.delta_eq,
    ← EReal.coe_sub, ← EReal.coe_mul]
  rfl

/-! ### What a point gives -/

theorem dq_pt (a : Fin 512) (x : Fin 128) :
    k0_pay8 (pAt m c t) (iblk m c 7 t) (dpAt m c t) (iblk m c 5 t) (iblk m c 1 t) (ix2 a x)
      = (FoxMath.dQ FoxHead.sc (FoxHead.q (X0 m c) (hOf t)) (FoxHead.k (X0 m c) (hOf t)) (FoxHead.v (X0 m c) (hOf t))
          (FoxHead.g (X2 m c) (hOf t)) (FoxHead.c (X1 m c) (hOf t)) (rOf t a) x : EReal) := by
  rw [pay8_at]
  simp only [blk1]
  rw [FoxMath.sum_mul_coe _ _ (fun j => ds_at H t a j) (fun j => FoxHead.k_eq H.logits (hOf t) j x), (show scE = (FoxHead.sc : EReal) from FoxHead.scE_eq), ← EReal.coe_mul]
  rfl

theorem dcc_pt (a : Fin 512) : k0_pay11 (pAt m c t) (iblk m c 7 t) (dpAt m c t) (iblk m c 5 t) (ix3 0 a 0)
      = (FoxMath.dRow FoxHead.sc (FoxHead.q (X0 m c) (hOf t)) (FoxHead.k (X0 m c) (hOf t)) (FoxHead.v (X0 m c) (hOf t))
          (FoxHead.g (X2 m c) (hOf t)) (FoxHead.c (X1 m c) (hOf t)) (rOf t a) : EReal) := by
  rw [pay11_at]
  simp only [ds_at H, FoxMath.coe_sum]
  rfl

theorem dcr_pt (j : Fin 2048) :
    ∑ a : Fin 512, k0_pay6 (pAt m c t) (iblk m c 7 t) (dpAt m c t) (iblk m c 5 t) (ix2 a j)
      = ((∑ a : Fin 512, RD m c (hOf t) (rOf t a) j : ℝ) : EReal) := by
  simp only [ds_at H, FoxMath.coe_sum]

theorem dk_pt (j : Fin 2048) (x : Fin 128) :
    k0_pay9 (pAt m c t) (iblk m c 7 t) (dpAt m c t) (iblk m c 5 t) (iblk m c 0 t) (ix2 j x)
      = ((∑ a : Fin 512, RD m c (hOf t) (rOf t a) j * FoxHead.q (X0 m c) (hOf t) (rOf t a) x * FoxHead.sc : ℝ) : EReal) := by
  rw [pay9_at]
  simp only [blk0]
  rw [FoxMath.sum_mul_coe _ _ (fun a => ds_at H t a j) (fun a => FoxHead.q_eq H.logits (hOf t) (rOf t a) x), (show scE = (FoxHead.sc : EReal) from FoxHead.scE_eq), ← EReal.coe_mul,
    Finset.sum_mul]

theorem dv_pt (j : Fin 2048) (x : Fin 128) :
    k0_pay10 (pAt m c t) (k0_pay4 (iblk m c 7 t)) (ix2 j x)
      = ((∑ a : Fin 512, RP m c (hOf t) (rOf t a) j * FoxHead.g (X2 m c) (hOf t) (rOf t a) x : ℝ) : EReal) := by
  rw [pay10_at]
  simp only [blk7]
  exact FoxMath.sum_mul_coe _ _ (fun a => pAt_at H t a j) (fun a => FoxHead.g_eq H (hOf t) (rOf t a) x)

end Cert.KernelIdeal.Fox

end
-- ==== Proof.FoxArrays.lean ====
/-
  The five results of the attention's backward call as the heads' real gradients: the query gradient and the row sums
  point by point, the key and value gradients and the column sums by the four points of a head.
-/
module

public import proofs.«01_k».proof.Proof.FoxPoint

@[expose] public section

set_option maxRecDepth 16384

noncomputable section

namespace Cert.KernelIdeal.Fox

open Cert.KernelIdeal Cert.KernelIdeal.Gen Cert.KernelIdeal.Value
open Idealize.ShloMosaic Idealize.ShloMosaic.TcCoe Idealize.SL.Sem
open Idealize.ShloMosaic.Pointwise

variable (m : (ℓ : Loc nD τ sig) → Buf (Elt Ideal) ℓ) (c : Dev nD)

/-- Every state is the step from some state, the one before where there is one. -/
theorem outs_step : ∀ (n : ℕ) (hn : n < cfg0.N), ∃ acc : St (F := Ideal), outsAt0 m c n hn = stAt0 m c n hn acc
    ∧ ∀ k (hk : k < cfg0.N), n = k + 1 → acc = outsAt0 m c k hk
  | 0, hn => ⟨junk0, outsAt0_zero m c hn, fun k hk e => by omega⟩
  | n + 1, hn => by
    refine ⟨outsAt0 m c n (by omega), outsAt0_succ m c n hn, ?_⟩
    intro k hk e
    have e' : n = k := by omega
    subst e'
    rfl

variable {m c} (H : FoxHead.Finite (X0 m c) (X1 m c) (X2 m c))

/-- A quantity that starts with a head's first block of rows and adds every later block is the partial sum over rows. -/
theorem fold_rows (v : ∀ n, n < cfg0.N → EReal) (f : Fin 8 → Fin 2048 → ℝ)
    (h0 : ∀ t : Fin cfg0.N, t.val % 4 = 0 → v t.val t.isLt = ((∑ a : Fin 512, f (hOf t) (rOf t a) : ℝ) : EReal))
    (h1 : ∀ t : Fin cfg0.N, ¬ t.val % 4 = 0 → ∀ k (hk : k < cfg0.N), t.val = k + 1 →
      v t.val t.isLt = v k hk + ((∑ a : Fin 512, f (hOf t) (rOf t a) : ℝ) : EReal)) :
    ∀ n (hn : n < cfg0.N), v n hn = (FoxMath.part (f (hOf ⟨n, hn⟩)) ((n % 4) * 512 + 512) : EReal) := by
  have hb : ∀ t : Fin cfg0.N, FoxMath.part (f (hOf t)) ((t.val % 4) * 512 + 512)
      = FoxMath.part (f (hOf t)) ((t.val % 4) * 512) + ∑ a : Fin 512, f (hOf t) (rOf t a) :=
    fun t => FoxMath.part_add _ _ _ (by omega)
  have first : ∀ n (hn : n < cfg0.N), n % 4 = 0 → v n hn = (FoxMath.part (f (hOf ⟨n, hn⟩)) ((n % 4) * 512 + 512) : EReal) := by
    intro n hn h
    rw [h0 ⟨n, hn⟩ h, hb ⟨n, hn⟩]
    simp only [h, Nat.zero_mul, FoxMath.part, Finset.range_zero, Finset.sum_empty, zero_add]
  intro n
  induction n with
  | zero => intro hn; exact first 0 hn rfl
  | succ n ih =>
    intro hn
    by_cases h : (n + 1) % 4 = 0
    · exact first _ hn h
    · rw [h1 ⟨n + 1, hn⟩ h n (by omega) rfl, ih, hb ⟨n + 1, hn⟩, EReal.coe_add]
      have e : hOf ⟨n, by omega⟩ = hOf ⟨n + 1, hn⟩ := by simp only [hOf, Fin.mk.injEq]; omega
      have e' : n % 4 * 512 + 512 = (n + 1) % 4 * 512 := by omega
      rw [e, e']

/-- At a head's last point the partial sum is the whole sum. -/
theorem fold_last (f : Fin 2048 → ℝ) (n : ℕ) (h : n % 4 = 3) : FoxMath.part f ((n % 4) * 512 + 512) = ∑ i, f i := by
  rw [h]; exact FoxMath.part_all f

include H

theorem acc_dcr (j : Fin 2048) (n : ℕ) (hn : n < cfg0.N) : (outsAt0 m c n hn).2.2.2.2.1 (ix3 0 0 j)
    = (FoxMath.part (fun i => RD m c (hOf ⟨n, hn⟩) i j) ((n % 4) * 512 + 512) : EReal) := by
  refine fold_rows (fun n hn => (outsAt0 m c n hn).2.2.2.2.1 (ix3 0 0 j)) (fun h i => RD m c h i j) ?_ ?_ n hn
  · intro t h
    obtain ⟨acc, e, -⟩ := outs_step m c t.val t.isLt
    simp only [e]
    rw [st_dcr_first m c t acc h, pay15_at, dcr_pt H]
  · intro t h k hk ek
    obtain ⟨acc, e, ea⟩ := outs_step m c t.val t.isLt
    simp only [e, ← ea k hk ek]
    rw [st_dcr_next m c t acc h, pay18_at, dcr_pt H]

theorem acc_dk (j : Fin 2048) (x : Fin 128) (n : ℕ) (hn : n < cfg0.N) : (outsAt0 m c n hn).2.2.2.2.2.1 (ix2 j x)
    = (FoxMath.part (fun i => RD m c (hOf ⟨n, hn⟩) i j * FoxHead.q (X0 m c) (hOf ⟨n, hn⟩) i x * FoxHead.sc) ((n % 4) * 512 + 512) : EReal) := by
  refine fold_rows (fun n hn => (outsAt0 m c n hn).2.2.2.2.2.1 (ix2 j x)) (fun h i => RD m c h i j * FoxHead.q (X0 m c) h i x * FoxHead.sc) ?_ ?_ n hn
  · intro t h
    obtain ⟨acc, e, -⟩ := outs_step m c t.val t.isLt
    simp only [e]
    rw [st_dk_first m c t acc h, pay13_at, dk_pt H]
  · intro t h k hk ek
    obtain ⟨acc, e, ea⟩ := outs_step m c t.val t.isLt
    simp only [e, ← ea k hk ek]
    rw [st_dk_next m c t acc h, pay16_at, dk_pt H]

theorem acc_dv (j : Fin 2048) (x : Fin 128) (n : ℕ) (hn : n < cfg0.N) : (outsAt0 m c n hn).2.2.2.2.2.2 (ix2 j x)
    = (FoxMath.part (fun i => RP m c (hOf ⟨n, hn⟩) i j * FoxHead.g (X2 m c) (hOf ⟨n, hn⟩) i x) ((n % 4) * 512 + 512) : EReal) := by
  refine fold_rows (fun n hn => (outsAt0 m c n hn).2.2.2.2.2.2 (ix2 j x)) (fun h i => RP m c h i j * FoxHead.g (X2 m c) h i x) ?_ ?_ n hn
  · intro t h
    obtain ⟨acc, e, -⟩ := outs_step m c t.val t.isLt
    simp only [e]
    rw [st_dv_first m c t acc h, pay14_at, dv_pt H]
  · intro t h k hk ek
    obtain ⟨acc, e, ea⟩ := outs_step m c t.val t.isLt
    simp only [e, ← ea k hk ek]
    rw [st_dv_next m c t acc h, pay17_at, dv_pt H]

/-! ### The arrays -/

omit H in
theorem lt_N {n : ℕ} (h : n < 32) : n < cfg0.N := lt_of_lt_of_eq h N_0.symm

theorem G8_at (i : Fin 2048) (a : Fin 1024) : G8 m c (ix2 i a) = (FoxMath.dQ FoxHead.sc (FoxHead.q (X0 m c) (FoxHead.hd a)) (FoxHead.k (X0 m c) (FoxHead.hd a)) (FoxHead.v (X0 m c) (FoxHead.hd a)) (FoxHead.g (X2 m c) (FoxHead.hd a)) (FoxHead.c (X1 m c) (FoxHead.hd a)) i (FoxHead.ln a) : EReal) := by
  have hb : pt8Of (ix2 i a) < cfg0.N := lt_N (by show 1 * (i.val / 512 - 0) + 4 * (a.val / 128 - 0) < 32; omega)
  have eh : hOf ⟨pt8Of (ix2 i a), hb⟩ = FoxHead.hd a := by
    apply Fin.ext; show (1 * (i.val / 512 - 0) + 4 * (a.val / 128 - 0)) / 4 = a.val / 128; omega
  have er : rOf ⟨pt8Of (ix2 i a), hb⟩ ⟨i.val % 512, by omega⟩ = i := by
    apply Fin.ext; show (1 * (i.val / 512 - 0) + 4 * (a.val / 128 - 0)) % 4 * 512 + i.val % 512 = i.val; omega
  have el : loc8Of (ix2 i a) = ix2 ⟨i.val % 512, by omega⟩ (FoxHead.ln a) := by
    funext b; match b with
    | ⟨0, _⟩ => rfl
    | ⟨1, _⟩ => rfl
  rw [G8, dif_pos hb, ← outsAt0_sweep m c _ hb, el]
  obtain ⟨acc, e, -⟩ := outs_step m c _ hb
  rw [e, st_dq m c ⟨_, hb⟩ acc, dq_pt H, eh, er]

theorem G11_at (h : Fin 8) (i : Fin 2048) : G11 m c (ix3 h i 0) = (FoxMath.dRow FoxHead.sc (FoxHead.q (X0 m c) h) (FoxHead.k (X0 m c) h) (FoxHead.v (X0 m c) h) (FoxHead.g (X2 m c) h) (FoxHead.c (X1 m c) h) i : EReal) := by
  have hb : pt11Of (ix3 h i 0) < cfg0.N := lt_N (by show 4 * (h.val / 1 - 0) + 1 * (i.val / 512 - 0) + 1 * (0 / 1 - 0) < 32; omega)
  have eh : hOf ⟨pt11Of (ix3 h i 0), hb⟩ = h := by
    apply Fin.ext; show (4 * (h.val / 1 - 0) + 1 * (i.val / 512 - 0) + 1 * (0 / 1 - 0)) / 4 = h.val; omega
  have er : rOf ⟨pt11Of (ix3 h i 0), hb⟩ ⟨i.val % 512, by omega⟩ = i := by
    apply Fin.ext; show (4 * (h.val / 1 - 0) + 1 * (i.val / 512 - 0) + 1 * (0 / 1 - 0)) % 4 * 512 + i.val % 512 = i.val; omega
  have el : loc11Of (ix3 h i 0) = ix3 0 ⟨i.val % 512, by omega⟩ 0 := by
    funext b; match b with
    | ⟨0, _⟩ => exact Subsingleton.elim (α := Fin 1) _ _
    | ⟨1, _⟩ => rfl
    | ⟨2, _⟩ => exact Subsingleton.elim (α := Fin 1) _ _
  rw [G11, dif_pos hb, ← outsAt0_sweep m c _ hb, el]
  obtain ⟨acc, e, -⟩ := outs_step m c _ hb
  rw [e, st_dcc m c ⟨_, hb⟩ acc, dcc_pt H, eh, er]

theorem G9_at (j : Fin 2048) (a : Fin 1024) : G9 m c (ix2 j a) = (FoxMath.dK FoxHead.sc (FoxHead.q (X0 m c) (FoxHead.hd a)) (FoxHead.k (X0 m c) (FoxHead.hd a)) (FoxHead.v (X0 m c) (FoxHead.hd a)) (FoxHead.g (X2 m c) (FoxHead.hd a)) (FoxHead.c (X1 m c) (FoxHead.hd a)) j (FoxHead.ln a) : EReal) := by
  have hv : pt9Of (ix2 j a) = 4 * (a.val / 128) + 3 := by
    show 4 * (8 * (j.val / 2048 - 0) + 1 * (a.val / 128 - 0)) + 3 = _; omega
  have hb : pt9Of (ix2 j a) < cfg0.N := lt_N (by rw [hv]; omega)
  have eh : hOf ⟨pt9Of (ix2 j a), hb⟩ = FoxHead.hd a := by
    apply Fin.ext; show pt9Of (ix2 j a) / 4 = a.val / 128; rw [hv]; omega
  have h3 : pt9Of (ix2 j a) % 4 = 3 := by rw [hv]; omega
  have el : loc9Of (ix2 j a) = ix2 j (FoxHead.ln a) := by
    funext b; match b with
    | ⟨0, _⟩ => exact Fin.ext (Nat.mod_eq_of_lt j.isLt)
    | ⟨1, _⟩ => rfl
  rw [G9, dif_pos hb, ← outsAt0_sweep m c _ hb, el]
  obtain ⟨acc, e, -⟩ := outs_step m c _ hb
  have ek := acc_dk H j (FoxHead.ln a) _ hb
  rw [e] at ek ⊢
  rw [st_dk_last m c ⟨_, hb⟩ acc h3, pay1_at, ek, fold_last _ _ h3, eh, FoxMath.dK, Finset.sum_mul]

theorem G10_at (j : Fin 2048) (a : Fin 1024) : G10 m c (ix2 j a) = (FoxMath.dV FoxHead.sc (FoxHead.q (X0 m c) (FoxHead.hd a)) (FoxHead.k (X0 m c) (FoxHead.hd a)) (FoxHead.g (X2 m c) (FoxHead.hd a)) (FoxHead.c (X1 m c) (FoxHead.hd a)) j (FoxHead.ln a) : EReal) := by
  have hv : pt10Of (ix2 j a) = 4 * (a.val / 128) + 3 := by
    show 4 * (8 * (j.val / 2048 - 0) + 1 * (a.val / 128 - 0)) + 3 = _; omega
  have hb : pt10Of (ix2 j a) < cfg0.N := lt_N (by rw [hv]; omega)
  have eh : hOf ⟨pt10Of (ix2 j a), hb⟩ = FoxHead.hd a := by
    apply Fin.ext; show pt10Of (ix2 j a) / 4 = a.val / 128; rw [hv]; omega
  have h3 : pt10Of (ix2 j a) % 4 = 3 := by rw [hv]; omega
  have el : loc10Of (ix2 j a) = ix2 j (FoxHead.ln a) := by
    funext b; match b with
    | ⟨0, _⟩ => exact Fin.ext (Nat.mod_eq_of_lt j.isLt)
    | ⟨1, _⟩ => rfl
  rw [G10, dif_pos hb, ← outsAt0_sweep m c _ hb, el]
  obtain ⟨acc, e, -⟩ := outs_step m c _ hb
  have ek := acc_dv H j (FoxHead.ln a) _ hb
  rw [e] at ek ⊢
  rw [st_dv_last m c ⟨_, hb⟩ acc h3, pay2_at, ek, fold_last _ _ h3, eh]
  rfl

theorem G12_at (h : Fin 8) (j : Fin 2048) : G12 m c (ix3 h 0 j) = (FoxMath.dCol FoxHead.sc (FoxHead.q (X0 m c) h) (FoxHead.k (X0 m c) h) (FoxHead.v (X0 m c) h) (FoxHead.g (X2 m c) h) (FoxHead.c (X1 m c) h) j : EReal) := by
  have hv : pt12Of (ix3 h 0 j) = 4 * h.val + 3 := by
    show 4 * (1 * (h.val / 1 - 0) + 1 * (0 / 1 - 0) + 1 * (j.val / 2048 - 0)) + 3 = _; omega
  have hb : pt12Of (ix3 h 0 j) < cfg0.N := lt_N (by rw [hv]; omega)
  have eh : hOf ⟨pt12Of (ix3 h 0 j), hb⟩ = h := by
    apply Fin.ext; show pt12Of (ix3 h 0 j) / 4 = h.val; rw [hv]; omega
  have h3 : pt12Of (ix3 h 0 j) % 4 = 3 := by rw [hv]; omega
  have el : loc12Of (ix3 h 0 j) = ix3 0 0 j := by
    funext b; match b with
    | ⟨0, _⟩ => exact Subsingleton.elim (α := Fin 1) _ _
    | ⟨1, _⟩ => exact Subsingleton.elim (α := Fin 1) _ _
    | ⟨2, _⟩ => exact Fin.ext (Nat.mod_eq_of_lt j.isLt)
  rw [G12, dif_pos hb, ← outsAt0_sweep m c _ hb, el, acc_dcr H, fold_last _ _ h3, eh]
  rfl

end Cert.KernelIdeal.Fox

end
-- ==== Proof.FoxRef.lean ====
/-
  The reference's gradient of one head, read at an index.
-/
module

public import proofs.«01_k».proof.Proof.Gen.ReferenceIdeal.Read
public import proofs.«01_k».proof.Proof.FoxHead
public import Idealize.ShloMosaic.Lib.Pointwise
public import Idealize.ShloMosaic.Lib.WordCmp

@[expose] public section

set_option maxRecDepth 16384

noncomputable section

namespace Cert.ReferenceIdeal.Fox

open Cert.ReferenceIdeal Cert.ReferenceIdeal.Gen Cert.ReferenceIdeal.Read
open Idealize.ShloMosaic Idealize.ShloMosaic.TcCoe Idealize.SL.Sem
open Idealize.ShloMosaic.Pointwise

variable (x0 : Vec Ideal S2048x4096 .f32) (x1 : Vec Ideal S8x2048 .f32) (x2 : Vec Ideal S2048x2048 .f32)

/-! ### The arguments' heads -/

theorem v1_at (h : Fin 8) (i : Fin 2048) (d : Fin 128) : val_main_v1 x0 (ix3 i h d) = x0 (ix2 i (FoxHead.qcol h d)) := by
  pointwise [val_main_v1, val_main_v0, FoxHead.qcol]

theorem v3_at (h : Fin 8) (i : Fin 2048) (d : Fin 128) : val_main_v3 x0 (ix3 i h d) = x0 (ix2 i (FoxHead.kcol h d)) := by
  pointwise [val_main_v3, val_main_v2, FoxHead.kcol]

theorem v5_at (h : Fin 8) (i : Fin 2048) (d : Fin 128) : val_main_v5 x0 (ix3 i h d) = x0 (ix2 i (FoxHead.vcol h d)) := by
  pointwise [val_main_v5, val_main_v4, FoxHead.vcol]

theorem v7_at (h : Fin 8) (i : Fin 2048) (d : Fin 128) : val_main_v7 x2 (ix3 i h d) = x2 (ix2 i (FoxHead.gcol h d)) := by
  pointwise [val_main_v7, val_main_v6, FoxHead.gcol]

/-- The mask of a query and a key. -/
theorem causal {α : Type} (i j : Fin 2048) (x y : α) :
    Scalar.select (IntOp.cmpi .sge (BitVec.ofNat 32 i.val) (BitVec.ofNat 32 j.val)) x y = if j ≤ i then x else y := by
  rw [WordCmp.cmpi_sge_ofNat (w := 32) (by omega) (by omega)]
  by_cases h : j.val ≤ i.val <;> simp [h, Scalar.select, Fin.le_def]

section
section
variable {x0 x1} (H : FoxHead.FiniteLogits x0 x1)
include H

theorem v24_at (h : Fin 8) (i j : Fin 2048) : val_main_v24_0 x0 x1 (ix3 h i j) = FoxHead.row x0 x1 h i j := by
  have e : val_main_v24_0 x0 x1 (ix3 h i j) = if j ≤ i then (∑ x : Fin 128, val_main_v1 x0 (ix3 i h x) * val_main_v3 x0 (ix3 j h x)) * FoxHead.scE + x1 (ix2 h i) - x1 (ix2 h j)
      else Ideal.ofBits .f32 0xFF800000#32 := by
    rw [← causal]
    pointwise [val_main_v24_0, val_main_v24_1, val_main_v16, val_main_v15, val_main_v14, val_main_v13, val_main_v12, val_main_v11,
      val_main_v10, val_main_v9, val_main_v8, val_main_v23, val_main_v22, val_main_v21, val_main_v20, val_main_v19, val_main_v18,
      val_main_v17, val_main_call0_v2, val_main_call0_v0, val_main_cst_0, val_main_cst]
    rfl
  rw [e]
  simp only [v1_at, v3_at, FoxHead.logit_eq H, FoxHead.negInf]
  rfl

/-- The greatest logit of a row is a real. -/
theorem v32_real (h : Fin 8) (i : Fin 2048) : ∃ M : ℝ, val_main_v32 x0 x1 (ix2 h i) = M := by
  obtain ⟨M, hM⟩ := FoxMath.fold_max_real (fun j : Fin 2048 => j ≤ i) (FoxHead.S x0 x1 h i) i le_rfl
  refine ⟨M, ?_⟩
  have e31 : val_main_v31 (F := Ideal) (ix2 h i) = Ideal.ofBits .f32 0xFF800000#32 := by
    pointwise [val_main_v31, val_main_cst_3]
  have e' : val_main_v25 x0 x1 (ix2 h i)
      = Finset.univ.fold max (Ideal.ofBits .f32 0xFF800000#32) (fun j : Fin 2048 => val_main_v24_0 x0 x1 (ix3 h i j)) :=
    FoxHead.reduce_max_last _ _ _ _ h i
  rw [val_main_v32_apply, Ideal.maximumf_eq_max, e31, e', FoxHead.negInf]
  simp only [v24_at H]
  rw [← hM]; exact max_eq_right bot_le

/-- The weight of a row's sum of exponentials, for its greatest logit `M`. -/
theorem v45_at (h : Fin 8) (i j : Fin 2048) {M : ℝ} (hM : val_main_v32 x0 x1 (ix2 h i) = M) :
    val_main_v45 x0 x1 (ix3 h i j) = ((FoxMath.w (fun j : Fin 2048 => j ≤ i) (FoxHead.S x0 x1 h i) j * Real.exp (-M) : ℝ) : EReal) := by
  have e : val_main_v45 x0 x1 (ix3 h i j) = Ideal.exp (val_main_v24_0 x0 x1 (ix3 h i j) - val_main_v32 x0 x1 (ix2 h i)) := by
    pointwise [val_main_v45, val_main_v44, val_main_v43, val_main_v42]
  rw [e, v24_at H, hM]; exact FoxMath.exp_masked _ _ M j

theorem v46_at (h : Fin 8) (i : Fin 2048) {M : ℝ} (hM : val_main_v32 x0 x1 (ix2 h i) = M) :
    val_main_v46 x0 x1 (ix2 h i) = ((FoxMath.W (fun j : Fin 2048 => j ≤ i) (FoxHead.S x0 x1 h i) * Real.exp (-M) : ℝ) : EReal) := by
  have e : val_main_v46 x0 x1 (ix2 h i) = ∑ j : Fin 2048, val_main_v45 x0 x1 (ix3 h i j) := by
    pointwise [val_main_v46, val_main_cst_9]
  rw [e]; simp only [v45_at H h i _ hM, FoxMath.coe_sum, FoxMath.W, Finset.sum_mul]

/-- The probabilities. -/
theorem v49_at (h : Fin 8) (i j : Fin 2048) :
    val_main_v49 x0 x1 (ix3 h i j) = (FoxMath.P FoxHead.sc (FoxHead.q x0 h) (FoxHead.k x0 h) (FoxHead.c x1 h) i j : EReal) := by
  obtain ⟨M, hM⟩ := v32_real H h i
  have e : val_main_v49 x0 x1 (ix3 h i j) = Ideal.div (val_main_v45 x0 x1 (ix3 h i j)) (val_main_v46 x0 x1 (ix2 h i)) := by
    pointwise [val_main_v49, val_main_v48, val_main_v47]
  rw [e, v45_at H h i j hM, v46_at H h i hM]
  exact FoxMath.softmax_entry _ _ M (FoxMath.W_pos' ..) j

end

variable {x0 x1 x2} (H : FoxHead.Finite x0 x1 x2)
include H

/-- The gradient of the probabilities. -/
theorem v56_at (h : Fin 8) (i j : Fin 2048) :
    val_main_v56 x0 x2 (ix3 h i j) = (FoxMath.dP (FoxHead.v x0 h) (FoxHead.g x2 h) i j : EReal) := by
  have e : val_main_v56 x0 x2 (ix3 h i j) = ∑ d : Fin 128, val_main_v7 x2 (ix3 i h d) * val_main_v5 x0 (ix3 j h d) := by
    pointwise [val_main_v56, val_main_v55]
  rw [e]; simp only [v7_at, v5_at]
  exact FoxMath.sum_mul_coe _ _ (fun d => FoxHead.g_eq H h i d) (fun d => FoxHead.v_eq H h j d)

/-- The gradient of head `h`'s logits. -/
abbrev DS (x0 : Vec Ideal S2048x4096 .f32) (x1 : Vec Ideal S8x2048 .f32) (x2 : Vec Ideal S2048x2048 .f32) (h : Fin 8) (i j : Fin 2048) : ℝ :=
  FoxMath.DS FoxHead.sc (FoxHead.q x0 h) (FoxHead.k x0 h) (FoxHead.v x0 h) (FoxHead.g x2 h) (FoxHead.c x1 h) i j

theorem v70_at (h : Fin 8) (i j : Fin 2048) : val_main_v70 x0 x1 x2 (ix3 h i j) = (DS x0 x1 x2 h i j : EReal) := by
  obtain ⟨M, hM⟩ := v32_real H.logits h i
  have e62 : val_main_v62 x0 x1 x2 (ix2 h i) = ∑ l : Fin 2048, val_main_v56 x0 x2 (ix3 h i l)
      * Ideal.div 1 (val_main_v46 x0 x1 (ix2 h i) * val_main_v46 x0 x1 (ix2 h i)) * val_main_v45 x0 x1 (ix3 h i l) := by
    pointwise [val_main_v62, val_main_v61, val_main_v60, val_main_v59, val_main_v52, val_main_v51, val_main_v50, val_main_v47,
      val_main_cst_10, val_main_cst_11, Ideal.ofBits_one_f32]
  have e67 : val_main_v67 x0 x1 x2 (ix2 h i) = -(val_main_v62 x0 x1 x2 (ix2 h i)) := by
    pointwise [val_main_v67, val_main_v64, val_main_v63, val_main_cst_12]
    exact Fin.sum_univ_one _
  have e : val_main_v70 x0 x1 x2 (ix3 h i j) = (Ideal.div (val_main_v56 x0 x2 (ix3 h i j)) (val_main_v46 x0 x1 (ix2 h i))
      + val_main_v67 x0 x1 x2 (ix2 h i)) * val_main_v45 x0 x1 (ix3 h i j) := by
    pointwise [val_main_v70, val_main_v69, val_main_v68, val_main_v66, val_main_v65, val_main_v47]
  rw [e, e67, e62]
  simp only [v56_at H, v45_at H.logits h i _ hM, v46_at H.logits h i hM]
  exact FoxMath.ds_quotient _ _ M (FoxMath.W_pos' ..) _ j

theorem v71_at (h : Fin 8) (i j : Fin 2048) : val_main_v71 x0 x1 x2 (ix3 h i j) = (DS x0 x1 x2 h i j : EReal) := by
  have e : val_main_v71 x0 x1 x2 (ix3 h i j) = if j ≤ i then val_main_v70 x0 x1 x2 (ix3 h i j) else 0 := by
    rw [← causal]
    pointwise [val_main_v71, val_main_v24_1, val_main_v23, val_main_v22, val_main_v21, val_main_v20, val_main_v19, val_main_v18,
      val_main_v17, val_main_call1_v0, val_main_call1_cst]
  rw [e, v70_at H]
  split
  · rfl
  · rename_i hn; rw [DS, FoxMath.DS_of_not_le _ _ _ _ _ _ hn]; rfl

end

end Cert.ReferenceIdeal.Fox

end
-- ==== Proof.FoxRefOut.lean ====
/-
  The five results of the reference, read at an index: each is the head's real gradient.
-/
module

public import proofs.«01_k».proof.Proof.FoxRef

@[expose] public section

set_option maxRecDepth 16384

noncomputable section

namespace Cert.ReferenceIdeal.Fox

open Cert.ReferenceIdeal Cert.ReferenceIdeal.Gen Cert.ReferenceIdeal.Read
open Idealize.ShloMosaic Idealize.ShloMosaic.TcCoe Idealize.SL.Sem
open Idealize.ShloMosaic.Pointwise
open Cert.FoxHead (hd ln)

variable {x0 : Vec Ideal S2048x4096 .f32} {x1 : Vec Ideal S8x2048 .f32} {x2 : Vec Ideal S2048x2048 .f32}
variable (H : FoxHead.Finite x0 x1 x2)

include H in
theorem v80_at (h : Fin 8) (i j : Fin 2048) : val_main_v80 x0 x1 x2 (ix3 h i j) = ((DS x0 x1 x2 h i j * FoxHead.sc : ℝ) : EReal) := by
  have e : val_main_v80 x0 x1 x2 (ix3 h i j) = val_main_v71 x0 x1 x2 (ix3 h i j) * FoxHead.scE := by
    pointwise [val_main_v80, val_main_v79, val_main_cst_17]
  rw [e, v71_at H, FoxHead.scE_eq, EReal.coe_mul]

include H in
/-- The gradient of the queries. -/
theorem dq_at (i : Fin 2048) (a : Fin 1024) : val_main_v86 x0 x1 x2 (ix2 i a)
    = (FoxMath.dQ FoxHead.sc (FoxHead.q x0 (hd a)) (FoxHead.k x0 (hd a)) (FoxHead.v x0 (hd a)) (FoxHead.g x2 (hd a)) (FoxHead.c x1 (hd a)) i (ln a) : EReal) := by
  have e : val_main_v86 x0 x1 x2 (ix2 i a) = ∑ j : Fin 2048, val_main_v80 x0 x1 x2 (ix3 (hd a) i j) * val_main_v3 x0 (ix3 j (hd a) (ln a)) := by
    pointwise [val_main_v86, val_main_v85, val_main_v84, val_main_v83, hd, ln]
  rw [e]; simp only [v3_at]
  rw [FoxMath.sum_mul_coe _ _ (fun j => v80_at H (hd a) i j) (fun j => FoxHead.k_eq H.logits (hd a) j (ln a))]
  congr 1
  rw [FoxMath.dQ, Finset.sum_mul]; exact Finset.sum_congr rfl fun j _ => by rw [DS]; ring

include H in
/-- The gradient of the keys. -/
theorem dk_at (j : Fin 2048) (a : Fin 1024) : val_main_v88 x0 x1 x2 (ix2 j a)
    = (FoxMath.dK FoxHead.sc (FoxHead.q x0 (hd a)) (FoxHead.k x0 (hd a)) (FoxHead.v x0 (hd a)) (FoxHead.g x2 (hd a)) (FoxHead.c x1 (hd a)) j (ln a) : EReal) := by
  have e : val_main_v88 x0 x1 x2 (ix2 j a) = ∑ i : Fin 2048, val_main_v80 x0 x1 x2 (ix3 (hd a) i j) * val_main_v1 x0 (ix3 i (hd a) (ln a)) := by
    pointwise [val_main_v88, val_main_v87, val_main_v82, val_main_v81, hd, ln]
  rw [e]; simp only [v1_at]
  rw [FoxMath.sum_mul_coe _ _ (fun i => v80_at H (hd a) i j) (fun i => FoxHead.q_eq H.logits (hd a) i (ln a))]
  congr 1
  rw [FoxMath.dK, Finset.sum_mul]; exact Finset.sum_congr rfl fun i _ => by rw [DS]; ring

include H in
/-- The gradient of the values. -/
theorem dv_at (j : Fin 2048) (a : Fin 1024) : val_main_v90 x0 x1 x2 (ix2 j a)
    = (FoxMath.dV FoxHead.sc (FoxHead.q x0 (hd a)) (FoxHead.k x0 (hd a)) (FoxHead.g x2 (hd a)) (FoxHead.c x1 (hd a)) j (ln a) : EReal) := by
  have e : val_main_v90 x0 x1 x2 (ix2 j a) = ∑ i : Fin 2048, val_main_v7 x2 (ix3 i (hd a) (ln a)) * val_main_v49 x0 x1 (ix3 (hd a) i j) := by
    pointwise [val_main_v90, val_main_v89, val_main_v58, val_main_v57, val_main_v55, hd, ln]
  rw [e]; simp only [v7_at]
  rw [FoxMath.sum_mul_coe _ _ (fun i => FoxHead.g_eq H (hd a) i (ln a)) (fun i => v49_at H.logits (hd a) i j)]
  congr 1
  exact Finset.sum_congr rfl fun i _ => mul_comm _ _

include H in
/-- The row sums of the logits' gradient. -/
theorem drow_at (h : Fin 8) (i : Fin 2048) : val_main_v91 x0 x1 x2 (ix3 h i 0)
    = (FoxMath.dRow FoxHead.sc (FoxHead.q x0 h) (FoxHead.k x0 h) (FoxHead.v x0 h) (FoxHead.g x2 h) (FoxHead.c x1 h) i : EReal) := by
  have e : val_main_v91 x0 x1 x2 (ix3 h i 0) = val_main_v76 x0 x1 x2 (ix2 h i) := by
    pointwise [val_main_v91, val_main_v78, val_main_v77, val_main_cst_16]
    exact Fin.sum_univ_one _
  have e' : val_main_v76 x0 x1 x2 (ix2 h i) = ∑ j : Fin 2048, val_main_v71 x0 x1 x2 (ix3 h i j) := by
    pointwise [val_main_v76, val_main_cst_15]
  rw [e, e']; simp only [v71_at H, FoxMath.coe_sum]; rfl

include H in
/-- The column sums of the logits' gradient. -/
theorem dcol_at (h : Fin 8) (j : Fin 2048) : val_main_v93 x0 x1 x2 (ix3 h 0 j)
    = (FoxMath.dCol FoxHead.sc (FoxHead.q x0 h) (FoxHead.k x0 h) (FoxHead.v x0 h) (FoxHead.g x2 h) (FoxHead.c x1 h) j : EReal) := by
  have e : val_main_v93 x0 x1 x2 (ix3 h 0 j) = -(val_main_v73 x0 x1 x2 (ix2 h j)) := by
    pointwise [val_main_v93, val_main_v92, val_main_v75, val_main_v74, val_main_cst_14]
    exact congrArg _ (Fin.sum_univ_one _)
  have e' : val_main_v73 x0 x1 x2 (ix2 h j) = ∑ i : Fin 2048, -(val_main_v71 x0 x1 x2 (ix3 h i j)) := by
    pointwise [val_main_v73, val_main_v72, val_main_cst_13]
  rw [e, e']; simp only [v71_at H, ← EReal.coe_neg, FoxMath.coe_sum, Finset.sum_neg_distrib, neg_neg]; rfl

end Cert.ReferenceIdeal.Fox

end
-- ==== Proof.FoxPre.lean ====
/-
  What the precondition gives: the entries that the attention's gradient reads are reals.
-/
module

public import proofs.«01_k».proof.Proof.Gen.Pre_finite
public import proofs.«01_k».proof.Proof.FoxHead
public import Idealize.ShloMosaic.Lib.Pointwise
public import Idealize.ShloMosaic.Lib.ReduceAll

@[expose] public section

set_option maxRecDepth 16384

noncomputable section

namespace Cert.Pre_finite.Fox

open Cert.Pre_finite Cert.Pre_finite.Gen
open Idealize.ShloMosaic Idealize.ShloMosaic.Pointwise

theorem posInf : Ideal.ofBits .f32 0x7F800000#32 = (⊤ : EReal) := by simp [Ideal.ofBits, Ideal.ieee]

/-- An entry whose absolute value compares below infinity is a real. -/
theorem real_of_olt (x : EReal) (h : FloatOps.cmpf (F := Ideal) (φ := .f32) .olt (max x (-x)) (Ideal.ofBits .f32 0x7F800000#32) = 1#1) :
    ∃ r : ℝ, x = r := by
  rw [posInf] at h
  have h' : max x (-x) < ⊤ := by
    by_contra hn
    simp [FloatOps.cmpf, Ideal.cmp, hn] at h
  exact FoxMath.real_of_abs_lt (lt_of_le_of_lt (le_max_left _ _) h') (lt_of_le_of_lt (le_max_right _ _) h')

theorem finite_of (x0 : FVec Ideal S2048x4096 .f32) (x1 : FVec Ideal S8x2048 .f32) (x2 : FVec Ideal S2048x2048 .f32)
    (h : fn (F := Ideal) x0 x1 x2 = fun _ => 1#1) : FoxHead.Finite x0 x1 x2 := by
  have h' := congrFun h (Shape.Idx.first h_S_)
  dsimp only [fn] at h'
  obtain ⟨h01, h2⟩ := IntOp.andi_eq_one.1 h'
  obtain ⟨h0, h1⟩ := IntOp.andi_eq_one.1 h01
  haveI : Subsingleton S_.Idx := ⟨fun a b => funext fun k => k.elim0⟩
  refine ⟨fun i a ha => ?_, fun hh i => ?_, fun i a ha => ?_⟩
  · refine real_of_olt _ ((congrArg (· = 1#1) ?_).mp (Host.reduce_andi_all _ _ _ _ _ h0 (ix2 i (⟨a.val, ha⟩ : Fin 3072))))
    pointwise
    rfl
  · refine real_of_olt _ ((congrArg (· = 1#1) ?_).mp (Host.reduce_andi_all _ _ _ _ _ h1 (ix2 hh i)))
    pointwise
    rfl
  · refine real_of_olt _ ((congrArg (· = 1#1) ?_).mp (Host.reduce_andi_all _ _ _ _ _ h2 (ix2 i (⟨a.val, ha⟩ : Fin 1024))))
    pointwise
    rfl

end Cert.Pre_finite.Fox

end
-- ==== Proof.FoxClaim.lean ====
/-
  The attention's backward call computes the reference's gradient: its five result arrays are the reference's, entry by
  entry, where the arguments' entries are finite.
-/
module

public import proofs.«01_k».proof.Defs
public import proofs.«01_k».proof.Proof.Gen.ReferenceIdeal.Run
public import proofs.«01_k».proof.Proof.FoxArrays
public import proofs.«01_k».proof.Proof.FoxRefOut
public import proofs.«01_k».proof.Proof.FoxPre

@[expose] public section

set_option maxRecDepth 16384

noncomputable section

namespace Cert.Proof

open Idealize.ShloMosaic Idealize.SL.Sem
open Idealize.ShloMosaic.Pointwise

section
variable (m : (ℓ : Loc Cert.KernelIdeal.nD Cert.KernelIdeal.τ Cert.KernelIdeal.sig) → Buf (Elt Ideal) ℓ) (c : Dev Cert.KernelIdeal.nD)

open Cert.KernelIdeal.Fox in
/-- The five arrays are equal, as functions of the arguments' arrays. -/
theorem fox_eq (H : FoxHead.Finite (X0 m c) (X1 m c) (X2 m c)) :
    Cert.KernelIdeal.Value.G8 m c = Cert.ReferenceIdeal.Read.val_main_v86 (F := Ideal) (X0 m c) (X1 m c) (X2 m c)
    ∧ Cert.KernelIdeal.Value.G9 m c = Cert.ReferenceIdeal.Read.val_main_v88 (F := Ideal) (X0 m c) (X1 m c) (X2 m c)
    ∧ Cert.KernelIdeal.Value.G10 m c = Cert.ReferenceIdeal.Read.val_main_v90 (F := Ideal) (X0 m c) (X1 m c) (X2 m c)
    ∧ Cert.KernelIdeal.Value.G11 m c = Cert.ReferenceIdeal.Read.val_main_v91 (F := Ideal) (X0 m c) (X1 m c) (X2 m c)
    ∧ Cert.KernelIdeal.Value.G12 m c = Cert.ReferenceIdeal.Read.val_main_v93 (F := Ideal) (X0 m c) (X1 m c) (X2 m c) := by
  refine ⟨?_, ?_, ?_, ?_, ?_⟩
  · funext i
    obtain ⟨a, b, rfl⟩ : ∃ (a : Fin 2048) (b : Fin 1024), i = ix2 a b := ⟨i 0, i 1, by funext k; match k with
      | ⟨0, _⟩ => rfl
      | ⟨1, _⟩ => rfl⟩
    exact (G8_at H a b).trans (Cert.ReferenceIdeal.Fox.dq_at H a b).symm
  · funext i
    obtain ⟨a, b, rfl⟩ : ∃ (a : Fin 2048) (b : Fin 1024), i = ix2 a b := ⟨i 0, i 1, by funext k; match k with
      | ⟨0, _⟩ => rfl
      | ⟨1, _⟩ => rfl⟩
    exact (G9_at H a b).trans (Cert.ReferenceIdeal.Fox.dk_at H a b).symm
  · funext i
    obtain ⟨a, b, rfl⟩ : ∃ (a : Fin 2048) (b : Fin 1024), i = ix2 a b := ⟨i 0, i 1, by funext k; match k with
      | ⟨0, _⟩ => rfl
      | ⟨1, _⟩ => rfl⟩
    exact (G10_at H a b).trans (Cert.ReferenceIdeal.Fox.dv_at H a b).symm
  · funext i
    obtain ⟨a, b, rfl⟩ : ∃ (a : Fin 8) (b : Fin 2048), i = ix3 a b 0 := ⟨i 0, i 1, by funext k; match k with
      | ⟨0, _⟩ => rfl
      | ⟨1, _⟩ => rfl
      | ⟨2, _⟩ => exact Subsingleton.elim (α := Fin 1) _ _⟩
    exact (G11_at H a b).trans (Cert.ReferenceIdeal.Fox.drow_at H a b).symm
  · funext i
    obtain ⟨a, b, rfl⟩ : ∃ (a : Fin 8) (b : Fin 2048), i = ix3 a 0 b := ⟨i 0, i 2, by funext k; match k with
      | ⟨0, _⟩ => rfl
      | ⟨1, _⟩ => exact Subsingleton.elim (α := Fin 1) _ _
      | ⟨2, _⟩ => rfl⟩
    exact (G12_at H a b).trans (Cert.ReferenceIdeal.Fox.dcol_at H a b).symm
end

/-- The value claim. -/
theorem fox_algebraic : Cert.algebraic_KernelIdeal_ReferenceIdeal_pre_finite := by
  intro m ρ m' ρ' hpre hag
  have he := fun c => fox_eq m c (Cert.Pre_finite.Fox.finite_of _ _ _ (hpre c))
  refine ⟨fun c => Cert.KernelIdeal.Value.G8 m c, fun c => Cert.KernelIdeal.Value.G9 m c, fun c => Cert.KernelIdeal.Value.G10 m c,
    fun c => Cert.KernelIdeal.Value.G11 m c, fun c => Cert.KernelIdeal.Value.G12 m c, Cert.KernelIdeal.Value.run m ρ,
    (θ_run _ _ _).mono (fun r h c => ?_) (Cert.ReferenceIdeal.Value.run m' ρ')⟩
  obtain ⟨a0, a1, a2⟩ := hag c
  obtain ⟨e0, e1, e2, e3, e4⟩ := he c
  obtain ⟨r0, r1, r2, r3, r4, k0, k1, k2⟩ := h c
  refine ⟨r0.trans ?_, r1.trans ?_, r2.trans ?_, r3.trans ?_, r4.trans ?_, k0, k1, k2⟩
  · rw [Cert.ReferenceIdeal.Read.val_main_v86_eq, a0, a1, a2]; exact e0.symm
  · rw [Cert.ReferenceIdeal.Read.val_main_v88_eq, a0, a1, a2]; exact e1.symm
  · rw [Cert.ReferenceIdeal.Read.val_main_v90_eq, a0, a1, a2]; exact e2.symm
  · rw [Cert.ReferenceIdeal.Read.val_main_v91_eq, a0, a1, a2]; exact e3.symm
  · rw [Cert.ReferenceIdeal.Read.val_main_v93_eq, a0, a1, a2]; exact e4.symm

/-- The reference's frame: its host operations leave the arguments, and it has no semaphore. -/
theorem fox_reference_frame : Cert.quiescent_ReferenceIdeal := fun m ρ _ =>
  (θ_run _ _ _).mono (fun r h => ⟨fun c => ⟨(h c).2.2.2.2.2.1, (h c).2.2.2.2.2.2.1, (h c).2.2.2.2.2.2.2⟩,
    sem_eq_zero_of_no_sems (by decide) r.2⟩) (Cert.ReferenceIdeal.Value.run m ρ)

end Cert.Proof

end
-- ==== Proof.FoxForward.lean ====
/-
  The forgetting attention's forward call: a grid point takes 256 query rows of one head, writes their rows of the output and the
  logarithms of their sums of weights. Its mask, a large negative number, is named as minus infinity.
-/
module

public import proofs.«01_k».proof.Defs
public import proofs.«01_k».proof.Proof.Gen.Pre_finite23
public import proofs.«01_k».proof.Proof.Gen.Kernel23Ideal.Value
public import proofs.«01_k».proof.Proof.Gen.Reference23Ideal.Run
public import proofs.«01_k».proof.Proof.Gen.Reference23Ideal.Read
public import proofs.«01_k».proof.Proof.FoxRef
public import proofs.«01_k».proof.Proof.FoxPre
public import Idealize.ShloMosaic.Lib.Pointwise
public import Idealize.ShloMosaic.Lib.WordCmp
public import Idealize.ShloMosaic.Lib.Pipeline.ValueKit
public import Idealize.ShloMosaic.Lib.Pipeline.ReadBack
public import Idealize.ShloMosaic.Lib.StableHlo.ReadAt
public import Idealize.ShloMosaic.Lib.Claim

@[expose] public section

set_option maxRecDepth 16384

noncomputable section

namespace Cert.FoxForward

open Idealize.ShloMosaic Idealize.ShloMosaic.Pointwise

/-- The row's sum of weights. -/
abbrev den (x0 : (⟨2, ![2048, 4096]⟩ : Shape).Idx → EReal) (x1 : (⟨2, ![8, 2048]⟩ : Shape).Idx → EReal) (h : Fin 8) (i : Fin 2048) : ℝ :=
  FoxMath.W (fun j : Fin 2048 => j ≤ i) (FoxHead.S x0 x1 h i)

/-- The attention's output: the probabilities are reals, what they weight need not be. -/
abbrev out (x0 : (⟨2, ![2048, 4096]⟩ : Shape).Idx → EReal) (x1 : (⟨2, ![8, 2048]⟩ : Shape).Idx → EReal) (h : Fin 8) (i : Fin 2048) (x : Fin 128) : EReal :=
  ∑ j : Fin 2048, (FoxMath.P FoxHead.sc (FoxHead.q x0 h) (FoxHead.k x0 h) (FoxHead.c x1 h) i j : EReal) * x0 (ix2 j (FoxHead.vcol h x))

end Cert.FoxForward

namespace Cert.Reference23Ideal.Fox

open Cert.Reference23Ideal Cert.Reference23Ideal.Gen Cert.Reference23Ideal.Read
open Idealize.ShloMosaic Idealize.ShloMosaic.Pointwise

variable (x0 : FVec Ideal S2048x4096 .f32) (x1 : FVec Ideal S8x2048 .f32)

/-- The masked logits and the probabilities are those of the backward call's reference. -/
theorem masked_eq : val_main_v22 (F := Ideal) x0 x1 = Cert.ReferenceIdeal.Read.val_main_v24_0 (F := Ideal) x0 x1 := rfl

theorem prob_eq : val_main_v53 (F := Ideal) x0 x1 = Cert.ReferenceIdeal.Read.val_main_v49 (F := Ideal) x0 x1 := rfl

variable {x0 x1} (H : FoxHead.FiniteLogits x0 x1)
include H

theorem out_at (i : Fin 2048) (h : Fin 8) (x : Fin 128) :
    val_main_v56 (F := Ideal) x0 x1 (ix2 i ⟨h.val * 128 + x.val, by omega⟩) = FoxForward.out x0 x1 h i x := by
  have e : val_main_v56 (F := Ideal) x0 x1 (ix2 i ⟨h.val * 128 + x.val, by omega⟩)
      = ∑ j : Fin 2048, x0 (ix2 j (FoxHead.vcol h x)) * val_main_v53 (F := Ideal) x0 x1 (ix3 h i j) := by
    pointwise [val_main_v56, val_main_v55, val_main_v54, val_main_v5, val_main_v4, FoxHead.vcol]
  rw [e, prob_eq]
  exact Finset.sum_congr rfl fun j _ => (mul_comm (x0 (ix2 j (FoxHead.vcol h x)) : EReal) _).trans
    (congrArg (fun y : EReal => y * x0 (ix2 j (FoxHead.vcol h x))) (Cert.ReferenceIdeal.Fox.v49_at H h i j))

theorem log_at (h : Fin 8) (i : Fin 2048) : val_main_v57 (F := Ideal) x0 x1 (ix3 h i 0) = ((Real.log (FoxForward.den x0 x1 h i) : ℝ) : EReal) := by
  have e : val_main_v57 (F := Ideal) x0 x1 (ix3 h i 0) = Ideal.log (∑ j : Fin 2048, Ideal.exp (val_main_v22 (F := Ideal) x0 x1 (ix3 h i j))) := by
    pointwise [val_main_v57, val_main_v25, val_main_v24, val_main_v23, val_main_cst_1]
  have h0 : ∀ j, Ideal.exp (val_main_v22 (F := Ideal) x0 x1 (ix3 h i j)) = ((FoxMath.w (fun j : Fin 2048 => j ≤ i) (FoxHead.S x0 x1 h i) j : ℝ) : EReal) := fun j => by
    have := FoxMath.exp_masked (fun j : Fin 2048 => j ≤ i) (FoxHead.S x0 x1 h i) 0 j
    rw [neg_zero, Real.exp_zero, mul_one, EReal.coe_zero, sub_zero] at this
    rw [masked_eq, Cert.ReferenceIdeal.Fox.v24_at H]; exact this
  have hW : 0 < FoxForward.den x0 x1 h i := FoxMath.W_pos' ..
  rw [e]; simp only [h0, FoxMath.coe_sum]
  rw [Ideal.log_coe, if_neg (by show ¬ FoxForward.den x0 x1 h i ≤ 0; linarith)]
  rfl

end Cert.Reference23Ideal.Fox

namespace Cert.Kernel23Ideal.Fox

open Cert.Kernel23Ideal Cert.Kernel23Ideal.Gen Cert.Kernel23Ideal.Value
open Idealize.ShloMosaic Idealize.ShloMosaic.TcCoe Idealize.SL.Sem
open Idealize.ShloMosaic.Pointwise

theorem mask : Named.named (F := Ideal) (φ := .f32) Cert.Kernel23Ideal.κ "mask" 0xF149F2CA#32 = (⊥ : EReal) :=
  IdealRules.named_const.ideal_named_scalar _ _ _ _ rfl

theorem oneE_eq : Ideal.ofBits .f32 0x3F800000#32 = ((1 : ℝ) : EReal) := by
  simp [Ideal.ofBits, Ideal.ieee, -EReal.coe_mul]; norm_num

theorem sge_small {α : Type} (a b r : ℕ) (ha : a < 256) (hb : b < 8) (hr : r < 2048) (x y : α) :
    Scalar.select (IntOp.cmpi .sge (IntOp.addi (BitVec.ofNat 32 a) (Scalar.muli (BitVec.ofNat 32 b) 256#32)) (BitVec.ofNat 32 r)) x y
      = if r ≤ b * 256 + a then x else y := by
  have e : IntOp.addi (BitVec.ofNat 32 a) (Scalar.muli (BitVec.ofNat 32 b) 256#32) = BitVec.ofNat 32 (b * 256 + a) := by
    apply BitVec.eq_of_toNat_eq
    show (BitVec.ofNat 32 a + BitVec.ofNat 32 b * 256#32).toNat = _
    simp [BitVec.toNat_add, BitVec.toNat_mul]; omega
  rw [e, WordCmp.cmpi_sge_ofNat (w := 32) (by omega) (by omega)]
  by_cases h : r ≤ b * 256 + a <;> simp [h, Scalar.select]

section
variable (i : grid0.Coords) (q : Vec Ideal S256x128 .f32) (k : Vec Ideal S2048x128 .f32) (cc : Vec Ideal S1x256x1 .f32) (cr : Vec Ideal S1x1x2048 .f32)

/-- The masked logits. -/
theorem pay2_at (a : Fin 256) (j : Fin 2048) : (k0_pay2 i q k cc cr (ix2 a j) : EReal)
    = if j.val ≤ (i 1).val * 256 + a.val then (∑ x : Fin 128, q (ix2 a x) * k (ix2 j x)) * FoxHead.scE + cc (ix3 0 a 0) - cr (ix3 0 0 j) else ⊥ := by
  rw [← mask]
  pointwise [k0_pay2]
  exact sge_small _ _ _ a.isLt (i 1).isLt j.isLt _ _

/-- The greatest logit, the exponentials, their sum. -/
theorem pay3_at (a : Fin 256) : (k0_pay3 i q k cc cr (ix2 a 0) : EReal)
    = Finset.univ.fold max (Ideal.ofBits .f32 0xFF800000#32) (fun j : Fin 2048 => (k0_pay2 i q k cc cr (ix2 a j) : EReal)) := by
  pointwise [k0_pay3]

theorem pay4_at (a : Fin 256) (j : Fin 2048) : (k0_pay4 i q k cc cr (ix2 a j) : EReal)
    = Ideal.exp ((k0_pay2 i q k cc cr (ix2 a j) : EReal) - k0_pay3 i q k cc cr (ix2 a 0)) := by
  pointwise [k0_pay4]

theorem pay5_at (a : Fin 256) : (k0_pay5 i q k cc cr (ix2 a 0) : EReal) = ∑ j : Fin 2048, (k0_pay4 i q k cc cr (ix2 a j) : EReal) := by
  pointwise [k0_pay5]

theorem pay6_at (v : Vec Ideal S2048x128 .f32) (a : Fin 256) (x : Fin 128) : (k0_pay6 i q k cc cr v (ix2 a x) : EReal)
    = ∑ j : Fin 2048, (k0_pay4 i q k cc cr (ix2 a j) : EReal) * Ideal.div (Ideal.ofBits .f32 0x3F800000#32) (k0_pay5 i q k cc cr (ix2 a 0)) * v (ix2 j x) := by
  pointwise [k0_pay6]

theorem pay1_at (m d : FVec Ideal S256x1 .f32) (a : Fin 256) : (k0_pay1 (F := Ideal) m d (ix3 0 a 0) : EReal) = m (ix2 a 0) + Ideal.log (d (ix2 a 0)) := by
  pointwise [k0_pay1]
end

/-- The block indices of the windows at a point. -/
theorem idx : ∀ t : Fin cfg0.N,
    win0_0.index t = ![t.val % 8, t.val / 8] ∧ win0_1.index t = ![0, 8 + t.val / 8] ∧ win0_2.index t = ![0, 16 + t.val / 8]
    ∧ win0_3.index t = ![t.val / 8, t.val % 8, 0] ∧ win0_4.index t = ![t.val / 8, 0, 0] ∧ win0_5.index t = ![t.val % 8, t.val / 8]
    ∧ win0_6.index t = ![t.val / 8, t.val % 8, 0] ∧ (grid0.coords t 1).val = t.val % 8 :=
  (by decide +kernel : ∀ t : Fin grid0.N, _)

theorem lt64 (t : Fin cfg0.N) : t.val < 64 := lt_of_lt_of_eq t.isLt (show cfg0.N = 64 from N_0)

/-- The head of a point, and the array's row of one of its query rows. -/
def hOf (t : Fin cfg0.N) : Fin 8 := ⟨t.val / 8, by have := lt64 t; omega⟩
def rOf (t : Fin cfg0.N) (a : Fin 256) : Fin 2048 := ⟨t.val % 8 * 256 + a.val, by omega⟩

variable (m : (ℓ : Loc nD τ sig) → Buf (Elt Ideal) ℓ) (c : Dev nD)

/-- The arguments' arrays. -/
abbrev X0 : FVec Ideal S2048x4096 .f32 := m ((c : Thread nD τ).loc main_arg0)
abbrev X1 : FVec Ideal S8x2048 .f32 := m ((c : Thread nD τ).loc main_arg1)

theorem V0 : (V m c main_v0 : FVec Ideal S8x2048x1 .f32) = broadcastInDim S8x2048x1 ![0, 1] bcast_S8x2048_S8x2048x1_0_1 (X1 m c) := by
  unfold V
  simp only [hostOps0, List.flatten_cons, List.flatten_nil, List.append_nil, List.cons_append, List.nil_append]
  entry_read
  rfl

theorem V1 : (V m c main_v1 : FVec Ideal S8x1x2048 .f32) = broadcastInDim S8x1x2048 ![0, 2] bcast_S8x2048_S8x1x2048_0_2 (X1 m c) := by
  unfold V
  simp only [hostOps0, List.flatten_cons, List.flatten_nil, List.append_nil, List.cons_append, List.nil_append]
  entry_read
  rfl

variable (t : Fin cfg0.N)

theorem blk0 (a : Fin 256) (x : Fin 128) : iblk m c 0 t (ix2 a x) = X0 m c (ix2 (rOf t a) (FoxHead.qcol (hOf t) x)) := by
  obtain ⟨e0, _⟩ := idx t
  blk_point [iblk, V, e0, rOf, hOf, FoxHead.qcol]

theorem blk1 (j : Fin 2048) (x : Fin 128) : iblk m c 1 t (ix2 j x) = X0 m c (ix2 j (FoxHead.kcol (hOf t) x)) := by
  obtain ⟨_, e1, _⟩ := idx t
  blk_point [iblk, V, e1, hOf, FoxHead.kcol]

theorem blk2 (j : Fin 2048) (x : Fin 128) : iblk m c 2 t (ix2 j x) = X0 m c (ix2 j (FoxHead.vcol (hOf t) x)) := by
  obtain ⟨_, _, e2, _⟩ := idx t
  blk_point [iblk, V, e2, hOf, FoxHead.vcol]

theorem blk3 (a : Fin 256) : iblk m c 3 t (ix3 0 a 0) = X1 m c (ix2 (hOf t) (rOf t a)) := by
  obtain ⟨_, _, _, e3, _⟩ := idx t
  have e : iblk m c 3 t (ix3 0 a 0) = V m c main_v0 (ix3 (hOf t) (rOf t a) 0) := by
    blk_point [iblk, e3, rOf, hOf]
  rw [e]
  refine (congrFun (V0 m c) _).trans ?_
  pointwise

theorem blk4 (j : Fin 2048) : iblk m c 4 t (ix3 0 0 j) = X1 m c (ix2 (hOf t) j) := by
  obtain ⟨_, _, _, _, e4, _⟩ := idx t
  have e : iblk m c 4 t (ix3 0 0 j) = V m c main_v1 (ix3 (hOf t) 0 j) := by
    blk_point [iblk, e4, hOf]
  rw [e]
  refine (congrFun (V1 m c) _).trans ?_
  pointwise

/-- A point's greatest logits, exponentials and sums. -/
abbrev top : FVec Ideal S256x1 .f32 := k0_pay3 (grid0.coords t) (iblk m c 0 t) (iblk m c 1 t) (iblk m c 3 t) (iblk m c 4 t)
abbrev den : FVec Ideal S256x1 .f32 := k0_pay5 (grid0.coords t) (iblk m c 0 t) (iblk m c 1 t) (iblk m c 3 t) (iblk m c 4 t)

variable {m c} (H : FoxHead.FiniteLogits (X0 m c) (X1 m c))
include H

/-- The logits of a point are the row of the head's masked logits. -/
theorem logits_at (a : Fin 256) (j : Fin 2048) : (k0_pay2 (grid0.coords t) (iblk m c 0 t) (iblk m c 1 t) (iblk m c 3 t) (iblk m c 4 t) (ix2 a j) : EReal)
    = FoxHead.row (X0 m c) (X1 m c) (hOf t) (rOf t a) j := by
  have e8 : (grid0.coords t 1).val = t.val % 8 := (idx t).2.2.2.2.2.2.2
  rw [pay2_at, blk3, blk4, e8]
  simp only [blk0, blk1]
  rw [FoxHead.logit_eq H]
  rfl

theorem top_real (a : Fin 256) : ∃ M : ℝ, (top m c t (ix2 a 0) : EReal) = M := by
  obtain ⟨M, hM⟩ := FoxMath.fold_max_real (fun j : Fin 2048 => j ≤ rOf t a) (FoxHead.S (X0 m c) (X1 m c) (hOf t) (rOf t a)) (rOf t a) le_rfl
  refine ⟨M, ?_⟩
  rw [top, pay3_at, FoxHead.negInf]
  simp only [logits_at t H]
  exact hM

theorem exp_at (a : Fin 256) (j : Fin 2048) {M : ℝ} (hM : (top m c t (ix2 a 0) : EReal) = M) :
    (k0_pay4 (grid0.coords t) (iblk m c 0 t) (iblk m c 1 t) (iblk m c 3 t) (iblk m c 4 t) (ix2 a j) : EReal)
      = ((FoxMath.w (fun j : Fin 2048 => j ≤ rOf t a) (FoxHead.S (X0 m c) (X1 m c) (hOf t) (rOf t a)) j * Real.exp (-M) : ℝ) : EReal) := by
  rw [pay4_at, logits_at t H]
  refine Eq.trans ?_ (FoxMath.exp_masked _ _ M j)
  exact congrArg (fun y : EReal => Ideal.exp (FoxHead.row (X0 m c) (X1 m c) (hOf t) (rOf t a) j - y)) hM

theorem den_at (a : Fin 256) {M : ℝ} (hM : (top m c t (ix2 a 0) : EReal) = M) :
    (den m c t (ix2 a 0) : EReal) = ((FoxForward.den (X0 m c) (X1 m c) (hOf t) (rOf t a) * Real.exp (-M) : ℝ) : EReal) := by
  rw [den, pay5_at]
  simp only [exp_at t H a _ hM, FoxMath.coe_sum, FoxForward.den, FoxMath.W, Finset.sum_mul]

/-- The output's rows and the logarithms that a point writes. -/
theorem out_pt (a : Fin 256) (x : Fin 128) :
    (k0_pay6 (grid0.coords t) (iblk m c 0 t) (iblk m c 1 t) (iblk m c 3 t) (iblk m c 4 t) (iblk m c 2 t) (ix2 a x) : EReal)
      = FoxForward.out (X0 m c) (X1 m c) (hOf t) (rOf t a) x := by
  obtain ⟨M, hM⟩ := top_real t H a
  have hW : 0 < FoxForward.den (X0 m c) (X1 m c) (hOf t) (rOf t a) := FoxMath.W_pos' ..
  have he := Real.exp_pos (-M)
  have hD : FoxForward.den (X0 m c) (X1 m c) (hOf t) (rOf t a) * Real.exp (-M) ≠ 0 := by positivity
  have hd := den_at t H a hM
  rw [pay6_at, show (k0_pay5 (grid0.coords t) (iblk m c 0 t) (iblk m c 1 t) (iblk m c 3 t) (iblk m c 4 t) (ix2 a 0) : EReal) = _ from hd,
    oneE_eq, FoxMath.div_real hD]
  refine Finset.sum_congr rfl fun j _ => ?_
  rw [exp_at t H a _ hM, blk2, ← EReal.coe_mul]
  refine congrArg (fun y : ℝ => (y : EReal) * X0 m c (ix2 j (FoxHead.vcol (hOf t) x))) ?_
  rw [FoxMath.P]
  field_simp

theorem log_pt (a : Fin 256) : (k0_pay1 (F := Ideal) (top m c t) (den m c t) (ix3 0 a 0) : EReal)
    = ((Real.log (FoxForward.den (X0 m c) (X1 m c) (hOf t) (rOf t a)) : ℝ) : EReal) := by
  obtain ⟨M, hM⟩ := top_real t H a
  rw [pay1_at, hM, den_at t H a hM]
  exact FoxMath.lse_eq _ _ M (FoxMath.W_pos' ..)

theorem out_arr (r : Fin 2048) (h : Fin 8) (x : Fin 128) :
    (dats m 0 c).arrAt 5 cfg0.N (ix2 r ⟨h.val * 128 + x.val, by omega⟩) = FoxForward.out (X0 m c) (X1 m c) h r x := by
  obtain ⟨t, hv⟩ : ∃ t : Fin cfg0.N, t.val = h.val * 8 + r.val / 256 := ⟨⟨_, lt_of_lt_of_eq (by omega) N_0.symm⟩, rfl⟩
  have hh : hOf t = h := Fin.ext (by show t.val / 8 = h.val; omega)
  have hr : rOf t (⟨r.val % 256, by omega⟩ : Fin 256) = r := Fin.ext (by show t.val % 8 * 256 + r.val % 256 = r.val; omega)
  have hi : ((cfg0.win 5).blk t).view.emb (ix2 (⟨r.val % 256, by omega⟩ : Fin 256) x) = ix2 r ⟨h.val * 128 + x.val, by omega⟩ := by
    obtain ⟨_, _, _, _, _, e, _⟩ := idx t
    funext k; apply Fin.ext
    match k with
    | ⟨0, _⟩ => show win0_5.index t 0 * 256 + 1 * (r.val % 256) = r.val; rw [e]; show t.val % 8 * 256 + 1 * (r.val % 256) = r.val; omega
    | ⟨1, _⟩ => show win0_5.index t 1 * 128 + 1 * x.val = h.val * 128 + x.val; rw [e]; show t.val / 8 * 128 + 1 * x.val = h.val * 128 + x.val; omega
  refine (congrArg ((dats m 0 c).arrAt 5 cfg0.N) hi.symm).trans
    (((dats m 0 c).arrAt_emb_eq_flushed 5 disjoint5 t (flush0_5 t) _).trans ((congrFun (flushed5 m c t) _).trans ?_))
  have ho : out0_5 (grid0.coords t) (iblk m c 0 t) (iblk m c 1 t) (iblk m c 2 t) (iblk m c 3 t) (iblk m c 4 t)
      = k0_pay6 (grid0.coords t) (iblk m c 0 t) (iblk m c 1 t) (iblk m c 3 t) (iblk m c 4 t) (iblk m c 2 t) := by
    unfold out0_5; frame_out
  refine (congrFun ho _).trans ((out_pt t H _ x).trans ?_)
  rw [hh, hr]

theorem log_arr (h : Fin 8) (r : Fin 2048) :
    (dats m 0 c).arrAt 6 cfg0.N (ix3 h r 0) = ((Real.log (FoxForward.den (X0 m c) (X1 m c) h r) : ℝ) : EReal) := by
  obtain ⟨t, hv⟩ : ∃ t : Fin cfg0.N, t.val = h.val * 8 + r.val / 256 := ⟨⟨_, lt_of_lt_of_eq (by omega) N_0.symm⟩, rfl⟩
  have hh : hOf t = h := Fin.ext (by show t.val / 8 = h.val; omega)
  have hr : rOf t (⟨r.val % 256, by omega⟩ : Fin 256) = r := Fin.ext (by show t.val % 8 * 256 + r.val % 256 = r.val; omega)
  have hi : ((cfg0.win 6).blk t).view.emb (ix3 0 (⟨r.val % 256, by omega⟩ : Fin 256) 0) = ix3 h r 0 := by
    obtain ⟨_, _, _, _, _, _, e, _⟩ := idx t
    funext k; apply Fin.ext
    match k with
    | ⟨0, _⟩ => show win0_6.index t 0 * 1 + 1 * 0 = h.val; rw [e]; show t.val / 8 * 1 + 1 * 0 = h.val; omega
    | ⟨1, _⟩ => show win0_6.index t 1 * 256 + 1 * (r.val % 256) = r.val; rw [e]; show t.val % 8 * 256 + 1 * (r.val % 256) = r.val; omega
    | ⟨2, _⟩ => show win0_6.index t 2 * 1 + 1 * 0 = 0; rw [e]; rfl
  refine (congrArg ((dats m 0 c).arrAt 6 cfg0.N) hi.symm).trans
    (((dats m 0 c).arrAt_emb_eq_flushed 6 disjoint6 t (flush0_6 t) _).trans ((congrFun (flushed6 m c t) _).trans ?_))
  have ho : out0_6 (grid0.coords t) (iblk m c 0 t) (iblk m c 1 t) (iblk m c 2 t) (iblk m c 3 t) (iblk m c 4 t)
      = k0_pay1 (F := Ideal) (top m c t) (den m c t) := by
    unfold out0_6; frame_out
  refine (congrFun ho _).trans ((log_pt t H _).trans ?_)
  rw [hh, hr]

end Cert.Kernel23Ideal.Fox

namespace Cert.Pre_finite23.Fox

open Cert.Pre_finite23 Cert.Pre_finite23.Gen
open Idealize.ShloMosaic Idealize.ShloMosaic.Pointwise
open Cert.Pre_finite.Fox (real_of_olt)

/-- What the precondition gives. -/
theorem finite_of (x0 : FVec Ideal S2048x4096 .f32) (x1 : FVec Ideal S8x2048 .f32) (h : fn (F := Ideal) x0 x1 = fun _ => 1#1) :
    FoxHead.FiniteLogits x0 x1 := by
  have h' := congrFun h (Shape.Idx.first h_S_)
  dsimp only [fn] at h'
  obtain ⟨h0, h1⟩ := IntOp.andi_eq_one.1 h'
  haveI : Subsingleton S_.Idx := ⟨fun a b => funext fun k => k.elim0⟩
  refine ⟨fun i a ha => ?_, fun hh i => ?_⟩
  · refine real_of_olt _ ((congrArg (· = 1#1) ?_).mp (Host.reduce_andi_all _ _ _ _ _ h0 (ix2 i (⟨a.val, ha⟩ : Fin 2048))))
    pointwise
    rfl
  · refine real_of_olt _ ((congrArg (· = 1#1) ?_).mp (Host.reduce_andi_all _ _ _ _ _ h1 (ix2 hh i)))
    pointwise
    rfl

end Cert.Pre_finite23.Fox

namespace Cert.Proof

open Idealize.ShloMosaic Idealize.SL.Sem Idealize.ShloMosaic.Pointwise

section
variable (m : (ℓ : Loc Cert.Kernel23Ideal.nD Cert.Kernel23Ideal.τ Cert.Kernel23Ideal.sig) → Buf (Elt Ideal) ℓ) (c : Dev Cert.Kernel23Ideal.nD)
open Cert.Kernel23Ideal.Fox (X0 X1)

theorem fox_out_eq (H : FoxHead.FiniteLogits (X0 m c) (X1 m c)) : (Cert.Kernel23Ideal.Gen.dats m 0 c).arrAt 5 Cert.Kernel23Ideal.cfg0.N
    = Cert.Reference23Ideal.Read.val_main_v56 (F := Ideal) (X0 m c) (X1 m c) := by
  funext i
  obtain ⟨r, h, x, rfl⟩ : ∃ (r : Fin 2048) (h : Fin 8) (x : Fin 128), i = ix2 r (⟨h.val * 128 + x.val, by omega⟩ : Fin 1024) := by
    have hb : (i 1).val < 1024 := (i 1).isLt
    refine ⟨i 0, ⟨(i 1).val / 128, by omega⟩, ⟨(i 1).val % 128, by omega⟩, ?_⟩
    funext k
    match k with
    | ⟨0, _⟩ => rfl
    | ⟨1, _⟩ => exact Fin.ext (by show (i 1).val = (i 1).val / 128 * 128 + (i 1).val % 128; omega)
  exact (Cert.Kernel23Ideal.Fox.out_arr H r h x).trans (Cert.Reference23Ideal.Fox.out_at H r h x).symm

theorem fox_log_eq (H : FoxHead.FiniteLogits (X0 m c) (X1 m c)) : (Cert.Kernel23Ideal.Gen.dats m 0 c).arrAt 6 Cert.Kernel23Ideal.cfg0.N
    = Cert.Reference23Ideal.Read.val_main_v57 (F := Ideal) (X0 m c) (X1 m c) := by
  funext i
  obtain ⟨h, r, rfl⟩ : ∃ (h : Fin 8) (r : Fin 2048), i = ix3 h r 0 := ⟨i 0, i 1, by
    funext k
    match k with
    | ⟨0, _⟩ => rfl
    | ⟨1, _⟩ => rfl
    | ⟨2, _⟩ => exact Subsingleton.elim (α := Fin 1) _ _⟩
  exact (Cert.Kernel23Ideal.Fox.log_arr H h r).trans (Cert.Reference23Ideal.Fox.log_at H h r).symm
end

/-- The value claim of the call. -/
theorem fox_forward_algebraic : Cert.algebraic_Kernel23Ideal_Reference23Ideal_pre_finite23 := by
  intro m ρ m' ρ' hpre hag
  have hf := fun c => Cert.Pre_finite23.Fox.finite_of _ _ (hpre c)
  refine ⟨fun c => (Cert.Kernel23Ideal.Gen.dats m 0 c).arrAt 5 Cert.Kernel23Ideal.cfg0.N, fun c => (Cert.Kernel23Ideal.Gen.dats m 0 c).arrAt 6 Cert.Kernel23Ideal.cfg0.N,
    Cert.Kernel23Ideal.Value.run_blocks m ρ, (θ_run _ _ _).mono (fun r h c => ?_) (Cert.Reference23Ideal.Value.run m' ρ')⟩
  obtain ⟨a0, a1⟩ := hag c
  obtain ⟨r0, r1, k0, k1⟩ := h c
  refine ⟨r0.trans ?_, r1.trans ?_, k0, k1⟩
  · rw [Cert.Reference23Ideal.Read.val_main_v56_eq, a0, a1]; exact (fox_out_eq m c (hf c)).symm
  · rw [Cert.Reference23Ideal.Read.val_main_v57_eq, a0, a1]; exact (fox_log_eq m c (hf c)).symm

/-- The named constant is what the rewrite says of it. -/
theorem fox_forward_preserves : Cert.preserves_Kernel23_Kernel23Ideal :=
  IdealRules.named_const.statement Cert.Kernel23Ideal.κ "mask" .f32 0xF149F2CA#32 _ rfl

/-- The reference's frame. -/
theorem fox_forward_reference_frame : Cert.quiescent_Reference23Ideal := fun m ρ _ =>
  (θ_run _ _ _).mono (fun r h => ⟨fun c => (h c).2.2, sem_eq_zero_of_no_sems (by decide) r.2⟩) (Cert.Reference23Ideal.Value.run m ρ)

end Cert.Proof

end
-- ==== Proof.FfnSum.lean ====
/-
  A sum over the columns of the feed-forward layer, cut into the shards the calls work on.
-/
module

public import Mathlib.Data.EReal.Basic
public import Mathlib.Algebra.BigOperators.Fin

@[expose] public section

namespace FfnSum

/-- A sum cut in two. -/
theorem cut {a b n : ℕ} (h : n = a + b) (f : Fin n → EReal) :
    ∑ j, f j = ∑ x : Fin a, f ⟨0 + x.val, by omega⟩ + ∑ x : Fin b, f ⟨a + x.val, by omega⟩ := by
  subst h
  refine (Fin.sum_univ_add f).trans ?_
  congr 1
  exact Finset.sum_congr rfl fun x _ => congrArg f (Fin.ext (Nat.zero_add _).symm)

/-- A sum over two halves of 2752. -/
theorem halves (f : Fin 5504 → EReal) :
    ∑ j, f j = ∑ x : Fin 2752, f ⟨0 + x.val, by omega⟩ + ∑ x : Fin 2752, f ⟨2752 + x.val, by omega⟩ :=
  cut (by norm_num) f

/-- A sum over four quarters of 2752, in the order the reduction visits them: first, third, second, fourth. -/
theorem quarters (f : Fin 11008 → EReal) :
    ∑ j, f j = ∑ x : Fin 2752, f ⟨0 + x.val, by omega⟩ + ∑ x : Fin 2752, f ⟨5504 + x.val, by omega⟩
      + ∑ x : Fin 2752, f ⟨2752 + x.val, by omega⟩ + ∑ x : Fin 2752, f ⟨8256 + x.val, by omega⟩ := by
  refine (cut (a := 5504) (b := 5504) (by norm_num) f).trans ?_
  rw [halves, halves]
  have e0 : (∑ x : Fin 2752, f ⟨0 + (0 + x.val), by omega⟩) = ∑ x : Fin 2752, f ⟨0 + x.val, by omega⟩ :=
    Finset.sum_congr rfl fun x _ => congrArg f (Fin.ext (by show 0 + (0 + x.val) = 0 + x.val; omega))
  have e1 : (∑ x : Fin 2752, f ⟨0 + (2752 + x.val), by omega⟩) = ∑ x : Fin 2752, f ⟨2752 + x.val, by omega⟩ :=
    Finset.sum_congr rfl fun x _ => congrArg f (Fin.ext (by show 0 + (2752 + x.val) = 2752 + x.val; omega))
  have e2 : (∑ x : Fin 2752, f ⟨5504 + (0 + x.val), by omega⟩) = ∑ x : Fin 2752, f ⟨5504 + x.val, by omega⟩ :=
    Finset.sum_congr rfl fun x _ => congrArg f (Fin.ext (by show 5504 + (0 + x.val) = 5504 + x.val; omega))
  have e3 : (∑ x : Fin 2752, f ⟨5504 + (2752 + x.val), by omega⟩) = ∑ x : Fin 2752, f ⟨8256 + x.val, by omega⟩ :=
    Finset.sum_congr rfl fun x _ => congrArg f (Fin.ext (by show 5504 + (2752 + x.val) = 8256 + x.val; omega))
  rw [e0, e1, e2, e3, add_assoc, add_assoc, add_assoc]
  congr 1
  exact add_left_comm _ _ _

end FfnSum

end
-- ==== Proof.FfnDx.lean ====
/-
  The gradient of the feed-forward layer's input: the call adds four partial products, one a shard of the weights, in a
  carried accumulator; its array, entry by entry, is the product of the gradient of the projection with the transposed
  weights, and so is the reference's.
-/
module

public import proofs.«01_k».proof.Defs
public import proofs.«01_k».proof.Proof.Gen.Pre_finite
public import proofs.«01_k».proof.Proof.Gen.Kernel2Ideal.Value
public import proofs.«01_k».proof.Proof.Gen.Reference2Ideal.Read
public import proofs.«01_k».proof.Proof.FfnSum
public import Idealize.ShloMosaic.Lib.Pointwise
public import Idealize.ShloMosaic.Lib.Pipeline.ValueKit
public import Idealize.ShloMosaic.Lib.Pipeline.ReadBack
public import Idealize.ShloMosaic.Lib.StableHlo.ReadAt
public import Idealize.ShloMosaic.Lib.Claim

@[expose] public section

set_option maxRecDepth 16384

noncomputable section

namespace Cert.Kernel2Ideal.Ffn

open Cert.Kernel2Ideal Cert.Kernel2Ideal.Gen Cert.Kernel2Ideal.Value
open Idealize.ShloMosaic Idealize.ShloMosaic.TcCoe Idealize.SL.Sem
open Idealize.ShloMosaic.Pointwise

/-! ### The body's values, read at an index -/

theorem pay2_at (g : Vec Ideal S1x512x2752 .bf16) (w : Vec Ideal S1x2752x1024 .bf16) (s : Fin 512) (d : Fin 1024) :
    k0_pay2 g w (ix2 s d) = ∑ f : Fin 2752, g (ix3 0 s f) * w (ix3 0 f d) := by
  pointwise [k0_pay2, k0_pay1]

theorem pay3_at (g : Vec Ideal S1x512x2752 .bf16) (w : Vec Ideal S1x2752x1024 .bf16) (a : Vec Ideal S512x1024 .f32) (s : Fin 512) (d : Fin 1024) :
    k0_pay3 g w a (ix2 s d) = a (ix2 s d) + ∑ f : Fin 2752, g (ix3 0 s f) * w (ix3 0 f d) := by
  pointwise [k0_pay3, k0_pay1]

theorem pay4_at (a : Vec Ideal S512x1024 .f32) (s : Fin 512) (d : Fin 1024) :
    k0_pay4 a (ix3 0 s d) = a (ix2 s d) := by
  pointwise [k0_pay4]

/-! ### The blocks a point reads -/

/-- The block indices of the two read windows at a point. -/
theorem idx : ∀ t : Fin cfg0.N,
    win0_0.index t = ![t.val % 4, t.val / 8, 0] ∧ win0_1.index t = ![t.val % 4 % 2 * 2 + t.val % 4 / 2, 0, t.val / 4 % 2] :=
  (by decide +kernel : ∀ t : Fin grid0.N, _)

theorem lt32 (t : Fin cfg0.N) : t.val < 32 := lt_of_lt_of_eq t.isLt (show cfg0.N = 32 from N_0)

theorem lt_N {n : ℕ} (h : n < 32) : n < cfg0.N := lt_of_lt_of_eq h N_0.symm

variable (m : (ℓ : Loc nD τ sig) → Buf (Elt Ideal) ℓ) (c : Dev nD)

/-- The arguments' arrays. -/
abbrev X0 : FVec Ideal S2048x11008 .f32 := m ((c : Thread nD τ).loc main_arg0)
abbrev X1 : FVec Ideal S2048x11008 .f32 := m ((c : Thread nD τ).loc main_arg1)

theorem V3 : (V m c main_v3 : FVec Ideal S4x2048x2752 .bf16) = truncf .bf16 (shapeCast S4x2048x2752 (transpose S2x2x2048x2752 [2, 1, 0, 3] (shapeCast S2048x2x2x2752 (X0 m c) shapeCasts_S2048x11008_S2048x2x2x2752) transposes_S2048x2x2x2752_S2x2x2048x2752_2_1_0_3) shapeCasts_S2x2x2048x2752_S4x2048x2752) bitsLt_bf16_f32 := by
  unfold V
  simp only [hostOps0, List.flatten_cons, List.flatten_nil, List.append_nil, List.cons_append, List.nil_append]
  entry_read
  rfl

theorem V6 : (V m c main_v6 : FVec Ideal S4x2752x2048 .bf16) = truncf .bf16 (shapeCast S4x2752x2048 (transpose S11008x2048 [1, 0] (X1 m c) transposes_S2048x11008_S11008x2048_1_0) shapeCasts_S11008x2048_S4x2752x2048) bitsLt_bf16_f32 := by
  unfold V
  simp only [hostOps0, List.flatten_cons, List.flatten_nil, List.append_nil, List.cons_append, List.nil_append]
  entry_read
  rfl

variable (t : Fin cfg0.N)

theorem blk0 (s : Fin 512) (f : Fin 2752) : iblk m c 0 t (ix3 0 s f)
    = X0 m c (ix2 ⟨t.val / 8 * 512 + s.val, by have := lt32 t; omega⟩ ⟨t.val % 4 % 2 * 5504 + t.val % 4 / 2 * 2752 + f.val, by omega⟩) := by
  obtain ⟨e0, e1⟩ := idx t
  have e : iblk m c 0 t (ix3 0 s f) = V m c main_v3 (ix3 ⟨t.val % 4, by omega⟩ ⟨t.val / 8 * 512 + s.val, by have := lt32 t; omega⟩ f) := by
    blk_point [iblk, e0]
  rw [e]
  refine (congrFun (V3 m c) _).trans ?_
  pointwise

theorem blk1 (f : Fin 2752) (d : Fin 1024) : iblk m c 1 t (ix3 0 f d)
    = X1 m c (ix2 ⟨t.val / 4 % 2 * 1024 + d.val, by omega⟩ ⟨(t.val % 4 % 2 * 2 + t.val % 4 / 2) * 2752 + f.val, by omega⟩) := by
  obtain ⟨e0, e1⟩ := idx t
  have e : iblk m c 1 t (ix3 0 f d) = V m c main_v6 (ix3 ⟨t.val % 4 % 2 * 2 + t.val % 4 / 2, by omega⟩ f ⟨t.val / 4 % 2 * 1024 + d.val, by omega⟩) := by
    blk_point [iblk, e1]
  rw [e]
  refine (congrFun (V6 m c) _).trans ?_
  pointwise

/-! ### The accumulator -/

/-- The two blocks a point reads. -/
abbrev B0 : Vec Ideal S1x512x2752 .bf16 := iblk m c 0 t
abbrev B1 : Vec Ideal S1x2752x1024 .bf16 := iblk m c 1 t

/-- The state a point starts from and leaves: the result's block and the accumulator. -/
abbrev St : Type := Vec Ideal S1x512x1024 .f32 × Vec Ideal S512x1024 .f32

theorem st_first (acc : St) (h0 : t.val % 4 = 0) : (stAt0 m c t.val t.isLt acc).2 = k0_pay2 (B0 m c t) (B1 m c t) := by
  rw [stAt0_A m c t acc h0 (by omega) (by omega)]; frame_out

theorem st_next (acc : St) (h0 : ¬ t.val % 4 = 0) : (stAt0 m c t.val t.isLt acc).2 = k0_pay3 (B0 m c t) (B1 m c t) acc.2 := by
  by_cases h2 : t.val % 4 = 3
  · rw [stAt0_C m c t acc h0 (by omega) h2]; frame_out; rw [read_unread_whole]
  · rw [stAt0_B m c t acc h0 (by omega) h2]; frame_out; rw [read_unread_whole]

theorem st_last (acc : St) (h2 : t.val % 4 = 3) : (stAt0 m c t.val t.isLt acc).1 = k0_pay4 (stAt0 m c t.val t.isLt acc).2 := by
  rw [stAt0_C m c t acc (by omega) (by omega) h2]; frame_out

/-- A point's partial product at an entry of its block. -/
abbrev part (n : ℕ) (hn : n < cfg0.N) (s : Fin 512) (d : Fin 1024) : EReal :=
  ∑ f : Fin 2752, B0 m c ⟨n, hn⟩ (ix3 0 s f) * B1 m c ⟨n, hn⟩ (ix3 0 f d)

theorem acc_first (n : ℕ) (hn : n < cfg0.N) (h : n % 4 = 0) (s : Fin 512) (d : Fin 1024) :
    (outsAt0 m c n hn).2 (ix2 s d) = part m c n hn s d := by
  match n, hn, h with
  | 0, hn, h => rw [outsAt0_zero, st_first m c ⟨0, hn⟩ _ h, pay2_at]
  | n + 1, hn, h => rw [outsAt0_succ, st_first m c ⟨n + 1, hn⟩ _ h, pay2_at]

theorem acc_next (n : ℕ) (hn : n + 1 < cfg0.N) (h : ¬ (n + 1) % 4 = 0) (s : Fin 512) (d : Fin 1024) :
    (outsAt0 m c (n + 1) hn).2 (ix2 s d) = (outsAt0 m c n (by omega)).2 (ix2 s d) + part m c (n + 1) hn s d := by
  rw [outsAt0_succ, st_next m c ⟨n + 1, hn⟩ _ h, pay3_at]

/-- What the last point of a run writes back is the sum of the run's partial products. -/
theorem out_last (n : ℕ) (hn : n + 3 < cfg0.N) (h : n % 4 = 0) (s : Fin 512) (d : Fin 1024) :
    (outsAt0 m c (n + 3) hn).1 (ix3 0 s d) = part m c n (by omega) s d + part m c (n + 1) (by omega) s d
      + part m c (n + 2) (by omega) s d + part m c (n + 3) hn s d := by
  have e : (outsAt0 m c (n + 3) hn).1 = k0_pay4 (outsAt0 m c (n + 3) hn).2 := by
    rw [outsAt0_succ]; exact st_last m c ⟨n + 3, hn⟩ _ (by show (n + 3) % 4 = 3; omega)
  rw [e, pay4_at, acc_next m c (n + 2) hn (by omega), acc_next m c (n + 1) (by omega) (by omega), acc_next m c n (by omega) (by omega),
    acc_first m c n (by omega) h]

/-- A point's partial product, over the arguments: the shard's first column and the block's place are the point's. -/
theorem part_eq (n o : ℕ) (hn : n < cfg0.N) (s : Fin 2048) (d : Fin 2048) (hs : n / 8 = s.val / 512) (hd : n / 4 % 2 = d.val / 1024)
    (ho : n % 4 % 2 * 5504 + n % 4 / 2 * 2752 = o) (hb : o ≤ 8256) :
    part m c n hn ⟨s.val % 512, by omega⟩ ⟨d.val % 1024, by omega⟩
      = ∑ f : Fin 2752, X0 m c (ix2 s ⟨o + f.val, by omega⟩) * X1 m c (ix2 d ⟨o + f.val, by omega⟩) := by
  refine Finset.sum_congr rfl fun f _ => ?_
  refine congrArg₂ (fun x y : EReal => x * y) ((blk0 m c ⟨n, hn⟩ _ f).trans ?_) ((blk1 m c ⟨n, hn⟩ f _).trans ?_)
  · congr 2
    · apply Fin.ext; show n / 8 * 512 + s.val % 512 = s.val; omega
    · apply Fin.ext; show n % 4 % 2 * 5504 + n % 4 / 2 * 2752 + f.val = o + f.val; omega
  · congr 2
    · apply Fin.ext; show n / 4 % 2 * 1024 + d.val % 1024 = d.val; omega
    · apply Fin.ext; show (n % 4 % 2 * 2 + n % 4 / 2) * 2752 + f.val = o + f.val; omega

/-- An entry of the array the call leaves. -/
theorem out_at (s d : Fin 2048) : G2 m c (ix3 0 s d) = ∑ j : Fin 11008, X0 m c (ix2 s j) * X1 m c (ix2 d j) := by
  obtain ⟨n, hv⟩ : ∃ n : ℕ, n = 4 * (2 * (s.val / 512) + d.val / 1024) := ⟨_, rfl⟩
  have hp : pt2Of (ix3 0 s d) = n + 3 := by
    show 4 * (8 * (0 / 1 - 0) + 2 * (s.val / 512 - 0) + 1 * (d.val / 1024 - 0)) + 3 = n + 3; omega
  have hb : n + 3 < cfg0.N := lt_N (by omega)
  have el : loc2Of (ix3 0 s d) = ix3 0 ⟨s.val % 512, by omega⟩ ⟨d.val % 1024, by omega⟩ := by
    funext b; match b with
    | ⟨0, _⟩ => exact Subsingleton.elim (α := Fin 1) _ _
    | ⟨1, _⟩ => rfl
    | ⟨2, _⟩ => rfl
  have e : ∀ (k : ℕ) (hk : k < cfg0.N), k = n + 3 → outsAt0 m c k hk = outsAt0 m c (n + 3) hb := fun k hk ek => by subst ek; rfl
  rw [G2, dif_pos (by rw [hp]; exact hb), ← outsAt0_sweep m c _ (by rw [hp]; exact hb), el, e _ _ hp, out_last m c n hb (by omega),
    part_eq m c n 0 _ s d (by omega) (by omega) (by omega) (by omega), part_eq m c (n + 1) 5504 _ s d (by omega) (by omega) (by omega) (by omega),
    part_eq m c (n + 2) 2752 _ s d (by omega) (by omega) (by omega) (by omega), part_eq m c (n + 3) 8256 _ s d (by omega) (by omega) (by omega) (by omega)]
  exact (FfnSum.quarters fun j => X0 m c (ix2 s j) * X1 m c (ix2 d j)).symm

end Cert.Kernel2Ideal.Ffn

namespace Cert.Reference2Ideal.Ffn

open Cert.Reference2Ideal Cert.Reference2Ideal.Gen Cert.Reference2Ideal.Read
open Idealize.ShloMosaic Idealize.ShloMosaic.Pointwise

theorem ref_at (x0 x1 : FVec Ideal S2048x11008 .f32) (s d : Fin 2048) :
    (val_main_v3 (F := Ideal) x0 x1 (ix3 0 s d) : EReal) = ∑ j : Fin 11008, x0 (ix2 s j) * x1 (ix2 d j) := by
  pointwise [val_main_v3, val_main_v2]

end Cert.Reference2Ideal.Ffn

namespace Cert.Proof

open Idealize.ShloMosaic Idealize.SL.Sem Idealize.ShloMosaic.Pointwise

/-- The call's array is the reference's. -/
theorem dx_eq (m : (ℓ : Loc Cert.Kernel2Ideal.nD Cert.Kernel2Ideal.τ Cert.Kernel2Ideal.sig) → Buf (Elt Ideal) ℓ) (c : Dev Cert.Kernel2Ideal.nD) :
    Cert.Kernel2Ideal.Value.G2 m c
      = Cert.Reference2Ideal.Read.val_main_v3 (F := Ideal) (Cert.Kernel2Ideal.Ffn.X0 m c) (Cert.Kernel2Ideal.Ffn.X1 m c) := by
  funext i
  obtain ⟨s, d, rfl⟩ : ∃ s d : Fin 2048, i = ix3 0 s d := ⟨i 1, i 2, by funext k; match k with
    | ⟨0, _⟩ => exact Subsingleton.elim (α := Fin 1) _ _
    | ⟨1, _⟩ => rfl
    | ⟨2, _⟩ => rfl⟩
  exact (Cert.Kernel2Ideal.Ffn.out_at m c s d).trans (Cert.Reference2Ideal.Ffn.ref_at _ _ s d).symm

/-- The value claim of the call. -/
theorem dx_algebraic : Cert.algebraic_Kernel2Ideal_Reference2Ideal := by
  intro m ρ m' ρ' _ hag
  refine ⟨fun c => Cert.Kernel2Ideal.Value.G2 m c, Cert.Kernel2Ideal.Value.run m ρ,
    (θ_run _ _ _).mono (fun r h c => ?_) (Cert.Reference2Ideal.Value.run m' ρ')⟩
  obtain ⟨a0, a1⟩ := hag c
  obtain ⟨r0, k0, k1⟩ := h c
  refine ⟨r0.trans ?_, k0, k1⟩
  rw [Cert.Reference2Ideal.Read.val_main_v3_eq, a0, a1]
  exact (dx_eq m c).symm

/-- The reference's frame. -/
theorem dx_reference_frame : Cert.quiescent_Reference2Ideal := fun m ρ _ =>
  (θ_run _ _ _).mono (fun r h => ⟨fun c => (h c).2, sem_eq_zero_of_no_sems (by decide) r.2⟩) (Cert.Reference2Ideal.Value.run m ρ)

end Cert.Proof

end
-- ==== Proof.FfnDwup.lean ====
/-
  The gradient of the up-projection's weights: the call's array, entry by entry, is the product of the transposed
  gradient of the projection with the layer's input, shard by shard; and so is the reference's.
-/
module

public import proofs.«01_k».proof.Defs
public import proofs.«01_k».proof.Proof.Gen.Pre_finite
public import proofs.«01_k».proof.Proof.Gen.Kernel3Ideal.Value
public import proofs.«01_k».proof.Proof.Gen.Reference3Ideal.Read
public import Idealize.ShloMosaic.Lib.Pointwise
public import Idealize.ShloMosaic.Lib.Pipeline.ValueKit
public import Idealize.ShloMosaic.Lib.StableHlo.ReadAt
public import Idealize.ShloMosaic.Lib.Claim

@[expose] public section

set_option maxRecDepth 16384

noncomputable section

namespace Cert.Kernel3Ideal.Ffn

open Cert.Kernel3Ideal Cert.Kernel3Ideal.Gen Cert.Kernel3Ideal.Value
open Idealize.ShloMosaic Idealize.ShloMosaic.TcCoe Idealize.SL.Sem
open Idealize.ShloMosaic.Pointwise

/-- The block a point writes, read at an index: a sum over the rows. -/
theorem pay_at (g : Vec Ideal S1x2048x2752 .bf16) (x : Vec Ideal S1x2048x512 .f32) (f : Fin 2752) (d : Fin 512) :
    k0_pay1 g x (ix3 0 f d) = ∑ s : Fin 2048, g (ix3 0 s f) * x (ix3 0 s d) := by
  pointwise [k0_pay1]

/-- The block indices of the windows at a point. -/
theorem idx : ∀ t : Fin cfg0.N,
    win0_0.index t = ![t.val / 4, 0, 0] ∧ win0_1.index t = ![0, 0, t.val % 4]
    ∧ win0_2.index t = ![(t.val / 4) % 2 * 2 + t.val / 4 / 2, 0, t.val % 4] :=
  (by decide +kernel : ∀ t : Fin grid0.N, _)

theorem lt16 (t : Fin cfg0.N) : t.val < 16 := lt_of_lt_of_eq t.isLt (show cfg0.N = 16 from N_0)

variable (m : (ℓ : Loc nD τ sig) → Buf (Elt Ideal) ℓ) (c : Dev nD)

/-- The arguments' arrays. -/
abbrev X0 : FVec Ideal S2048x11008 .f32 := m ((c : Thread nD τ).loc main_arg0)
abbrev X1 : FVec Ideal S2048x2048 .f32 := m ((c : Thread nD τ).loc main_arg1)

theorem V3 : (V m c main_v3 : FVec Ideal S4x2048x2752 .bf16) = truncf .bf16 (shapeCast S4x2048x2752 (transpose S2x2x2048x2752 [2, 1, 0, 3] (shapeCast S2048x2x2x2752 (X0 m c) shapeCasts_S2048x11008_S2048x2x2x2752) transposes_S2048x2x2x2752_S2x2x2048x2752_2_1_0_3) shapeCasts_S2x2x2048x2752_S4x2048x2752) bitsLt_bf16_f32 := by
  unfold V
  simp only [hostOps0, List.flatten_cons, List.flatten_nil, List.append_nil, List.cons_append, List.nil_append]
  entry_read
  rfl

theorem V4 : (V m c main_v4 : FVec Ideal S1x2048x2048 .f32) = broadcastInDim S1x2048x2048 ![1, 2] bcast_S2048x2048_S1x2048x2048_1_2 (X1 m c) := by
  unfold V
  simp only [hostOps0, List.flatten_cons, List.flatten_nil, List.append_nil, List.cons_append, List.nil_append]
  entry_read
  rfl

variable (t : Fin cfg0.N)

theorem blk0 (s : Fin 2048) (f : Fin 2752) : iblk m c 0 t (ix3 0 s f)
    = X0 m c (ix2 s ⟨(t.val / 4) % 2 * 5504 + t.val / 4 / 2 * 2752 + f.val, by have := lt16 t; omega⟩) := by
  obtain ⟨e0, e1, e2⟩ := idx t
  have e : iblk m c 0 t (ix3 0 s f) = V m c main_v3 (ix3 ⟨t.val / 4, by have := lt16 t; omega⟩ s f) := by
    blk_point [iblk, e0]
  rw [e]
  refine (congrFun (V3 m c) _).trans ?_
  pointwise

theorem blk1 (s : Fin 2048) (d : Fin 512) : iblk m c 1 t (ix3 0 s d)
    = X1 m c (ix2 s ⟨t.val % 4 * 512 + d.val, by omega⟩) := by
  obtain ⟨e0, e1, e2⟩ := idx t
  have e : iblk m c 1 t (ix3 0 s d) = V m c main_v4 (ix3 0 s ⟨t.val % 4 * 512 + d.val, by omega⟩) := by
    blk_point [iblk, e1]
  rw [e]
  refine (congrFun (V4 m c) _).trans ?_
  pointwise

/-- An entry of the array the call leaves. -/
theorem out_at (q : Fin 4) (f : Fin 2752) (d : Fin 2048) : (dats m 0 c).arrAt 2 cfg0.N (ix3 q f d)
    = ∑ s : Fin 2048, X0 m c (ix2 s ⟨q.val * 2752 + f.val, by omega⟩) * X1 m c (ix2 s d) := by
  obtain ⟨t, hv⟩ : ∃ t : Fin cfg0.N, t.val = (q.val % 2 * 2 + q.val / 2) * 4 + d.val / 512 :=
    ⟨⟨_, lt_of_lt_of_eq (by omega) N_0.symm⟩, rfl⟩
  obtain ⟨e0, e1, e2⟩ := idx t
  have hi : ((cfg0.win 2).blk t).view.emb (ix3 0 f (⟨d.val % 512, by omega⟩ : Fin 512)) = ix3 q f d := by
    funext a; apply Fin.ext
    match a with
    | ⟨0, _⟩ => show win0_2.index t 0 * 1 + 1 * 0 = q.val; rw [e2]; show ((t.val / 4) % 2 * 2 + t.val / 4 / 2) * 1 + 1 * 0 = _; omega
    | ⟨1, _⟩ => show win0_2.index t 1 * 2752 + 1 * f.val = f.val; rw [e2]; show 0 * 2752 + 1 * f.val = _; omega
    | ⟨2, _⟩ => show win0_2.index t 2 * 512 + 1 * (d.val % 512) = d.val; rw [e2]; show (t.val % 4) * 512 + 1 * (d.val % 512) = _; omega
  have h : (dats m 0 c).arrAt 2 cfg0.N (((cfg0.win 2).blk t).view.emb (ix3 0 f (⟨d.val % 512, by omega⟩ : Fin 512)))
      = (dats m 0 c).flushed 2 t (ix3 0 f (⟨d.val % 512, by omega⟩ : Fin 512)) :=
    (dats m 0 c).arrAt_emb_eq_flushed 2 disjoint2 t (flush0_2 t) _
  refine (congrArg ((dats m 0 c).arrAt 2 cfg0.N) hi.symm).trans (h.trans ?_)
  refine (congrFun (flushed2 m c t) _).trans ?_
  show out0_2 (iblk m c 0 t) (iblk m c 1 t) (ix3 0 f (⟨d.val % 512, by omega⟩ : Fin 512)) = _
  have ho : out0_2 (iblk m c 0 t) (iblk m c 1 t) = k0_pay1 (iblk m c 0 t) (iblk m c 1 t) := by
    unfold out0_2; frame_out
  rw [ho, pay_at]
  refine Finset.sum_congr rfl fun s _ => ?_
  rw [blk0, blk1]
  congr 2
  · congr 1; apply Fin.ext; show (t.val / 4) % 2 * 5504 + t.val / 4 / 2 * 2752 + f.val = q.val * 2752 + f.val; omega
  · congr 1; apply Fin.ext; show t.val % 4 * 512 + d.val % 512 = d.val; omega

end Cert.Kernel3Ideal.Ffn

namespace Cert.Reference3Ideal.Ffn

open Cert.Reference3Ideal Cert.Reference3Ideal.Gen Cert.Reference3Ideal.Read
open Idealize.ShloMosaic Idealize.ShloMosaic.Pointwise

theorem ref_at (x0 : FVec Ideal S2048x11008 .f32) (x1 : FVec Ideal S2048x2048 .f32) (q : Fin 4) (f : Fin 2752) (d : Fin 2048) :
    (val_main_v6 (F := Ideal) x0 x1 (ix3 q f d) : EReal) = ∑ s : Fin 2048, x0 (ix2 s ⟨q.val * 2752 + f.val, by omega⟩) * x1 (ix2 s d) := by
  pointwise [val_main_v6, val_main_v5, val_main_v4, val_main_v3, val_main_v2]

end Cert.Reference3Ideal.Ffn

namespace Cert.Proof

open Idealize.ShloMosaic Idealize.SL.Sem Idealize.ShloMosaic.Pointwise

/-- The call's array is the reference's. -/
theorem dwup_eq (m : (ℓ : Loc Cert.Kernel3Ideal.nD Cert.Kernel3Ideal.τ Cert.Kernel3Ideal.sig) → Buf (Elt Ideal) ℓ) (c : Dev Cert.Kernel3Ideal.nD) :
    (Cert.Kernel3Ideal.Gen.dats m 0 c).arrAt 2 Cert.Kernel3Ideal.cfg0.N
      = Cert.Reference3Ideal.Read.val_main_v6 (F := Ideal) (Cert.Kernel3Ideal.Ffn.X0 m c) (Cert.Kernel3Ideal.Ffn.X1 m c) := by
  funext i
  obtain ⟨q, f, d, rfl⟩ : ∃ (q : Fin 4) (f : Fin 2752) (d : Fin 2048), i = ix3 q f d := ⟨i 0, i 1, i 2, by funext k; match k with
    | ⟨0, _⟩ => rfl
    | ⟨1, _⟩ => rfl
    | ⟨2, _⟩ => rfl⟩
  exact (Cert.Kernel3Ideal.Ffn.out_at m c q f d).trans (Cert.Reference3Ideal.Ffn.ref_at _ _ q f d).symm

/-- The value claim of the call. -/
theorem dwup_algebraic : Cert.algebraic_Kernel3Ideal_Reference3Ideal := by
  intro m ρ m' ρ' _ hag
  refine ⟨fun c => (Cert.Kernel3Ideal.Gen.dats m 0 c).arrAt 2 Cert.Kernel3Ideal.cfg0.N, Cert.Kernel3Ideal.Value.run_blocks m ρ,
    (θ_run _ _ _).mono (fun r h c => ?_) (Cert.Reference3Ideal.Value.run m' ρ')⟩
  obtain ⟨a0, a1⟩ := hag c
  obtain ⟨r0, k0, k1⟩ := h c
  refine ⟨r0.trans ?_, k0, k1⟩
  rw [Cert.Reference3Ideal.Read.val_main_v6_eq, a0, a1]
  exact (dwup_eq m c).symm

/-- The reference's frame. -/
theorem dwup_reference_frame : Cert.quiescent_Reference3Ideal := fun m ρ _ =>
  (θ_run _ _ _).mono (fun r h => ⟨fun c => (h c).2, sem_eq_zero_of_no_sems (by decide) r.2⟩) (Cert.Reference3Ideal.Value.run m ρ)

end Cert.Proof

end
-- ==== Proof.FfnDa.lean ====
/-
  The gradient of the activation: the call's array, entry by entry, is the product of the gradient of the layer's output
  with the transposed down-projection, half by half; and so is the reference's.
-/
module

public import proofs.«01_k».proof.Defs
public import proofs.«01_k».proof.Proof.Gen.Pre_finite
public import proofs.«01_k».proof.Proof.Gen.Kernel4Ideal.Value
public import proofs.«01_k».proof.Proof.Gen.Reference4Ideal.Read
public import Idealize.ShloMosaic.Lib.Pointwise
public import Idealize.ShloMosaic.Lib.Pipeline.ValueKit
public import Idealize.ShloMosaic.Lib.StableHlo.ReadAt
public import Idealize.ShloMosaic.Lib.Claim

@[expose] public section

set_option maxRecDepth 16384

noncomputable section

namespace Cert.Kernel4Ideal.Ffn

open Cert.Kernel4Ideal Cert.Kernel4Ideal.Gen Cert.Kernel4Ideal.Value
open Idealize.ShloMosaic Idealize.ShloMosaic.TcCoe Idealize.SL.Sem
open Idealize.ShloMosaic.Pointwise

/-- The block a point writes, read at an index: a sum over the model's dimension. -/
theorem pay_at (x : Vec Ideal S1x512x2048 .f32) (w : Vec Ideal S1x2752x2048 .bf16) (s : Fin 512) (f : Fin 2752) :
    k0_pay1 x w (ix3 0 s f) = ∑ d : Fin 2048, x (ix3 0 s d) * w (ix3 0 f d) := by
  pointwise [k0_pay1]

/-- The block indices of the windows at a point. -/
theorem idx : ∀ t : Fin cfg0.N,
    win0_0.index t = ![0, t.val % 4, 0] ∧ win0_1.index t = ![t.val / 4, 0, 0] ∧ win0_2.index t = ![t.val / 4, t.val % 4, 0] :=
  (by decide +kernel : ∀ t : Fin grid0.N, _)

theorem lt8 (t : Fin cfg0.N) : t.val < 8 := lt_of_lt_of_eq t.isLt (show cfg0.N = 8 from N_0)

variable (m : (ℓ : Loc nD τ sig) → Buf (Elt Ideal) ℓ) (c : Dev nD)

/-- The arguments' arrays. -/
abbrev X0 : FVec Ideal S2048x2048 .f32 := m ((c : Thread nD τ).loc main_arg0)
abbrev X1 : FVec Ideal S5504x2048 .f32 := m ((c : Thread nD τ).loc main_arg1)

theorem V1 : (V m c main_v1 : FVec Ideal S2x2752x2048 .bf16) = truncf .bf16 (shapeCast S2x2752x2048 (X1 m c) shapeCasts_S5504x2048_S2x2752x2048) bitsLt_bf16_f32 := by
  unfold V
  simp only [hostOps0, List.flatten_cons, List.flatten_nil, List.append_nil, List.cons_append, List.nil_append]
  entry_read
  rfl

theorem V2 : (V m c main_v2 : FVec Ideal S1x2048x2048 .f32) = broadcastInDim S1x2048x2048 ![1, 2] bcast_S2048x2048_S1x2048x2048_1_2 (X0 m c) := by
  unfold V
  simp only [hostOps0, List.flatten_cons, List.flatten_nil, List.append_nil, List.cons_append, List.nil_append]
  entry_read
  rfl

variable (t : Fin cfg0.N)

theorem blk0 (s : Fin 512) (d : Fin 2048) : iblk m c 0 t (ix3 0 s d)
    = X0 m c (ix2 ⟨t.val % 4 * 512 + s.val, by omega⟩ d) := by
  obtain ⟨e0, e1, e2⟩ := idx t
  have e : iblk m c 0 t (ix3 0 s d) = V m c main_v2 (ix3 0 ⟨t.val % 4 * 512 + s.val, by omega⟩ d) := by
    blk_point [iblk, e0]
  rw [e]
  refine (congrFun (V2 m c) _).trans ?_
  pointwise

theorem blk1 (f : Fin 2752) (d : Fin 2048) : iblk m c 1 t (ix3 0 f d)
    = X1 m c (ix2 ⟨t.val / 4 * 2752 + f.val, by have := lt8 t; omega⟩ d) := by
  obtain ⟨e0, e1, e2⟩ := idx t
  have e : iblk m c 1 t (ix3 0 f d) = V m c main_v1 (ix3 ⟨t.val / 4, by have := lt8 t; omega⟩ f d) := by
    blk_point [iblk, e1]
  rw [e]
  refine (congrFun (V1 m c) _).trans ?_
  pointwise

/-- An entry of the array the call leaves. -/
theorem out_at (q : Fin 2) (s : Fin 2048) (f : Fin 2752) : (dats m 0 c).arrAt 2 cfg0.N (ix3 q s f)
    = ∑ d : Fin 2048, X0 m c (ix2 s d) * X1 m c (ix2 ⟨q.val * 2752 + f.val, by omega⟩ d) := by
  obtain ⟨t, hv⟩ : ∃ t : Fin cfg0.N, t.val = q.val * 4 + s.val / 512 :=
    ⟨⟨_, lt_of_lt_of_eq (by omega) N_0.symm⟩, rfl⟩
  obtain ⟨e0, e1, e2⟩ := idx t
  have hi : ((cfg0.win 2).blk t).view.emb (ix3 0 (⟨s.val % 512, by omega⟩ : Fin 512) f) = ix3 q s f := by
    funext a; apply Fin.ext
    match a with
    | ⟨0, _⟩ => show win0_2.index t 0 * 1 + 1 * 0 = q.val; rw [e2]; show t.val / 4 * 1 + 1 * 0 = _; omega
    | ⟨1, _⟩ => show win0_2.index t 1 * 512 + 1 * (s.val % 512) = s.val; rw [e2]; show (t.val % 4) * 512 + 1 * (s.val % 512) = _; omega
    | ⟨2, _⟩ => show win0_2.index t 2 * 2752 + 1 * f.val = f.val; rw [e2]; show 0 * 2752 + 1 * f.val = _; omega
  have h : (dats m 0 c).arrAt 2 cfg0.N (((cfg0.win 2).blk t).view.emb (ix3 0 (⟨s.val % 512, by omega⟩ : Fin 512) f))
      = (dats m 0 c).flushed 2 t (ix3 0 (⟨s.val % 512, by omega⟩ : Fin 512) f) :=
    (dats m 0 c).arrAt_emb_eq_flushed 2 disjoint2 t (flush0_2 t) _
  refine (congrArg ((dats m 0 c).arrAt 2 cfg0.N) hi.symm).trans (h.trans ?_)
  refine (congrFun (flushed2 m c t) _).trans ?_
  show out0_2 (iblk m c 0 t) (iblk m c 1 t) (ix3 0 (⟨s.val % 512, by omega⟩ : Fin 512) f) = _
  have ho : out0_2 (iblk m c 0 t) (iblk m c 1 t) = k0_pay1 (iblk m c 0 t) (iblk m c 1 t) := by
    unfold out0_2; frame_out
  rw [ho, pay_at]
  refine Finset.sum_congr rfl fun d _ => ?_
  rw [blk0, blk1]
  congr 2
  · congr 1; apply Fin.ext; show t.val % 4 * 512 + s.val % 512 = s.val; omega
  · congr 1; apply Fin.ext; show t.val / 4 * 2752 + f.val = q.val * 2752 + f.val; omega

end Cert.Kernel4Ideal.Ffn

namespace Cert.Reference4Ideal.Ffn

open Cert.Reference4Ideal Cert.Reference4Ideal.Gen Cert.Reference4Ideal.Read
open Idealize.ShloMosaic Idealize.ShloMosaic.Pointwise

theorem ref_at (x0 : FVec Ideal S2048x2048 .f32) (x1 : FVec Ideal S5504x2048 .f32) (q : Fin 2) (s : Fin 2048) (f : Fin 2752) :
    (val_main_v7 (F := Ideal) x0 x1 (ix3 q s f) : EReal) = ∑ d : Fin 2048, x0 (ix2 s d) * x1 (ix2 ⟨q.val * 2752 + f.val, by omega⟩ d) := by
  match q with
  | 0 => pointwise [val_main_v7, val_main_v6, val_main_v5, val_main_v4, val_main_v3, val_main_v2]
  | 1 => pointwise [val_main_v7, val_main_v6, val_main_v5, val_main_v4, val_main_v3, val_main_v2]

end Cert.Reference4Ideal.Ffn

namespace Cert.Proof

open Idealize.ShloMosaic Idealize.SL.Sem Idealize.ShloMosaic.Pointwise

/-- The call's array is the reference's. -/
theorem da_eq (m : (ℓ : Loc Cert.Kernel4Ideal.nD Cert.Kernel4Ideal.τ Cert.Kernel4Ideal.sig) → Buf (Elt Ideal) ℓ) (c : Dev Cert.Kernel4Ideal.nD) :
    (Cert.Kernel4Ideal.Gen.dats m 0 c).arrAt 2 Cert.Kernel4Ideal.cfg0.N
      = Cert.Reference4Ideal.Read.val_main_v7 (F := Ideal) (Cert.Kernel4Ideal.Ffn.X0 m c) (Cert.Kernel4Ideal.Ffn.X1 m c) := by
  funext i
  obtain ⟨q, f, d, rfl⟩ : ∃ (q : Fin 2) (f : Fin 2048) (d : Fin 2752), i = ix3 q f d := ⟨i 0, i 1, i 2, by funext k; match k with
    | ⟨0, _⟩ => rfl
    | ⟨1, _⟩ => rfl
    | ⟨2, _⟩ => rfl⟩
  exact (Cert.Kernel4Ideal.Ffn.out_at m c q f d).trans (Cert.Reference4Ideal.Ffn.ref_at _ _ q f d).symm

/-- The value claim of the call. -/
theorem da_algebraic : Cert.algebraic_Kernel4Ideal_Reference4Ideal := by
  intro m ρ m' ρ' _ hag
  refine ⟨fun c => (Cert.Kernel4Ideal.Gen.dats m 0 c).arrAt 2 Cert.Kernel4Ideal.cfg0.N, Cert.Kernel4Ideal.Value.run_blocks m ρ,
    (θ_run _ _ _).mono (fun r h c => ?_) (Cert.Reference4Ideal.Value.run m' ρ')⟩
  obtain ⟨a0, a1⟩ := hag c
  obtain ⟨r0, k0, k1⟩ := h c
  refine ⟨r0.trans ?_, k0, k1⟩
  rw [Cert.Reference4Ideal.Read.val_main_v7_eq, a0, a1]
  exact (da_eq m c).symm

/-- The reference's frame. -/
theorem da_reference_frame : Cert.quiescent_Reference4Ideal := fun m ρ _ =>
  (θ_run _ _ _).mono (fun r h => ⟨fun c => (h c).2, sem_eq_zero_of_no_sems (by decide) r.2⟩) (Cert.Reference4Ideal.Value.run m ρ)

end Cert.Proof

end
-- ==== Proof.FfnDwdn.lean ====
/-
  The gradient of the down-projection's weights: the call's array, entry by entry, is the product of the transposed
  activation with the gradient of the layer's output, half by half; and so is the reference's.
-/
module

public import proofs.«01_k».proof.Defs
public import proofs.«01_k».proof.Proof.Gen.Pre_finite
public import proofs.«01_k».proof.Proof.Gen.Kernel5Ideal.Value
public import proofs.«01_k».proof.Proof.Gen.Reference5Ideal.Read
public import Idealize.ShloMosaic.Lib.Pointwise
public import Idealize.ShloMosaic.Lib.Pipeline.ValueKit
public import Idealize.ShloMosaic.Lib.StableHlo.ReadAt
public import Idealize.ShloMosaic.Lib.Claim

@[expose] public section

set_option maxRecDepth 16384

noncomputable section

namespace Cert.Kernel5Ideal.Ffn

open Cert.Kernel5Ideal Cert.Kernel5Ideal.Gen Cert.Kernel5Ideal.Value
open Idealize.ShloMosaic Idealize.ShloMosaic.TcCoe Idealize.SL.Sem
open Idealize.ShloMosaic.Pointwise

/-- The block a point writes, read at an index: a sum over the rows. -/
theorem pay_at (a : Vec Ideal S1x2048x2752 .bf16) (g : Vec Ideal S1x2048x512 .f32) (f : Fin 2752) (d : Fin 512) :
    k0_pay1 a g (ix3 0 f d) = ∑ s : Fin 2048, a (ix3 0 s f) * g (ix3 0 s d) := by
  pointwise [k0_pay1]

/-- The block indices of the windows at a point. -/
theorem idx : ∀ t : Fin cfg0.N,
    win0_0.index t = ![t.val / 4, 0, 0] ∧ win0_1.index t = ![0, 0, t.val % 4] ∧ win0_2.index t = ![t.val / 4, 0, t.val % 4] :=
  (by decide +kernel : ∀ t : Fin grid0.N, _)

theorem lt8 (t : Fin cfg0.N) : t.val < 8 := lt_of_lt_of_eq t.isLt (show cfg0.N = 8 from N_0)

variable (m : (ℓ : Loc nD τ sig) → Buf (Elt Ideal) ℓ) (c : Dev nD)

/-- The arguments' arrays. -/
abbrev X0 : FVec Ideal S2048x5504 .f32 := m ((c : Thread nD τ).loc main_arg0)
abbrev X1 : FVec Ideal S2048x2048 .f32 := m ((c : Thread nD τ).loc main_arg1)

theorem V2 : (V m c main_v2 : FVec Ideal S2x2048x2752 .bf16) = truncf .bf16 (transpose S2x2048x2752 [1, 0, 2] (shapeCast S2048x2x2752 (X0 m c) shapeCasts_S2048x5504_S2048x2x2752) transposes_S2048x2x2752_S2x2048x2752_1_0_2) bitsLt_bf16_f32 := by
  unfold V
  simp only [hostOps0, List.flatten_cons, List.flatten_nil, List.append_nil, List.cons_append, List.nil_append]
  entry_read
  rfl

theorem V3 : (V m c main_v3 : FVec Ideal S1x2048x2048 .f32) = broadcastInDim S1x2048x2048 ![1, 2] bcast_S2048x2048_S1x2048x2048_1_2 (X1 m c) := by
  unfold V
  simp only [hostOps0, List.flatten_cons, List.flatten_nil, List.append_nil, List.cons_append, List.nil_append]
  entry_read
  rfl

variable (t : Fin cfg0.N)

theorem blk0 (s : Fin 2048) (f : Fin 2752) : iblk m c 0 t (ix3 0 s f)
    = X0 m c (ix2 s ⟨t.val / 4 * 2752 + f.val, by have := lt8 t; omega⟩) := by
  obtain ⟨e0, e1, e2⟩ := idx t
  have e : iblk m c 0 t (ix3 0 s f) = V m c main_v2 (ix3 ⟨t.val / 4, by have := lt8 t; omega⟩ s f) := by
    blk_point [iblk, e0]
  rw [e]
  refine (congrFun (V2 m c) _).trans ?_
  pointwise

theorem blk1 (s : Fin 2048) (d : Fin 512) : iblk m c 1 t (ix3 0 s d)
    = X1 m c (ix2 s ⟨t.val % 4 * 512 + d.val, by omega⟩) := by
  obtain ⟨e0, e1, e2⟩ := idx t
  have e : iblk m c 1 t (ix3 0 s d) = V m c main_v3 (ix3 0 s ⟨t.val % 4 * 512 + d.val, by omega⟩) := by
    blk_point [iblk, e1]
  rw [e]
  refine (congrFun (V3 m c) _).trans ?_
  pointwise

/-- An entry of the array the call leaves. -/
theorem out_at (q : Fin 2) (f : Fin 2752) (d : Fin 2048) : (dats m 0 c).arrAt 2 cfg0.N (ix3 q f d)
    = ∑ s : Fin 2048, X0 m c (ix2 s ⟨q.val * 2752 + f.val, by omega⟩) * X1 m c (ix2 s d) := by
  obtain ⟨t, hv⟩ : ∃ t : Fin cfg0.N, t.val = q.val * 4 + d.val / 512 :=
    ⟨⟨_, lt_of_lt_of_eq (by omega) N_0.symm⟩, rfl⟩
  obtain ⟨e0, e1, e2⟩ := idx t
  have hi : ((cfg0.win 2).blk t).view.emb (ix3 0 f (⟨d.val % 512, by omega⟩ : Fin 512)) = ix3 q f d := by
    funext a; apply Fin.ext
    match a with
    | ⟨0, _⟩ => show win0_2.index t 0 * 1 + 1 * 0 = q.val; rw [e2]; show t.val / 4 * 1 + 1 * 0 = _; omega
    | ⟨1, _⟩ => show win0_2.index t 1 * 2752 + 1 * f.val = f.val; rw [e2]; show 0 * 2752 + 1 * f.val = _; omega
    | ⟨2, _⟩ => show win0_2.index t 2 * 512 + 1 * (d.val % 512) = d.val; rw [e2]; show (t.val % 4) * 512 + 1 * (d.val % 512) = _; omega
  have h : (dats m 0 c).arrAt 2 cfg0.N (((cfg0.win 2).blk t).view.emb (ix3 0 f (⟨d.val % 512, by omega⟩ : Fin 512)))
      = (dats m 0 c).flushed 2 t (ix3 0 f (⟨d.val % 512, by omega⟩ : Fin 512)) :=
    (dats m 0 c).arrAt_emb_eq_flushed 2 disjoint2 t (flush0_2 t) _
  refine (congrArg ((dats m 0 c).arrAt 2 cfg0.N) hi.symm).trans (h.trans ?_)
  refine (congrFun (flushed2 m c t) _).trans ?_
  show out0_2 (iblk m c 0 t) (iblk m c 1 t) (ix3 0 f (⟨d.val % 512, by omega⟩ : Fin 512)) = _
  have ho : out0_2 (iblk m c 0 t) (iblk m c 1 t) = k0_pay1 (iblk m c 0 t) (iblk m c 1 t) := by
    unfold out0_2; frame_out
  rw [ho, pay_at]
  refine Finset.sum_congr rfl fun s _ => ?_
  rw [blk0, blk1]
  congr 2
  · congr 1; apply Fin.ext; show t.val / 4 * 2752 + f.val = q.val * 2752 + f.val; omega
  · congr 1; apply Fin.ext; show t.val % 4 * 512 + d.val % 512 = d.val; omega

end Cert.Kernel5Ideal.Ffn

namespace Cert.Reference5Ideal.Ffn

open Cert.Reference5Ideal Cert.Reference5Ideal.Gen Cert.Reference5Ideal.Read
open Idealize.ShloMosaic Idealize.ShloMosaic.Pointwise

theorem ref_at (x0 : FVec Ideal S2048x5504 .f32) (x1 : FVec Ideal S2048x2048 .f32) (q : Fin 2) (f : Fin 2752) (d : Fin 2048) :
    (val_main_v5 (F := Ideal) x0 x1 (ix3 q f d) : EReal) = ∑ s : Fin 2048, x0 (ix2 s ⟨q.val * 2752 + f.val, by omega⟩) * x1 (ix2 s d) := by
  pointwise [val_main_v5, val_main_v4, val_main_v3, val_main_v2]
  exact Finset.sum_congr rfl fun s _ => mul_comm _ _

end Cert.Reference5Ideal.Ffn

namespace Cert.Proof

open Idealize.ShloMosaic Idealize.SL.Sem Idealize.ShloMosaic.Pointwise

/-- The call's array is the reference's. -/
theorem dwdn_eq (m : (ℓ : Loc Cert.Kernel5Ideal.nD Cert.Kernel5Ideal.τ Cert.Kernel5Ideal.sig) → Buf (Elt Ideal) ℓ) (c : Dev Cert.Kernel5Ideal.nD) :
    (Cert.Kernel5Ideal.Gen.dats m 0 c).arrAt 2 Cert.Kernel5Ideal.cfg0.N
      = Cert.Reference5Ideal.Read.val_main_v5 (F := Ideal) (Cert.Kernel5Ideal.Ffn.X0 m c) (Cert.Kernel5Ideal.Ffn.X1 m c) := by
  funext i
  obtain ⟨q, f, d, rfl⟩ : ∃ (q : Fin 2) (f : Fin 2752) (d : Fin 2048), i = ix3 q f d := ⟨i 0, i 1, i 2, by funext k; match k with
    | ⟨0, _⟩ => rfl
    | ⟨1, _⟩ => rfl
    | ⟨2, _⟩ => rfl⟩
  exact (Cert.Kernel5Ideal.Ffn.out_at m c q f d).trans (Cert.Reference5Ideal.Ffn.ref_at _ _ q f d).symm

/-- The value claim of the call. -/
theorem dwdn_algebraic : Cert.algebraic_Kernel5Ideal_Reference5Ideal := by
  intro m ρ m' ρ' _ hag
  refine ⟨fun c => (Cert.Kernel5Ideal.Gen.dats m 0 c).arrAt 2 Cert.Kernel5Ideal.cfg0.N, Cert.Kernel5Ideal.Value.run_blocks m ρ,
    (θ_run _ _ _).mono (fun r h c => ?_) (Cert.Reference5Ideal.Value.run m' ρ')⟩
  obtain ⟨a0, a1⟩ := hag c
  obtain ⟨r0, k0, k1⟩ := h c
  refine ⟨r0.trans ?_, k0, k1⟩
  rw [Cert.Reference5Ideal.Read.val_main_v5_eq, a0, a1]
  exact (dwdn_eq m c).symm

/-- The reference's frame. -/
theorem dwdn_reference_frame : Cert.quiescent_Reference5Ideal := fun m ρ _ =>
  (θ_run _ _ _).mono (fun r h => ⟨fun c => (h c).2, sem_eq_zero_of_no_sems (by decide) r.2⟩) (Cert.Reference5Ideal.Value.run m ρ)

end Cert.Proof

end
-- ==== Proof.FfnUp.lean ====
/-
  The up-projection: the call's array, entry by entry, is the product of the layer's input with the weights, shard by
  shard; and so is the reference's.
-/
module

public import proofs.«01_k».proof.Defs
public import proofs.«01_k».proof.Proof.Gen.Pre_finite
public import proofs.«01_k».proof.Proof.Gen.Kernel6Ideal.Value
public import proofs.«01_k».proof.Proof.Gen.Reference6Ideal.Read
public import Idealize.ShloMosaic.Lib.Pointwise
public import Idealize.ShloMosaic.Lib.Pipeline.ValueKit
public import Idealize.ShloMosaic.Lib.StableHlo.ReadAt
public import Idealize.ShloMosaic.Lib.Claim

@[expose] public section

set_option maxRecDepth 16384

noncomputable section

namespace Cert.Kernel6Ideal.Ffn

open Cert.Kernel6Ideal Cert.Kernel6Ideal.Gen Cert.Kernel6Ideal.Value
open Idealize.ShloMosaic Idealize.ShloMosaic.TcCoe Idealize.SL.Sem
open Idealize.ShloMosaic.Pointwise

/-- The block a point writes, read at an index: a sum over the model's dimension. -/
theorem pay_at (x : Vec Ideal S1x512x2048 .f32) (w : Vec Ideal S1x2752x2048 .bf16) (s : Fin 512) (f : Fin 2752) :
    k0_pay1 x w (ix3 0 s f) = ∑ d : Fin 2048, x (ix3 0 s d) * w (ix3 0 f d) := by
  pointwise [k0_pay1]

/-- The block indices of the windows at a point. -/
theorem idx : ∀ t : Fin cfg0.N,
    win0_0.index t = ![0, t.val % 4, 0] ∧ win0_1.index t = ![t.val / 4, 0, 0] ∧ win0_2.index t = ![t.val / 4, t.val % 4, 0] :=
  (by decide +kernel : ∀ t : Fin grid0.N, _)

theorem lt16 (t : Fin cfg0.N) : t.val < 16 := lt_of_lt_of_eq t.isLt (show cfg0.N = 16 from N_0)

variable (m : (ℓ : Loc nD τ sig) → Buf (Elt Ideal) ℓ) (c : Dev nD)

/-- The arguments' arrays. -/
abbrev X0 : FVec Ideal S2048x2048 .f32 := m ((c : Thread nD τ).loc main_arg0)
abbrev X1 : FVec Ideal S2048x11008 .f32 := m ((c : Thread nD τ).loc main_arg1)

theorem V2 : (V m c main_v2 : FVec Ideal S4x2752x2048 .bf16) = truncf .bf16 (shapeCast S4x2752x2048 (transpose S11008x2048 [1, 0] (X1 m c) transposes_S2048x11008_S11008x2048_1_0) shapeCasts_S11008x2048_S4x2752x2048) bitsLt_bf16_f32 := by
  unfold V
  simp only [hostOps0, List.flatten_cons, List.flatten_nil, List.append_nil, List.cons_append, List.nil_append]
  entry_read
  rfl

theorem V3 : (V m c main_v3 : FVec Ideal S1x2048x2048 .f32) = broadcastInDim S1x2048x2048 ![1, 2] bcast_S2048x2048_S1x2048x2048_1_2 (X0 m c) := by
  unfold V
  simp only [hostOps0, List.flatten_cons, List.flatten_nil, List.append_nil, List.cons_append, List.nil_append]
  entry_read
  rfl

variable (t : Fin cfg0.N)

theorem blk0 (s : Fin 512) (d : Fin 2048) : iblk m c 0 t (ix3 0 s d)
    = X0 m c (ix2 ⟨t.val % 4 * 512 + s.val, by omega⟩ d) := by
  obtain ⟨e0, e1, e2⟩ := idx t
  have e : iblk m c 0 t (ix3 0 s d) = V m c main_v3 (ix3 0 ⟨t.val % 4 * 512 + s.val, by omega⟩ d) := by
    blk_point [iblk, e0]
  rw [e]
  refine (congrFun (V3 m c) _).trans ?_
  pointwise

theorem blk1 (f : Fin 2752) (d : Fin 2048) : iblk m c 1 t (ix3 0 f d)
    = X1 m c (ix2 d ⟨t.val / 4 * 2752 + f.val, by have := lt16 t; omega⟩) := by
  obtain ⟨e0, e1, e2⟩ := idx t
  have e : iblk m c 1 t (ix3 0 f d) = V m c main_v2 (ix3 ⟨t.val / 4, by have := lt16 t; omega⟩ f d) := by
    blk_point [iblk, e1]
  rw [e]
  refine (congrFun (V2 m c) _).trans ?_
  pointwise

/-- An entry of the array the call leaves. -/
theorem out_at (q : Fin 4) (s : Fin 2048) (f : Fin 2752) : (dats m 0 c).arrAt 2 cfg0.N (ix3 q s f)
    = ∑ d : Fin 2048, X0 m c (ix2 s d) * X1 m c (ix2 d ⟨q.val * 2752 + f.val, by omega⟩) := by
  obtain ⟨t, hv⟩ : ∃ t : Fin cfg0.N, t.val = q.val * 4 + s.val / 512 :=
    ⟨⟨_, lt_of_lt_of_eq (by omega) N_0.symm⟩, rfl⟩
  obtain ⟨e0, e1, e2⟩ := idx t
  have hi : ((cfg0.win 2).blk t).view.emb (ix3 0 (⟨s.val % 512, by omega⟩ : Fin 512) f) = ix3 q s f := by
    funext a; apply Fin.ext
    match a with
    | ⟨0, _⟩ => show win0_2.index t 0 * 1 + 1 * 0 = q.val; rw [e2]; show t.val / 4 * 1 + 1 * 0 = _; omega
    | ⟨1, _⟩ => show win0_2.index t 1 * 512 + 1 * (s.val % 512) = s.val; rw [e2]; show (t.val % 4) * 512 + 1 * (s.val % 512) = _; omega
    | ⟨2, _⟩ => show win0_2.index t 2 * 2752 + 1 * f.val = f.val; rw [e2]; show 0 * 2752 + 1 * f.val = _; omega
  have h : (dats m 0 c).arrAt 2 cfg0.N (((cfg0.win 2).blk t).view.emb (ix3 0 (⟨s.val % 512, by omega⟩ : Fin 512) f))
      = (dats m 0 c).flushed 2 t (ix3 0 (⟨s.val % 512, by omega⟩ : Fin 512) f) :=
    (dats m 0 c).arrAt_emb_eq_flushed 2 disjoint2 t (flush0_2 t) _
  refine (congrArg ((dats m 0 c).arrAt 2 cfg0.N) hi.symm).trans (h.trans ?_)
  refine (congrFun (flushed2 m c t) _).trans ?_
  show out0_2 (iblk m c 0 t) (iblk m c 1 t) (ix3 0 (⟨s.val % 512, by omega⟩ : Fin 512) f) = _
  have ho : out0_2 (iblk m c 0 t) (iblk m c 1 t) = k0_pay1 (iblk m c 0 t) (iblk m c 1 t) := by
    unfold out0_2; frame_out
  rw [ho, pay_at]
  refine Finset.sum_congr rfl fun d _ => ?_
  rw [blk0, blk1]
  congr 2
  · congr 1; apply Fin.ext; show t.val % 4 * 512 + s.val % 512 = s.val; omega
  · congr 1; apply Fin.ext; show t.val / 4 * 2752 + f.val = q.val * 2752 + f.val; omega

end Cert.Kernel6Ideal.Ffn

namespace Cert.Reference6Ideal.Ffn

open Cert.Reference6Ideal Cert.Reference6Ideal.Gen Cert.Reference6Ideal.Read
open Idealize.ShloMosaic Idealize.ShloMosaic.Pointwise

theorem ref_at (x0 : FVec Ideal S2048x2048 .f32) (x1 : FVec Ideal S2048x11008 .f32) (q : Fin 4) (s : Fin 2048) (f : Fin 2752) :
    (val_main_v9 (F := Ideal) x0 x1 (ix3 q s f) : EReal) = ∑ d : Fin 2048, x0 (ix2 s d) * x1 (ix2 d ⟨q.val * 2752 + f.val, by omega⟩) := by
  match q with
  | 0 => pointwise [val_main_v9, val_main_v8, val_main_v7, val_main_v6, val_main_v5, val_main_v4, val_main_v3, val_main_v2, val_main_v1, val_main_v0]
  | 1 => pointwise [val_main_v9, val_main_v8, val_main_v7, val_main_v6, val_main_v5, val_main_v4, val_main_v3, val_main_v2, val_main_v1, val_main_v0]
  | 2 => pointwise [val_main_v9, val_main_v8, val_main_v7, val_main_v6, val_main_v5, val_main_v4, val_main_v3, val_main_v2, val_main_v1, val_main_v0]
  | 3 => pointwise [val_main_v9, val_main_v8, val_main_v7, val_main_v6, val_main_v5, val_main_v4, val_main_v3, val_main_v2, val_main_v1, val_main_v0]

end Cert.Reference6Ideal.Ffn

namespace Cert.Proof

open Idealize.ShloMosaic Idealize.SL.Sem Idealize.ShloMosaic.Pointwise

/-- The call's array is the reference's. -/
theorem up_eq (m : (ℓ : Loc Cert.Kernel6Ideal.nD Cert.Kernel6Ideal.τ Cert.Kernel6Ideal.sig) → Buf (Elt Ideal) ℓ) (c : Dev Cert.Kernel6Ideal.nD) :
    (Cert.Kernel6Ideal.Gen.dats m 0 c).arrAt 2 Cert.Kernel6Ideal.cfg0.N
      = Cert.Reference6Ideal.Read.val_main_v9 (F := Ideal) (Cert.Kernel6Ideal.Ffn.X0 m c) (Cert.Kernel6Ideal.Ffn.X1 m c) := by
  funext i
  obtain ⟨q, f, d, rfl⟩ : ∃ (q : Fin 4) (f : Fin 2048) (d : Fin 2752), i = ix3 q f d := ⟨i 0, i 1, i 2, by funext k; match k with
    | ⟨0, _⟩ => rfl
    | ⟨1, _⟩ => rfl
    | ⟨2, _⟩ => rfl⟩
  exact (Cert.Kernel6Ideal.Ffn.out_at m c q f d).trans (Cert.Reference6Ideal.Ffn.ref_at _ _ q f d).symm

/-- The value claim of the call. -/
theorem up_algebraic : Cert.algebraic_Kernel6Ideal_Reference6Ideal := by
  intro m ρ m' ρ' _ hag
  refine ⟨fun c => (Cert.Kernel6Ideal.Gen.dats m 0 c).arrAt 2 Cert.Kernel6Ideal.cfg0.N, Cert.Kernel6Ideal.Value.run_blocks m ρ,
    (θ_run _ _ _).mono (fun r h c => ?_) (Cert.Reference6Ideal.Value.run m' ρ')⟩
  obtain ⟨a0, a1⟩ := hag c
  obtain ⟨r0, k0, k1⟩ := h c
  refine ⟨r0.trans ?_, k0, k1⟩
  rw [Cert.Reference6Ideal.Read.val_main_v9_eq, a0, a1]
  exact (up_eq m c).symm

/-- The reference's frame. -/
theorem up_reference_frame : Cert.quiescent_Reference6Ideal := fun m ρ _ =>
  (θ_run _ _ _).mono (fun r h => ⟨fun c => (h c).2, sem_eq_zero_of_no_sems (by decide) r.2⟩) (Cert.Reference6Ideal.Value.run m ρ)

end Cert.Proof

end
-- ==== Proof.FfnDown.lean ====
/-
  The down-projection: the call adds two partial products, one a half of the weights, in a carried accumulator; its
  array, entry by entry, is the product of the activation with the weights, and so is the reference's.
-/
module

public import proofs.«01_k».proof.Defs
public import proofs.«01_k».proof.Proof.Gen.Pre_finite
public import proofs.«01_k».proof.Proof.Gen.Kernel7Ideal.Value
public import proofs.«01_k».proof.Proof.Gen.Reference7Ideal.Read
public import proofs.«01_k».proof.Proof.FfnSum
public import Idealize.ShloMosaic.Lib.Pointwise
public import Idealize.ShloMosaic.Lib.Pipeline.ValueKit
public import Idealize.ShloMosaic.Lib.Pipeline.ReadBack
public import Idealize.ShloMosaic.Lib.StableHlo.ReadAt
public import Idealize.ShloMosaic.Lib.Claim

@[expose] public section

set_option maxRecDepth 16384

noncomputable section

namespace Cert.Kernel7Ideal.Ffn

open Cert.Kernel7Ideal Cert.Kernel7Ideal.Gen Cert.Kernel7Ideal.Value
open Idealize.ShloMosaic Idealize.ShloMosaic.TcCoe Idealize.SL.Sem
open Idealize.ShloMosaic.Pointwise

/-! ### The body's values, read at an index -/

theorem pay2_at (g : Vec Ideal S1x512x2752 .bf16) (w : Vec Ideal S1x2752x1024 .bf16) (s : Fin 512) (d : Fin 1024) :
    k0_pay2 g w (ix2 s d) = ∑ f : Fin 2752, g (ix3 0 s f) * w (ix3 0 f d) := by
  pointwise [k0_pay2, k0_pay1]

theorem pay3_at (g : Vec Ideal S1x512x2752 .bf16) (w : Vec Ideal S1x2752x1024 .bf16) (a : Vec Ideal S512x1024 .f32) (s : Fin 512) (d : Fin 1024) :
    k0_pay3 g w a (ix2 s d) = a (ix2 s d) + ∑ f : Fin 2752, g (ix3 0 s f) * w (ix3 0 f d) := by
  pointwise [k0_pay3, k0_pay1]

theorem pay4_at (a : Vec Ideal S512x1024 .f32) (s : Fin 512) (d : Fin 1024) :
    k0_pay4 a (ix3 0 s d) = a (ix2 s d) := by
  pointwise [k0_pay4]

/-! ### The blocks a point reads -/

/-- The block indices of the two read windows at a point. -/
theorem idx : ∀ t : Fin cfg0.N,
    win0_0.index t = ![t.val % 2, t.val / 4, 0] ∧ win0_1.index t = ![t.val % 2, 0, t.val / 2 % 2] :=
  (by decide +kernel : ∀ t : Fin grid0.N, _)

theorem lt16 (t : Fin cfg0.N) : t.val < 16 := lt_of_lt_of_eq t.isLt (show cfg0.N = 16 from N_0)

theorem lt_N {n : ℕ} (h : n < 16) : n < cfg0.N := lt_of_lt_of_eq h N_0.symm

variable (m : (ℓ : Loc nD τ sig) → Buf (Elt Ideal) ℓ) (c : Dev nD)

/-- The arguments' arrays. -/
abbrev X0 : FVec Ideal S2048x5504 .f32 := m ((c : Thread nD τ).loc main_arg0)
abbrev X1 : FVec Ideal S5504x2048 .f32 := m ((c : Thread nD τ).loc main_arg1)

theorem V2 : (V m c main_v2 : FVec Ideal S2x2048x2752 .bf16) = truncf .bf16 (transpose S2x2048x2752 [1, 0, 2] (shapeCast S2048x2x2752 (X0 m c) shapeCasts_S2048x5504_S2048x2x2752) transposes_S2048x2x2752_S2x2048x2752_1_0_2) bitsLt_bf16_f32 := by
  unfold V
  simp only [hostOps0, List.flatten_cons, List.flatten_nil, List.append_nil, List.cons_append, List.nil_append]
  entry_read
  rfl

theorem V4 : (V m c main_v4 : FVec Ideal S2x2752x2048 .bf16) = truncf .bf16 (shapeCast S2x2752x2048 (X1 m c) shapeCasts_S5504x2048_S2x2752x2048) bitsLt_bf16_f32 := by
  unfold V
  simp only [hostOps0, List.flatten_cons, List.flatten_nil, List.append_nil, List.cons_append, List.nil_append]
  entry_read
  rfl

variable (t : Fin cfg0.N)

theorem blk0 (s : Fin 512) (f : Fin 2752) : iblk m c 0 t (ix3 0 s f)
    = X0 m c (ix2 ⟨t.val / 4 * 512 + s.val, by have := lt16 t; omega⟩ ⟨t.val % 2 * 2752 + f.val, by omega⟩) := by
  obtain ⟨e0, e1⟩ := idx t
  have e : iblk m c 0 t (ix3 0 s f) = V m c main_v2 (ix3 ⟨t.val % 2, by omega⟩ ⟨t.val / 4 * 512 + s.val, by have := lt16 t; omega⟩ f) := by
    blk_point [iblk, e0]
  rw [e]
  refine (congrFun (V2 m c) _).trans ?_
  pointwise

theorem blk1 (f : Fin 2752) (d : Fin 1024) : iblk m c 1 t (ix3 0 f d)
    = X1 m c (ix2 ⟨t.val % 2 * 2752 + f.val, by omega⟩ ⟨t.val / 2 % 2 * 1024 + d.val, by omega⟩) := by
  obtain ⟨e0, e1⟩ := idx t
  have e : iblk m c 1 t (ix3 0 f d) = V m c main_v4 (ix3 ⟨t.val % 2, by omega⟩ f ⟨t.val / 2 % 2 * 1024 + d.val, by omega⟩) := by
    blk_point [iblk, e1]
  rw [e]
  refine (congrFun (V4 m c) _).trans ?_
  pointwise

/-! ### The accumulator -/

/-- The two blocks a point reads. -/
abbrev B0 : Vec Ideal S1x512x2752 .bf16 := iblk m c 0 t
abbrev B1 : Vec Ideal S1x2752x1024 .bf16 := iblk m c 1 t

/-- The state a point starts from and leaves: the result's block and the accumulator. -/
abbrev St : Type := Vec Ideal S1x512x1024 .f32 × Vec Ideal S512x1024 .f32

theorem st_first (acc : St) (h0 : t.val % 2 = 0) : (stAt0 m c t.val t.isLt acc).2 = k0_pay2 (B0 m c t) (B1 m c t) := by
  rw [stAt0_A m c t acc h0 (by omega) (by omega)]; frame_out

theorem st_next (acc : St) (h1 : t.val % 2 = 1) : (stAt0 m c t.val t.isLt acc).2 = k0_pay3 (B0 m c t) (B1 m c t) acc.2 := by
  rw [stAt0_B m c t acc (by omega) h1 h1]; frame_out; rw [read_unread_whole]

theorem st_last (acc : St) (h1 : t.val % 2 = 1) : (stAt0 m c t.val t.isLt acc).1 = k0_pay4 (stAt0 m c t.val t.isLt acc).2 := by
  rw [stAt0_B m c t acc (by omega) h1 h1]; frame_out

/-- A point's partial product at an entry of its block. -/
abbrev part (n : ℕ) (hn : n < cfg0.N) (s : Fin 512) (d : Fin 1024) : EReal :=
  ∑ f : Fin 2752, B0 m c ⟨n, hn⟩ (ix3 0 s f) * B1 m c ⟨n, hn⟩ (ix3 0 f d)

theorem acc_first (n : ℕ) (hn : n < cfg0.N) (h : n % 2 = 0) (s : Fin 512) (d : Fin 1024) :
    (outsAt0 m c n hn).2 (ix2 s d) = part m c n hn s d := by
  match n, hn, h with
  | 0, hn, h => rw [outsAt0_zero, st_first m c ⟨0, hn⟩ _ h, pay2_at]
  | n + 1, hn, h => rw [outsAt0_succ, st_first m c ⟨n + 1, hn⟩ _ h, pay2_at]

theorem acc_next (n : ℕ) (hn : n + 1 < cfg0.N) (h : (n + 1) % 2 = 1) (s : Fin 512) (d : Fin 1024) :
    (outsAt0 m c (n + 1) hn).2 (ix2 s d) = (outsAt0 m c n (by omega)).2 (ix2 s d) + part m c (n + 1) hn s d := by
  rw [outsAt0_succ, st_next m c ⟨n + 1, hn⟩ _ h, pay3_at]

/-- What the last point of a run writes back is the sum of the run's partial products. -/
theorem out_last (n : ℕ) (hn : n + 1 < cfg0.N) (h : n % 2 = 0) (s : Fin 512) (d : Fin 1024) :
    (outsAt0 m c (n + 1) hn).1 (ix3 0 s d) = part m c n (by omega) s d + part m c (n + 1) hn s d := by
  have e : (outsAt0 m c (n + 1) hn).1 = k0_pay4 (outsAt0 m c (n + 1) hn).2 := by
    rw [outsAt0_succ]; exact st_last m c ⟨n + 1, hn⟩ _ (by show (n + 1) % 2 = 1; omega)
  rw [e, pay4_at, acc_next m c n hn (by omega), acc_first m c n (by omega) h]

/-- A point's partial product, over the arguments: the half's first column and the block's place are the point's. -/
theorem part_eq (n o : ℕ) (hn : n < cfg0.N) (s : Fin 2048) (d : Fin 2048) (hs : n / 4 = s.val / 512) (hd : n / 2 % 2 = d.val / 1024)
    (ho : n % 2 * 2752 = o) (hb : o ≤ 2752) :
    part m c n hn ⟨s.val % 512, by omega⟩ ⟨d.val % 1024, by omega⟩
      = ∑ f : Fin 2752, X0 m c (ix2 s ⟨o + f.val, by omega⟩) * X1 m c (ix2 ⟨o + f.val, by omega⟩ d) := by
  refine Finset.sum_congr rfl fun f _ => ?_
  refine congrArg₂ (fun x y : EReal => x * y) ((blk0 m c ⟨n, hn⟩ _ f).trans ?_) ((blk1 m c ⟨n, hn⟩ f _).trans ?_)
  · congr 2
    · apply Fin.ext; show n / 4 * 512 + s.val % 512 = s.val; omega
    · apply Fin.ext; show n % 2 * 2752 + f.val = o + f.val; omega
  · congr 2
    · apply Fin.ext; show n % 2 * 2752 + f.val = o + f.val; omega
    · apply Fin.ext; show n / 2 % 2 * 1024 + d.val % 1024 = d.val; omega

/-- An entry of the array the call leaves. -/
theorem out_at (s d : Fin 2048) : G2 m c (ix3 0 s d) = ∑ j : Fin 5504, X0 m c (ix2 s j) * X1 m c (ix2 j d) := by
  obtain ⟨n, hv⟩ : ∃ n : ℕ, n = 2 * (2 * (s.val / 512) + d.val / 1024) := ⟨_, rfl⟩
  have hp : pt2Of (ix3 0 s d) = n + 1 := by
    show 2 * (8 * (0 / 1 - 0) + 2 * (s.val / 512 - 0) + 1 * (d.val / 1024 - 0)) + 1 = n + 1; omega
  have hb : n + 1 < cfg0.N := lt_N (by omega)
  have el : loc2Of (ix3 0 s d) = ix3 0 ⟨s.val % 512, by omega⟩ ⟨d.val % 1024, by omega⟩ := by
    funext b; match b with
    | ⟨0, _⟩ => exact Subsingleton.elim (α := Fin 1) _ _
    | ⟨1, _⟩ => rfl
    | ⟨2, _⟩ => rfl
  have e : ∀ (k : ℕ) (hk : k < cfg0.N), k = n + 1 → outsAt0 m c k hk = outsAt0 m c (n + 1) hb := fun k hk ek => by subst ek; rfl
  rw [G2, dif_pos (by rw [hp]; exact hb), ← outsAt0_sweep m c _ (by rw [hp]; exact hb), el, e _ _ hp, out_last m c n hb (by omega),
    part_eq m c n 0 _ s d (by omega) (by omega) (by omega) (by omega), part_eq m c (n + 1) 2752 _ s d (by omega) (by omega) (by omega) (by omega)]
  exact (FfnSum.halves fun j => X0 m c (ix2 s j) * X1 m c (ix2 j d)).symm

end Cert.Kernel7Ideal.Ffn

namespace Cert.Reference7Ideal.Ffn

open Cert.Reference7Ideal Cert.Reference7Ideal.Gen Cert.Reference7Ideal.Read
open Idealize.ShloMosaic Idealize.ShloMosaic.Pointwise

theorem ref_at (x0 : FVec Ideal S2048x5504 .f32) (x1 : FVec Ideal S5504x2048 .f32) (s d : Fin 2048) :
    (val_main_v1 (F := Ideal) x0 x1 (ix3 0 s d) : EReal) = ∑ j : Fin 5504, x0 (ix2 s j) * x1 (ix2 j d) := by
  pointwise [val_main_v1, val_main_v0]

end Cert.Reference7Ideal.Ffn

namespace Cert.Proof

open Idealize.ShloMosaic Idealize.SL.Sem Idealize.ShloMosaic.Pointwise

/-- The call's array is the reference's. -/
theorem down_eq (m : (ℓ : Loc Cert.Kernel7Ideal.nD Cert.Kernel7Ideal.τ Cert.Kernel7Ideal.sig) → Buf (Elt Ideal) ℓ) (c : Dev Cert.Kernel7Ideal.nD) :
    Cert.Kernel7Ideal.Value.G2 m c
      = Cert.Reference7Ideal.Read.val_main_v1 (F := Ideal) (Cert.Kernel7Ideal.Ffn.X0 m c) (Cert.Kernel7Ideal.Ffn.X1 m c) := by
  funext i
  obtain ⟨s, d, rfl⟩ : ∃ s d : Fin 2048, i = ix3 0 s d := ⟨i 1, i 2, by funext k; match k with
    | ⟨0, _⟩ => exact Subsingleton.elim (α := Fin 1) _ _
    | ⟨1, _⟩ => rfl
    | ⟨2, _⟩ => rfl⟩
  exact (Cert.Kernel7Ideal.Ffn.out_at m c s d).trans (Cert.Reference7Ideal.Ffn.ref_at _ _ s d).symm

/-- The value claim of the call. -/
theorem down_algebraic : Cert.algebraic_Kernel7Ideal_Reference7Ideal := by
  intro m ρ m' ρ' _ hag
  refine ⟨fun c => Cert.Kernel7Ideal.Value.G2 m c, Cert.Kernel7Ideal.Value.run m ρ,
    (θ_run _ _ _).mono (fun r h c => ?_) (Cert.Reference7Ideal.Value.run m' ρ')⟩
  obtain ⟨a0, a1⟩ := hag c
  obtain ⟨r0, k0, k1⟩ := h c
  refine ⟨r0.trans ?_, k0, k1⟩
  rw [Cert.Reference7Ideal.Read.val_main_v1_eq, a0, a1]
  exact (down_eq m c).symm

/-- The reference's frame. -/
theorem down_reference_frame : Cert.quiescent_Reference7Ideal := fun m ρ _ =>
  (θ_run _ _ _).mono (fun r h => ⟨fun c => (h c).2, sem_eq_zero_of_no_sems (by decide) r.2⟩) (Cert.Reference7Ideal.Value.run m ρ)

end Cert.Proof

end
-- ==== Proof.ProdIndex.lean ====
/-
  An index of an array whose first axis is one long, by its two other components.
-/
module

public import proofs.«01_k».proof.Defs
public import Idealize.ShloMosaic.Lib.Pointwise

@[expose] public section

namespace Cert.Proof.Prod

open Idealize.ShloMosaic Idealize.ShloMosaic.Pointwise

theorem split {a b : ℕ} (i : Shape.Idx (Shape.mk 3 ![1, a, b])) : ∃ (r : Fin a) (e : Fin b), i = ix3 0 r e :=
  ⟨i 1, i 2, by
    funext k
    match k with
    | ⟨0, _⟩ => exact Subsingleton.elim (α := Fin 1) _ _
    | ⟨1, _⟩ => rfl
    | ⟨2, _⟩ => rfl⟩

end Cert.Proof.Prod

end
-- ==== Proof.ProdForward.lean ====
/-
  The step's plain products forwards: the array each call leaves, entry by entry, is the sum over the contracted
  dimension, and so is the reference's.
-/
module

public import proofs.«01_k».proof.Defs
public import proofs.«01_k».proof.Proof.Gen.Pre_finite
public import proofs.«01_k».proof.Proof.Gen.Kernel8Ideal.Value
public import proofs.«01_k».proof.Proof.Gen.Reference8Ideal.Read
public import proofs.«01_k».proof.Proof.Gen.Kernel9Ideal.Value
public import proofs.«01_k».proof.Proof.Gen.Reference9Ideal.Read
public import proofs.«01_k».proof.Proof.Gen.Kernel10Ideal.Value
public import proofs.«01_k».proof.Proof.Gen.Reference10Ideal.Read
public import proofs.«01_k».proof.Proof.Gen.Kernel11Ideal.Value
public import proofs.«01_k».proof.Proof.Gen.Reference11Ideal.Read
public import proofs.«01_k».proof.Proof.ProdIndex
public import Idealize.ShloMosaic.Lib.Pointwise
public import Idealize.ShloMosaic.Lib.Pipeline.ValueKit
public import Idealize.ShloMosaic.Lib.StableHlo.ReadAt
public import Idealize.ShloMosaic.Lib.Claim

@[expose] public section

set_option maxRecDepth 16384

noncomputable section

/-! ### The even layer's input projection -/

namespace Cert.Kernel8Ideal.Prod

open Cert.Kernel8Ideal Cert.Kernel8Ideal.Gen Cert.Kernel8Ideal.Value
open Idealize.ShloMosaic Idealize.ShloMosaic.TcCoe Idealize.SL.Sem
open Idealize.ShloMosaic.Pointwise

/-- The block a point writes, read at an index. -/
theorem pay_at (x : Vec Ideal S1x512x2048 .f32) (w : Vec Ideal S1x1024x2048 .bf16) (a : Fin 512) (b : Fin 1024) :
    k0_pay1 x w (ix3 0 a b) = ∑ d : Fin 2048, x (ix3 0 a d) * w (ix3 0 b d) := by
  pointwise [k0_pay1]

/-- The block indices of the windows at a point. -/
theorem idx : ∀ t : Fin cfg0.N,
    win0_0.index t = ![0, t.val / 4, 0] ∧ win0_1.index t = ![0, t.val % 4, 0] ∧ win0_2.index t = ![0, t.val / 4, t.val % 4] :=
  (by decide +kernel : ∀ t : Fin grid0.N, _)

theorem lt_grid (t : Fin cfg0.N) : t.val < 16 := lt_of_lt_of_eq t.isLt (show cfg0.N = 16 from N_0)

variable (m : (ℓ : Loc nD τ sig) → Buf (Elt Ideal) ℓ) (c : Dev nD)

/-- The arguments' arrays. -/
abbrev X0 : FVec Ideal S2048x2048 .f32 := m ((c : Thread nD τ).loc main_arg0)
abbrev X1 : FVec Ideal S2048x4096 .f32 := m ((c : Thread nD τ).loc main_arg1)

theorem left : (V m c main_v2 : FVec Ideal S1x2048x2048 .f32) = broadcastInDim S1x2048x2048 ![1, 2] bcast_S2048x2048_S1x2048x2048_1_2 (X0 m c) := by
  unfold V
  simp only [hostOps0, List.flatten_cons, List.flatten_nil, List.append_nil, List.cons_append, List.nil_append]
  entry_read
  rfl

theorem right : (V m c main_v3 : FVec Ideal S1x4096x2048 .bf16) = broadcastInDim S1x4096x2048 ![1, 2] bcast_S4096x2048_S1x4096x2048_1_2 (truncf .bf16 (transpose S4096x2048 [1, 0] (X1 m c) transposes_S2048x4096_S4096x2048_1_0) bitsLt_bf16_f32) := by
  unfold V
  simp only [hostOps0, List.flatten_cons, List.flatten_nil, List.append_nil, List.cons_append, List.nil_append]
  entry_read
  rfl

variable (t : Fin cfg0.N)

theorem blk0 (a : Fin 512) (d : Fin 2048) : iblk m c 0 t (ix3 0 a d) = X0 m c (ix2 ⟨t.val / 4 * 512 + a.val, by have := lt_grid t; omega⟩ d) := by
  obtain ⟨e0, _, _⟩ := idx t
  have e : iblk m c 0 t (ix3 0 a d) = V m c main_v2 (ix3 0 ⟨t.val / 4 * 512 + a.val, by have := lt_grid t; omega⟩ d) := by
    blk_point [iblk, e0]
  rw [e]
  refine (congrFun (left m c) _).trans ?_
  pointwise

theorem blk1 (b : Fin 1024) (d : Fin 2048) : iblk m c 1 t (ix3 0 b d) = X1 m c (ix2 d ⟨t.val % 4 * 1024 + b.val, by omega⟩) := by
  obtain ⟨_, e1, _⟩ := idx t
  have e : iblk m c 1 t (ix3 0 b d) = V m c main_v3 (ix3 0 ⟨t.val % 4 * 1024 + b.val, by omega⟩ d) := by
    blk_point [iblk, e1]
  rw [e]
  refine (congrFun (right m c) _).trans ?_
  pointwise

/-- An entry of the array the call leaves. -/
theorem out_at (r : Fin 2048) (e : Fin 4096) : (dats m 0 c).arrAt 2 cfg0.N (ix3 0 r e) = ∑ d : Fin 2048, X0 m c (ix2 r d) * X1 m c (ix2 d e) := by
  obtain ⟨t, hv⟩ : ∃ t : Fin cfg0.N, t.val = r.val / 512 * 4 + e.val / 1024 := ⟨⟨_, lt_of_lt_of_eq (by omega) N_0.symm⟩, rfl⟩
  have hi : ((cfg0.win 2).blk t).view.emb (ix3 0 (⟨r.val % 512, by omega⟩ : Fin 512) (⟨e.val % 1024, by omega⟩ : Fin 1024)) = ix3 0 r e := by
    obtain ⟨_, _, e2⟩ := idx t
    funext k; apply Fin.ext
    match k with
    | ⟨0, _⟩ => show win0_2.index t 0 * 1 + 1 * 0 = 0; rw [e2]; rfl
    | ⟨1, _⟩ => show win0_2.index t 1 * 512 + 1 * (r.val % 512) = r.val; rw [e2]; show t.val / 4 * 512 + 1 * (r.val % 512) = r.val; omega
    | ⟨2, _⟩ => show win0_2.index t 2 * 1024 + 1 * (e.val % 1024) = e.val; rw [e2]; show t.val % 4 * 1024 + 1 * (e.val % 1024) = e.val; omega
  refine (congrArg ((dats m 0 c).arrAt 2 cfg0.N) hi.symm).trans
    (((dats m 0 c).arrAt_emb_eq_flushed 2 disjoint2 t (flush0_2 t) _).trans ((congrFun (flushed2 m c t) _).trans ?_))
  have ho : out0_2 (iblk m c 0 t) (iblk m c 1 t) = k0_pay1 (iblk m c 0 t) (iblk m c 1 t) := by
    unfold out0_2; frame_out
  refine (congrFun ho _).trans ((pay_at _ _ _ _).trans (Finset.sum_congr rfl fun d _ => ?_))
  refine congrArg₂ (fun x y : EReal => x * y) ((blk0 m c t _ d).trans ?_) ((blk1 m c t _ d).trans ?_)
  · exact congrArg (fun k => X0 m c (ix2 k d)) (Fin.ext (by show t.val / 4 * 512 + r.val % 512 = r.val; omega))
  · exact congrArg (fun k => X1 m c (ix2 d k)) (Fin.ext (by show t.val % 4 * 1024 + e.val % 1024 = e.val; omega))

end Cert.Kernel8Ideal.Prod

namespace Cert.Reference8Ideal.Prod

open Cert.Reference8Ideal Cert.Reference8Ideal.Gen Cert.Reference8Ideal.Read
open Idealize.ShloMosaic Idealize.ShloMosaic.Pointwise

theorem ref_at (x0 : FVec Ideal S2048x2048 .f32) (x1 : FVec Ideal S2048x4096 .f32) (r : Fin 2048) (e : Fin 4096) :
    (val_main_v1 (F := Ideal) x0 x1 (ix3 0 r e) : EReal) = ∑ d : Fin 2048, x0 (ix2 r d) * x1 (ix2 d e) := by
  pointwise [val_main_v1, val_main_v0]

end Cert.Reference8Ideal.Prod

namespace Cert.Proof

open Idealize.ShloMosaic Idealize.SL.Sem Idealize.ShloMosaic.Pointwise

/-- The call's array is the reference's. -/
theorem ev_proj_eq (m : (ℓ : Loc Cert.Kernel8Ideal.nD Cert.Kernel8Ideal.τ Cert.Kernel8Ideal.sig) → Buf (Elt Ideal) ℓ) (c : Dev Cert.Kernel8Ideal.nD) :
    (Cert.Kernel8Ideal.Gen.dats m 0 c).arrAt 2 Cert.Kernel8Ideal.cfg0.N
      = Cert.Reference8Ideal.Read.val_main_v1 (F := Ideal) (Cert.Kernel8Ideal.Prod.X0 m c) (Cert.Kernel8Ideal.Prod.X1 m c) := by
  funext i
  obtain ⟨r, e, rfl⟩ := Prod.split i
  exact (Cert.Kernel8Ideal.Prod.out_at m c r e).trans (Cert.Reference8Ideal.Prod.ref_at _ _ r e).symm

/-- The value claim of the call. -/
theorem ev_proj_algebraic : Cert.algebraic_Kernel8Ideal_Reference8Ideal := by
  intro m ρ m' ρ' _ hag
  refine ⟨fun c => (Cert.Kernel8Ideal.Gen.dats m 0 c).arrAt 2 Cert.Kernel8Ideal.cfg0.N, Cert.Kernel8Ideal.Value.run_blocks m ρ,
    (θ_run _ _ _).mono (fun r h c => ?_) (Cert.Reference8Ideal.Value.run m' ρ')⟩
  obtain ⟨a0, a1⟩ := hag c
  obtain ⟨r0, k0, k1⟩ := h c
  refine ⟨r0.trans ?_, k0, k1⟩
  rw [Cert.Reference8Ideal.Read.val_main_v1_eq, a0, a1]
  exact (ev_proj_eq m c).symm

/-- The reference's frame. -/
theorem ev_proj_reference_frame : Cert.quiescent_Reference8Ideal := fun m ρ _ =>
  (θ_run _ _ _).mono (fun r h => ⟨fun c => (h c).2, sem_eq_zero_of_no_sems (by decide) r.2⟩) (Cert.Reference8Ideal.Value.run m ρ)

end Cert.Proof

/-! ### The gate's projection -/

namespace Cert.Kernel9Ideal.Prod

open Cert.Kernel9Ideal Cert.Kernel9Ideal.Gen Cert.Kernel9Ideal.Value
open Idealize.ShloMosaic Idealize.ShloMosaic.TcCoe Idealize.SL.Sem
open Idealize.ShloMosaic.Pointwise

/-- The block a point writes, read at an index. -/
theorem pay_at (x : Vec Ideal S1x512x1024 .bf16) (w : Vec Ideal S1x1024x1024 .bf16) (a : Fin 512) (b : Fin 1024) :
    k0_pay1 x w (ix3 0 a b) = ∑ d : Fin 1024, x (ix3 0 a d) * w (ix3 0 d b) := by
  pointwise [k0_pay1]

/-- The block indices of the windows at a point. -/
theorem idx : ∀ t : Fin cfg0.N,
    win0_0.index t = ![0, t.val / 2, 0] ∧ win0_1.index t = ![0, 0, t.val % 2] ∧ win0_2.index t = ![0, t.val / 2, t.val % 2] :=
  (by decide +kernel : ∀ t : Fin grid0.N, _)

theorem lt_grid (t : Fin cfg0.N) : t.val < 8 := lt_of_lt_of_eq t.isLt (show cfg0.N = 8 from N_0)

variable (m : (ℓ : Loc nD τ sig) → Buf (Elt Ideal) ℓ) (c : Dev nD)

/-- The arguments' arrays. -/
abbrev X0 : FVec Ideal S2048x1024 .f32 := m ((c : Thread nD τ).loc main_arg0)
abbrev X1 : FVec Ideal S1024x2048 .f32 := m ((c : Thread nD τ).loc main_arg1)

theorem left : (V m c main_v2 : FVec Ideal S1x2048x1024 .bf16) = broadcastInDim S1x2048x1024 ![1, 2] bcast_S2048x1024_S1x2048x1024_1_2 (truncf .bf16 (X0 m c) bitsLt_bf16_f32) := by
  unfold V
  simp only [hostOps0, List.flatten_cons, List.flatten_nil, List.append_nil, List.cons_append, List.nil_append]
  entry_read
  rfl

theorem right : (V m c main_v3 : FVec Ideal S1x1024x2048 .bf16) = broadcastInDim S1x1024x2048 ![1, 2] bcast_S1024x2048_S1x1024x2048_1_2 (truncf .bf16 (X1 m c) bitsLt_bf16_f32) := by
  unfold V
  simp only [hostOps0, List.flatten_cons, List.flatten_nil, List.append_nil, List.cons_append, List.nil_append]
  entry_read
  rfl

variable (t : Fin cfg0.N)

theorem blk0 (a : Fin 512) (d : Fin 1024) : iblk m c 0 t (ix3 0 a d) = X0 m c (ix2 ⟨t.val / 2 * 512 + a.val, by have := lt_grid t; omega⟩ d) := by
  obtain ⟨e0, _, _⟩ := idx t
  have e : iblk m c 0 t (ix3 0 a d) = V m c main_v2 (ix3 0 ⟨t.val / 2 * 512 + a.val, by have := lt_grid t; omega⟩ d) := by
    blk_point [iblk, e0]
  rw [e]
  refine (congrFun (left m c) _).trans ?_
  pointwise

theorem blk1 (b : Fin 1024) (d : Fin 1024) : iblk m c 1 t (ix3 0 d b) = X1 m c (ix2 d ⟨t.val % 2 * 1024 + b.val, by omega⟩) := by
  obtain ⟨_, e1, _⟩ := idx t
  have e : iblk m c 1 t (ix3 0 d b) = V m c main_v3 (ix3 0 d ⟨t.val % 2 * 1024 + b.val, by omega⟩) := by
    blk_point [iblk, e1]
  rw [e]
  refine (congrFun (right m c) _).trans ?_
  pointwise

/-- An entry of the array the call leaves. -/
theorem out_at (r : Fin 2048) (e : Fin 2048) : (dats m 0 c).arrAt 2 cfg0.N (ix3 0 r e) = ∑ d : Fin 1024, X0 m c (ix2 r d) * X1 m c (ix2 d e) := by
  obtain ⟨t, hv⟩ : ∃ t : Fin cfg0.N, t.val = r.val / 512 * 2 + e.val / 1024 := ⟨⟨_, lt_of_lt_of_eq (by omega) N_0.symm⟩, rfl⟩
  have hi : ((cfg0.win 2).blk t).view.emb (ix3 0 (⟨r.val % 512, by omega⟩ : Fin 512) (⟨e.val % 1024, by omega⟩ : Fin 1024)) = ix3 0 r e := by
    obtain ⟨_, _, e2⟩ := idx t
    funext k; apply Fin.ext
    match k with
    | ⟨0, _⟩ => show win0_2.index t 0 * 1 + 1 * 0 = 0; rw [e2]; rfl
    | ⟨1, _⟩ => show win0_2.index t 1 * 512 + 1 * (r.val % 512) = r.val; rw [e2]; show t.val / 2 * 512 + 1 * (r.val % 512) = r.val; omega
    | ⟨2, _⟩ => show win0_2.index t 2 * 1024 + 1 * (e.val % 1024) = e.val; rw [e2]; show t.val % 2 * 1024 + 1 * (e.val % 1024) = e.val; omega
  refine (congrArg ((dats m 0 c).arrAt 2 cfg0.N) hi.symm).trans
    (((dats m 0 c).arrAt_emb_eq_flushed 2 disjoint2 t (flush0_2 t) _).trans ((congrFun (flushed2 m c t) _).trans ?_))
  have ho : out0_2 (iblk m c 0 t) (iblk m c 1 t) = k0_pay1 (iblk m c 0 t) (iblk m c 1 t) := by
    unfold out0_2; frame_out
  refine (congrFun ho _).trans ((pay_at _ _ _ _).trans (Finset.sum_congr rfl fun d _ => ?_))
  refine congrArg₂ (fun x y : EReal => x * y) ((blk0 m c t _ d).trans ?_) ((blk1 m c t _ d).trans ?_)
  · exact congrArg (fun k => X0 m c (ix2 k d)) (Fin.ext (by show t.val / 2 * 512 + r.val % 512 = r.val; omega))
  · exact congrArg (fun k => X1 m c (ix2 d k)) (Fin.ext (by show t.val % 2 * 1024 + e.val % 1024 = e.val; omega))

end Cert.Kernel9Ideal.Prod

namespace Cert.Reference9Ideal.Prod

open Cert.Reference9Ideal Cert.Reference9Ideal.Gen Cert.Reference9Ideal.Read
open Idealize.ShloMosaic Idealize.ShloMosaic.Pointwise

theorem ref_at (x0 : FVec Ideal S2048x1024 .f32) (x1 : FVec Ideal S1024x2048 .f32) (r : Fin 2048) (e : Fin 2048) :
    (val_main_v1 (F := Ideal) x0 x1 (ix3 0 r e) : EReal) = ∑ d : Fin 1024, x0 (ix2 r d) * x1 (ix2 d e) := by
  pointwise [val_main_v1, val_main_v0]

end Cert.Reference9Ideal.Prod

namespace Cert.Proof

open Idealize.ShloMosaic Idealize.SL.Sem Idealize.ShloMosaic.Pointwise

/-- The call's array is the reference's. -/
theorem glu_proj_eq (m : (ℓ : Loc Cert.Kernel9Ideal.nD Cert.Kernel9Ideal.τ Cert.Kernel9Ideal.sig) → Buf (Elt Ideal) ℓ) (c : Dev Cert.Kernel9Ideal.nD) :
    (Cert.Kernel9Ideal.Gen.dats m 0 c).arrAt 2 Cert.Kernel9Ideal.cfg0.N
      = Cert.Reference9Ideal.Read.val_main_v1 (F := Ideal) (Cert.Kernel9Ideal.Prod.X0 m c) (Cert.Kernel9Ideal.Prod.X1 m c) := by
  funext i
  obtain ⟨r, e, rfl⟩ := Prod.split i
  exact (Cert.Kernel9Ideal.Prod.out_at m c r e).trans (Cert.Reference9Ideal.Prod.ref_at _ _ r e).symm

/-- The value claim of the call. -/
theorem glu_proj_algebraic : Cert.algebraic_Kernel9Ideal_Reference9Ideal := by
  intro m ρ m' ρ' _ hag
  refine ⟨fun c => (Cert.Kernel9Ideal.Gen.dats m 0 c).arrAt 2 Cert.Kernel9Ideal.cfg0.N, Cert.Kernel9Ideal.Value.run_blocks m ρ,
    (θ_run _ _ _).mono (fun r h c => ?_) (Cert.Reference9Ideal.Value.run m' ρ')⟩
  obtain ⟨a0, a1⟩ := hag c
  obtain ⟨r0, k0, k1⟩ := h c
  refine ⟨r0.trans ?_, k0, k1⟩
  rw [Cert.Reference9Ideal.Read.val_main_v1_eq, a0, a1]
  exact (glu_proj_eq m c).symm

/-- The reference's frame. -/
theorem glu_proj_reference_frame : Cert.quiescent_Reference9Ideal := fun m ρ _ =>
  (θ_run _ _ _).mono (fun r h => ⟨fun c => (h c).2, sem_eq_zero_of_no_sems (by decide) r.2⟩) (Cert.Reference9Ideal.Value.run m ρ)

end Cert.Proof

/-! ### The output projection of a layer -/

namespace Cert.Kernel10Ideal.Prod

open Cert.Kernel10Ideal Cert.Kernel10Ideal.Gen Cert.Kernel10Ideal.Value
open Idealize.ShloMosaic Idealize.ShloMosaic.TcCoe Idealize.SL.Sem
open Idealize.ShloMosaic.Pointwise

/-- The block a point writes, read at an index. -/
theorem pay_at (x : Vec Ideal S1x512x2048 .bf16) (w : Vec Ideal S1x2048x1024 .bf16) (a : Fin 512) (b : Fin 1024) :
    k0_pay1 x w (ix3 0 a b) = ∑ d : Fin 2048, x (ix3 0 a d) * w (ix3 0 d b) := by
  pointwise [k0_pay1]

/-- The block indices of the windows at a point. -/
theorem idx : ∀ t : Fin cfg0.N,
    win0_0.index t = ![0, t.val / 2, 0] ∧ win0_1.index t = ![0, 0, t.val % 2] ∧ win0_2.index t = ![0, t.val / 2, t.val % 2] :=
  (by decide +kernel : ∀ t : Fin grid0.N, _)

theorem lt_grid (t : Fin cfg0.N) : t.val < 8 := lt_of_lt_of_eq t.isLt (show cfg0.N = 8 from N_0)

variable (m : (ℓ : Loc nD τ sig) → Buf (Elt Ideal) ℓ) (c : Dev nD)

/-- The arguments' arrays. -/
abbrev X0 : FVec Ideal S2048x2048 .f32 := m ((c : Thread nD τ).loc main_arg0)
abbrev X1 : FVec Ideal S2048x2048 .f32 := m ((c : Thread nD τ).loc main_arg1)

theorem left : (V m c main_v2 : FVec Ideal S1x2048x2048 .bf16) = broadcastInDim S1x2048x2048 ![1, 2] bcast_S2048x2048_S1x2048x2048_1_2 (truncf .bf16 (X0 m c) bitsLt_bf16_f32) := by
  unfold V
  simp only [hostOps0, List.flatten_cons, List.flatten_nil, List.append_nil, List.cons_append, List.nil_append]
  entry_read
  rfl

theorem right : (V m c main_v3 : FVec Ideal S1x2048x2048 .bf16) = broadcastInDim S1x2048x2048 ![1, 2] bcast_S2048x2048_S1x2048x2048_1_2 (truncf .bf16 (X1 m c) bitsLt_bf16_f32) := by
  unfold V
  simp only [hostOps0, List.flatten_cons, List.flatten_nil, List.append_nil, List.cons_append, List.nil_append]
  entry_read
  rfl

variable (t : Fin cfg0.N)

theorem blk0 (a : Fin 512) (d : Fin 2048) : iblk m c 0 t (ix3 0 a d) = X0 m c (ix2 ⟨t.val / 2 * 512 + a.val, by have := lt_grid t; omega⟩ d) := by
  obtain ⟨e0, _, _⟩ := idx t
  have e : iblk m c 0 t (ix3 0 a d) = V m c main_v2 (ix3 0 ⟨t.val / 2 * 512 + a.val, by have := lt_grid t; omega⟩ d) := by
    blk_point [iblk, e0]
  rw [e]
  refine (congrFun (left m c) _).trans ?_
  pointwise

theorem blk1 (b : Fin 1024) (d : Fin 2048) : iblk m c 1 t (ix3 0 d b) = X1 m c (ix2 d ⟨t.val % 2 * 1024 + b.val, by omega⟩) := by
  obtain ⟨_, e1, _⟩ := idx t
  have e : iblk m c 1 t (ix3 0 d b) = V m c main_v3 (ix3 0 d ⟨t.val % 2 * 1024 + b.val, by omega⟩) := by
    blk_point [iblk, e1]
  rw [e]
  refine (congrFun (right m c) _).trans ?_
  pointwise

/-- An entry of the array the call leaves. -/
theorem out_at (r : Fin 2048) (e : Fin 2048) : (dats m 0 c).arrAt 2 cfg0.N (ix3 0 r e) = ∑ d : Fin 2048, X0 m c (ix2 r d) * X1 m c (ix2 d e) := by
  obtain ⟨t, hv⟩ : ∃ t : Fin cfg0.N, t.val = r.val / 512 * 2 + e.val / 1024 := ⟨⟨_, lt_of_lt_of_eq (by omega) N_0.symm⟩, rfl⟩
  have hi : ((cfg0.win 2).blk t).view.emb (ix3 0 (⟨r.val % 512, by omega⟩ : Fin 512) (⟨e.val % 1024, by omega⟩ : Fin 1024)) = ix3 0 r e := by
    obtain ⟨_, _, e2⟩ := idx t
    funext k; apply Fin.ext
    match k with
    | ⟨0, _⟩ => show win0_2.index t 0 * 1 + 1 * 0 = 0; rw [e2]; rfl
    | ⟨1, _⟩ => show win0_2.index t 1 * 512 + 1 * (r.val % 512) = r.val; rw [e2]; show t.val / 2 * 512 + 1 * (r.val % 512) = r.val; omega
    | ⟨2, _⟩ => show win0_2.index t 2 * 1024 + 1 * (e.val % 1024) = e.val; rw [e2]; show t.val % 2 * 1024 + 1 * (e.val % 1024) = e.val; omega
  refine (congrArg ((dats m 0 c).arrAt 2 cfg0.N) hi.symm).trans
    (((dats m 0 c).arrAt_emb_eq_flushed 2 disjoint2 t (flush0_2 t) _).trans ((congrFun (flushed2 m c t) _).trans ?_))
  have ho : out0_2 (iblk m c 0 t) (iblk m c 1 t) = k0_pay1 (iblk m c 0 t) (iblk m c 1 t) := by
    unfold out0_2; frame_out
  refine (congrFun ho _).trans ((pay_at _ _ _ _).trans (Finset.sum_congr rfl fun d _ => ?_))
  refine congrArg₂ (fun x y : EReal => x * y) ((blk0 m c t _ d).trans ?_) ((blk1 m c t _ d).trans ?_)
  · exact congrArg (fun k => X0 m c (ix2 k d)) (Fin.ext (by show t.val / 2 * 512 + r.val % 512 = r.val; omega))
  · exact congrArg (fun k => X1 m c (ix2 d k)) (Fin.ext (by show t.val % 2 * 1024 + e.val % 1024 = e.val; omega))

end Cert.Kernel10Ideal.Prod

namespace Cert.Reference10Ideal.Prod

open Cert.Reference10Ideal Cert.Reference10Ideal.Gen Cert.Reference10Ideal.Read
open Idealize.ShloMosaic Idealize.ShloMosaic.Pointwise

theorem ref_at (x0 : FVec Ideal S2048x2048 .f32) (x1 : FVec Ideal S2048x2048 .f32) (r : Fin 2048) (e : Fin 2048) :
    (val_main_v1 (F := Ideal) x0 x1 (ix3 0 r e) : EReal) = ∑ d : Fin 2048, x0 (ix2 r d) * x1 (ix2 d e) := by
  pointwise [val_main_v1, val_main_v0]

end Cert.Reference10Ideal.Prod

namespace Cert.Proof

open Idealize.ShloMosaic Idealize.SL.Sem Idealize.ShloMosaic.Pointwise

/-- The call's array is the reference's. -/
theorem out_proj_eq (m : (ℓ : Loc Cert.Kernel10Ideal.nD Cert.Kernel10Ideal.τ Cert.Kernel10Ideal.sig) → Buf (Elt Ideal) ℓ) (c : Dev Cert.Kernel10Ideal.nD) :
    (Cert.Kernel10Ideal.Gen.dats m 0 c).arrAt 2 Cert.Kernel10Ideal.cfg0.N
      = Cert.Reference10Ideal.Read.val_main_v1 (F := Ideal) (Cert.Kernel10Ideal.Prod.X0 m c) (Cert.Kernel10Ideal.Prod.X1 m c) := by
  funext i
  obtain ⟨r, e, rfl⟩ := Prod.split i
  exact (Cert.Kernel10Ideal.Prod.out_at m c r e).trans (Cert.Reference10Ideal.Prod.ref_at _ _ r e).symm

/-- The value claim of the call. -/
theorem out_proj_algebraic : Cert.algebraic_Kernel10Ideal_Reference10Ideal := by
  intro m ρ m' ρ' _ hag
  refine ⟨fun c => (Cert.Kernel10Ideal.Gen.dats m 0 c).arrAt 2 Cert.Kernel10Ideal.cfg0.N, Cert.Kernel10Ideal.Value.run_blocks m ρ,
    (θ_run _ _ _).mono (fun r h c => ?_) (Cert.Reference10Ideal.Value.run m' ρ')⟩
  obtain ⟨a0, a1⟩ := hag c
  obtain ⟨r0, k0, k1⟩ := h c
  refine ⟨r0.trans ?_, k0, k1⟩
  rw [Cert.Reference10Ideal.Read.val_main_v1_eq, a0, a1]
  exact (out_proj_eq m c).symm

/-- The reference's frame. -/
theorem out_proj_reference_frame : Cert.quiescent_Reference10Ideal := fun m ρ _ =>
  (θ_run _ _ _).mono (fun r h => ⟨fun c => (h c).2, sem_eq_zero_of_no_sems (by decide) r.2⟩) (Cert.Reference10Ideal.Value.run m ρ)

end Cert.Proof

/-! ### The odd layer's input projection -/

namespace Cert.Kernel11Ideal.Prod

open Cert.Kernel11Ideal Cert.Kernel11Ideal.Gen Cert.Kernel11Ideal.Value
open Idealize.ShloMosaic Idealize.ShloMosaic.TcCoe Idealize.SL.Sem
open Idealize.ShloMosaic.Pointwise

/-- The block a point writes, read at an index. -/
theorem pay_at (x : Vec Ideal S1x512x2048 .f32) (w : Vec Ideal S1x2048x640 .bf16) (a : Fin 512) (b : Fin 640) :
    k0_pay1 x w (ix3 0 a b) = ∑ d : Fin 2048, x (ix3 0 a d) * w (ix3 0 d b) := by
  pointwise [k0_pay1]

/-- The block indices of the windows at a point. -/
theorem idx : ∀ t : Fin cfg0.N,
    win0_0.index t = ![0, t.val / 4, 0] ∧ win0_1.index t = ![0, 0, t.val % 4] ∧ win0_2.index t = ![0, t.val / 4, t.val % 4] :=
  (by decide +kernel : ∀ t : Fin grid0.N, _)

theorem lt_grid (t : Fin cfg0.N) : t.val < 16 := lt_of_lt_of_eq t.isLt (show cfg0.N = 16 from N_0)

variable (m : (ℓ : Loc nD τ sig) → Buf (Elt Ideal) ℓ) (c : Dev nD)

/-- The arguments' arrays. -/
abbrev X0 : FVec Ideal S2048x2048 .f32 := m ((c : Thread nD τ).loc main_arg0)
abbrev X1 : FVec Ideal S2048x2560 .f32 := m ((c : Thread nD τ).loc main_arg1)

theorem left : (V m c main_v1 : FVec Ideal S1x2048x2048 .f32) = broadcastInDim S1x2048x2048 ![1, 2] bcast_S2048x2048_S1x2048x2048_1_2 (X0 m c) := by
  unfold V
  simp only [hostOps0, List.flatten_cons, List.flatten_nil, List.append_nil, List.cons_append, List.nil_append]
  entry_read
  rfl

theorem right : (V m c main_v2 : FVec Ideal S1x2048x2560 .bf16) = broadcastInDim S1x2048x2560 ![1, 2] bcast_S2048x2560_S1x2048x2560_1_2 (truncf .bf16 (X1 m c) bitsLt_bf16_f32) := by
  unfold V
  simp only [hostOps0, List.flatten_cons, List.flatten_nil, List.append_nil, List.cons_append, List.nil_append]
  entry_read
  rfl

variable (t : Fin cfg0.N)

theorem blk0 (a : Fin 512) (d : Fin 2048) : iblk m c 0 t (ix3 0 a d) = X0 m c (ix2 ⟨t.val / 4 * 512 + a.val, by have := lt_grid t; omega⟩ d) := by
  obtain ⟨e0, _, _⟩ := idx t
  have e : iblk m c 0 t (ix3 0 a d) = V m c main_v1 (ix3 0 ⟨t.val / 4 * 512 + a.val, by have := lt_grid t; omega⟩ d) := by
    blk_point [iblk, e0]
  rw [e]
  refine (congrFun (left m c) _).trans ?_
  pointwise

theorem blk1 (b : Fin 640) (d : Fin 2048) : iblk m c 1 t (ix3 0 d b) = X1 m c (ix2 d ⟨t.val % 4 * 640 + b.val, by omega⟩) := by
  obtain ⟨_, e1, _⟩ := idx t
  have e : iblk m c 1 t (ix3 0 d b) = V m c main_v2 (ix3 0 d ⟨t.val % 4 * 640 + b.val, by omega⟩) := by
    blk_point [iblk, e1]
  rw [e]
  refine (congrFun (right m c) _).trans ?_
  pointwise

/-- An entry of the array the call leaves. -/
theorem out_at (r : Fin 2048) (e : Fin 2560) : (dats m 0 c).arrAt 2 cfg0.N (ix3 0 r e) = ∑ d : Fin 2048, X0 m c (ix2 r d) * X1 m c (ix2 d e) := by
  obtain ⟨t, hv⟩ : ∃ t : Fin cfg0.N, t.val = r.val / 512 * 4 + e.val / 640 := ⟨⟨_, lt_of_lt_of_eq (by omega) N_0.symm⟩, rfl⟩
  have hi : ((cfg0.win 2).blk t).view.emb (ix3 0 (⟨r.val % 512, by omega⟩ : Fin 512) (⟨e.val % 640, by omega⟩ : Fin 640)) = ix3 0 r e := by
    obtain ⟨_, _, e2⟩ := idx t
    funext k; apply Fin.ext
    match k with
    | ⟨0, _⟩ => show win0_2.index t 0 * 1 + 1 * 0 = 0; rw [e2]; rfl
    | ⟨1, _⟩ => show win0_2.index t 1 * 512 + 1 * (r.val % 512) = r.val; rw [e2]; show t.val / 4 * 512 + 1 * (r.val % 512) = r.val; omega
    | ⟨2, _⟩ => show win0_2.index t 2 * 640 + 1 * (e.val % 640) = e.val; rw [e2]; show t.val % 4 * 640 + 1 * (e.val % 640) = e.val; omega
  refine (congrArg ((dats m 0 c).arrAt 2 cfg0.N) hi.symm).trans
    (((dats m 0 c).arrAt_emb_eq_flushed 2 disjoint2 t (flush0_2 t) _).trans ((congrFun (flushed2 m c t) _).trans ?_))
  have ho : out0_2 (iblk m c 0 t) (iblk m c 1 t) = k0_pay1 (iblk m c 0 t) (iblk m c 1 t) := by
    unfold out0_2; frame_out
  refine (congrFun ho _).trans ((pay_at _ _ _ _).trans (Finset.sum_congr rfl fun d _ => ?_))
  refine congrArg₂ (fun x y : EReal => x * y) ((blk0 m c t _ d).trans ?_) ((blk1 m c t _ d).trans ?_)
  · exact congrArg (fun k => X0 m c (ix2 k d)) (Fin.ext (by show t.val / 4 * 512 + r.val % 512 = r.val; omega))
  · exact congrArg (fun k => X1 m c (ix2 d k)) (Fin.ext (by show t.val % 4 * 640 + e.val % 640 = e.val; omega))

end Cert.Kernel11Ideal.Prod

namespace Cert.Reference11Ideal.Prod

open Cert.Reference11Ideal Cert.Reference11Ideal.Gen Cert.Reference11Ideal.Read
open Idealize.ShloMosaic Idealize.ShloMosaic.Pointwise

theorem ref_at (x0 : FVec Ideal S2048x2048 .f32) (x1 : FVec Ideal S2048x2560 .f32) (r : Fin 2048) (e : Fin 2560) :
    (val_main_v1 (F := Ideal) x0 x1 (ix3 0 r e) : EReal) = ∑ d : Fin 2048, x0 (ix2 r d) * x1 (ix2 d e) := by
  pointwise [val_main_v1, val_main_v0]

end Cert.Reference11Ideal.Prod

namespace Cert.Proof

open Idealize.ShloMosaic Idealize.SL.Sem Idealize.ShloMosaic.Pointwise

/-- The call's array is the reference's. -/
theorem od_proj_eq (m : (ℓ : Loc Cert.Kernel11Ideal.nD Cert.Kernel11Ideal.τ Cert.Kernel11Ideal.sig) → Buf (Elt Ideal) ℓ) (c : Dev Cert.Kernel11Ideal.nD) :
    (Cert.Kernel11Ideal.Gen.dats m 0 c).arrAt 2 Cert.Kernel11Ideal.cfg0.N
      = Cert.Reference11Ideal.Read.val_main_v1 (F := Ideal) (Cert.Kernel11Ideal.Prod.X0 m c) (Cert.Kernel11Ideal.Prod.X1 m c) := by
  funext i
  obtain ⟨r, e, rfl⟩ := Prod.split i
  exact (Cert.Kernel11Ideal.Prod.out_at m c r e).trans (Cert.Reference11Ideal.Prod.ref_at _ _ r e).symm

/-- The value claim of the call. -/
theorem od_proj_algebraic : Cert.algebraic_Kernel11Ideal_Reference11Ideal := by
  intro m ρ m' ρ' _ hag
  refine ⟨fun c => (Cert.Kernel11Ideal.Gen.dats m 0 c).arrAt 2 Cert.Kernel11Ideal.cfg0.N, Cert.Kernel11Ideal.Value.run_blocks m ρ,
    (θ_run _ _ _).mono (fun r h c => ?_) (Cert.Reference11Ideal.Value.run m' ρ')⟩
  obtain ⟨a0, a1⟩ := hag c
  obtain ⟨r0, k0, k1⟩ := h c
  refine ⟨r0.trans ?_, k0, k1⟩
  rw [Cert.Reference11Ideal.Read.val_main_v1_eq, a0, a1]
  exact (od_proj_eq m c).symm

/-- The reference's frame. -/
theorem od_proj_reference_frame : Cert.quiescent_Reference11Ideal := fun m ρ _ =>
  (θ_run _ _ _).mono (fun r h => ⟨fun c => (h c).2, sem_eq_zero_of_no_sems (by decide) r.2⟩) (Cert.Reference11Ideal.Value.run m ρ)

end Cert.Proof

end
-- ==== Proof.ProdInput.lean ====
/-
  The gradients of the products' inputs whose contracted dimension is one block: entry by entry, the call's array and the
  reference's are the same sum.
-/
module

public import proofs.«01_k».proof.Defs
public import proofs.«01_k».proof.Proof.Gen.Pre_finite
public import proofs.«01_k».proof.Proof.Gen.Kernel12Ideal.Value
public import proofs.«01_k».proof.Proof.Gen.Reference12Ideal.Read
public import proofs.«01_k».proof.Proof.Gen.Kernel13Ideal.Value
public import proofs.«01_k».proof.Proof.Gen.Reference13Ideal.Read
public import proofs.«01_k».proof.Proof.ProdIndex
public import Idealize.ShloMosaic.Lib.Pointwise
public import Idealize.ShloMosaic.Lib.Pipeline.ValueKit
public import Idealize.ShloMosaic.Lib.StableHlo.ReadAt
public import Idealize.ShloMosaic.Lib.Claim

@[expose] public section

set_option maxRecDepth 16384

noncomputable section

/-! ### The gradient of the output projection's input -/

namespace Cert.Kernel12Ideal.Prod

open Cert.Kernel12Ideal Cert.Kernel12Ideal.Gen Cert.Kernel12Ideal.Value
open Idealize.ShloMosaic Idealize.ShloMosaic.TcCoe Idealize.SL.Sem
open Idealize.ShloMosaic.Pointwise

/-- The block a point writes, read at an index. -/
theorem pay_at (x : Vec Ideal S1x512x2048 .f32) (w : Vec Ideal S1x1024x2048 .bf16) (a : Fin 512) (b : Fin 1024) :
    k0_pay1 x w (ix3 0 a b) = ∑ d : Fin 2048, x (ix3 0 a d) * w (ix3 0 b d) := by
  pointwise [k0_pay1]

/-- The block indices of the windows at a point. -/
theorem idx : ∀ t : Fin cfg0.N,
    win0_0.index t = ![0, t.val / 2, 0] ∧ win0_1.index t = ![0, t.val % 2, 0] ∧ win0_2.index t = ![0, t.val / 2, t.val % 2] :=
  (by decide +kernel : ∀ t : Fin grid0.N, _)

theorem lt_grid (t : Fin cfg0.N) : t.val < 8 := lt_of_lt_of_eq t.isLt (show cfg0.N = 8 from N_0)

variable (m : (ℓ : Loc nD τ sig) → Buf (Elt Ideal) ℓ) (c : Dev nD)

/-- The arguments' arrays. -/
abbrev X0 : FVec Ideal S2048x2048 .f32 := m ((c : Thread nD τ).loc main_arg0)
abbrev X1 : FVec Ideal S2048x2048 .f32 := m ((c : Thread nD τ).loc main_arg1)

theorem left : (V m c main_v1 : FVec Ideal S1x2048x2048 .f32) = broadcastInDim S1x2048x2048 ![1, 2] bcast_S2048x2048_S1x2048x2048_1_2 (X0 m c) := by
  unfold V
  simp only [hostOps0, List.flatten_cons, List.flatten_nil, List.append_nil, List.cons_append, List.nil_append]
  entry_read
  rfl

theorem right : (V m c main_v2 : FVec Ideal S1x2048x2048 .bf16) = broadcastInDim S1x2048x2048 ![1, 2] bcast_S2048x2048_S1x2048x2048_1_2 (truncf .bf16 (X1 m c) bitsLt_bf16_f32) := by
  unfold V
  simp only [hostOps0, List.flatten_cons, List.flatten_nil, List.append_nil, List.cons_append, List.nil_append]
  entry_read
  rfl

variable (t : Fin cfg0.N)

theorem blk0 (a : Fin 512) (d : Fin 2048) : iblk m c 0 t (ix3 0 a d) = X0 m c (ix2 ⟨t.val / 2 * 512 + a.val, by have := lt_grid t; omega⟩ d) := by
  obtain ⟨e0, _, _⟩ := idx t
  have e : iblk m c 0 t (ix3 0 a d) = V m c main_v1 (ix3 0 ⟨t.val / 2 * 512 + a.val, by have := lt_grid t; omega⟩ d) := by
    blk_point [iblk, e0]
  rw [e]
  refine (congrFun (left m c) _).trans ?_
  pointwise

theorem blk1 (b : Fin 1024) (d : Fin 2048) : iblk m c 1 t (ix3 0 b d) = X1 m c (ix2 ⟨t.val % 2 * 1024 + b.val, by omega⟩ d) := by
  obtain ⟨_, e1, _⟩ := idx t
  have e : iblk m c 1 t (ix3 0 b d) = V m c main_v2 (ix3 0 ⟨t.val % 2 * 1024 + b.val, by omega⟩ d) := by
    blk_point [iblk, e1]
  rw [e]
  refine (congrFun (right m c) _).trans ?_
  pointwise

/-- An entry of the array the call leaves. -/
theorem out_at (r : Fin 2048) (e : Fin 2048) : (dats m 0 c).arrAt 2 cfg0.N (ix3 0 r e) = ∑ d : Fin 2048, X0 m c (ix2 r d) * X1 m c (ix2 e d) := by
  obtain ⟨t, hv⟩ : ∃ t : Fin cfg0.N, t.val = r.val / 512 * 2 + e.val / 1024 := ⟨⟨_, lt_of_lt_of_eq (by omega) N_0.symm⟩, rfl⟩
  have hi : ((cfg0.win 2).blk t).view.emb (ix3 0 (⟨r.val % 512, by omega⟩ : Fin 512) (⟨e.val % 1024, by omega⟩ : Fin 1024)) = ix3 0 r e := by
    obtain ⟨_, _, e2⟩ := idx t
    funext k; apply Fin.ext
    match k with
    | ⟨0, _⟩ => show win0_2.index t 0 * 1 + 1 * 0 = 0; rw [e2]; rfl
    | ⟨1, _⟩ => show win0_2.index t 1 * 512 + 1 * (r.val % 512) = r.val; rw [e2]; show t.val / 2 * 512 + 1 * (r.val % 512) = r.val; omega
    | ⟨2, _⟩ => show win0_2.index t 2 * 1024 + 1 * (e.val % 1024) = e.val; rw [e2]; show t.val % 2 * 1024 + 1 * (e.val % 1024) = e.val; omega
  refine (congrArg ((dats m 0 c).arrAt 2 cfg0.N) hi.symm).trans
    (((dats m 0 c).arrAt_emb_eq_flushed 2 disjoint2 t (flush0_2 t) _).trans ((congrFun (flushed2 m c t) _).trans ?_))
  have ho : out0_2 (iblk m c 0 t) (iblk m c 1 t) = k0_pay1 (iblk m c 0 t) (iblk m c 1 t) := by
    unfold out0_2; frame_out
  refine (congrFun ho _).trans ((pay_at _ _ _ _).trans (Finset.sum_congr rfl fun d _ => ?_))
  refine congrArg₂ (fun x y : EReal => x * y) ((blk0 m c t _ d).trans ?_) ((blk1 m c t _ d).trans ?_)
  · exact congrArg (fun k => X0 m c (ix2 k d)) (Fin.ext (by show t.val / 2 * 512 + r.val % 512 = r.val; omega))
  · exact congrArg (fun k => X1 m c (ix2 k d)) (Fin.ext (by show t.val % 2 * 1024 + e.val % 1024 = e.val; omega))

end Cert.Kernel12Ideal.Prod

namespace Cert.Reference12Ideal.Prod

open Cert.Reference12Ideal Cert.Reference12Ideal.Gen Cert.Reference12Ideal.Read
open Idealize.ShloMosaic Idealize.ShloMosaic.Pointwise

theorem ref_at (x0 : FVec Ideal S2048x2048 .f32) (x1 : FVec Ideal S2048x2048 .f32) (r : Fin 2048) (e : Fin 2048) :
    (val_main_v3 (F := Ideal) x0 x1 (ix3 0 r e) : EReal) = ∑ d : Fin 2048, x0 (ix2 r d) * x1 (ix2 e d) := by
  pointwise [val_main_v3, val_main_v2, val_main_v1, val_main_v0]

end Cert.Reference12Ideal.Prod

namespace Cert.Proof

open Idealize.ShloMosaic Idealize.SL.Sem Idealize.ShloMosaic.Pointwise

/-- The call's array is the reference's. -/
theorem out_dx_eq (m : (ℓ : Loc Cert.Kernel12Ideal.nD Cert.Kernel12Ideal.τ Cert.Kernel12Ideal.sig) → Buf (Elt Ideal) ℓ) (c : Dev Cert.Kernel12Ideal.nD) :
    (Cert.Kernel12Ideal.Gen.dats m 0 c).arrAt 2 Cert.Kernel12Ideal.cfg0.N
      = Cert.Reference12Ideal.Read.val_main_v3 (F := Ideal) (Cert.Kernel12Ideal.Prod.X0 m c) (Cert.Kernel12Ideal.Prod.X1 m c) := by
  funext i
  obtain ⟨r, e, rfl⟩ := Prod.split i
  exact (Cert.Kernel12Ideal.Prod.out_at m c r e).trans (Cert.Reference12Ideal.Prod.ref_at _ _ r e).symm

/-- The value claim of the call. -/
theorem out_dx_algebraic : Cert.algebraic_Kernel12Ideal_Reference12Ideal := by
  intro m ρ m' ρ' _ hag
  refine ⟨fun c => (Cert.Kernel12Ideal.Gen.dats m 0 c).arrAt 2 Cert.Kernel12Ideal.cfg0.N, Cert.Kernel12Ideal.Value.run_blocks m ρ,
    (θ_run _ _ _).mono (fun r h c => ?_) (Cert.Reference12Ideal.Value.run m' ρ')⟩
  obtain ⟨a0, a1⟩ := hag c
  obtain ⟨r0, k0, k1⟩ := h c
  refine ⟨r0.trans ?_, k0, k1⟩
  rw [Cert.Reference12Ideal.Read.val_main_v3_eq, a0, a1]
  exact (out_dx_eq m c).symm

/-- The reference's frame. -/
theorem out_dx_reference_frame : Cert.quiescent_Reference12Ideal := fun m ρ _ =>
  (θ_run _ _ _).mono (fun r h => ⟨fun c => (h c).2, sem_eq_zero_of_no_sems (by decide) r.2⟩) (Cert.Reference12Ideal.Value.run m ρ)

end Cert.Proof

/-! ### The gradient of the gate's input -/

namespace Cert.Kernel13Ideal.Prod

open Cert.Kernel13Ideal Cert.Kernel13Ideal.Gen Cert.Kernel13Ideal.Value
open Idealize.ShloMosaic Idealize.ShloMosaic.TcCoe Idealize.SL.Sem
open Idealize.ShloMosaic.Pointwise

/-- The block a point writes, read at an index. -/
theorem pay_at (x : Vec Ideal S1x512x2048 .bf16) (w : Vec Ideal S1x1024x2048 .bf16) (a : Fin 512) (b : Fin 1024) :
    k0_pay1 x w (ix3 0 a b) = ∑ d : Fin 2048, x (ix3 0 a d) * w (ix3 0 b d) := by
  pointwise [k0_pay1]

/-- The block indices of the windows at a point. -/
theorem idx : ∀ t : Fin cfg0.N,
    win0_0.index t = ![0, t.val, 0] ∧ win0_1.index t = ![0, 0, 0] ∧ win0_2.index t = ![0, t.val, 0] :=
  (by decide +kernel : ∀ t : Fin grid0.N, _)

theorem lt_grid (t : Fin cfg0.N) : t.val < 4 := lt_of_lt_of_eq t.isLt (show cfg0.N = 4 from N_0)

variable (m : (ℓ : Loc nD τ sig) → Buf (Elt Ideal) ℓ) (c : Dev nD)

/-- The arguments' arrays. -/
abbrev X0 : FVec Ideal S2048x2048 .f32 := m ((c : Thread nD τ).loc main_arg0)
abbrev X1 : FVec Ideal S1024x2048 .f32 := m ((c : Thread nD τ).loc main_arg1)

theorem left : (V m c main_v2 : FVec Ideal S1x2048x2048 .bf16) = broadcastInDim S1x2048x2048 ![1, 2] bcast_S2048x2048_S1x2048x2048_1_2 (truncf .bf16 (X0 m c) bitsLt_bf16_f32) := by
  unfold V
  simp only [hostOps0, List.flatten_cons, List.flatten_nil, List.append_nil, List.cons_append, List.nil_append]
  entry_read
  rfl

theorem right : (V m c main_v3 : FVec Ideal S1x1024x2048 .bf16) = broadcastInDim S1x1024x2048 ![1, 2] bcast_S1024x2048_S1x1024x2048_1_2 (truncf .bf16 (X1 m c) bitsLt_bf16_f32) := by
  unfold V
  simp only [hostOps0, List.flatten_cons, List.flatten_nil, List.append_nil, List.cons_append, List.nil_append]
  entry_read
  rfl

variable (t : Fin cfg0.N)

theorem blk0 (a : Fin 512) (d : Fin 2048) : iblk m c 0 t (ix3 0 a d) = X0 m c (ix2 ⟨t.val * 512 + a.val, by have := lt_grid t; omega⟩ d) := by
  obtain ⟨e0, _, _⟩ := idx t
  have e : iblk m c 0 t (ix3 0 a d) = V m c main_v2 (ix3 0 ⟨t.val * 512 + a.val, by have := lt_grid t; omega⟩ d) := by
    blk_point [iblk, e0]
  rw [e]
  refine (congrFun (left m c) _).trans ?_
  pointwise

theorem blk1 (b : Fin 1024) (d : Fin 2048) : iblk m c 1 t (ix3 0 b d) = X1 m c (ix2 b d) := by
  obtain ⟨_, e1, _⟩ := idx t
  have e : iblk m c 1 t (ix3 0 b d) = V m c main_v3 (ix3 0 b d) := by
    blk_point [iblk, e1]
  rw [e]
  refine (congrFun (right m c) _).trans ?_
  pointwise

/-- An entry of the array the call leaves. -/
theorem out_at (r : Fin 2048) (e : Fin 1024) : (dats m 0 c).arrAt 2 cfg0.N (ix3 0 r e) = ∑ d : Fin 2048, X0 m c (ix2 r d) * X1 m c (ix2 e d) := by
  obtain ⟨t, hv⟩ : ∃ t : Fin cfg0.N, t.val = r.val / 512 := ⟨⟨_, lt_of_lt_of_eq (by omega) N_0.symm⟩, rfl⟩
  have hi : ((cfg0.win 2).blk t).view.emb (ix3 0 (⟨r.val % 512, by omega⟩ : Fin 512) e) = ix3 0 r e := by
    obtain ⟨_, _, e2⟩ := idx t
    funext k; apply Fin.ext
    match k with
    | ⟨0, _⟩ => show win0_2.index t 0 * 1 + 1 * 0 = 0; rw [e2]; rfl
    | ⟨1, _⟩ => show win0_2.index t 1 * 512 + 1 * (r.val % 512) = r.val; rw [e2]; show t.val * 512 + 1 * (r.val % 512) = r.val; omega
    | ⟨2, _⟩ => show win0_2.index t 2 * 1024 + 1 * (e.val) = e.val; rw [e2]; show 0 * 1024 + 1 * (e.val) = e.val; omega
  refine (congrArg ((dats m 0 c).arrAt 2 cfg0.N) hi.symm).trans
    (((dats m 0 c).arrAt_emb_eq_flushed 2 disjoint2 t (flush0_2 t) _).trans ((congrFun (flushed2 m c t) _).trans ?_))
  have ho : out0_2 (iblk m c 0 t) (iblk m c 1 t) = k0_pay1 (iblk m c 0 t) (iblk m c 1 t) := by
    unfold out0_2; frame_out
  refine (congrFun ho _).trans ((pay_at _ _ _ _).trans (Finset.sum_congr rfl fun d _ => ?_))
  refine congrArg₂ (fun x y : EReal => x * y) ((blk0 m c t _ d).trans ?_) ((blk1 m c t _ d).trans ?_)
  · exact congrArg (fun k => X0 m c (ix2 k d)) (Fin.ext (by show t.val * 512 + r.val % 512 = r.val; omega))
  · rfl

end Cert.Kernel13Ideal.Prod

namespace Cert.Reference13Ideal.Prod

open Cert.Reference13Ideal Cert.Reference13Ideal.Gen Cert.Reference13Ideal.Read
open Idealize.ShloMosaic Idealize.ShloMosaic.Pointwise

theorem ref_at (x0 : FVec Ideal S2048x2048 .f32) (x1 : FVec Ideal S1024x2048 .f32) (r : Fin 2048) (e : Fin 1024) :
    (val_main_v3 (F := Ideal) x0 x1 (ix3 0 r e) : EReal) = ∑ d : Fin 2048, x0 (ix2 r d) * x1 (ix2 e d) := by
  pointwise [val_main_v3, val_main_v2, val_main_v1, val_main_v0]

end Cert.Reference13Ideal.Prod

namespace Cert.Proof

open Idealize.ShloMosaic Idealize.SL.Sem Idealize.ShloMosaic.Pointwise

/-- The call's array is the reference's. -/
theorem glu_dx_eq (m : (ℓ : Loc Cert.Kernel13Ideal.nD Cert.Kernel13Ideal.τ Cert.Kernel13Ideal.sig) → Buf (Elt Ideal) ℓ) (c : Dev Cert.Kernel13Ideal.nD) :
    (Cert.Kernel13Ideal.Gen.dats m 0 c).arrAt 2 Cert.Kernel13Ideal.cfg0.N
      = Cert.Reference13Ideal.Read.val_main_v3 (F := Ideal) (Cert.Kernel13Ideal.Prod.X0 m c) (Cert.Kernel13Ideal.Prod.X1 m c) := by
  funext i
  obtain ⟨r, e, rfl⟩ := Prod.split i
  exact (Cert.Kernel13Ideal.Prod.out_at m c r e).trans (Cert.Reference13Ideal.Prod.ref_at _ _ r e).symm

/-- The value claim of the call. -/
theorem glu_dx_algebraic : Cert.algebraic_Kernel13Ideal_Reference13Ideal := by
  intro m ρ m' ρ' _ hag
  refine ⟨fun c => (Cert.Kernel13Ideal.Gen.dats m 0 c).arrAt 2 Cert.Kernel13Ideal.cfg0.N, Cert.Kernel13Ideal.Value.run_blocks m ρ,
    (θ_run _ _ _).mono (fun r h c => ?_) (Cert.Reference13Ideal.Value.run m' ρ')⟩
  obtain ⟨a0, a1⟩ := hag c
  obtain ⟨r0, k0, k1⟩ := h c
  refine ⟨r0.trans ?_, k0, k1⟩
  rw [Cert.Reference13Ideal.Read.val_main_v3_eq, a0, a1]
  exact (glu_dx_eq m c).symm

/-- The reference's frame. -/
theorem glu_dx_reference_frame : Cert.quiescent_Reference13Ideal := fun m ρ _ =>
  (θ_run _ _ _).mono (fun r h => ⟨fun c => (h c).2, sem_eq_zero_of_no_sems (by decide) r.2⟩) (Cert.Reference13Ideal.Value.run m ρ)

end Cert.Proof

end
-- ==== Proof.ProdWeights.lean ====
/-
  The gradients of the products' weights: entry by entry, the call's array and the reference's are the same sum over the
  tokens.
-/
module

public import proofs.«01_k».proof.Defs
public import proofs.«01_k».proof.Proof.Gen.Pre_finite
public import proofs.«01_k».proof.Proof.Gen.Kernel14Ideal.Value
public import proofs.«01_k».proof.Proof.Gen.Reference14Ideal.Read
public import proofs.«01_k».proof.Proof.Gen.Kernel15Ideal.Value
public import proofs.«01_k».proof.Proof.Gen.Reference15Ideal.Read
public import proofs.«01_k».proof.Proof.Gen.Kernel16Ideal.Value
public import proofs.«01_k».proof.Proof.Gen.Reference16Ideal.Read
public import proofs.«01_k».proof.Proof.Gen.Kernel17Ideal.Value
public import proofs.«01_k».proof.Proof.Gen.Reference17Ideal.Read
public import proofs.«01_k».proof.Proof.ProdIndex
public import Idealize.ShloMosaic.Lib.Pointwise
public import Idealize.ShloMosaic.Lib.Pipeline.ValueKit
public import Idealize.ShloMosaic.Lib.StableHlo.ReadAt
public import Idealize.ShloMosaic.Lib.Claim

@[expose] public section

set_option maxRecDepth 16384

noncomputable section

/-! ### The gradient of the output projection's weights -/

namespace Cert.Kernel14Ideal.Prod

open Cert.Kernel14Ideal Cert.Kernel14Ideal.Gen Cert.Kernel14Ideal.Value
open Idealize.ShloMosaic Idealize.ShloMosaic.TcCoe Idealize.SL.Sem
open Idealize.ShloMosaic.Pointwise

/-- The block a point writes, read at an index. -/
theorem pay_at (x : Vec Ideal S1x2048x512 .bf16) (w : Vec Ideal S1x2048x1024 .f32) (a : Fin 512) (b : Fin 1024) :
    k0_pay1 x w (ix3 0 a b) = ∑ d : Fin 2048, x (ix3 0 d a) * w (ix3 0 d b) := by
  pointwise [k0_pay1]

/-- The block indices of the windows at a point. -/
theorem idx : ∀ t : Fin cfg0.N,
    win0_0.index t = ![0, 0, t.val / 2] ∧ win0_1.index t = ![0, 0, t.val % 2] ∧ win0_2.index t = ![0, t.val / 2, t.val % 2] :=
  (by decide +kernel : ∀ t : Fin grid0.N, _)

theorem lt_grid (t : Fin cfg0.N) : t.val < 8 := lt_of_lt_of_eq t.isLt (show cfg0.N = 8 from N_0)

variable (m : (ℓ : Loc nD τ sig) → Buf (Elt Ideal) ℓ) (c : Dev nD)

/-- The arguments' arrays. -/
abbrev X0 : FVec Ideal S2048x2048 .f32 := m ((c : Thread nD τ).loc main_arg0)
abbrev X1 : FVec Ideal S2048x2048 .f32 := m ((c : Thread nD τ).loc main_arg1)

theorem left : (V m c main_v1 : FVec Ideal S1x2048x2048 .bf16) = broadcastInDim S1x2048x2048 ![1, 2] bcast_S2048x2048_S1x2048x2048_1_2 (truncf .bf16 (X0 m c) bitsLt_bf16_f32) := by
  unfold V
  simp only [hostOps0, List.flatten_cons, List.flatten_nil, List.append_nil, List.cons_append, List.nil_append]
  entry_read
  rfl

theorem right : (V m c main_v2 : FVec Ideal S1x2048x2048 .f32) = broadcastInDim S1x2048x2048 ![1, 2] bcast_S2048x2048_S1x2048x2048_1_2 (X1 m c) := by
  unfold V
  simp only [hostOps0, List.flatten_cons, List.flatten_nil, List.append_nil, List.cons_append, List.nil_append]
  entry_read
  rfl

variable (t : Fin cfg0.N)

theorem blk0 (a : Fin 512) (d : Fin 2048) : iblk m c 0 t (ix3 0 d a) = X0 m c (ix2 d ⟨t.val / 2 * 512 + a.val, by have := lt_grid t; omega⟩) := by
  obtain ⟨e0, _, _⟩ := idx t
  have e : iblk m c 0 t (ix3 0 d a) = V m c main_v1 (ix3 0 d ⟨t.val / 2 * 512 + a.val, by have := lt_grid t; omega⟩) := by
    blk_point [iblk, e0]
  rw [e]
  refine (congrFun (left m c) _).trans ?_
  pointwise

theorem blk1 (b : Fin 1024) (d : Fin 2048) : iblk m c 1 t (ix3 0 d b) = X1 m c (ix2 d ⟨t.val % 2 * 1024 + b.val, by omega⟩) := by
  obtain ⟨_, e1, _⟩ := idx t
  have e : iblk m c 1 t (ix3 0 d b) = V m c main_v2 (ix3 0 d ⟨t.val % 2 * 1024 + b.val, by omega⟩) := by
    blk_point [iblk, e1]
  rw [e]
  refine (congrFun (right m c) _).trans ?_
  pointwise

/-- An entry of the array the call leaves. -/
theorem out_at (r : Fin 2048) (e : Fin 2048) : (dats m 0 c).arrAt 2 cfg0.N (ix3 0 r e) = ∑ d : Fin 2048, X0 m c (ix2 d r) * X1 m c (ix2 d e) := by
  obtain ⟨t, hv⟩ : ∃ t : Fin cfg0.N, t.val = r.val / 512 * 2 + e.val / 1024 := ⟨⟨_, lt_of_lt_of_eq (by omega) N_0.symm⟩, rfl⟩
  have hi : ((cfg0.win 2).blk t).view.emb (ix3 0 (⟨r.val % 512, by omega⟩ : Fin 512) (⟨e.val % 1024, by omega⟩ : Fin 1024)) = ix3 0 r e := by
    obtain ⟨_, _, e2⟩ := idx t
    funext k; apply Fin.ext
    match k with
    | ⟨0, _⟩ => show win0_2.index t 0 * 1 + 1 * 0 = 0; rw [e2]; rfl
    | ⟨1, _⟩ => show win0_2.index t 1 * 512 + 1 * (r.val % 512) = r.val; rw [e2]; show t.val / 2 * 512 + 1 * (r.val % 512) = r.val; omega
    | ⟨2, _⟩ => show win0_2.index t 2 * 1024 + 1 * (e.val % 1024) = e.val; rw [e2]; show t.val % 2 * 1024 + 1 * (e.val % 1024) = e.val; omega
  refine (congrArg ((dats m 0 c).arrAt 2 cfg0.N) hi.symm).trans
    (((dats m 0 c).arrAt_emb_eq_flushed 2 disjoint2 t (flush0_2 t) _).trans ((congrFun (flushed2 m c t) _).trans ?_))
  have ho : out0_2 (iblk m c 0 t) (iblk m c 1 t) = k0_pay1 (iblk m c 0 t) (iblk m c 1 t) := by
    unfold out0_2; frame_out
  refine (congrFun ho _).trans ((pay_at _ _ _ _).trans (Finset.sum_congr rfl fun d _ => ?_))
  refine congrArg₂ (fun x y : EReal => x * y) ((blk0 m c t _ d).trans ?_) ((blk1 m c t _ d).trans ?_)
  · exact congrArg (fun k => X0 m c (ix2 d k)) (Fin.ext (by show t.val / 2 * 512 + r.val % 512 = r.val; omega))
  · exact congrArg (fun k => X1 m c (ix2 d k)) (Fin.ext (by show t.val % 2 * 1024 + e.val % 1024 = e.val; omega))

end Cert.Kernel14Ideal.Prod

namespace Cert.Reference14Ideal.Prod

open Cert.Reference14Ideal Cert.Reference14Ideal.Gen Cert.Reference14Ideal.Read
open Idealize.ShloMosaic Idealize.ShloMosaic.Pointwise

theorem ref_at (x0 : FVec Ideal S2048x2048 .f32) (x1 : FVec Ideal S2048x2048 .f32) (r : Fin 2048) (e : Fin 2048) :
    (val_main_v5 (F := Ideal) x0 x1 (ix3 0 r e) : EReal) = ∑ d : Fin 2048, x0 (ix2 d r) * x1 (ix2 d e) := by
  have h : (val_main_v5 (F := Ideal) x0 x1 (ix3 0 r e) : EReal) = ∑ d : Fin 2048, x1 (ix2 d e) * x0 (ix2 d r) := by
    pointwise [val_main_v5, val_main_v4, val_main_v3, val_main_v2, val_main_v1, val_main_v0]
  exact h.trans (Finset.sum_congr rfl fun d _ => mul_comm _ _)

end Cert.Reference14Ideal.Prod

namespace Cert.Proof

open Idealize.ShloMosaic Idealize.SL.Sem Idealize.ShloMosaic.Pointwise

/-- The call's array is the reference's. -/
theorem out_dw_eq (m : (ℓ : Loc Cert.Kernel14Ideal.nD Cert.Kernel14Ideal.τ Cert.Kernel14Ideal.sig) → Buf (Elt Ideal) ℓ) (c : Dev Cert.Kernel14Ideal.nD) :
    (Cert.Kernel14Ideal.Gen.dats m 0 c).arrAt 2 Cert.Kernel14Ideal.cfg0.N
      = Cert.Reference14Ideal.Read.val_main_v5 (F := Ideal) (Cert.Kernel14Ideal.Prod.X0 m c) (Cert.Kernel14Ideal.Prod.X1 m c) := by
  funext i
  obtain ⟨r, e, rfl⟩ := Prod.split i
  exact (Cert.Kernel14Ideal.Prod.out_at m c r e).trans (Cert.Reference14Ideal.Prod.ref_at _ _ r e).symm

/-- The value claim of the call. -/
theorem out_dw_algebraic : Cert.algebraic_Kernel14Ideal_Reference14Ideal := by
  intro m ρ m' ρ' _ hag
  refine ⟨fun c => (Cert.Kernel14Ideal.Gen.dats m 0 c).arrAt 2 Cert.Kernel14Ideal.cfg0.N, Cert.Kernel14Ideal.Value.run_blocks m ρ,
    (θ_run _ _ _).mono (fun r h c => ?_) (Cert.Reference14Ideal.Value.run m' ρ')⟩
  obtain ⟨a0, a1⟩ := hag c
  obtain ⟨r0, k0, k1⟩ := h c
  refine ⟨r0.trans ?_, k0, k1⟩
  rw [Cert.Reference14Ideal.Read.val_main_v5_eq, a0, a1]
  exact (out_dw_eq m c).symm

/-- The reference's frame. -/
theorem out_dw_reference_frame : Cert.quiescent_Reference14Ideal := fun m ρ _ =>
  (θ_run _ _ _).mono (fun r h => ⟨fun c => (h c).2, sem_eq_zero_of_no_sems (by decide) r.2⟩) (Cert.Reference14Ideal.Value.run m ρ)

end Cert.Proof

/-! ### The gradient of the gate's weights -/

namespace Cert.Kernel15Ideal.Prod

open Cert.Kernel15Ideal Cert.Kernel15Ideal.Gen Cert.Kernel15Ideal.Value
open Idealize.ShloMosaic Idealize.ShloMosaic.TcCoe Idealize.SL.Sem
open Idealize.ShloMosaic.Pointwise

/-- The block a point writes, read at an index. -/
theorem pay_at (x : Vec Ideal S1x2048x512 .bf16) (w : Vec Ideal S1x2048x1024 .bf16) (a : Fin 512) (b : Fin 1024) :
    k0_pay1 x w (ix3 0 a b) = ∑ d : Fin 2048, x (ix3 0 d a) * w (ix3 0 d b) := by
  pointwise [k0_pay1]

/-- The block indices of the windows at a point. -/
theorem idx : ∀ t : Fin cfg0.N,
    win0_0.index t = ![0, 0, t.val / 2] ∧ win0_1.index t = ![0, 0, t.val % 2] ∧ win0_2.index t = ![0, t.val / 2, t.val % 2] :=
  (by decide +kernel : ∀ t : Fin grid0.N, _)

theorem lt_grid (t : Fin cfg0.N) : t.val < 4 := lt_of_lt_of_eq t.isLt (show cfg0.N = 4 from N_0)

variable (m : (ℓ : Loc nD τ sig) → Buf (Elt Ideal) ℓ) (c : Dev nD)

/-- The arguments' arrays. -/
abbrev X0 : FVec Ideal S2048x1024 .f32 := m ((c : Thread nD τ).loc main_arg0)
abbrev X1 : FVec Ideal S2048x2048 .f32 := m ((c : Thread nD τ).loc main_arg1)

theorem left : (V m c main_v2 : FVec Ideal S1x2048x1024 .bf16) = broadcastInDim S1x2048x1024 ![1, 2] bcast_S2048x1024_S1x2048x1024_1_2 (truncf .bf16 (X0 m c) bitsLt_bf16_f32) := by
  unfold V
  simp only [hostOps0, List.flatten_cons, List.flatten_nil, List.append_nil, List.cons_append, List.nil_append]
  entry_read
  rfl

theorem right : (V m c main_v3 : FVec Ideal S1x2048x2048 .bf16) = broadcastInDim S1x2048x2048 ![1, 2] bcast_S2048x2048_S1x2048x2048_1_2 (truncf .bf16 (X1 m c) bitsLt_bf16_f32) := by
  unfold V
  simp only [hostOps0, List.flatten_cons, List.flatten_nil, List.append_nil, List.cons_append, List.nil_append]
  entry_read
  rfl

variable (t : Fin cfg0.N)

theorem blk0 (a : Fin 512) (d : Fin 2048) : iblk m c 0 t (ix3 0 d a) = X0 m c (ix2 d ⟨t.val / 2 * 512 + a.val, by have := lt_grid t; omega⟩) := by
  obtain ⟨e0, _, _⟩ := idx t
  have e : iblk m c 0 t (ix3 0 d a) = V m c main_v2 (ix3 0 d ⟨t.val / 2 * 512 + a.val, by have := lt_grid t; omega⟩) := by
    blk_point [iblk, e0]
  rw [e]
  refine (congrFun (left m c) _).trans ?_
  pointwise

theorem blk1 (b : Fin 1024) (d : Fin 2048) : iblk m c 1 t (ix3 0 d b) = X1 m c (ix2 d ⟨t.val % 2 * 1024 + b.val, by omega⟩) := by
  obtain ⟨_, e1, _⟩ := idx t
  have e : iblk m c 1 t (ix3 0 d b) = V m c main_v3 (ix3 0 d ⟨t.val % 2 * 1024 + b.val, by omega⟩) := by
    blk_point [iblk, e1]
  rw [e]
  refine (congrFun (right m c) _).trans ?_
  pointwise

/-- An entry of the array the call leaves. -/
theorem out_at (r : Fin 1024) (e : Fin 2048) : (dats m 0 c).arrAt 2 cfg0.N (ix3 0 r e) = ∑ d : Fin 2048, X0 m c (ix2 d r) * X1 m c (ix2 d e) := by
  obtain ⟨t, hv⟩ : ∃ t : Fin cfg0.N, t.val = r.val / 512 * 2 + e.val / 1024 := ⟨⟨_, lt_of_lt_of_eq (by omega) N_0.symm⟩, rfl⟩
  have hi : ((cfg0.win 2).blk t).view.emb (ix3 0 (⟨r.val % 512, by omega⟩ : Fin 512) (⟨e.val % 1024, by omega⟩ : Fin 1024)) = ix3 0 r e := by
    obtain ⟨_, _, e2⟩ := idx t
    funext k; apply Fin.ext
    match k with
    | ⟨0, _⟩ => show win0_2.index t 0 * 1 + 1 * 0 = 0; rw [e2]; rfl
    | ⟨1, _⟩ => show win0_2.index t 1 * 512 + 1 * (r.val % 512) = r.val; rw [e2]; show t.val / 2 * 512 + 1 * (r.val % 512) = r.val; omega
    | ⟨2, _⟩ => show win0_2.index t 2 * 1024 + 1 * (e.val % 1024) = e.val; rw [e2]; show t.val % 2 * 1024 + 1 * (e.val % 1024) = e.val; omega
  refine (congrArg ((dats m 0 c).arrAt 2 cfg0.N) hi.symm).trans
    (((dats m 0 c).arrAt_emb_eq_flushed 2 disjoint2 t (flush0_2 t) _).trans ((congrFun (flushed2 m c t) _).trans ?_))
  have ho : out0_2 (iblk m c 0 t) (iblk m c 1 t) = k0_pay1 (iblk m c 0 t) (iblk m c 1 t) := by
    unfold out0_2; frame_out
  refine (congrFun ho _).trans ((pay_at _ _ _ _).trans (Finset.sum_congr rfl fun d _ => ?_))
  refine congrArg₂ (fun x y : EReal => x * y) ((blk0 m c t _ d).trans ?_) ((blk1 m c t _ d).trans ?_)
  · exact congrArg (fun k => X0 m c (ix2 d k)) (Fin.ext (by show t.val / 2 * 512 + r.val % 512 = r.val; omega))
  · exact congrArg (fun k => X1 m c (ix2 d k)) (Fin.ext (by show t.val % 2 * 1024 + e.val % 1024 = e.val; omega))

end Cert.Kernel15Ideal.Prod

namespace Cert.Reference15Ideal.Prod

open Cert.Reference15Ideal Cert.Reference15Ideal.Gen Cert.Reference15Ideal.Read
open Idealize.ShloMosaic Idealize.ShloMosaic.Pointwise

theorem ref_at (x0 : FVec Ideal S2048x1024 .f32) (x1 : FVec Ideal S2048x2048 .f32) (r : Fin 1024) (e : Fin 2048) :
    (val_main_v5 (F := Ideal) x0 x1 (ix3 0 r e) : EReal) = ∑ d : Fin 2048, x0 (ix2 d r) * x1 (ix2 d e) := by
  have h : (val_main_v5 (F := Ideal) x0 x1 (ix3 0 r e) : EReal) = ∑ d : Fin 2048, x1 (ix2 d e) * x0 (ix2 d r) := by
    pointwise [val_main_v5, val_main_v4, val_main_v3, val_main_v2, val_main_v1, val_main_v0]
  exact h.trans (Finset.sum_congr rfl fun d _ => mul_comm _ _)

end Cert.Reference15Ideal.Prod

namespace Cert.Proof

open Idealize.ShloMosaic Idealize.SL.Sem Idealize.ShloMosaic.Pointwise

/-- The call's array is the reference's. -/
theorem glu_dw_eq (m : (ℓ : Loc Cert.Kernel15Ideal.nD Cert.Kernel15Ideal.τ Cert.Kernel15Ideal.sig) → Buf (Elt Ideal) ℓ) (c : Dev Cert.Kernel15Ideal.nD) :
    (Cert.Kernel15Ideal.Gen.dats m 0 c).arrAt 2 Cert.Kernel15Ideal.cfg0.N
      = Cert.Reference15Ideal.Read.val_main_v5 (F := Ideal) (Cert.Kernel15Ideal.Prod.X0 m c) (Cert.Kernel15Ideal.Prod.X1 m c) := by
  funext i
  obtain ⟨r, e, rfl⟩ := Prod.split i
  exact (Cert.Kernel15Ideal.Prod.out_at m c r e).trans (Cert.Reference15Ideal.Prod.ref_at _ _ r e).symm

/-- The value claim of the call. -/
theorem glu_dw_algebraic : Cert.algebraic_Kernel15Ideal_Reference15Ideal := by
  intro m ρ m' ρ' _ hag
  refine ⟨fun c => (Cert.Kernel15Ideal.Gen.dats m 0 c).arrAt 2 Cert.Kernel15Ideal.cfg0.N, Cert.Kernel15Ideal.Value.run_blocks m ρ,
    (θ_run _ _ _).mono (fun r h c => ?_) (Cert.Reference15Ideal.Value.run m' ρ')⟩
  obtain ⟨a0, a1⟩ := hag c
  obtain ⟨r0, k0, k1⟩ := h c
  refine ⟨r0.trans ?_, k0, k1⟩
  rw [Cert.Reference15Ideal.Read.val_main_v5_eq, a0, a1]
  exact (glu_dw_eq m c).symm

/-- The reference's frame. -/
theorem glu_dw_reference_frame : Cert.quiescent_Reference15Ideal := fun m ρ _ =>
  (θ_run _ _ _).mono (fun r h => ⟨fun c => (h c).2, sem_eq_zero_of_no_sems (by decide) r.2⟩) (Cert.Reference15Ideal.Value.run m ρ)

end Cert.Proof

/-! ### The gradient of the odd layer's projection weights -/

namespace Cert.Kernel16Ideal.Prod

open Cert.Kernel16Ideal Cert.Kernel16Ideal.Gen Cert.Kernel16Ideal.Value
open Idealize.ShloMosaic Idealize.ShloMosaic.TcCoe Idealize.SL.Sem
open Idealize.ShloMosaic.Pointwise

/-- The block a point writes, read at an index. -/
theorem pay_at (x : Vec Ideal S1x2048x512 .f32) (w : Vec Ideal S1x2048x640 .bf16) (a : Fin 512) (b : Fin 640) :
    k0_pay1 x w (ix3 0 a b) = ∑ d : Fin 2048, x (ix3 0 d a) * w (ix3 0 d b) := by
  pointwise [k0_pay1]

/-- The block indices of the windows at a point. -/
theorem idx : ∀ t : Fin cfg0.N,
    win0_0.index t = ![0, 0, t.val / 4] ∧ win0_1.index t = ![0, 0, t.val % 4] ∧ win0_2.index t = ![0, t.val / 4, t.val % 4] :=
  (by decide +kernel : ∀ t : Fin grid0.N, _)

theorem lt_grid (t : Fin cfg0.N) : t.val < 16 := lt_of_lt_of_eq t.isLt (show cfg0.N = 16 from N_0)

variable (m : (ℓ : Loc nD τ sig) → Buf (Elt Ideal) ℓ) (c : Dev nD)

/-- The arguments' arrays. -/
abbrev X0 : FVec Ideal S2048x2048 .f32 := m ((c : Thread nD τ).loc main_arg0)
abbrev X1 : FVec Ideal S2048x2560 .f32 := m ((c : Thread nD τ).loc main_arg1)

theorem left : (V m c main_v1 : FVec Ideal S1x2048x2048 .f32) = broadcastInDim S1x2048x2048 ![1, 2] bcast_S2048x2048_S1x2048x2048_1_2 (X0 m c) := by
  unfold V
  simp only [hostOps0, List.flatten_cons, List.flatten_nil, List.append_nil, List.cons_append, List.nil_append]
  entry_read
  rfl

theorem right : (V m c main_v2 : FVec Ideal S1x2048x2560 .bf16) = broadcastInDim S1x2048x2560 ![1, 2] bcast_S2048x2560_S1x2048x2560_1_2 (truncf .bf16 (X1 m c) bitsLt_bf16_f32) := by
  unfold V
  simp only [hostOps0, List.flatten_cons, List.flatten_nil, List.append_nil, List.cons_append, List.nil_append]
  entry_read
  rfl

variable (t : Fin cfg0.N)

theorem blk0 (a : Fin 512) (d : Fin 2048) : iblk m c 0 t (ix3 0 d a) = X0 m c (ix2 d ⟨t.val / 4 * 512 + a.val, by have := lt_grid t; omega⟩) := by
  obtain ⟨e0, _, _⟩ := idx t
  have e : iblk m c 0 t (ix3 0 d a) = V m c main_v1 (ix3 0 d ⟨t.val / 4 * 512 + a.val, by have := lt_grid t; omega⟩) := by
    blk_point [iblk, e0]
  rw [e]
  refine (congrFun (left m c) _).trans ?_
  pointwise

theorem blk1 (b : Fin 640) (d : Fin 2048) : iblk m c 1 t (ix3 0 d b) = X1 m c (ix2 d ⟨t.val % 4 * 640 + b.val, by omega⟩) := by
  obtain ⟨_, e1, _⟩ := idx t
  have e : iblk m c 1 t (ix3 0 d b) = V m c main_v2 (ix3 0 d ⟨t.val % 4 * 640 + b.val, by omega⟩) := by
    blk_point [iblk, e1]
  rw [e]
  refine (congrFun (right m c) _).trans ?_
  pointwise

/-- An entry of the array the call leaves. -/
theorem out_at (r : Fin 2048) (e : Fin 2560) : (dats m 0 c).arrAt 2 cfg0.N (ix3 0 r e) = ∑ d : Fin 2048, X0 m c (ix2 d r) * X1 m c (ix2 d e) := by
  obtain ⟨t, hv⟩ : ∃ t : Fin cfg0.N, t.val = r.val / 512 * 4 + e.val / 640 := ⟨⟨_, lt_of_lt_of_eq (by omega) N_0.symm⟩, rfl⟩
  have hi : ((cfg0.win 2).blk t).view.emb (ix3 0 (⟨r.val % 512, by omega⟩ : Fin 512) (⟨e.val % 640, by omega⟩ : Fin 640)) = ix3 0 r e := by
    obtain ⟨_, _, e2⟩ := idx t
    funext k; apply Fin.ext
    match k with
    | ⟨0, _⟩ => show win0_2.index t 0 * 1 + 1 * 0 = 0; rw [e2]; rfl
    | ⟨1, _⟩ => show win0_2.index t 1 * 512 + 1 * (r.val % 512) = r.val; rw [e2]; show t.val / 4 * 512 + 1 * (r.val % 512) = r.val; omega
    | ⟨2, _⟩ => show win0_2.index t 2 * 640 + 1 * (e.val % 640) = e.val; rw [e2]; show t.val % 4 * 640 + 1 * (e.val % 640) = e.val; omega
  refine (congrArg ((dats m 0 c).arrAt 2 cfg0.N) hi.symm).trans
    (((dats m 0 c).arrAt_emb_eq_flushed 2 disjoint2 t (flush0_2 t) _).trans ((congrFun (flushed2 m c t) _).trans ?_))
  have ho : out0_2 (iblk m c 0 t) (iblk m c 1 t) = k0_pay1 (iblk m c 0 t) (iblk m c 1 t) := by
    unfold out0_2; frame_out
  refine (congrFun ho _).trans ((pay_at _ _ _ _).trans (Finset.sum_congr rfl fun d _ => ?_))
  refine congrArg₂ (fun x y : EReal => x * y) ((blk0 m c t _ d).trans ?_) ((blk1 m c t _ d).trans ?_)
  · exact congrArg (fun k => X0 m c (ix2 d k)) (Fin.ext (by show t.val / 4 * 512 + r.val % 512 = r.val; omega))
  · exact congrArg (fun k => X1 m c (ix2 d k)) (Fin.ext (by show t.val % 4 * 640 + e.val % 640 = e.val; omega))

end Cert.Kernel16Ideal.Prod

namespace Cert.Reference16Ideal.Prod

open Cert.Reference16Ideal Cert.Reference16Ideal.Gen Cert.Reference16Ideal.Read
open Idealize.ShloMosaic Idealize.ShloMosaic.Pointwise

theorem ref_at (x0 : FVec Ideal S2048x2048 .f32) (x1 : FVec Ideal S2048x2560 .f32) (r : Fin 2048) (e : Fin 2560) :
    (val_main_v5 (F := Ideal) x0 x1 (ix3 0 r e) : EReal) = ∑ d : Fin 2048, x0 (ix2 d r) * x1 (ix2 d e) := by
  have h : (val_main_v5 (F := Ideal) x0 x1 (ix3 0 r e) : EReal) = ∑ d : Fin 2048, x1 (ix2 d e) * x0 (ix2 d r) := by
    pointwise [val_main_v5, val_main_v4, val_main_v3, val_main_v2, val_main_v1, val_main_v0]
  exact h.trans (Finset.sum_congr rfl fun d _ => mul_comm _ _)

end Cert.Reference16Ideal.Prod

namespace Cert.Proof

open Idealize.ShloMosaic Idealize.SL.Sem Idealize.ShloMosaic.Pointwise

/-- The call's array is the reference's. -/
theorem od_dw_eq (m : (ℓ : Loc Cert.Kernel16Ideal.nD Cert.Kernel16Ideal.τ Cert.Kernel16Ideal.sig) → Buf (Elt Ideal) ℓ) (c : Dev Cert.Kernel16Ideal.nD) :
    (Cert.Kernel16Ideal.Gen.dats m 0 c).arrAt 2 Cert.Kernel16Ideal.cfg0.N
      = Cert.Reference16Ideal.Read.val_main_v5 (F := Ideal) (Cert.Kernel16Ideal.Prod.X0 m c) (Cert.Kernel16Ideal.Prod.X1 m c) := by
  funext i
  obtain ⟨r, e, rfl⟩ := Prod.split i
  exact (Cert.Kernel16Ideal.Prod.out_at m c r e).trans (Cert.Reference16Ideal.Prod.ref_at _ _ r e).symm

/-- The value claim of the call. -/
theorem od_dw_algebraic : Cert.algebraic_Kernel16Ideal_Reference16Ideal := by
  intro m ρ m' ρ' _ hag
  refine ⟨fun c => (Cert.Kernel16Ideal.Gen.dats m 0 c).arrAt 2 Cert.Kernel16Ideal.cfg0.N, Cert.Kernel16Ideal.Value.run_blocks m ρ,
    (θ_run _ _ _).mono (fun r h c => ?_) (Cert.Reference16Ideal.Value.run m' ρ')⟩
  obtain ⟨a0, a1⟩ := hag c
  obtain ⟨r0, k0, k1⟩ := h c
  refine ⟨r0.trans ?_, k0, k1⟩
  rw [Cert.Reference16Ideal.Read.val_main_v5_eq, a0, a1]
  exact (od_dw_eq m c).symm

/-- The reference's frame. -/
theorem od_dw_reference_frame : Cert.quiescent_Reference16Ideal := fun m ρ _ =>
  (θ_run _ _ _).mono (fun r h => ⟨fun c => (h c).2, sem_eq_zero_of_no_sems (by decide) r.2⟩) (Cert.Reference16Ideal.Value.run m ρ)

end Cert.Proof

/-! ### The gradient of the even layer's projection weights, transposed -/

namespace Cert.Kernel17Ideal.Prod

open Cert.Kernel17Ideal Cert.Kernel17Ideal.Gen Cert.Kernel17Ideal.Value
open Idealize.ShloMosaic Idealize.ShloMosaic.TcCoe Idealize.SL.Sem
open Idealize.ShloMosaic.Pointwise

/-- The block a point writes, read at an index. -/
theorem pay_at (x : Vec Ideal S1x2048x1024 .bf16) (w : Vec Ideal S1x2048x1024 .f32) (a : Fin 1024) (b : Fin 1024) :
    k0_pay1 x w (ix3 0 a b) = ∑ d : Fin 2048, x (ix3 0 d a) * w (ix3 0 d b) := by
  pointwise [k0_pay1]

/-- The block indices of the windows at a point. -/
theorem idx : ∀ t : Fin cfg0.N,
    win0_0.index t = ![0, 0, t.val / 2] ∧ win0_1.index t = ![0, 0, t.val % 2] ∧ win0_2.index t = ![0, t.val / 2, t.val % 2] :=
  (by decide +kernel : ∀ t : Fin grid0.N, _)

theorem lt_grid (t : Fin cfg0.N) : t.val < 8 := lt_of_lt_of_eq t.isLt (show cfg0.N = 8 from N_0)

variable (m : (ℓ : Loc nD τ sig) → Buf (Elt Ideal) ℓ) (c : Dev nD)

/-- The arguments' arrays. -/
abbrev X0 : FVec Ideal S2048x4096 .f32 := m ((c : Thread nD τ).loc main_arg0)
abbrev X1 : FVec Ideal S2048x2048 .f32 := m ((c : Thread nD τ).loc main_arg1)

theorem left : (V m c main_v1 : FVec Ideal S1x2048x4096 .bf16) = broadcastInDim S1x2048x4096 ![1, 2] bcast_S2048x4096_S1x2048x4096_1_2 (truncf .bf16 (X0 m c) bitsLt_bf16_f32) := by
  unfold V
  simp only [hostOps0, List.flatten_cons, List.flatten_nil, List.append_nil, List.cons_append, List.nil_append]
  entry_read
  rfl

theorem right : (V m c main_v2 : FVec Ideal S1x2048x2048 .f32) = broadcastInDim S1x2048x2048 ![1, 2] bcast_S2048x2048_S1x2048x2048_1_2 (X1 m c) := by
  unfold V
  simp only [hostOps0, List.flatten_cons, List.flatten_nil, List.append_nil, List.cons_append, List.nil_append]
  entry_read
  rfl

variable (t : Fin cfg0.N)

theorem blk0 (a : Fin 1024) (d : Fin 2048) : iblk m c 0 t (ix3 0 d a) = X0 m c (ix2 d ⟨t.val / 2 * 1024 + a.val, by have := lt_grid t; omega⟩) := by
  obtain ⟨e0, _, _⟩ := idx t
  have e : iblk m c 0 t (ix3 0 d a) = V m c main_v1 (ix3 0 d ⟨t.val / 2 * 1024 + a.val, by have := lt_grid t; omega⟩) := by
    blk_point [iblk, e0]
  rw [e]
  refine (congrFun (left m c) _).trans ?_
  pointwise

theorem blk1 (b : Fin 1024) (d : Fin 2048) : iblk m c 1 t (ix3 0 d b) = X1 m c (ix2 d ⟨t.val % 2 * 1024 + b.val, by omega⟩) := by
  obtain ⟨_, e1, _⟩ := idx t
  have e : iblk m c 1 t (ix3 0 d b) = V m c main_v2 (ix3 0 d ⟨t.val % 2 * 1024 + b.val, by omega⟩) := by
    blk_point [iblk, e1]
  rw [e]
  refine (congrFun (right m c) _).trans ?_
  pointwise

/-- An entry of the array the call leaves. -/
theorem out_at (r : Fin 4096) (e : Fin 2048) : (dats m 0 c).arrAt 2 cfg0.N (ix3 0 r e) = ∑ d : Fin 2048, X0 m c (ix2 d r) * X1 m c (ix2 d e) := by
  obtain ⟨t, hv⟩ : ∃ t : Fin cfg0.N, t.val = r.val / 1024 * 2 + e.val / 1024 := ⟨⟨_, lt_of_lt_of_eq (by omega) N_0.symm⟩, rfl⟩
  have hi : ((cfg0.win 2).blk t).view.emb (ix3 0 (⟨r.val % 1024, by omega⟩ : Fin 1024) (⟨e.val % 1024, by omega⟩ : Fin 1024)) = ix3 0 r e := by
    obtain ⟨_, _, e2⟩ := idx t
    funext k; apply Fin.ext
    match k with
    | ⟨0, _⟩ => show win0_2.index t 0 * 1 + 1 * 0 = 0; rw [e2]; rfl
    | ⟨1, _⟩ => show win0_2.index t 1 * 1024 + 1 * (r.val % 1024) = r.val; rw [e2]; show t.val / 2 * 1024 + 1 * (r.val % 1024) = r.val; omega
    | ⟨2, _⟩ => show win0_2.index t 2 * 1024 + 1 * (e.val % 1024) = e.val; rw [e2]; show t.val % 2 * 1024 + 1 * (e.val % 1024) = e.val; omega
  refine (congrArg ((dats m 0 c).arrAt 2 cfg0.N) hi.symm).trans
    (((dats m 0 c).arrAt_emb_eq_flushed 2 disjoint2 t (flush0_2 t) _).trans ((congrFun (flushed2 m c t) _).trans ?_))
  have ho : out0_2 (iblk m c 0 t) (iblk m c 1 t) = k0_pay1 (iblk m c 0 t) (iblk m c 1 t) := by
    unfold out0_2; frame_out
  refine (congrFun ho _).trans ((pay_at _ _ _ _).trans (Finset.sum_congr rfl fun d _ => ?_))
  refine congrArg₂ (fun x y : EReal => x * y) ((blk0 m c t _ d).trans ?_) ((blk1 m c t _ d).trans ?_)
  · exact congrArg (fun k => X0 m c (ix2 d k)) (Fin.ext (by show t.val / 2 * 1024 + r.val % 1024 = r.val; omega))
  · exact congrArg (fun k => X1 m c (ix2 d k)) (Fin.ext (by show t.val % 2 * 1024 + e.val % 1024 = e.val; omega))

end Cert.Kernel17Ideal.Prod

namespace Cert.Reference17Ideal.Prod

open Cert.Reference17Ideal Cert.Reference17Ideal.Gen Cert.Reference17Ideal.Read
open Idealize.ShloMosaic Idealize.ShloMosaic.Pointwise

theorem ref_at (x0 : FVec Ideal S2048x4096 .f32) (x1 : FVec Ideal S2048x2048 .f32) (r : Fin 4096) (e : Fin 2048) :
    (val_main_v6 (F := Ideal) x0 x1 (ix3 0 r e) : EReal) = ∑ d : Fin 2048, x0 (ix2 d r) * x1 (ix2 d e) := by
  pointwise [val_main_v6, val_main_v5, val_main_v4, val_main_v3, val_main_v2, val_main_v1, val_main_v0]

end Cert.Reference17Ideal.Prod

namespace Cert.Proof

open Idealize.ShloMosaic Idealize.SL.Sem Idealize.ShloMosaic.Pointwise

/-- The call's array is the reference's. -/
theorem ev_dw_eq (m : (ℓ : Loc Cert.Kernel17Ideal.nD Cert.Kernel17Ideal.τ Cert.Kernel17Ideal.sig) → Buf (Elt Ideal) ℓ) (c : Dev Cert.Kernel17Ideal.nD) :
    (Cert.Kernel17Ideal.Gen.dats m 0 c).arrAt 2 Cert.Kernel17Ideal.cfg0.N
      = Cert.Reference17Ideal.Read.val_main_v6 (F := Ideal) (Cert.Kernel17Ideal.Prod.X0 m c) (Cert.Kernel17Ideal.Prod.X1 m c) := by
  funext i
  obtain ⟨r, e, rfl⟩ := Prod.split i
  exact (Cert.Kernel17Ideal.Prod.out_at m c r e).trans (Cert.Reference17Ideal.Prod.ref_at _ _ r e).symm

/-- The value claim of the call. -/
theorem ev_dw_algebraic : Cert.algebraic_Kernel17Ideal_Reference17Ideal := by
  intro m ρ m' ρ' _ hag
  refine ⟨fun c => (Cert.Kernel17Ideal.Gen.dats m 0 c).arrAt 2 Cert.Kernel17Ideal.cfg0.N, Cert.Kernel17Ideal.Value.run_blocks m ρ,
    (θ_run _ _ _).mono (fun r h c => ?_) (Cert.Reference17Ideal.Value.run m' ρ')⟩
  obtain ⟨a0, a1⟩ := hag c
  obtain ⟨r0, k0, k1⟩ := h c
  refine ⟨r0.trans ?_, k0, k1⟩
  rw [Cert.Reference17Ideal.Read.val_main_v6_eq, a0, a1]
  exact (ev_dw_eq m c).symm

/-- The reference's frame. -/
theorem ev_dw_reference_frame : Cert.quiescent_Reference17Ideal := fun m ρ _ =>
  (θ_run _ _ _).mono (fun r h => ⟨fun c => (h c).2, sem_eq_zero_of_no_sems (by decide) r.2⟩) (Cert.Reference17Ideal.Value.run m ρ)

end Cert.Proof

end
-- ==== Proof.ProdDx.lean ====
/-
  The gradients of the two input projections' inputs: each call adds two partial products in a carried accumulator; the
  even layer's also adds the two other gradients of the step's input. Entry by entry the call's array is the reference's.
-/
module

public import proofs.«01_k».proof.Defs
public import proofs.«01_k».proof.Proof.Gen.Pre_finite
public import proofs.«01_k».proof.Proof.Gen.Kernel18Ideal.Value
public import proofs.«01_k».proof.Proof.Gen.Reference18Ideal.Read
public import proofs.«01_k».proof.Proof.Gen.Kernel19Ideal.Value
public import proofs.«01_k».proof.Proof.Gen.Reference19Ideal.Read
public import proofs.«01_k».proof.Proof.ProdIndex
public import proofs.«01_k».proof.Proof.FfnSum
public import Idealize.ShloMosaic.Lib.Pointwise
public import Idealize.ShloMosaic.Lib.Pipeline.ValueKit
public import Idealize.ShloMosaic.Lib.Pipeline.ReadBack
public import Idealize.ShloMosaic.Lib.StableHlo.ReadAt
public import Idealize.ShloMosaic.Lib.Claim

@[expose] public section

set_option maxRecDepth 16384

noncomputable section

/-! ### The gradient of the odd layer's input, by its projection -/

namespace Cert.Kernel18Ideal.Prod

open Cert.Kernel18Ideal Cert.Kernel18Ideal.Gen Cert.Kernel18Ideal.Value
open Idealize.ShloMosaic Idealize.ShloMosaic.TcCoe Idealize.SL.Sem
open Idealize.ShloMosaic.Pointwise

theorem pay2_at (g : Vec Ideal S1x512x1280 .bf16) (w : Vec Ideal S1x1024x1280 .bf16) (s : Fin 512) (d : Fin 1024) :
    k0_pay2 g w (ix2 s d) = ∑ f : Fin 1280, g (ix3 0 s f) * w (ix3 0 d f) := by
  pointwise [k0_pay2, k0_pay1]

theorem pay3_at (g : Vec Ideal S1x512x1280 .bf16) (w : Vec Ideal S1x1024x1280 .bf16) (a : Vec Ideal S512x1024 .f32) (s : Fin 512) (d : Fin 1024) :
    k0_pay3 g w a (ix2 s d) = a (ix2 s d) + ∑ f : Fin 1280, g (ix3 0 s f) * w (ix3 0 d f) := by
  pointwise [k0_pay3, k0_pay1]

theorem pay4_at (a : Vec Ideal S512x1024 .f32) (s : Fin 512) (d : Fin 1024) :
    k0_pay4 a (ix3 0 s d) = a (ix2 s d) := by
  pointwise [k0_pay4]

/-- The block indices of the read windows at a point. -/
theorem idx : ∀ t : Fin cfg0.N,
    win0_0.index t = ![0, t.val / 4, t.val % 2] ∧ win0_1.index t = ![0, t.val / 2 % 2, t.val % 2] :=
  (by decide +kernel : ∀ t : Fin grid0.N, _)

theorem lt16 (t : Fin cfg0.N) : t.val < 16 := lt_of_lt_of_eq t.isLt (show cfg0.N = 16 from N_0)

theorem lt_N {n : ℕ} (h : n < 16) : n < cfg0.N := lt_of_lt_of_eq h N_0.symm

variable (m : (ℓ : Loc nD τ sig) → Buf (Elt Ideal) ℓ) (c : Dev nD)

/-- The arguments' arrays. -/
abbrev X0 : FVec Ideal S2048x2560 .f32 := m ((c : Thread nD τ).loc main_arg0)
abbrev X1 : FVec Ideal S2048x2560 .f32 := m ((c : Thread nD τ).loc main_arg1)

theorem left : (V m c main_v2 : FVec Ideal S1x2048x2560 .bf16) = broadcastInDim S1x2048x2560 ![1, 2] bcast_S2048x2560_S1x2048x2560_1_2 (truncf .bf16 (X0 m c) bitsLt_bf16_f32) := by
  unfold V
  simp only [hostOps0, List.flatten_cons, List.flatten_nil, List.append_nil, List.cons_append, List.nil_append]
  entry_read
  rfl

theorem right : (V m c main_v3 : FVec Ideal S1x2048x2560 .bf16) = broadcastInDim S1x2048x2560 ![1, 2] bcast_S2048x2560_S1x2048x2560_1_2 (truncf .bf16 (X1 m c) bitsLt_bf16_f32) := by
  unfold V
  simp only [hostOps0, List.flatten_cons, List.flatten_nil, List.append_nil, List.cons_append, List.nil_append]
  entry_read
  rfl

variable (t : Fin cfg0.N)

theorem blk0 (s : Fin 512) (f : Fin 1280) : iblk m c 0 t (ix3 0 s f) = X0 m c (ix2 ⟨t.val / 4 * 512 + s.val, by have := lt16 t; omega⟩ ⟨t.val % 2 * 1280 + f.val, by omega⟩) := by
  obtain ⟨e0, e1⟩ := idx t
  have e : iblk m c 0 t (ix3 0 s f) = V m c main_v2 (ix3 0 ⟨t.val / 4 * 512 + s.val, by have := lt16 t; omega⟩ ⟨t.val % 2 * 1280 + f.val, by omega⟩) := by
    blk_point [iblk, e0]
  rw [e]
  refine (congrFun (left m c) _).trans ?_
  pointwise

theorem blk1 (d : Fin 1024) (f : Fin 1280) : iblk m c 1 t (ix3 0 d f) = X1 m c (ix2 ⟨t.val / 2 % 2 * 1024 + d.val, by omega⟩ ⟨t.val % 2 * 1280 + f.val, by omega⟩) := by
  obtain ⟨e0, e1⟩ := idx t
  have e : iblk m c 1 t (ix3 0 d f) = V m c main_v3 (ix3 0 ⟨t.val / 2 % 2 * 1024 + d.val, by omega⟩ ⟨t.val % 2 * 1280 + f.val, by omega⟩) := by
    blk_point [iblk, e1]
  rw [e]
  refine (congrFun (right m c) _).trans ?_
  pointwise

/-- The blocks a point reads. -/
abbrev B0 : Vec Ideal S1x512x1280 .bf16 := iblk m c 0 t
abbrev B1 : Vec Ideal S1x1024x1280 .bf16 := iblk m c 1 t

/-- The state a point starts from and leaves: the result's block and the accumulator. -/
abbrev St : Type := Vec Ideal S1x512x1024 .f32 × Vec Ideal S512x1024 .f32

theorem st_first (acc : St) (h0 : t.val % 2 = 0) : (stAt0 m c t.val t.isLt acc).2 = k0_pay2 (B0 m c t) (B1 m c t) := by
  rw [stAt0_A m c t acc h0 (by omega) (by omega)]; frame_out

theorem st_next (acc : St) (h1 : t.val % 2 = 1) : (stAt0 m c t.val t.isLt acc).2 = k0_pay3 (B0 m c t) (B1 m c t) acc.2 := by
  rw [stAt0_B m c t acc (by omega) h1 h1]; frame_out; rw [read_unread_whole]

theorem st_last (acc : St) (h1 : t.val % 2 = 1) :
    (stAt0 m c t.val t.isLt acc).1 = k0_pay4 (stAt0 m c t.val t.isLt acc).2 := by
  rw [stAt0_B m c t acc (by omega) h1 h1]; frame_out

/-- A point's partial product at an entry of its block. -/
abbrev part (n : ℕ) (hn : n < cfg0.N) (s : Fin 512) (d : Fin 1024) : EReal :=
  ∑ f : Fin 1280, B0 m c ⟨n, hn⟩ (ix3 0 s f) * B1 m c ⟨n, hn⟩ (ix3 0 d f)

theorem acc_first (n : ℕ) (hn : n < cfg0.N) (h : n % 2 = 0) (s : Fin 512) (d : Fin 1024) :
    (outsAt0 m c n hn).2 (ix2 s d) = part m c n hn s d := by
  match n, hn, h with
  | 0, hn, h => rw [outsAt0_zero, st_first m c ⟨0, hn⟩ _ h, pay2_at]
  | n + 1, hn, h => rw [outsAt0_succ, st_first m c ⟨n + 1, hn⟩ _ h, pay2_at]

theorem acc_next (n : ℕ) (hn : n + 1 < cfg0.N) (h : (n + 1) % 2 = 1) (s : Fin 512) (d : Fin 1024) :
    (outsAt0 m c (n + 1) hn).2 (ix2 s d) = (outsAt0 m c n (by omega)).2 (ix2 s d) + part m c (n + 1) hn s d := by
  rw [outsAt0_succ, st_next m c ⟨n + 1, hn⟩ _ h, pay3_at]

/-- What the last point of a run writes back. -/
theorem out_last (n : ℕ) (hn : n + 1 < cfg0.N) (h : n % 2 = 0) (s : Fin 512) (d : Fin 1024) :
    (outsAt0 m c (n + 1) hn).1 (ix3 0 s d) = part m c n (by omega) s d + part m c (n + 1) hn s d := by
  have e : (outsAt0 m c (n + 1) hn).1 = k0_pay4 (outsAt0 m c (n + 1) hn).2 := by
    rw [outsAt0_succ]; exact st_last m c ⟨n + 1, hn⟩ _ (by show (n + 1) % 2 = 1; omega)
  rw [e, pay4_at, acc_next m c n hn (by omega), acc_first m c n (by omega) h]

/-- A point's partial product, over the arguments. -/
theorem part_eq (n o : ℕ) (hn : n < cfg0.N) (s d : Fin 2048) (hs : n / 4 = s.val / 512) (hd : n / 2 % 2 = d.val / 1024)
    (ho : n % 2 * 1280 = o) (hb : o ≤ 1280) :
    part m c n hn ⟨s.val % 512, by omega⟩ ⟨d.val % 1024, by omega⟩
      = ∑ f : Fin 1280, X0 m c (ix2 s ⟨o + f.val, by omega⟩) * X1 m c (ix2 d ⟨o + f.val, by omega⟩) := by
  refine Finset.sum_congr rfl fun f _ => ?_
  have hf : n % 2 * 1280 + f.val = o + f.val := by omega
  refine congrArg₂ (fun x y : EReal => x * y) ((blk0 m c ⟨n, hn⟩ _ f).trans ?_) ((blk1 m c ⟨n, hn⟩ _ f).trans ?_)
  · exact congrArg₂ (fun a b => X0 m c (ix2 a b)) (Fin.ext (by show n / 4 * 512 + s.val % 512 = s.val; omega)) (Fin.ext hf)
  · exact congrArg₂ (fun a b => X1 m c (ix2 a b)) (Fin.ext (by show n / 2 % 2 * 1024 + d.val % 1024 = d.val; omega)) (Fin.ext hf)

/-- An entry of the array the call leaves. -/
theorem out_at (s d : Fin 2048) : G2 m c (ix3 0 s d) = ∑ j : Fin 2560, X0 m c (ix2 s j) * X1 m c (ix2 d j) := by
  obtain ⟨n, hv⟩ : ∃ n : ℕ, n = 2 * (2 * (s.val / 512) + d.val / 1024) := ⟨_, rfl⟩
  have hp : pt2Of (ix3 0 s d) = n + 1 := by
    show 2 * (8 * (0 / 1 - 0) + 2 * (s.val / 512 - 0) + 1 * (d.val / 1024 - 0)) + 1 = n + 1; omega
  have hb : n + 1 < cfg0.N := lt_N (by omega)
  have el : loc2Of (ix3 0 s d) = ix3 0 ⟨s.val % 512, by omega⟩ ⟨d.val % 1024, by omega⟩ := by
    funext b; match b with
    | ⟨0, _⟩ => exact Subsingleton.elim (α := Fin 1) _ _
    | ⟨1, _⟩ => rfl
    | ⟨2, _⟩ => rfl
  have e : ∀ (k : ℕ) (hk : k < cfg0.N), k = n + 1 → outsAt0 m c k hk = outsAt0 m c (n + 1) hb := fun k hk ek => by subst ek; rfl
  rw [G2, dif_pos (by rw [hp]; exact hb), ← outsAt0_sweep m c _ (by rw [hp]; exact hb), el, e _ _ hp, out_last m c n hb (by omega),
    part_eq m c n 0 _ s d (by omega) (by omega) (by omega) (by omega), part_eq m c (n + 1) 1280 _ s d (by omega) (by omega) (by omega) (by omega),
    ← FfnSum.cut (a := 1280) (b := 1280) (by norm_num) (fun j => X0 m c (ix2 s j) * X1 m c (ix2 d j))]

end Cert.Kernel18Ideal.Prod

namespace Cert.Reference18Ideal.Prod

open Cert.Reference18Ideal Cert.Reference18Ideal.Gen Cert.Reference18Ideal.Read
open Idealize.ShloMosaic Idealize.ShloMosaic.Pointwise

theorem ref_at (x0 x1 : FVec Ideal S2048x2560 .f32) (s d : Fin 2048) :
    (val_main_v3 (F := Ideal) x0 x1 (ix3 0 s d) : EReal) = ∑ j : Fin 2560, x0 (ix2 s j) * x1 (ix2 d j) := by
  pointwise [val_main_v3, val_main_v2]

end Cert.Reference18Ideal.Prod

namespace Cert.Proof

open Idealize.ShloMosaic Idealize.SL.Sem Idealize.ShloMosaic.Pointwise

/-- The call's array is the reference's. -/
theorem od_dx_eq (m : (ℓ : Loc Cert.Kernel18Ideal.nD Cert.Kernel18Ideal.τ Cert.Kernel18Ideal.sig) → Buf (Elt Ideal) ℓ) (c : Dev Cert.Kernel18Ideal.nD) :
    Cert.Kernel18Ideal.Value.G2 m c = Cert.Reference18Ideal.Read.val_main_v3 (F := Ideal) (Cert.Kernel18Ideal.Prod.X0 m c) (Cert.Kernel18Ideal.Prod.X1 m c) := by
  funext i
  obtain ⟨s, d, rfl⟩ := Prod.split i
  exact (Cert.Kernel18Ideal.Prod.out_at m c s d).trans (Cert.Reference18Ideal.Prod.ref_at _ _ s d).symm

/-- The value claim of the call. -/
theorem od_dx_algebraic : Cert.algebraic_Kernel18Ideal_Reference18Ideal := by
  intro m ρ m' ρ' _ hag
  refine ⟨fun c => Cert.Kernel18Ideal.Value.G2 m c, Cert.Kernel18Ideal.Value.run m ρ,
    (θ_run _ _ _).mono (fun r h c => ?_) (Cert.Reference18Ideal.Value.run m' ρ')⟩
  obtain ⟨a0, a1⟩ := hag c
  obtain ⟨r0, k0, k1⟩ := h c
  refine ⟨r0.trans ?_, k0, k1⟩
  rw [Cert.Reference18Ideal.Read.val_main_v3_eq, a0, a1]
  exact (od_dx_eq m c).symm

/-- The reference's frame. -/
theorem od_dx_reference_frame : Cert.quiescent_Reference18Ideal := fun m ρ _ =>
  (θ_run _ _ _).mono (fun r h => ⟨fun c => (h c).2, sem_eq_zero_of_no_sems (by decide) r.2⟩) (Cert.Reference18Ideal.Value.run m ρ)

end Cert.Proof

/-! ### The gradient of the step's input, by the even layer's projection -/

namespace Cert.Kernel19Ideal.Prod

open Cert.Kernel19Ideal Cert.Kernel19Ideal.Gen Cert.Kernel19Ideal.Value
open Idealize.ShloMosaic Idealize.ShloMosaic.TcCoe Idealize.SL.Sem
open Idealize.ShloMosaic.Pointwise

theorem pay2_at (g : Vec Ideal S1x512x2048 .bf16) (w : Vec Ideal S1x2048x1024 .bf16) (s : Fin 512) (d : Fin 1024) :
    k0_pay2 g w (ix2 s d) = ∑ f : Fin 2048, g (ix3 0 s f) * w (ix3 0 f d) := by
  pointwise [k0_pay2, k0_pay1]

theorem pay3_at (g : Vec Ideal S1x512x2048 .bf16) (w : Vec Ideal S1x2048x1024 .bf16) (a : Vec Ideal S512x1024 .f32) (s : Fin 512) (d : Fin 1024) :
    k0_pay3 g w a (ix2 s d) = a (ix2 s d) + ∑ f : Fin 2048, g (ix3 0 s f) * w (ix3 0 f d) := by
  pointwise [k0_pay3, k0_pay1]

/-- The constant the gradient of the residual sum is scaled by. -/
abbrev scale : EReal := Ideal.ofBits .f32 0x3FB504F3#32

theorem pay4_at (a : Vec Ideal S512x1024 .f32) (u v : Vec Ideal S1x512x1024 .f32) (s : Fin 512) (d : Fin 1024) :
    k0_pay4 a u v (ix3 0 s d) = a (ix2 s d) + scale * u (ix3 0 s d) + v (ix3 0 s d) := by
  have h : k0_pay4 a u v (ix3 0 s d) = a (ix2 s d) + scale * u (ix3 0 s d) + Ideal.ofBits .f32 0x3F800000#32 * v (ix3 0 s d) := by
    pointwise [k0_pay4]
  rw [h, Ideal.ofBits_one_f32, one_mul]

/-- The block indices of the read windows at a point. -/
theorem idx : ∀ t : Fin cfg0.N,
    win0_0.index t = ![0, t.val / 4, t.val % 2] ∧ win0_1.index t = ![0, t.val % 2, t.val / 2 % 2]
      ∧ win0_2.index t = ![0, t.val / 4, t.val / 2 % 2] ∧ win0_3.index t = ![0, t.val / 4, t.val / 2 % 2] :=
  (by decide +kernel : ∀ t : Fin grid0.N, _)

theorem lt16 (t : Fin cfg0.N) : t.val < 16 := lt_of_lt_of_eq t.isLt (show cfg0.N = 16 from N_0)

theorem lt_N {n : ℕ} (h : n < 16) : n < cfg0.N := lt_of_lt_of_eq h N_0.symm

variable (m : (ℓ : Loc nD τ sig) → Buf (Elt Ideal) ℓ) (c : Dev nD)

/-- The arguments' arrays. -/
abbrev X0 : FVec Ideal S2048x4096 .f32 := m ((c : Thread nD τ).loc main_arg0)
abbrev X1 : FVec Ideal S2048x4096 .f32 := m ((c : Thread nD τ).loc main_arg1)
abbrev X2 : FVec Ideal S2048x2048 .f32 := m ((c : Thread nD τ).loc main_arg2)
abbrev X3 : FVec Ideal S2048x2048 .f32 := m ((c : Thread nD τ).loc main_arg3)

theorem left : (V m c main_v3 : FVec Ideal S1x2048x4096 .bf16) = broadcastInDim S1x2048x4096 ![1, 2] bcast_S2048x4096_S1x2048x4096_1_2 (truncf .bf16 (X0 m c) bitsLt_bf16_f32) := by
  unfold V
  simp only [hostOps0, List.flatten_cons, List.flatten_nil, List.append_nil, List.cons_append, List.nil_append]
  entry_read
  rfl

theorem right : (V m c main_v4 : FVec Ideal S1x4096x2048 .bf16) = broadcastInDim S1x4096x2048 ![1, 2] bcast_S4096x2048_S1x4096x2048_1_2 (truncf .bf16 (transpose S4096x2048 [1, 0] (X1 m c) transposes_S2048x4096_S4096x2048_1_0) bitsLt_bf16_f32) := by
  unfold V
  simp only [hostOps0, List.flatten_cons, List.flatten_nil, List.append_nil, List.cons_append, List.nil_append]
  entry_read
  rfl

theorem sum_ : (V m c main_v5 : FVec Ideal S1x2048x2048 .f32) = broadcastInDim S1x2048x2048 ![1, 2] bcast_S2048x2048_S1x2048x2048_1_2 (X2 m c) := by
  unfold V
  simp only [hostOps0, List.flatten_cons, List.flatten_nil, List.append_nil, List.cons_append, List.nil_append]
  entry_read
  rfl

theorem gate_ : (V m c main_v6 : FVec Ideal S1x2048x2048 .f32) = broadcastInDim S1x2048x2048 ![1, 2] bcast_S2048x2048_S1x2048x2048_1_2 (X3 m c) := by
  unfold V
  simp only [hostOps0, List.flatten_cons, List.flatten_nil, List.append_nil, List.cons_append, List.nil_append]
  entry_read
  rfl

variable (t : Fin cfg0.N)

theorem blk0 (s : Fin 512) (f : Fin 2048) : iblk m c 0 t (ix3 0 s f) = X0 m c (ix2 ⟨t.val / 4 * 512 + s.val, by have := lt16 t; omega⟩ ⟨t.val % 2 * 2048 + f.val, by omega⟩) := by
  obtain ⟨e0, e1, e2, e3⟩ := idx t
  have e : iblk m c 0 t (ix3 0 s f) = V m c main_v3 (ix3 0 ⟨t.val / 4 * 512 + s.val, by have := lt16 t; omega⟩ ⟨t.val % 2 * 2048 + f.val, by omega⟩) := by
    blk_point [iblk, e0]
  rw [e]
  refine (congrFun (left m c) _).trans ?_
  pointwise

theorem blk1 (d : Fin 1024) (f : Fin 2048) : iblk m c 1 t (ix3 0 f d) = X1 m c (ix2 ⟨t.val / 2 % 2 * 1024 + d.val, by omega⟩ ⟨t.val % 2 * 2048 + f.val, by omega⟩) := by
  obtain ⟨e0, e1, e2, e3⟩ := idx t
  have e : iblk m c 1 t (ix3 0 f d) = V m c main_v4 (ix3 0 ⟨t.val % 2 * 2048 + f.val, by omega⟩ ⟨t.val / 2 % 2 * 1024 + d.val, by omega⟩) := by
    blk_point [iblk, e1]
  rw [e]
  refine (congrFun (right m c) _).trans ?_
  pointwise

theorem blk2 (s : Fin 512) (d : Fin 1024) : iblk m c 2 t (ix3 0 s d) = X2 m c (ix2 ⟨t.val / 4 * 512 + s.val, by have := lt16 t; omega⟩ ⟨t.val / 2 % 2 * 1024 + d.val, by omega⟩) := by
  obtain ⟨e0, e1, e2, e3⟩ := idx t
  have e : iblk m c 2 t (ix3 0 s d) = V m c main_v5 (ix3 0 ⟨t.val / 4 * 512 + s.val, by have := lt16 t; omega⟩ ⟨t.val / 2 % 2 * 1024 + d.val, by omega⟩) := by
    blk_point [iblk, e2]
  rw [e]
  refine (congrFun (sum_ m c) _).trans ?_
  pointwise

theorem blk3 (s : Fin 512) (d : Fin 1024) : iblk m c 3 t (ix3 0 s d) = X3 m c (ix2 ⟨t.val / 4 * 512 + s.val, by have := lt16 t; omega⟩ ⟨t.val / 2 % 2 * 1024 + d.val, by omega⟩) := by
  obtain ⟨e0, e1, e2, e3⟩ := idx t
  have e : iblk m c 3 t (ix3 0 s d) = V m c main_v6 (ix3 0 ⟨t.val / 4 * 512 + s.val, by have := lt16 t; omega⟩ ⟨t.val / 2 % 2 * 1024 + d.val, by omega⟩) := by
    blk_point [iblk, e3]
  rw [e]
  refine (congrFun (gate_ m c) _).trans ?_
  pointwise

/-- The blocks a point reads. -/
abbrev B0 : Vec Ideal S1x512x2048 .bf16 := iblk m c 0 t
abbrev B1 : Vec Ideal S1x2048x1024 .bf16 := iblk m c 1 t
abbrev B2 : Vec Ideal S1x512x1024 .f32 := iblk m c 2 t
abbrev B3 : Vec Ideal S1x512x1024 .f32 := iblk m c 3 t

/-- The state a point starts from and leaves: the result's block and the accumulator. -/
abbrev St : Type := Vec Ideal S1x512x1024 .f32 × Vec Ideal S512x1024 .f32

theorem st_first (acc : St) (h0 : t.val % 2 = 0) : (stAt0 m c t.val t.isLt acc).2 = k0_pay2 (B0 m c t) (B1 m c t) := by
  rw [stAt0_A m c t acc h0 (by omega) (by omega)]; frame_out

theorem st_next (acc : St) (h1 : t.val % 2 = 1) : (stAt0 m c t.val t.isLt acc).2 = k0_pay3 (B0 m c t) (B1 m c t) acc.2 := by
  rw [stAt0_B m c t acc (by omega) h1 h1]; frame_out; rw [read_unread_whole]

theorem st_last (acc : St) (h1 : t.val % 2 = 1) :
    (stAt0 m c t.val t.isLt acc).1 = k0_pay4 (stAt0 m c t.val t.isLt acc).2 (B2 m c t) (B3 m c t) := by
  rw [stAt0_B m c t acc (by omega) h1 h1]; frame_out

/-- A point's partial product at an entry of its block. -/
abbrev part (n : ℕ) (hn : n < cfg0.N) (s : Fin 512) (d : Fin 1024) : EReal :=
  ∑ f : Fin 2048, B0 m c ⟨n, hn⟩ (ix3 0 s f) * B1 m c ⟨n, hn⟩ (ix3 0 f d)

theorem acc_first (n : ℕ) (hn : n < cfg0.N) (h : n % 2 = 0) (s : Fin 512) (d : Fin 1024) :
    (outsAt0 m c n hn).2 (ix2 s d) = part m c n hn s d := by
  match n, hn, h with
  | 0, hn, h => rw [outsAt0_zero, st_first m c ⟨0, hn⟩ _ h, pay2_at]
  | n + 1, hn, h => rw [outsAt0_succ, st_first m c ⟨n + 1, hn⟩ _ h, pay2_at]

theorem acc_next (n : ℕ) (hn : n + 1 < cfg0.N) (h : (n + 1) % 2 = 1) (s : Fin 512) (d : Fin 1024) :
    (outsAt0 m c (n + 1) hn).2 (ix2 s d) = (outsAt0 m c n (by omega)).2 (ix2 s d) + part m c (n + 1) hn s d := by
  rw [outsAt0_succ, st_next m c ⟨n + 1, hn⟩ _ h, pay3_at]

/-- What the last point of a run writes back. -/
theorem out_last (n : ℕ) (hn : n + 1 < cfg0.N) (h : n % 2 = 0) (s : Fin 512) (d : Fin 1024) :
    (outsAt0 m c (n + 1) hn).1 (ix3 0 s d) = part m c n (by omega) s d + part m c (n + 1) hn s d + scale * B2 m c ⟨n + 1, hn⟩ (ix3 0 s d) + B3 m c ⟨n + 1, hn⟩ (ix3 0 s d) := by
  have e : (outsAt0 m c (n + 1) hn).1 = k0_pay4 (outsAt0 m c (n + 1) hn).2 (B2 m c ⟨n + 1, hn⟩) (B3 m c ⟨n + 1, hn⟩) := by
    rw [outsAt0_succ]; exact st_last m c ⟨n + 1, hn⟩ _ (by show (n + 1) % 2 = 1; omega)
  rw [e, pay4_at, acc_next m c n hn (by omega), acc_first m c n (by omega) h]

/-- A point's partial product, over the arguments. -/
theorem part_eq (n o : ℕ) (hn : n < cfg0.N) (s d : Fin 2048) (hs : n / 4 = s.val / 512) (hd : n / 2 % 2 = d.val / 1024)
    (ho : n % 2 * 2048 = o) (hb : o ≤ 2048) :
    part m c n hn ⟨s.val % 512, by omega⟩ ⟨d.val % 1024, by omega⟩
      = ∑ f : Fin 2048, X0 m c (ix2 s ⟨o + f.val, by omega⟩) * X1 m c (ix2 d ⟨o + f.val, by omega⟩) := by
  refine Finset.sum_congr rfl fun f _ => ?_
  have hf : n % 2 * 2048 + f.val = o + f.val := by omega
  refine congrArg₂ (fun x y : EReal => x * y) ((blk0 m c ⟨n, hn⟩ _ f).trans ?_) ((blk1 m c ⟨n, hn⟩ _ f).trans ?_)
  · exact congrArg₂ (fun a b => X0 m c (ix2 a b)) (Fin.ext (by show n / 4 * 512 + s.val % 512 = s.val; omega)) (Fin.ext hf)
  · exact congrArg₂ (fun a b => X1 m c (ix2 a b)) (Fin.ext (by show n / 2 % 2 * 1024 + d.val % 1024 = d.val; omega)) (Fin.ext hf)

/-- An entry of the array the call leaves. -/
theorem out_at (s d : Fin 2048) : G4 m c (ix3 0 s d) = (∑ j : Fin 4096, X0 m c (ix2 s j) * X1 m c (ix2 d j)) + scale * X2 m c (ix2 s d) + X3 m c (ix2 s d) := by
  obtain ⟨n, hv⟩ : ∃ n : ℕ, n = 2 * (2 * (s.val / 512) + d.val / 1024) := ⟨_, rfl⟩
  have hp : pt4Of (ix3 0 s d) = n + 1 := by
    show 2 * (8 * (0 / 1 - 0) + 2 * (s.val / 512 - 0) + 1 * (d.val / 1024 - 0)) + 1 = n + 1; omega
  have hb : n + 1 < cfg0.N := lt_N (by omega)
  have el : loc4Of (ix3 0 s d) = ix3 0 ⟨s.val % 512, by omega⟩ ⟨d.val % 1024, by omega⟩ := by
    funext b; match b with
    | ⟨0, _⟩ => exact Subsingleton.elim (α := Fin 1) _ _
    | ⟨1, _⟩ => rfl
    | ⟨2, _⟩ => rfl
  have e : ∀ (k : ℕ) (hk : k < cfg0.N), k = n + 1 → outsAt0 m c k hk = outsAt0 m c (n + 1) hb := fun k hk ek => by subst ek; rfl
  have h2 : B2 m c ⟨n + 1, hb⟩ (ix3 0 (⟨s.val % 512, by omega⟩ : Fin 512) (⟨d.val % 1024, by omega⟩ : Fin 1024)) = X2 m c (ix2 s d) :=
    (blk2 m c ⟨n + 1, hb⟩ _ _).trans (congrArg₂ (fun a b => X2 m c (ix2 a b))
      (Fin.ext (by show (n + 1) / 4 * 512 + s.val % 512 = s.val; omega)) (Fin.ext (by show (n + 1) / 2 % 2 * 1024 + d.val % 1024 = d.val; omega)))
  have h3 : B3 m c ⟨n + 1, hb⟩ (ix3 0 (⟨s.val % 512, by omega⟩ : Fin 512) (⟨d.val % 1024, by omega⟩ : Fin 1024)) = X3 m c (ix2 s d) :=
    (blk3 m c ⟨n + 1, hb⟩ _ _).trans (congrArg₂ (fun a b => X3 m c (ix2 a b))
      (Fin.ext (by show (n + 1) / 4 * 512 + s.val % 512 = s.val; omega)) (Fin.ext (by show (n + 1) / 2 % 2 * 1024 + d.val % 1024 = d.val; omega)))
  rw [G4, dif_pos (by rw [hp]; exact hb), ← outsAt0_sweep m c _ (by rw [hp]; exact hb), el, e _ _ hp, out_last m c n hb (by omega),
    part_eq m c n 0 _ s d (by omega) (by omega) (by omega) (by omega), part_eq m c (n + 1) 2048 _ s d (by omega) (by omega) (by omega) (by omega),
    h2, h3, ← FfnSum.cut (a := 2048) (b := 2048) (by norm_num) (fun j => X0 m c (ix2 s j) * X1 m c (ix2 d j))]

end Cert.Kernel19Ideal.Prod

namespace Cert.Reference19Ideal.Prod

open Cert.Reference19Ideal Cert.Reference19Ideal.Gen Cert.Reference19Ideal.Read
open Idealize.ShloMosaic Idealize.ShloMosaic.Pointwise

theorem ref_at (x0 x1 : FVec Ideal S2048x4096 .f32) (x2 x3 : FVec Ideal S2048x2048 .f32) (s d : Fin 2048) :
    (val_main_v7 (F := Ideal) x0 x1 x2 x3 (ix3 0 s d) : EReal)
      = (∑ j : Fin 4096, x0 (ix2 s j) * x1 (ix2 d j)) + Ideal.ofBits .f32 0x3FB504F3#32 * x2 (ix2 s d) + x3 (ix2 s d) := by
  have h : (val_main_v7 (F := Ideal) x0 x1 x2 x3 (ix3 0 s d) : EReal)
      = Ideal.ofBits .f32 0x3FB504F3#32 * x2 (ix2 s d) + (∑ j : Fin 4096, x0 (ix2 s j) * x1 (ix2 d j)) + x3 (ix2 s d) := by
    pointwise [val_main_v7, val_main_v6, val_main_v5, val_main_v4, val_main_v1, val_main_v0, val_main_cst]
  rw [h, add_comm (Ideal.ofBits .f32 0x3FB504F3#32 * x2 (ix2 s d))]

end Cert.Reference19Ideal.Prod

namespace Cert.Proof

open Idealize.ShloMosaic Idealize.SL.Sem Idealize.ShloMosaic.Pointwise

/-- The call's array is the reference's. -/
theorem ev_dx_eq (m : (ℓ : Loc Cert.Kernel19Ideal.nD Cert.Kernel19Ideal.τ Cert.Kernel19Ideal.sig) → Buf (Elt Ideal) ℓ) (c : Dev Cert.Kernel19Ideal.nD) :
    Cert.Kernel19Ideal.Value.G4 m c = Cert.Reference19Ideal.Read.val_main_v7 (F := Ideal) (Cert.Kernel19Ideal.Prod.X0 m c) (Cert.Kernel19Ideal.Prod.X1 m c) (Cert.Kernel19Ideal.Prod.X2 m c) (Cert.Kernel19Ideal.Prod.X3 m c) := by
  funext i
  obtain ⟨s, d, rfl⟩ := Prod.split i
  exact (Cert.Kernel19Ideal.Prod.out_at m c s d).trans (Cert.Reference19Ideal.Prod.ref_at _ _ _ _ s d).symm

/-- The value claim of the call. -/
theorem ev_dx_algebraic : Cert.algebraic_Kernel19Ideal_Reference19Ideal := by
  intro m ρ m' ρ' _ hag
  refine ⟨fun c => Cert.Kernel19Ideal.Value.G4 m c, Cert.Kernel19Ideal.Value.run m ρ,
    (θ_run _ _ _).mono (fun r h c => ?_) (Cert.Reference19Ideal.Value.run m' ρ')⟩
  obtain ⟨a0, a1, a2, a3⟩ := hag c
  obtain ⟨r0, k0, k1, k2, k3⟩ := h c
  refine ⟨r0.trans ?_, k0, k1, k2, k3⟩
  rw [Cert.Reference19Ideal.Read.val_main_v7_eq, a0, a1, a2, a3]
  exact (ev_dx_eq m c).symm

/-- The reference's frame. -/
theorem ev_dx_reference_frame : Cert.quiescent_Reference19Ideal := fun m ρ _ =>
  (θ_run _ _ _).mono (fun r h => ⟨fun c => (h c).2, sem_eq_zero_of_no_sems (by decide) r.2⟩) (Cert.Reference19Ideal.Value.run m ρ)

end Cert.Proof

end
-- ==== Proof.GluBackward.lean ====
/-
  The gated linear unit backwards: half of the array the call leaves is the gradient of the gated value, half that of
  the gate.
-/
module

public import Idealize.ShloMosaic.Lib.KernelVsHost
public import proofs.«01_k».proof.Defs
public import proofs.«01_k».proof.Proof.Gen.Pre_finite
public import proofs.«01_k».proof.Proof.Gen.Kernel20Ideal.Value
public import proofs.«01_k».proof.Proof.Gen.Reference20Ideal.Read
public import Idealize.ShloMosaic.Lib.Pointwise
public import Idealize.ShloMosaic.Lib.Pipeline.ValueKit
public import Idealize.ShloMosaic.Lib.StableHlo.ReadAt
public import Idealize.ShloMosaic.Lib.Claim

@[expose] public section

set_option maxRecDepth 16384

noncomputable section

namespace Cert.Proof.Glu

open Idealize.ShloMosaic Idealize.ShloMosaic.Pointwise

/-- An index of a square array is a row with a column of the first or of the second half. -/
theorem split (i : (⟨2, ![2048, 2048]⟩ : Shape).Idx) : ∃ (r : Fin 2048) (e : Fin 1024),
    i = ix2 r ⟨e.val, by omega⟩ ∨ i = ix2 r ⟨1024 + e.val, by omega⟩ := by
  have h : (i 1).val < 2048 := (i 1).isLt
  have hr : ∀ k : Fin 2048, (i 1).val = k.val → i = ix2 (i 0) k := fun k hk => by
    funext a
    match a with
    | ⟨0, _⟩ => rfl
    | ⟨1, _⟩ => exact Fin.ext hk
  by_cases hl : (i 1).val < 1024
  · exact ⟨i 0, ⟨(i 1).val, hl⟩, .inl (hr _ rfl)⟩
  · exact ⟨i 0, ⟨(i 1).val - 1024, by omega⟩, .inr (hr _ (by show (i 1).val = 1024 + ((i 1).val - 1024); omega))⟩

end Cert.Proof.Glu

namespace Cert.Kernel20Ideal.Glu

open Cert.Kernel20Ideal Cert.Kernel20Ideal.Gen Cert.Kernel20Ideal.Value Cert.Proof.Glu
open Idealize.ShloMosaic Idealize.ShloMosaic.TcCoe Idealize.SL.Sem
open Idealize.ShloMosaic.Pointwise

/-- The two halves of the block a point writes, read at an index. -/
theorem pay_low (z2 d : Vec Ideal S256x1024 .f32) (a : Fin 256) (b : Fin 1024) :
    k0_pay2 z2 d (ix2 a b) = d (ix2 a b) * Ideal.logistic (z2 (ix2 a b)) := by
  pointwise [k0_pay2, k0_pay1]

theorem pay_high (z2 d z1 : Vec Ideal S256x1024 .f32) (a : Fin 256) (b : Fin 1024) :
    k0_pay3 z2 d z1 (ix2 a b) = d (ix2 a b) * z1 (ix2 a b) * Ideal.logistic (z2 (ix2 a b)) * (1 - Ideal.logistic (z2 (ix2 a b))) := by
  pointwise [k0_pay3, k0_pay1]

/-- The block indices of the windows at a point. -/
theorem idx : ∀ t : Fin cfg0.N,
    win0_0.index t = ![t.val, 0] ∧ win0_1.index t = ![t.val, 1] ∧ win0_2.index t = ![t.val, 1] ∧ win0_3.index t = ![t.val, 0] :=
  (by decide +kernel : ∀ t : Fin grid0.N, _)

theorem lt_grid (t : Fin cfg0.N) : t.val < 8 := lt_of_lt_of_eq t.isLt (show cfg0.N = 8 from N_0)

variable (m : (ℓ : Loc nD τ sig) → Buf (Elt Ideal) ℓ) (c : Dev nD)

/-- The arguments' arrays. -/
abbrev X0 : FVec Ideal S2048x2048 .f32 := m ((c : Thread nD τ).loc main_arg0)
abbrev X1 : FVec Ideal S2048x2048 .f32 := m ((c : Thread nD τ).loc main_arg1)

variable (t : Fin cfg0.N)

theorem row_lt (a : Fin 256) : t.val * 256 + a.val < 2048 := by have := lt_grid t; omega

theorem blk0 (a : Fin 256) (b : Fin 1024) : iblk m c 0 t (ix2 a b) = X0 m c (ix2 ⟨t.val * 256 + a.val, row_lt t a⟩ ⟨b.val, by omega⟩) := by
  obtain ⟨e0, _⟩ := idx t
  have e : iblk m c 0 t (ix2 a b) = V m c main_arg0 (ix2 ⟨t.val * 256 + a.val, row_lt t a⟩ ⟨b.val, by omega⟩) := by
    blk_point [iblk, e0]
  rw [e, V_main_arg0]

theorem blk1 (a : Fin 256) (b : Fin 1024) : iblk m c 1 t (ix2 a b) = X0 m c (ix2 ⟨t.val * 256 + a.val, row_lt t a⟩ ⟨1024 + b.val, by omega⟩) := by
  obtain ⟨_, e1, _⟩ := idx t
  have e : iblk m c 1 t (ix2 a b) = V m c main_arg0 (ix2 ⟨t.val * 256 + a.val, row_lt t a⟩ ⟨1024 + b.val, by omega⟩) := by
    blk_point [iblk, e1]
  rw [e, V_main_arg0]

theorem blk2 (a : Fin 256) (b : Fin 1024) : iblk m c 2 t (ix2 a b) = X1 m c (ix2 ⟨t.val * 256 + a.val, row_lt t a⟩ ⟨1024 + b.val, by omega⟩) := by
  obtain ⟨_, _, e2, _⟩ := idx t
  have e : iblk m c 2 t (ix2 a b) = V m c main_arg1 (ix2 ⟨t.val * 256 + a.val, row_lt t a⟩ ⟨1024 + b.val, by omega⟩) := by
    blk_point [iblk, e2]
  rw [e, V_main_arg1]

/-- An entry of the array the call leaves is the entry of the block its row's point writes. -/
theorem arr_at (r : Fin 2048) (k : Fin 2048) : ∃ t : Fin cfg0.N, t.val = r.val / 256 ∧
    (dats m 0 c).arrAt 3 cfg0.N (ix2 r k) = out0_3 (iblk m c 0 t) (iblk m c 1 t) (iblk m c 2 t) (ix2 ⟨r.val % 256, by omega⟩ k) := by
  obtain ⟨t, hv⟩ : ∃ t : Fin cfg0.N, t.val = r.val / 256 := ⟨⟨_, lt_of_lt_of_eq (by omega) N_0.symm⟩, rfl⟩
  have hi : ((cfg0.win 3).blk t).view.emb (ix2 (⟨r.val % 256, by omega⟩ : Fin 256) k) = ix2 r k := by
    obtain ⟨_, _, _, e3⟩ := idx t
    funext q; apply Fin.ext
    match q with
    | ⟨0, _⟩ => show win0_3.index t 0 * 256 + 1 * (r.val % 256) = r.val; rw [e3]; show t.val * 256 + 1 * (r.val % 256) = r.val; omega
    | ⟨1, _⟩ => show win0_3.index t 1 * 2048 + 1 * k.val = k.val; rw [e3]; show 0 * 2048 + 1 * k.val = k.val; omega
  exact ⟨t, hv, (congrArg ((dats m 0 c).arrAt 3 cfg0.N) hi.symm).trans
    (((dats m 0 c).arrAt_emb_eq_flushed 3 disjoint3 t (flush0_3 t) _).trans (congrFun (flushed3 m c t) _))⟩

/-- The columns of the first half lie outside the second store. -/
theorem low_not_mem (a : Fin 256) (b : Fin 1024) (y : S256x2048.Idx) (hy : (y 1).val = b.val) : y ∉ r0_2.set :=
  r0_2.not_mem_set_of_axis y 1 1024 1024 rfl rfl rfl (.inl (by rw [hy]; exact b.isLt))

/-- Outside the second store the first is read. -/
theorem second (u v : FVec Ideal S256x1024 .bf16) (y : S256x2048.Idx) (hy : y ∉ r0_2.set) :
    View.canon (Val := Elt Ideal) (e := .bf16) [⟨r0_2, u⟩, ⟨r0_1, v⟩] y = View.canon [⟨r0_1, v⟩] y :=
  r0_2.overlay_of_not_mem _ _ hy

theorem low_emb (a : Fin 256) (b : Fin 1024) : r0_1.emb (ix2 a b) = (ix2 a ⟨b.val, by omega⟩ : S256x2048.Idx) := by
  funext q; apply Fin.ext
  match q with
  | ⟨0, _⟩ => show 0 + 1 * a.val = a.val; omega
  | ⟨1, _⟩ => show 0 + 1 * b.val = b.val; omega

/-- The columns of the first half are the first store's. -/
theorem out_low (x0 x1 x2 : Vec Ideal S256x1024 .f32) (a : Fin 256) (b : Fin 1024) :
    out0_3 x0 x1 x2 (ix2 a ⟨b.val, by omega⟩) = k0_pay2 x1 x2 (ix2 a b) := by
  rw [← low_emb]
  unfold out0_3
  rw [second _ _ _ (low_not_mem a b (r0_1.emb (ix2 a b)) (by rw [low_emb]; rfl)), View.canon_cons_emb]
  frame_out

theorem out_high (x0 x1 x2 : Vec Ideal S256x1024 .f32) (a : Fin 256) (b : Fin 1024) :
    out0_3 x0 x1 x2 (ix2 a ⟨1024 + b.val, by omega⟩) = k0_pay3 x1 x2 x0 (ix2 a b) := by
  have he : (ix2 a ⟨1024 + b.val, by omega⟩ : S256x2048.Idx) = r0_2.emb (ix2 a b) := by
    funext q; apply Fin.ext
    match q with
    | ⟨0, _⟩ => show a.val = 0 + 1 * a.val; omega
    | ⟨1, _⟩ => show 1024 + b.val = 1024 + 1 * b.val; omega
  unfold out0_3
  rw [he, View.canon_cons_emb]
  frame_out

/-- The row of the array that a point's block row is. -/
theorem row_eq (r : Fin 2048) (hv : t.val = r.val / 256) (a : Fin 256) (ha : a.val = r.val % 256) :
    (⟨t.val * 256 + a.val, row_lt t a⟩ : Fin 2048) = r := Fin.ext (by show t.val * 256 + a.val = r.val; omega)

theorem arr_low (r : Fin 2048) (e : Fin 1024) : (dats m 0 c).arrAt 3 cfg0.N (ix2 r ⟨e.val, by omega⟩)
    = X1 m c (ix2 r ⟨1024 + e.val, by omega⟩) * Ideal.logistic (X0 m c (ix2 r ⟨1024 + e.val, by omega⟩)) := by
  obtain ⟨t, hv, h⟩ := arr_at m c r ⟨e.val, by omega⟩
  refine h.trans ((out_low _ _ _ _ e).trans ((pay_low _ _ _ e).trans ?_))
  rw [blk1 m c t, blk2 m c t, row_eq t r hv _ rfl]

theorem arr_high (r : Fin 2048) (e : Fin 1024) : (dats m 0 c).arrAt 3 cfg0.N (ix2 r ⟨1024 + e.val, by omega⟩)
    = X1 m c (ix2 r ⟨1024 + e.val, by omega⟩) * X0 m c (ix2 r ⟨e.val, by omega⟩) * Ideal.logistic (X0 m c (ix2 r ⟨1024 + e.val, by omega⟩))
      * (1 - Ideal.logistic (X0 m c (ix2 r ⟨1024 + e.val, by omega⟩))) := by
  obtain ⟨t, hv, h⟩ := arr_at m c r ⟨1024 + e.val, by omega⟩
  refine h.trans ((out_high _ _ _ _ e).trans ((pay_high _ _ _ _ e).trans ?_))
  rw [blk0 m c t, blk1 m c t, blk2 m c t, row_eq t r hv _ rfl]

end Cert.Kernel20Ideal.Glu

namespace Cert.Reference20Ideal.Glu

open Cert.Reference20Ideal Cert.Reference20Ideal.Gen Cert.Reference20Ideal.Read Cert.Proof.Glu
open Idealize.ShloMosaic Idealize.ShloMosaic.Pointwise

theorem gate_at (x0 : FVec Ideal S2048x2048 .f32) (r : Fin 2048) (e : Fin 1024) :
    (val_main_v7 (F := Ideal) x0 (ix2 r e) : EReal) = Ideal.logistic (x0 (ix2 r ⟨1024 + e.val, by omega⟩)) := by
  unfold Ideal.logistic
  pointwise [val_main_v7, val_main_v6, val_main_cst_0, val_main_v5, val_main_v4, val_main_cst, val_main_v3, val_main_v2, val_main_v1, Ideal.ofBits_one_f32]

theorem value_at (x0 : FVec Ideal S2048x2048 .f32) (r : Fin 2048) (e : Fin 1024) :
    (val_main_v0 (F := Ideal) x0 (ix2 r e) : EReal) = x0 (ix2 r ⟨e.val, by omega⟩) := by
  pointwise [val_main_v0]

theorem cot_at (x1 : FVec Ideal S2048x2048 .f32) (r : Fin 2048) (e : Fin 1024) :
    (val_main_v12 (F := Ideal) x1 (ix2 r e) : EReal) = x1 (ix2 r ⟨1024 + e.val, by omega⟩) := by
  pointwise [val_main_v12]

theorem ref_low (x0 x1 : FVec Ideal S2048x2048 .f32) (r : Fin 2048) (e : Fin 1024) :
    (val_main_v19 (F := Ideal) x0 x1 (ix2 r ⟨e.val, by omega⟩) : EReal)
      = x1 (ix2 r ⟨1024 + e.val, by omega⟩) * Ideal.logistic (x0 (ix2 r ⟨1024 + e.val, by omega⟩)) := by
  have hp : (val_main_v16 (F := Ideal) x0 x1 (ix2 r ⟨e.val, by omega⟩) : EReal) = 0 :=
    (pad_apply_of_not_inside _ _ _ _ _ _ _ _ 1 (fun h => absurd h.1 (by show ¬ 1024 ≤ e.val; omega))).trans (Ideal.ofBits_zero_f32)
  have hq : (val_main_v17 (F := Ideal) x0 x1 (ix2 r ⟨e.val, by omega⟩) : EReal) = val_main_v14 (F := Ideal) x0 x1 (ix2 r e) :=
    pad_apply_of_inside _ _ _ _ _ _ _ _ _ (fun a => match a with
      | ⟨0, _⟩ => by show r.val = 0 + r.val * 1; omega
      | ⟨1, _⟩ => by show e.val = 0 + e.val * 1; omega)
  show (val_main_v16 (F := Ideal) x0 x1 (ix2 r ⟨e.val, by omega⟩) : EReal) + val_main_v17 (F := Ideal) x0 x1 (ix2 r ⟨e.val, by omega⟩) = _
  rw [hp, hq, zero_add]
  show (val_main_v12 (F := Ideal) x1 (ix2 r e) : EReal) * val_main_v7 (F := Ideal) x0 (ix2 r e) = _
  rw [cot_at, gate_at]

theorem ref_high (x0 x1 : FVec Ideal S2048x2048 .f32) (r : Fin 2048) (e : Fin 1024) :
    (val_main_v19 (F := Ideal) x0 x1 (ix2 r ⟨1024 + e.val, by omega⟩) : EReal)
      = x1 (ix2 r ⟨1024 + e.val, by omega⟩) * x0 (ix2 r ⟨e.val, by omega⟩) * Ideal.logistic (x0 (ix2 r ⟨1024 + e.val, by omega⟩))
        * (1 - Ideal.logistic (x0 (ix2 r ⟨1024 + e.val, by omega⟩))) := by
  have hp : (val_main_v17 (F := Ideal) x0 x1 (ix2 r ⟨1024 + e.val, by omega⟩) : EReal) = 0 :=
    (pad_apply_of_not_inside _ _ _ _ _ _ _ _ 1 (fun h => absurd h.2.2 (by show ¬ (1024 + e.val - 0) / 1 < 1024; omega))).trans (Ideal.ofBits_zero_f32)
  have hq : (val_main_v16 (F := Ideal) x0 x1 (ix2 r ⟨1024 + e.val, by omega⟩) : EReal) = val_main_v15 (F := Ideal) x0 x1 (ix2 r e) :=
    pad_apply_of_inside _ _ _ _ _ _ _ _ _ (fun a => match a with
      | ⟨0, _⟩ => by show r.val = 0 + r.val * 1; omega
      | ⟨1, _⟩ => by show 1024 + e.val = 1024 + e.val * 1; omega)
  have h1 : (val_main_v8 (F := Ideal) (ix2 r e) : EReal) = 1 := by pointwise [val_main_v8, val_main_cst_1, Ideal.ofBits_one_f32]
  show (val_main_v16 (F := Ideal) x0 x1 (ix2 r ⟨1024 + e.val, by omega⟩) : EReal) + val_main_v17 (F := Ideal) x0 x1 (ix2 r ⟨1024 + e.val, by omega⟩) = _
  rw [hp, hq, add_zero]
  show ((val_main_v0 (F := Ideal) x0 (ix2 r e) : EReal) * val_main_v12 (F := Ideal) x1 (ix2 r e))
      * ((val_main_v7 (F := Ideal) x0 (ix2 r e) : EReal) * ((val_main_v8 (F := Ideal) (ix2 r e) : EReal) - val_main_v7 (F := Ideal) x0 (ix2 r e))) = _
  rw [cot_at, gate_at, value_at, h1, mul_comm (x0 _) (x1 _), mul_assoc, mul_assoc, mul_assoc]

end Cert.Reference20Ideal.Glu

namespace Cert.Proof

open Idealize.ShloMosaic Idealize.SL.Sem Idealize.ShloMosaic.Pointwise

/-- The call's array is the reference's. -/
theorem glu_backward_eq (m : (ℓ : Loc Cert.Kernel20Ideal.nD Cert.Kernel20Ideal.τ Cert.Kernel20Ideal.sig) → Buf (Elt Ideal) ℓ) (c : Dev Cert.Kernel20Ideal.nD) :
    (Cert.Kernel20Ideal.Gen.dats m 0 c).arrAt 3 Cert.Kernel20Ideal.cfg0.N
      = Cert.Reference20Ideal.Read.val_main_v19 (F := Ideal) (Cert.Kernel20Ideal.Glu.X0 m c) (Cert.Kernel20Ideal.Glu.X1 m c) := by
  funext i
  obtain ⟨r, e, rfl | rfl⟩ := Glu.split i
  · exact (Cert.Kernel20Ideal.Glu.arr_low m c r e).trans (Cert.Reference20Ideal.Glu.ref_low _ _ r e).symm
  · exact (Cert.Kernel20Ideal.Glu.arr_high m c r e).trans (Cert.Reference20Ideal.Glu.ref_high _ _ r e).symm

/-- The value claim of the call. -/
theorem glu_backward_algebraic : Cert.algebraic_Kernel20Ideal_Reference20Ideal := by
  intro m ρ m' ρ' _ hag
  refine ⟨fun c => (Cert.Kernel20Ideal.Gen.dats m 0 c).arrAt 3 Cert.Kernel20Ideal.cfg0.N, Cert.Kernel20Ideal.Value.run_blocks m ρ,
    (θ_run _ _ _).mono (fun r h c => ?_) (Cert.Reference20Ideal.Value.run m' ρ')⟩
  obtain ⟨a0, a1⟩ := hag c
  obtain ⟨r0, k0, k1⟩ := h c
  refine ⟨r0.trans ?_, k0, k1⟩
  rw [Cert.Reference20Ideal.Read.val_main_v19_eq, a0, a1]
  exact (glu_backward_eq m c).symm

/-- The reference's frame. -/
theorem glu_backward_reference_frame : Cert.quiescent_Reference20Ideal := fun m ρ _ =>
  (θ_run _ _ _).mono (fun r h => ⟨fun c => (h c).2, sem_eq_zero_of_no_sems (by decide) r.2⟩) (Cert.Reference20Ideal.Value.run m ρ)

end Cert.Proof

end
-- ==== Proof.GluForward.lean ====
/-
  The gated linear unit forwards: the first half of the array the call leaves is the attention's, the second the gated value.
-/
module

import proofs.«01_k».proof.Proof.GluBackward
public import Idealize.ShloMosaic.Lib.KernelVsHost
public import proofs.«01_k».proof.Defs
public import proofs.«01_k».proof.Proof.Gen.Pre_finite
public import proofs.«01_k».proof.Proof.Gen.Kernel21Ideal.Value
public import proofs.«01_k».proof.Proof.Gen.Reference21Ideal.Read
public import Idealize.ShloMosaic.Lib.Pointwise
public import Idealize.ShloMosaic.Lib.Pipeline.ValueKit
public import Idealize.ShloMosaic.Lib.StableHlo.ReadAt
public import Idealize.ShloMosaic.Lib.Claim

@[expose] public section

set_option maxRecDepth 16384

noncomputable section

namespace Cert.Kernel21Ideal.Glu

open Cert.Kernel21Ideal Cert.Kernel21Ideal.Gen Cert.Kernel21Ideal.Value Cert.Proof.Glu
open Idealize.ShloMosaic Idealize.ShloMosaic.TcCoe Idealize.SL.Sem
open Idealize.ShloMosaic.Pointwise

/-- The block the second store writes, read at an index. -/
theorem pay_gated (z1 z2 : Vec Ideal S256x1024 .f32) (a : Fin 256) (b : Fin 1024) :
    k0_pay2 z1 z2 (ix2 a b) = z1 (ix2 a b) * Ideal.logistic (z2 (ix2 a b)) := by
  pointwise [k0_pay2]

/-- The block indices of the windows at a point. -/
theorem idx : ∀ t : Fin cfg0.N,
    win0_0.index t = ![t.val, 0] ∧ win0_1.index t = ![t.val, 1] ∧ win0_2.index t = ![t.val, 0] ∧ win0_3.index t = ![t.val, 0] :=
  (by decide +kernel : ∀ t : Fin grid0.N, _)

theorem lt_grid (t : Fin cfg0.N) : t.val < 8 := lt_of_lt_of_eq t.isLt (show cfg0.N = 8 from N_0)

variable (m : (ℓ : Loc nD τ sig) → Buf (Elt Ideal) ℓ) (c : Dev nD)

/-- The arguments' arrays: the projections and the attention's rows. -/
abbrev Z : FVec Ideal S2048x2048 .f32 := m ((c : Thread nD τ).loc main_arg0)
abbrev A : FVec Ideal S2048x1024 .f32 := m ((c : Thread nD τ).loc main_arg1)

variable (t : Fin cfg0.N)

theorem row_lt (a : Fin 256) : t.val * 256 + a.val < 2048 := by have := lt_grid t; omega

theorem blk_value (a : Fin 256) (b : Fin 1024) : iblk m c 0 t (ix2 a b) = Z m c (ix2 ⟨t.val * 256 + a.val, row_lt t a⟩ ⟨b.val, by omega⟩) := by
  obtain ⟨e0, _⟩ := idx t
  have e : iblk m c 0 t (ix2 a b) = V m c main_arg0 (ix2 ⟨t.val * 256 + a.val, row_lt t a⟩ ⟨b.val, by omega⟩) := by
    blk_point [iblk, e0]
  rw [e, V_main_arg0]

theorem blk_gate (a : Fin 256) (b : Fin 1024) : iblk m c 1 t (ix2 a b) = Z m c (ix2 ⟨t.val * 256 + a.val, row_lt t a⟩ ⟨1024 + b.val, by omega⟩) := by
  obtain ⟨_, e1, _⟩ := idx t
  have e : iblk m c 1 t (ix2 a b) = V m c main_arg0 (ix2 ⟨t.val * 256 + a.val, row_lt t a⟩ ⟨1024 + b.val, by omega⟩) := by
    blk_point [iblk, e1]
  rw [e, V_main_arg0]

theorem blk_att (a : Fin 256) (b : Fin 1024) : iblk m c 2 t (ix2 a b) = A m c (ix2 ⟨t.val * 256 + a.val, row_lt t a⟩ b) := by
  obtain ⟨_, _, e2, _⟩ := idx t
  have e : iblk m c 2 t (ix2 a b) = V m c main_arg1 (ix2 ⟨t.val * 256 + a.val, row_lt t a⟩ b) := by
    blk_point [iblk, e2]
  rw [e, V_main_arg1]

/-- An entry of the array the call leaves is the entry of the block its row's point writes. -/
theorem arr_at (r : Fin 2048) (k : Fin 2048) : ∃ t : Fin cfg0.N, t.val = r.val / 256 ∧
    (dats m 0 c).arrAt 3 cfg0.N (ix2 r k) = out0_3 (iblk m c 0 t) (iblk m c 1 t) (iblk m c 2 t) (ix2 ⟨r.val % 256, by omega⟩ k) := by
  obtain ⟨t, hv⟩ : ∃ t : Fin cfg0.N, t.val = r.val / 256 := ⟨⟨_, lt_of_lt_of_eq (by omega) N_0.symm⟩, rfl⟩
  have hi : ((cfg0.win 3).blk t).view.emb (ix2 (⟨r.val % 256, by omega⟩ : Fin 256) k) = ix2 r k := by
    obtain ⟨_, _, _, e3⟩ := idx t
    funext q; apply Fin.ext
    match q with
    | ⟨0, _⟩ => show win0_3.index t 0 * 256 + 1 * (r.val % 256) = r.val; rw [e3]; show t.val * 256 + 1 * (r.val % 256) = r.val; omega
    | ⟨1, _⟩ => show win0_3.index t 1 * 2048 + 1 * k.val = k.val; rw [e3]; show 0 * 2048 + 1 * k.val = k.val; omega
  exact ⟨t, hv, (congrArg ((dats m 0 c).arrAt 3 cfg0.N) hi.symm).trans
    (((dats m 0 c).arrAt_emb_eq_flushed 3 disjoint3 t (flush0_3 t) _).trans (congrFun (flushed3 m c t) _))⟩

/-- The columns of the first half lie outside the second store. -/
theorem low_not_mem (a : Fin 256) (b : Fin 1024) (y : S256x2048.Idx) (hy : (y 1).val = b.val) : y ∉ r0_2.set :=
  r0_2.not_mem_set_of_axis y 1 1024 1024 rfl rfl rfl (.inl (by rw [hy]; exact b.isLt))

/-- Outside the second store the first is read. -/
theorem second (u v : FVec Ideal S256x1024 .bf16) (y : S256x2048.Idx) (hy : y ∉ r0_2.set) :
    View.canon (Val := Elt Ideal) (e := .bf16) [⟨r0_2, u⟩, ⟨r0_1, v⟩] y = View.canon [⟨r0_1, v⟩] y :=
  r0_2.overlay_of_not_mem _ _ hy

theorem low_emb (a : Fin 256) (b : Fin 1024) : r0_1.emb (ix2 a b) = (ix2 a ⟨b.val, by omega⟩ : S256x2048.Idx) := by
  funext q; apply Fin.ext
  match q with
  | ⟨0, _⟩ => show 0 + 1 * a.val = a.val; omega
  | ⟨1, _⟩ => show 0 + 1 * b.val = b.val; omega

/-- The columns of the first half are the first store's. -/
theorem out_low (x0 x1 x2 : Vec Ideal S256x1024 .f32) (a : Fin 256) (b : Fin 1024) :
    out0_3 x0 x1 x2 (ix2 a ⟨b.val, by omega⟩) = k0_pay1 x2 (ix2 a b) := by
  rw [← low_emb]
  unfold out0_3
  rw [second _ _ _ (low_not_mem a b (r0_1.emb (ix2 a b)) (by rw [low_emb]; rfl)), View.canon_cons_emb]
  frame_out

theorem out_high (x0 x1 x2 : Vec Ideal S256x1024 .f32) (a : Fin 256) (b : Fin 1024) :
    out0_3 x0 x1 x2 (ix2 a ⟨1024 + b.val, by omega⟩) = k0_pay2 x0 x1 (ix2 a b) := by
  have he : (ix2 a ⟨1024 + b.val, by omega⟩ : S256x2048.Idx) = r0_2.emb (ix2 a b) := by
    funext q; apply Fin.ext
    match q with
    | ⟨0, _⟩ => show a.val = 0 + 1 * a.val; omega
    | ⟨1, _⟩ => show 1024 + b.val = 1024 + 1 * b.val; omega
  unfold out0_3
  rw [he, View.canon_cons_emb]
  frame_out

/-- The row of the array that a point's block row is. -/
theorem row_eq (r : Fin 2048) (hv : t.val = r.val / 256) (a : Fin 256) (ha : a.val = r.val % 256) :
    (⟨t.val * 256 + a.val, row_lt t a⟩ : Fin 2048) = r := Fin.ext (by show t.val * 256 + a.val = r.val; omega)

theorem arr_low (r : Fin 2048) (e : Fin 1024) : (dats m 0 c).arrAt 3 cfg0.N (ix2 r ⟨e.val, by omega⟩) = A m c (ix2 r e) := by
  obtain ⟨t, hv, h⟩ := arr_at m c r ⟨e.val, by omega⟩
  refine h.trans ((out_low _ _ _ _ e).trans ?_)
  show iblk m c 2 t (ix2 _ e) = _
  rw [blk_att m c t, row_eq t r hv _ rfl]

theorem arr_high (r : Fin 2048) (e : Fin 1024) : (dats m 0 c).arrAt 3 cfg0.N (ix2 r ⟨1024 + e.val, by omega⟩)
    = Z m c (ix2 r ⟨e.val, by omega⟩) * Ideal.logistic (Z m c (ix2 r ⟨1024 + e.val, by omega⟩)) := by
  obtain ⟨t, hv, h⟩ := arr_at m c r ⟨1024 + e.val, by omega⟩
  refine h.trans ((out_high _ _ _ _ e).trans ((pay_gated _ _ _ e).trans ?_))
  rw [blk_value m c t, blk_gate m c t, row_eq t r hv _ rfl]

end Cert.Kernel21Ideal.Glu

namespace Cert.Reference21Ideal.Glu

open Cert.Reference21Ideal Cert.Reference21Ideal.Read
open Idealize.ShloMosaic Idealize.ShloMosaic.Pointwise

theorem gated_at (z : FVec Ideal S2048x2048 .f32) (r : Fin 2048) (e : Fin 1024) :
    (val_main_v8 (F := Ideal) z (ix2 r e) : EReal)
      = z (ix2 r ⟨e.val, by omega⟩) * Ideal.logistic (z (ix2 r ⟨1024 + e.val, by omega⟩)) := by
  unfold Ideal.logistic
  pointwise [val_main_v8, val_main_v0, val_main_v7, val_main_v6, val_main_cst_0, val_main_v5, val_main_v4, val_main_cst, val_main_v3, val_main_v2, val_main_v1, Ideal.ofBits_one_f32]

theorem ref_low (z : FVec Ideal S2048x2048 .f32) (w : FVec Ideal S2048x1024 .f32) (r : Fin 2048) (e : Fin 1024) :
    (val_main_v10 (F := Ideal) z w (ix2 r ⟨e.val, by omega⟩) : EReal) = w (ix2 r e) := by
  show (val_main_v9 (F := Ideal) z w (ix2 r ⟨e.val, by omega⟩) : EReal) = _
  unfold val_main_v9
  have h : (⟨e.val, by omega⟩ : Fin 2048).val < 1024 := e.isLt
  pointwise [h]

theorem ref_high (z : FVec Ideal S2048x2048 .f32) (w : FVec Ideal S2048x1024 .f32) (r : Fin 2048) (e : Fin 1024) :
    (val_main_v10 (F := Ideal) z w (ix2 r ⟨1024 + e.val, by omega⟩) : EReal)
      = z (ix2 r ⟨e.val, by omega⟩) * Ideal.logistic (z (ix2 r ⟨1024 + e.val, by omega⟩)) := by
  rw [← gated_at]
  show (val_main_v9 (F := Ideal) z w (ix2 r ⟨1024 + e.val, by omega⟩) : EReal) = _
  unfold val_main_v9
  pointwise []

end Cert.Reference21Ideal.Glu

namespace Cert.Proof

open Idealize.ShloMosaic Idealize.SL.Sem Idealize.ShloMosaic.Pointwise

/-- The call's array is the reference's. -/
theorem glu_forward_eq (m : (ℓ : Loc Cert.Kernel21Ideal.nD Cert.Kernel21Ideal.τ Cert.Kernel21Ideal.sig) → Buf (Elt Ideal) ℓ) (c : Dev Cert.Kernel21Ideal.nD) :
    (Cert.Kernel21Ideal.Gen.dats m 0 c).arrAt 3 Cert.Kernel21Ideal.cfg0.N
      = Cert.Reference21Ideal.Read.val_main_v10 (F := Ideal) (Cert.Kernel21Ideal.Glu.Z m c) (Cert.Kernel21Ideal.Glu.A m c) := by
  funext i
  obtain ⟨r, e, rfl | rfl⟩ := Glu.split i
  · exact (Cert.Kernel21Ideal.Glu.arr_low m c r e).trans (Cert.Reference21Ideal.Glu.ref_low _ _ r e).symm
  · exact (Cert.Kernel21Ideal.Glu.arr_high m c r e).trans (Cert.Reference21Ideal.Glu.ref_high _ _ r e).symm

/-- The value claim of the call. -/
theorem glu_forward_algebraic : Cert.algebraic_Kernel21Ideal_Reference21Ideal := by
  intro m ρ m' ρ' _ hag
  refine ⟨fun c => (Cert.Kernel21Ideal.Gen.dats m 0 c).arrAt 3 Cert.Kernel21Ideal.cfg0.N, Cert.Kernel21Ideal.Value.run_blocks m ρ,
    (θ_run _ _ _).mono (fun r h c => ?_) (Cert.Reference21Ideal.Value.run m' ρ')⟩
  obtain ⟨a0, a1⟩ := hag c
  obtain ⟨r0, k0, k1⟩ := h c
  refine ⟨r0.trans ?_, k0, k1⟩
  rw [Cert.Reference21Ideal.Read.val_main_v10_eq, a0, a1]
  exact (glu_forward_eq m c).symm

/-- The reference's frame. -/
theorem glu_forward_reference_frame : Cert.quiescent_Reference21Ideal := fun m ρ _ =>
  (θ_run _ _ _).mono (fun r h => ⟨fun c => (h c).2, sem_eq_zero_of_no_sems (by decide) r.2⟩) (Cert.Reference21Ideal.Value.run m ρ)

end Cert.Proof

end
-- ==== Proof.Adam.lean ====
/-
  The optimiser's step on the packed small parameters, entry by entry. The kernel multiplies by the reciprocals of the two
  bias corrections, named as reals; the reference divides by the corrections.
-/
module

public import proofs.«01_k».proof.Defs
public import proofs.«01_k».proof.Proof.Gen.Pre_finite
public import proofs.«01_k».proof.Proof.Gen.Kernel22Ideal.Value
public import proofs.«01_k».proof.Proof.Gen.Reference22Ideal.Read
public import Idealize.ShloMosaic.Lib.Pointwise
public import Idealize.ShloMosaic.Lib.Pipeline.ValueKit
public import Idealize.ShloMosaic.Lib.StableHlo.ReadAt
public import Idealize.ShloMosaic.Lib.Claim

@[expose] public section

set_option maxRecDepth 16384

noncomputable section

namespace Cert.Proof.Adam

open Idealize.ShloMosaic Idealize.ShloMosaic.Pointwise

/-- The two running averages at an entry. -/
def avg (g m : EReal) : EReal := Ideal.ofBits .f32 0x3F666666#32 * m + Ideal.ofBits .f32 0x3DCCCCCD#32 * g
def meanSq (g v : EReal) : EReal := Ideal.ofBits .f32 0x3F7FBE77#32 * v + Ideal.ofBits .f32 0x3A83126F#32 * (g * g)

/-- The parameter's change, of the averages corrected for their start. -/
def delta (w mh vh : EReal) : EReal :=
  Ideal.ofBits .f32 0xBA83126F#32 * (Ideal.div mh (Ideal.sqrt vh + Ideal.ofBits .f32 0x322BCC77#32) + Ideal.ofBits .f32 0x3C23D70A#32 * w)

/-- The reference's bias corrections as reals. -/
theorem corr1 : Ideal.ofBits .f32 0x3F26BD02#32 = ((5463681 / 8388608 : ℝ) : EReal) := by
  simp [Ideal.ofBits, Ideal.ieee, -EReal.coe_mul]; norm_num
theorem corr2 : Ideal.ofBits .f32 0x3C231ACC#32 = ((2672307 / 268435456 : ℝ) : EReal) := by
  simp [Ideal.ofBits, Ideal.ieee, -EReal.coe_mul]; norm_num

theorem div_corr1 (s : EReal) : Ideal.div s (Ideal.ofBits .f32 0x3F26BD02#32) = s * ((8388608 / 5463681 : ℝ) : EReal) := by
  rw [corr1, Ideal.div_coe (by norm_num)]; norm_num
theorem div_corr2 (s : EReal) : Ideal.div s (Ideal.ofBits .f32 0x3C231ACC#32) = s * ((268435456 / 2672307 : ℝ) : EReal) := by
  rw [corr2, Ideal.div_coe (by norm_num)]; norm_num

/-- An index of a packed array has leading coordinate zero. -/
theorem idx_eq (i : (⟨3, ![1, 2560, 128]⟩ : Shape).Idx) : ∃ (r : Fin 2560) (l : Fin 128), i = ix3 0 r l := ⟨i 1, i 2, by
  funext a
  match a with
  | ⟨0, _⟩ => exact Fin.ext (by have h : (i 0).val < 1 := (i 0).isLt; show (i 0).val = 0; omega)
  | ⟨1, _⟩ => rfl
  | ⟨2, _⟩ => rfl⟩

end Cert.Proof.Adam

namespace Cert.Kernel22Ideal.Adam

open Cert.Kernel22Ideal Cert.Kernel22Ideal.Gen Cert.Kernel22Ideal.Value Cert.Proof.Adam
open Idealize.ShloMosaic Idealize.ShloMosaic.TcCoe Idealize.SL.Sem
open Idealize.ShloMosaic.Pointwise

theorem scale1 : Named.named (F := Ideal) (φ := .f32) Cert.Kernel22Ideal.κ "scale1" 0x3FC48605#32 = ((8388608 / 5463681 : ℝ) : EReal) :=
  IdealRules.named_const.ideal_named_scalar _ _ _ _ rfl
theorem scale2 : Named.named (F := Ideal) (φ := .f32) Cert.Kernel22Ideal.κ "scale2" 0x42C8E6D3#32 = ((268435456 / 2672307 : ℝ) : EReal) :=
  IdealRules.named_const.ideal_named_scalar _ _ _ _ rfl

variable (w g m v : FVec Ideal S1x2560x128 .f32) (r : Fin 2560) (l : Fin 128)

theorem grad_at : k0_pay5 (F := Ideal) g (ix3 0 r l) = g (ix3 0 r l) := by pointwise [k0_pay5, k0_pay2]

theorem avg_row : k0_pay3 (F := Ideal) g m (ix2 r l) = avg (g (ix3 0 r l)) (m (ix3 0 r l)) := by
  pointwise [k0_pay3, k0_pay2, avg]

theorem sq_row : k0_pay4 (F := Ideal) g v (ix2 r l) = meanSq (g (ix3 0 r l)) (v (ix3 0 r l)) := by
  pointwise [k0_pay4, k0_pay2, meanSq]

theorem avg_at : k0_pay6 (F := Ideal) g m (ix3 0 r l) = avg (g (ix3 0 r l)) (m (ix3 0 r l)) := by
  rw [← avg_row]; pointwise [k0_pay6]

theorem sq_at : k0_pay7 (F := Ideal) g v (ix3 0 r l) = meanSq (g (ix3 0 r l)) (v (ix3 0 r l)) := by
  rw [← sq_row]; pointwise [k0_pay7]

theorem corrected_row : k0_pay8 (F := Ideal) g m (ix2 r l) = avg (g (ix3 0 r l)) (m (ix3 0 r l)) * ((8388608 / 5463681 : ℝ) : EReal) := by
  rw [← avg_row, ← scale1]; rfl

theorem scale_row : k0_pay9 (F := Ideal) (ix2 r l) = ((268435456 / 2672307 : ℝ) : EReal) := by
  rw [← scale2]; rfl

theorem delta_at : k0_pay1 (k0_pay4 (F := Ideal) g v) (k0_pay8 (F := Ideal) g m) (k0_pay9 (F := Ideal)) w (ix3 0 r l)
    = delta (w (ix3 0 r l)) (avg (g (ix3 0 r l)) (m (ix3 0 r l)) * ((8388608 / 5463681 : ℝ) : EReal))
        (meanSq (g (ix3 0 r l)) (v (ix3 0 r l)) * ((268435456 / 2672307 : ℝ) : EReal)) := by
  rw [← corrected_row, ← scale_row r l, ← sq_row]
  generalize k0_pay4 (F := Ideal) g v = x
  generalize k0_pay8 (F := Ideal) g m = y
  generalize k0_pay9 (F := Ideal) = z
  pointwise [k0_pay1, delta]

end Cert.Kernel22Ideal.Adam

namespace Cert.Reference22Ideal.Adam

open Cert.Reference22Ideal Cert.Reference22Ideal.Read Cert.Proof.Adam
open Idealize.ShloMosaic Idealize.ShloMosaic.Pointwise

variable (w g m v : FVec Ideal S1x2560x128 .f32) (r : Fin 2560) (l : Fin 128)

theorem avg_at : (val_main_v4 (F := Ideal) g m (ix3 0 r l) : EReal) = avg (g (ix3 0 r l)) (m (ix3 0 r l)) := by
  pointwise [val_main_v4, val_main_v3, val_main_v2, val_main_cst_0, val_main_v1, val_main_v0, val_main_cst, avg]

theorem sq_at : (val_main_v10 (F := Ideal) g v (ix3 0 r l) : EReal) = meanSq (g (ix3 0 r l)) (v (ix3 0 r l)) := by
  pointwise [val_main_v10, val_main_v9, val_main_v8, val_main_cst_2, val_main_v7, val_main_v6, val_main_v5, val_main_cst_1, meanSq]

theorem delta_at : (val_main_v23 (F := Ideal) w g m v (ix3 0 r l) : EReal)
    = delta (w (ix3 0 r l)) (avg (g (ix3 0 r l)) (m (ix3 0 r l)) * ((8388608 / 5463681 : ℝ) : EReal))
        (meanSq (g (ix3 0 r l)) (v (ix3 0 r l)) * ((268435456 / 2672307 : ℝ) : EReal)) := by
  rw [← div_corr1, ← div_corr2, ← avg_at, ← sq_at]
  rw [val_main_v23, val_main_v21, val_main_v18, val_main_v12, val_main_v17, val_main_v15, val_main_v14]
  generalize val_main_v4 (F := Ideal) g m = x
  generalize val_main_v10 (F := Ideal) g v = y
  pointwise [val_main_v22, val_main_cst_7, val_main_v11, val_main_cst_3, val_main_v13, val_main_cst_4, val_main_v16, val_main_cst_5, val_main_v20, val_main_v19, val_main_cst_6, delta]

end Cert.Reference22Ideal.Adam

namespace Cert.Proof

open Idealize.ShloMosaic Idealize.SL.Sem Idealize.ShloMosaic.Pointwise

/-- The value claim of the call: the gradients handed on, the changes and the two averages. -/
theorem adam_algebraic : Cert.algebraic_Kernel22Ideal_Reference22Ideal := by
  intro m ρ m' ρ' _ hag
  refine ⟨_, _, _, _, Cert.Kernel22Ideal.Value.run m ρ,
    (θ_run _ _ _).mono (fun r h c => ?_) (Cert.Reference22Ideal.Value.run m' ρ')⟩
  obtain ⟨a0, a1, a2, a3⟩ := hag c
  obtain ⟨r0, r1, r2, r3, k0, k1, k2, k3⟩ := h c
  refine ⟨r0.trans ?_, r1.trans ?_, r2.trans ?_, r3.trans ?_, k0, k1, k2, k3⟩
  · rw [a1]; funext i; obtain ⟨r, l, rfl⟩ := Adam.idx_eq i
    exact (Cert.Kernel22Ideal.Adam.grad_at _ r l).symm
  · rw [Cert.Reference22Ideal.Read.val_main_v23_eq, a0, a1, a2, a3]; funext i; obtain ⟨r, l, rfl⟩ := Adam.idx_eq i
    exact (Cert.Reference22Ideal.Adam.delta_at _ _ _ _ r l).trans (Cert.Kernel22Ideal.Adam.delta_at _ _ _ _ r l).symm
  · rw [Cert.Reference22Ideal.Read.val_main_v4_eq, a1, a2]; funext i; obtain ⟨r, l, rfl⟩ := Adam.idx_eq i
    exact (Cert.Reference22Ideal.Adam.avg_at _ _ r l).trans (Cert.Kernel22Ideal.Adam.avg_at _ _ r l).symm
  · rw [Cert.Reference22Ideal.Read.val_main_v10_eq, a1, a3]; funext i; obtain ⟨r, l, rfl⟩ := Adam.idx_eq i
    exact (Cert.Reference22Ideal.Adam.sq_at _ _ r l).trans (Cert.Kernel22Ideal.Adam.sq_at _ _ r l).symm

/-- The two reciprocals are what the rewrite says of them. -/
theorem adam_preserves : Cert.preserves_Kernel22_Kernel22Ideal :=
  ⟨IdealRules.named_const.statement Cert.Kernel22Ideal.κ "scale1" .f32 0x3FC48605#32 _ rfl,
    IdealRules.named_const.statement Cert.Kernel22Ideal.κ "scale2" .f32 0x42C8E6D3#32 _ rfl⟩

/-- The reference's frame. -/
theorem adam_reference_frame : Cert.quiescent_Reference22Ideal := fun m ρ _ =>
  (θ_run _ _ _).mono (fun r h => ⟨fun c => (h c).2.2.2.2, sem_eq_zero_of_no_sems (by decide) r.2⟩) (Cert.Reference22Ideal.Value.run m ρ)

end Cert.Proof

end
-- ==== Proof.NormMath.lean ====
/-
  A normalised row over the real numbers, its gradient as the call writes it and as differentiating the normalisation
  gives it, and the facts about the extended reals that carry both programs' terms to it.
-/
module

public import Mathlib.Tactic.FieldSimp
public import Mathlib.Tactic.Positivity
public import Mathlib.Tactic.Linarith
public import Mathlib.Tactic.Ring
public import Mathlib.Tactic.NormNum
public import Idealize.ShloMosaic.PureOps.Ideal.Laws
public import proofs.«01_k».proof.Proof.FoxMath

@[expose] public section

noncomputable section

namespace Cert.NormMath

open Idealize.ShloMosaic

variable (z p : Fin 2048 → ℝ)

/-- The row less its mean, the variance with its offset, the reciprocal of its root, the normalised row. -/
def dev (j : Fin 2048) : ℝ := z j - (∑ k, z k) / 2048
def eps : ℝ := 2748779 / 274877906944
def sd : ℝ := (∑ k, dev z k * dev z k) / 2048 + eps
def rs : ℝ := (Real.sqrt (sd z))⁻¹
def hat (j : Fin 2048) : ℝ := dev z j * rs z

/-- The gradient of the row, from that of the normalised row. -/
def grad (j : Fin 2048) : ℝ := rs z * (p j - (∑ k, p k) / 2048 - hat z j * ((∑ k, p k * hat z k) / 2048))

theorem sd_pos : 0 < sd z := by
  have h : 0 ≤ ∑ k, dev z k * dev z k := Finset.sum_nonneg fun k _ => mul_self_nonneg _
  have he : 0 < eps := by norm_num [eps]
  unfold sd
  have := div_nonneg h (by norm_num : (0 : ℝ) ≤ 2048)
  linarith

theorem rs_sq : rs z * rs z = 1 / sd z := by
  unfold rs
  rw [← mul_inv, Real.mul_self_sqrt (sd_pos z).le, one_div]

theorem sum_dev : ∑ k, dev z k = 0 := by
  simp only [dev, Finset.sum_sub_distrib, Finset.sum_const, Finset.card_univ, Fintype.card_fin, nsmul_eq_mul]
  push_cast; ring

/-- What differentiating gives of an entry before the mean is taken off. -/
def pre (j : Fin 2048) : ℝ := p j * rs z + (∑ k, dev z k * p k) * (-1 / 2 * (rs z / sd z)) / 2048 * (2 * dev z j)

theorem sum_pre : ∑ k, pre z p k = (∑ k, p k) * rs z := by
  simp only [pre, Finset.sum_add_distrib, ← Finset.mul_sum, sum_dev, ← Finset.sum_mul]
  ring

theorem pre_grad (j : Fin 2048) : pre z p j + (∑ k, -pre z p k) / 2048 = grad z p j := by
  have h : ∑ k, p k * hat z k = (∑ k, dev z k * p k) * rs z := by
    rw [Finset.sum_mul]; exact Finset.sum_congr rfl fun k _ => by unfold hat; ring
  rw [Finset.sum_neg_distrib, sum_pre]
  unfold grad
  rw [h]
  unfold pre hat
  have e : rs z / sd z = rs z * (rs z * rs z) := by rw [rs_sq]; ring
  rw [e]; ring

/-! The same in the extended reals. -/

/-- The row's length, the offset and the two factors of the differentiated variance, as floats. -/
abbrev nE : EReal := Ideal.ofBits .f32 0x45000000#32
abbrev epsE : EReal := Ideal.ofBits .f32 0x3727C5AC#32
abbrev halfE : EReal := Ideal.ofBits .f32 0xBF000000#32
abbrev twoE : EReal := Ideal.ofBits .f32 0x40000000#32

theorem nE_eq : nE = ((2048 : ℝ) : EReal) := by
  simp [nE, Ideal.ofBits, Ideal.ieee, -EReal.coe_mul]; norm_num
theorem epsE_eq : epsE = (eps : EReal) := by
  simp [epsE, eps, Ideal.ofBits, Ideal.ieee, -EReal.coe_mul]; norm_num
theorem halfE_eq : halfE = ((-1 / 2 : ℝ) : EReal) := by
  simp [halfE, Ideal.ofBits, Ideal.ieee, -EReal.coe_mul]; norm_num
theorem twoE_eq : twoE = ((2 : ℝ) : EReal) := by
  simp [twoE, Ideal.ofBits, Ideal.ieee, -EReal.coe_mul]; norm_num

theorem div_n (x : ℝ) : Ideal.div (x : EReal) nE = ((x / 2048 : ℝ) : EReal) := by
  rw [nE_eq, FoxMath.div_real (by norm_num)]

theorem sum_coe {F : Fin 2048 → EReal} {f : Fin 2048 → ℝ} (h : ∀ k, F k = f k) : ∑ k, F k = ((∑ k, f k : ℝ) : EReal) := by
  rw [← FoxMath.coe_sum]; exact Finset.sum_congr rfl fun k _ => h k

theorem mean_coe {F : Fin 2048 → EReal} {f : Fin 2048 → ℝ} (h : ∀ k, F k = f k) : Ideal.div (∑ k, F k) nE = (((∑ k, f k) / 2048 : ℝ) : EReal) := by
  rw [sum_coe h, div_n]

theorem rsqrt_sd : Ideal.rsqrt (sd z : EReal) = (rs z : EReal) := by
  rw [Ideal.rsqrt_coe, if_neg (sd_pos z).not_gt, if_neg (sd_pos z).ne']; rfl

/-- The gradient as the call writes it. -/
theorem grad_coe {P H : Fin 2048 → EReal} {s : EReal} (hs : s = rs z) (hp : ∀ k, P k = p k) (hh : ∀ k, H k = hat z k) (j : Fin 2048) :
    s * (P j - Ideal.div (∑ k, P k) nE - H j * Ideal.div (∑ k, P k * H k) nE) = (grad z p j : EReal) := by
  have e : ∀ k, P k * H k = ((p k * hat z k : ℝ) : EReal) := fun k => by rw [hp, hh, EReal.coe_mul]
  rw [mean_coe hp, mean_coe e, hp, hh, hs]
  simp only [← EReal.coe_sub, ← EReal.coe_mul]
  rfl

/-- The entry before the mean is taken off, as differentiating writes it. -/
theorem pre_coe {D P : Fin 2048 → EReal} {s v : EReal} (hs : s = rs z) (hv : v = sd z) (hd : ∀ k, D k = dev z k) (hp : ∀ k, P k = p k) (j : Fin 2048) :
    P j * s + Ideal.div ((∑ k, D k * P k) * (halfE * Ideal.div s v)) nE * (twoE * D j) = (pre z p j : EReal) := by
  have e : ∀ k, D k * P k = ((dev z k * p k : ℝ) : EReal) := fun k => by rw [hp, hd, EReal.coe_mul]
  rw [sum_coe e, hs, hv, FoxMath.div_real (sd_pos z).ne', halfE_eq, twoE_eq, hp, hd]
  simp only [← EReal.coe_mul]
  rw [div_n]
  simp only [← EReal.coe_mul, ← EReal.coe_add]
  rfl

/-- The gradient as differentiating writes it. -/
theorem pre_grad_coe {Q : Fin 2048 → EReal} (hq : ∀ k, Q k = pre z p k) (j : Fin 2048) :
    Q j + Ideal.div (∑ k, -Q k) nE = (grad z p j : EReal) := by
  have e : ∀ k, -Q k = ((-pre z p k : ℝ) : EReal) := fun k => by rw [hq, EReal.coe_neg]
  rw [mean_coe e, hq, ← EReal.coe_add, pre_grad]

/-! A row with an entry that is no real: its variance is infinite, and nothing is left of it or of its gradient. -/

theorem sub_sq_top {x : EReal} (h : ∀ r : ℝ, x ≠ r) (y : EReal) : (x - y) * (x - y) = ⊤ := by
  induction x with
  | bot => rw [EReal.bot_sub]; rfl
  | coe r => exact absurd rfl (h r)
  | top =>
    induction y with
    | bot => rfl
    | coe r => rw [EReal.top_sub_coe]; rfl
    | top => rfl

theorem sq_nonneg (x : EReal) : 0 ≤ x * x := by
  induction x with
  | bot => exact le_top
  | coe r => rw [← EReal.coe_mul]; exact_mod_cast mul_self_nonneg r
  | top => exact le_top

theorem var_top {D : Fin 2048 → EReal} {k : Fin 2048} (h : D k * D k = ⊤) : Ideal.div (∑ k, D k * D k) nE + epsE = ⊤ := by
  have e : ∑ k, D k * D k = ⊤ := top_le_iff.1 (h ▸ Finset.single_le_sum (f := fun k => D k * D k) (fun k _ => sq_nonneg (D k)) (Finset.mem_univ k))
  rw [e, nE_eq, Ideal.div_coe (by norm_num), EReal.top_mul_coe_of_pos (by norm_num), epsE_eq, EReal.top_add_coe]

theorem zero_div_top : Ideal.div 0 ⊤ = 0 := by simp [Ideal.div]

theorem zero_div_n : Ideal.div 0 nE = 0 := by rw [nE_eq, Ideal.div_coe (by norm_num), zero_mul]

/-- A row's deviations `D`, variance `v`, scale `s` and normalised entries `H`, from the row's entries `X`. -/
structure Row (X D H : Fin 2048 → EReal) (s v : EReal) : Prop where
  devEq : ∀ k, D k = X k - Ideal.div (∑ k, X k) nE
  varEq : v = Ideal.div (∑ k, D k * D k) nE + epsE
  scaleEq : s = Ideal.rsqrt v
  hatEq : ∀ k, H k = D k * s

variable {X D H : Fin 2048 → EReal} {s v : EReal} (R : Row X D H s v)
include R

/-- A row is of reals, with what follows from them, or has no scale. -/
theorem Row.cases : (∃ z : Fin 2048 → ℝ, (∀ k, D k = dev z k) ∧ v = sd z ∧ s = rs z ∧ ∀ k, H k = hat z k) ∨ (v = ⊤ ∧ s = 0 ∧ ∀ k, H k = 0) := by
  by_cases h : ∀ k, ∃ r : ℝ, X k = r
  · choose z hz using h
    have hd : ∀ k, D k = dev z k := fun k => by rw [R.devEq, hz, mean_coe hz, ← EReal.coe_sub]; rfl
    have hq : ∀ k, D k * D k = ((dev z k * dev z k : ℝ) : EReal) := fun k => by rw [hd, EReal.coe_mul]
    have hv : v = sd z := by rw [R.varEq, mean_coe hq, epsE_eq, ← EReal.coe_add]; rfl
    have hs : s = rs z := by rw [R.scaleEq, hv, rsqrt_sd]
    exact .inl ⟨z, hd, hv, hs, fun k => by rw [R.hatEq, hd, hs, ← EReal.coe_mul]; rfl⟩
  · push Not at h
    obtain ⟨k, hk⟩ := h
    have hv : v = ⊤ := by rw [R.varEq]; exact var_top (k := k) (by rw [R.devEq]; exact sub_sq_top hk _)
    have hs : s = 0 := by rw [R.scaleEq, hv]; rfl
    exact .inr ⟨hv, hs, fun k => by rw [R.hatEq, hs, mul_zero]⟩

theorem Row.hat_real (k : Fin 2048) : ∃ h : ℝ, H k = h := by
  obtain ⟨z, _, _, _, h⟩ | ⟨_, _, h⟩ := R.cases
  · exact ⟨_, h k⟩
  · exact ⟨0, h k⟩

/-- The gradient as the call writes it is the gradient as differentiating writes it. -/
theorem Row.grad_eq {P Q : Fin 2048 → EReal} {p : Fin 2048 → ℝ} (hp : ∀ k, P k = p k)
    (hq : ∀ k, Q k = P k * s + Ideal.div ((∑ k, D k * P k) * (halfE * Ideal.div s v)) nE * (twoE * D k)) (j : Fin 2048) :
    s * (P j - Ideal.div (∑ k, P k) nE - H j * Ideal.div (∑ k, P k * H k) nE) = Q j + Ideal.div (∑ k, -Q k) nE := by
  obtain ⟨z, hd, hv, hs, hh⟩ | ⟨hv, hs, hh⟩ := R.cases
  · exact (grad_coe z p hs hp hh j).trans (pre_grad_coe z p (fun k => (hq k).trans (pre_coe z p hs hv hd hp k)) j).symm
  · have h0 : ∀ k, Q k = 0 := fun k => by rw [hq, hs, hv, zero_div_top, mul_zero, mul_zero, mul_zero, zero_div_n, zero_mul, zero_add]
    simp only [h0, hs, zero_mul, neg_zero, Finset.sum_const_zero, zero_div_n, zero_add]

omit R

/-- A sum over the rows, by the blocks of 256 rows that the points visit. -/
theorem sum_blocks (f : Fin 2048 → EReal) :
    ∑ t : Fin 8, ∑ s : Fin 256, f ⟨t.val * 256 + s.val, by omega⟩ = ∑ r, f r := by
  rw [← Fintype.sum_prod_type']
  refine Fintype.sum_equiv (finProdFinEquiv (m := 8) (n := 256)) _ _ fun x => congrArg f (Fin.ext ?_)
  show x.1.val * 256 + x.2.val = x.2.val + 256 * x.1.val
  omega

/-- What an accumulator holds after each of the points, from what it holds after the first and what each next adds. -/
theorem acc_sum {N : ℕ} {A P : (n : ℕ) → n < N → EReal} (h0 : ∀ h, A 0 h = P 0 h)
    (hs : ∀ n (h : n + 1 < N), A (n + 1) h = A n (by omega) + P (n + 1) h) (n : ℕ) (hn : n < N) :
    A n hn = ∑ u : Fin (n + 1), P u.val (by omega) := by
  induction n with
  | zero => rw [h0, Fin.sum_univ_one]; rfl
  | succ n ih =>
    exact (hs n hn).trans ((congrArg (fun y : EReal => y + P (n + 1) hn) (ih (by omega))).trans
      (Fin.sum_univ_castSucc fun u : Fin (n + 2) => P u.val (by omega)).symm)

end Cert.NormMath

end
-- ==== Proof.NormForward.lean ====
/-
  The normalised layer: a point writes a block of rows of the layer's result, of the normalised rows and of the rows' scales.
  Both sides are the same functions of a row's entries, whatever these are.
-/
module

public import proofs.«01_k».proof.Defs
public import proofs.«01_k».proof.Proof.NormMath
public import proofs.«01_k».proof.Proof.Gen.Pre_finite
public import proofs.«01_k».proof.Proof.Gen.Kernel26Ideal.Value
public import proofs.«01_k».proof.Proof.Gen.Reference26Ideal.Read
public import Idealize.ShloMosaic.Lib.Pointwise
public import Idealize.ShloMosaic.Lib.Pipeline.ValueKit
public import Idealize.ShloMosaic.Lib.StableHlo.ReadAt
public import Idealize.ShloMosaic.Lib.Claim

@[expose] public section

set_option maxRecDepth 16384

noncomputable section

namespace Cert.NormForward

open Idealize.ShloMosaic Cert.NormMath

/-- An entry of the sum that is normalised: the residual, scaled, and the branch. -/
def mix (x r : EReal) : EReal := Ideal.ofBits .f32 0x3FB504F3#32 * x + r

/-- A row's deviations from its mean, and its scale. -/
def off (Z : Fin 2048 → EReal) (j : Fin 2048) : EReal := Z j - Ideal.div (∑ k, Z k) nE
def scale (Z : Fin 2048 → EReal) : EReal := Ideal.rsqrt (Ideal.div (∑ k, off Z k * off Z k) nE + epsE)

end Cert.NormForward

namespace Cert.Kernel26Ideal.Norm

open Cert.Kernel26Ideal Cert.Kernel26Ideal.Gen Cert.Kernel26Ideal.Value Cert.NormMath Cert.NormForward
open Idealize.ShloMosaic Idealize.ShloMosaic.TcCoe Idealize.SL.Sem
open Idealize.ShloMosaic.Pointwise

section
variable (x r : Vec Ideal S256x2048 .f32) (s : Fin 256)

theorem off_blk (j : Fin 2048) : (k0_pay1 x r (ix2 s j) : EReal) = off (fun k => mix (x (ix2 s k)) (r (ix2 s k))) j := by
  pointwise [k0_pay1, off, mix]

theorem scale_blk : (k0_pay2 x r (ix2 s 0) : EReal) = scale fun k => mix (x (ix2 s k)) (r (ix2 s k)) := by
  have e : (k0_pay2 x r (ix2 s 0) : EReal) = Ideal.rsqrt (Ideal.div (∑ k : Fin 2048, (k0_pay1 x r (ix2 s k) : EReal) * k0_pay1 x r (ix2 s k)) nE + epsE) := by
    pointwise [k0_pay2]
  rw [e, scale]
  simp only [off_blk]

theorem hat_blk (j : Fin 2048) : (k0_pay3 x r (ix2 s j) : EReal) = (k0_pay1 x r (ix2 s j) : EReal) * k0_pay2 x r (ix2 s 0) := by
  pointwise [k0_pay3]

theorem out_blk (g b : Vec Ideal S1x2048 .f32) (j : Fin 2048) :
    (k0_pay4 x r g b (ix2 s j) : EReal) = (k0_pay3 x r (ix2 s j) : EReal) * g (ix2 0 j) + b (ix2 0 j) := by
  pointwise [k0_pay4]
end

/-- The block indices of the windows at a point. -/
theorem idx : ∀ t : Fin cfg0.N,
    win0_0.index t = ![t.val, 0] ∧ win0_1.index t = ![t.val, 0] ∧ win0_2.index t = ![0, 0] ∧ win0_3.index t = ![0, 0]
      ∧ win0_4.index t = ![t.val, 0] ∧ win0_5.index t = ![t.val, 0] ∧ win0_6.index t = ![t.val, 0] :=
  (by decide +kernel : ∀ t : Fin grid0.N, _)

theorem lt8 (t : Fin cfg0.N) : t.val < 8 := lt_of_lt_of_eq t.isLt (show cfg0.N = 8 from N_0)

variable (m : (ℓ : Loc nD τ sig) → Buf (Elt Ideal) ℓ) (c : Dev nD)

/-- The arguments' arrays. -/
abbrev X0 : FVec Ideal S2048x2048 .f32 := m ((c : Thread nD τ).loc main_arg0)
abbrev X1 : FVec Ideal S2048x2048 .f32 := m ((c : Thread nD τ).loc main_arg1)
abbrev X2 : FVec Ideal S2048 .f32 := m ((c : Thread nD τ).loc main_arg2)
abbrev X3 : FVec Ideal S2048 .f32 := m ((c : Thread nD τ).loc main_arg3)

/-- A row of the sum that is normalised. -/
abbrev Z (r : Fin 2048) : Fin 2048 → EReal := fun k => mix (X0 m c (ix2 r k)) (X1 m c (ix2 r k))

theorem gains : (V m c main_v0 : FVec Ideal S1x2048 .f32) = shapeCast S1x2048 (X2 m c) shapeCasts_S2048_S1x2048 := by
  unfold V
  simp only [hostOps0, List.flatten_cons, List.flatten_nil, List.append_nil, List.cons_append, List.nil_append]
  entry_read
  rfl

theorem biases : (V m c main_v1 : FVec Ideal S1x2048 .f32) = shapeCast S1x2048 (X3 m c) shapeCasts_S2048_S1x2048 := by
  unfold V
  simp only [hostOps0, List.flatten_cons, List.flatten_nil, List.append_nil, List.cons_append, List.nil_append]
  entry_read
  rfl

variable (t : Fin cfg0.N)

/-- The row of the arrays that a point's block has at its row `s`. -/
abbrev row (s : Fin 256) : Fin 2048 := ⟨t.val * 256 + s.val, by have := lt8 t; omega⟩

theorem blk0 (s : Fin 256) (k : Fin 2048) : iblk m c 0 t (ix2 s k) = X0 m c (ix2 (row t s) k) := by
  obtain ⟨e0, _⟩ := idx t
  have e : iblk m c 0 t (ix2 s k) = V m c main_arg0 (ix2 (row t s) k) := by
    blk_point [iblk, e0]
  rw [e, V_main_arg0]

theorem blk1 (s : Fin 256) (k : Fin 2048) : iblk m c 1 t (ix2 s k) = X1 m c (ix2 (row t s) k) := by
  obtain ⟨_, e1, _⟩ := idx t
  have e : iblk m c 1 t (ix2 s k) = V m c main_arg1 (ix2 (row t s) k) := by
    blk_point [iblk, e1]
  rw [e, V_main_arg1]

theorem blk2 (k : Fin 2048) : iblk m c 2 t (ix2 0 k) = X2 m c (ix1 k) := by
  obtain ⟨_, _, e2, _⟩ := idx t
  have e : iblk m c 2 t (ix2 0 k) = V m c main_v0 (ix2 0 k) := by
    blk_point [iblk, e2]
  rw [e]
  refine (congrFun (gains m c) _).trans ?_
  pointwise

theorem blk3 (k : Fin 2048) : iblk m c 3 t (ix2 0 k) = X3 m c (ix1 k) := by
  obtain ⟨_, _, _, e3, _⟩ := idx t
  have e : iblk m c 3 t (ix2 0 k) = V m c main_v1 (ix2 0 k) := by
    blk_point [iblk, e3]
  rw [e]
  refine (congrFun (biases m c) _).trans ?_
  pointwise

/-- The blocks a point reads. -/
abbrev B0 : Vec Ideal S256x2048 .f32 := iblk m c 0 t
abbrev B1 : Vec Ideal S256x2048 .f32 := iblk m c 1 t
abbrev B2 : Vec Ideal S1x2048 .f32 := iblk m c 2 t
abbrev B3 : Vec Ideal S1x2048 .f32 := iblk m c 3 t

/-- What a point computes of a row of its blocks is what the row of the arrays gives. -/
theorem row_mix (s : Fin 256) : (fun k => mix (B0 m c t (ix2 s k)) (B1 m c t (ix2 s k))) = Z m c (row t s) := by
  funext k; exact congrArg₂ mix (blk0 m c t s k) (blk1 m c t s k)

theorem scale_row (s : Fin 256) : (k0_pay2 (B0 m c t) (B1 m c t) (ix2 s 0) : EReal) = scale (Z m c (row t s)) := by
  rw [scale_blk, row_mix]

theorem hat_row (s : Fin 256) (j : Fin 2048) : (k0_pay3 (B0 m c t) (B1 m c t) (ix2 s j) : EReal) = off (Z m c (row t s)) j * scale (Z m c (row t s)) := by
  rw [hat_blk, off_blk, row_mix, scale_row]

theorem out_row (s : Fin 256) (j : Fin 2048) : (k0_pay4 (B0 m c t) (B1 m c t) (B2 m c t) (B3 m c t) (ix2 s j) : EReal)
    = off (Z m c (row t s)) j * scale (Z m c (row t s)) * X2 m c (ix1 j) + X3 m c (ix1 j) := by
  rw [out_blk, hat_row]
  exact congrArg₂ (fun x y : EReal => off (Z m c (row t s)) j * scale (Z m c (row t s)) * x + y) (blk2 m c t j) (blk3 m c t j)

/-- The point that writes a row, and the row's place in its block. -/
theorem point_of (r : Fin 2048) : ∃ (t : Fin cfg0.N) (s : Fin 256), row t s = r :=
  ⟨⟨r.val / 256, lt_of_lt_of_eq (by omega) N_0.symm⟩, ⟨r.val % 256, by omega⟩, Fin.ext (by show r.val / 256 * 256 + r.val % 256 = r.val; omega)⟩

theorem out_at (r j : Fin 2048) : ((dats m 0 c).arrAt 4 cfg0.N (ix2 r j) : EReal) = off (Z m c r) j * scale (Z m c r) * X2 m c (ix1 j) + X3 m c (ix1 j) := by
  obtain ⟨t, s, rfl⟩ := point_of r
  have hi : ((cfg0.win 4).blk t).view.emb (ix2 s j) = ix2 (row t s) j := by
    obtain ⟨_, _, _, _, e, _⟩ := idx t
    funext k; apply Fin.ext
    match k with
    | ⟨0, _⟩ => show win0_4.index t 0 * 256 + 1 * s.val = t.val * 256 + s.val; rw [e]; show t.val * 256 + 1 * s.val = _; omega
    | ⟨1, _⟩ => show win0_4.index t 1 * 2048 + 1 * j.val = j.val; rw [e]; show 0 * 2048 + 1 * j.val = j.val; omega
  have ho : out0_4 (B0 m c t) (B1 m c t) (B2 m c t) (B3 m c t) = k0_pay4 (B0 m c t) (B1 m c t) (B2 m c t) (B3 m c t) := by unfold out0_4; frame_out
  exact (congrArg ((dats m 0 c).arrAt 4 cfg0.N) hi.symm).trans
    (((dats m 0 c).arrAt_emb_eq_flushed 4 disjoint4 t (flush0_4 t) _).trans ((congrFun (flushed4 m c t) _).trans ((congrFun ho _).trans (out_row m c t s j))))

theorem hat_at (r j : Fin 2048) : ((dats m 0 c).arrAt 5 cfg0.N (ix2 r j) : EReal) = off (Z m c r) j * scale (Z m c r) := by
  obtain ⟨t, s, rfl⟩ := point_of r
  have hi : ((cfg0.win 5).blk t).view.emb (ix2 s j) = ix2 (row t s) j := by
    obtain ⟨_, _, _, _, _, e, _⟩ := idx t
    funext k; apply Fin.ext
    match k with
    | ⟨0, _⟩ => show win0_5.index t 0 * 256 + 1 * s.val = t.val * 256 + s.val; rw [e]; show t.val * 256 + 1 * s.val = _; omega
    | ⟨1, _⟩ => show win0_5.index t 1 * 2048 + 1 * j.val = j.val; rw [e]; show 0 * 2048 + 1 * j.val = j.val; omega
  have ho : out0_5 (B0 m c t) (B1 m c t) (B2 m c t) (B3 m c t) = k0_pay3 (B0 m c t) (B1 m c t) := by unfold out0_5; frame_out
  exact (congrArg ((dats m 0 c).arrAt 5 cfg0.N) hi.symm).trans
    (((dats m 0 c).arrAt_emb_eq_flushed 5 disjoint5 t (flush0_5 t) _).trans ((congrFun (flushed5 m c t) _).trans ((congrFun ho _).trans (hat_row m c t s j))))

theorem scale_at (r : Fin 2048) : ((dats m 0 c).arrAt 6 cfg0.N (ix2 r 0) : EReal) = scale (Z m c r) := by
  obtain ⟨t, s, rfl⟩ := point_of r
  have hi : ((cfg0.win 6).blk t).view.emb (ix2 s 0) = ix2 (row t s) 0 := by
    obtain ⟨_, _, _, _, _, _, e⟩ := idx t
    funext k; apply Fin.ext
    match k with
    | ⟨0, _⟩ => show win0_6.index t 0 * 256 + 1 * s.val = t.val * 256 + s.val; rw [e]; show t.val * 256 + 1 * s.val = _; omega
    | ⟨1, _⟩ => show win0_6.index t 1 * 1 + 1 * 0 = 0; rw [e]; rfl
  have ho : out0_6 (B0 m c t) (B1 m c t) (B2 m c t) (B3 m c t) = k0_pay2 (B0 m c t) (B1 m c t) := by unfold out0_6; frame_out
  exact (congrArg ((dats m 0 c).arrAt 6 cfg0.N) hi.symm).trans
    (((dats m 0 c).arrAt_emb_eq_flushed 6 disjoint6 t (flush0_6 t) _).trans ((congrFun (flushed6 m c t) _).trans ((congrFun ho _).trans (scale_row m c t s))))

end Cert.Kernel26Ideal.Norm

namespace Cert.Reference26Ideal.Norm

open Cert.Reference26Ideal Cert.Reference26Ideal.Read Cert.NormMath Cert.NormForward
open Idealize.ShloMosaic Idealize.ShloMosaic.Pointwise

variable (x r : FVec Ideal S2048x2048 .f32) (g b : FVec Ideal S2048 .f32) (i : Fin 2048)

/-- A row of the sum that is normalised. -/
abbrev Z : Fin 2048 → EReal := fun k => mix (x (ix2 i k)) (r (ix2 i k))

theorem off_at (j : Fin 2048) : (val_main_v8 (F := Ideal) x r (ix2 i j) : EReal) = off (Z x r i) j := by
  pointwise [val_main_v8, val_main_v7, val_main_v6, val_main_v5, val_main_cst_1, val_main_v4, val_main_v3, val_main_cst_0, val_main_v2, val_main_v1, val_main_v0, val_main_cst, off, mix]

theorem scale_at : (val_main_v16 (F := Ideal) x r (ix2 i 0) : EReal) = scale (Z x r i) := by
  have e : (val_main_v15 (F := Ideal) x r (ix2 i 0) : EReal) = Ideal.div (∑ k : Fin 2048, (val_main_v8 (F := Ideal) x r (ix2 i k) : EReal) * val_main_v8 (F := Ideal) x r (ix2 i k)) nE + epsE := by
    pointwise [val_main_v15, val_main_v14, val_main_cst_4, val_main_v13, val_main_v12, val_main_cst_3, val_main_v11, val_main_v10, val_main_cst_2, val_main_v9]
  simp only [off_at] at e
  exact congrArg Ideal.rsqrt e

theorem hat_at (j : Fin 2048) : (val_main_v18 (F := Ideal) x r (ix2 i j) : EReal) = off (Z x r i) j * scale (Z x r i) := by
  rw [← off_at, ← scale_at]
  pointwise [val_main_v18, val_main_v17]

theorem out_at (j : Fin 2048) : (val_main_v24 (F := Ideal) x r g b (ix2 i j) : EReal) = off (Z x r i) j * scale (Z x r i) * g (ix1 j) + b (ix1 j) := by
  rw [← hat_at]
  pointwise [val_main_v24, val_main_v23, val_main_v22, val_main_v21, val_main_v20, val_main_v19]

end Cert.Reference26Ideal.Norm

namespace Cert.Proof

open Idealize.ShloMosaic Idealize.SL.Sem Idealize.ShloMosaic.Pointwise

/-- An index of an array of two axes has two coordinates. -/
theorem two_axes {n k : ℕ} (i : Shape.Idx (Shape.mk 2 ![n, k])) : ∃ (r : Fin n) (j : Fin k), i = ix2 r j :=
  ⟨i 0, i 1, by
    funext q
    match q with
    | ⟨0, _⟩ => rfl
    | ⟨1, _⟩ => rfl⟩

/-- The value claim of the call: the layer's result, the normalised rows and the rows' scales. -/
theorem ln_forward_algebraic : Cert.algebraic_Kernel26Ideal_Reference26Ideal := by
  intro m ρ m' ρ' _ hag
  refine ⟨fun c => (Cert.Kernel26Ideal.Gen.dats m 0 c).arrAt 4 Cert.Kernel26Ideal.cfg0.N, fun c => (Cert.Kernel26Ideal.Gen.dats m 0 c).arrAt 5 Cert.Kernel26Ideal.cfg0.N,
    fun c => (Cert.Kernel26Ideal.Gen.dats m 0 c).arrAt 6 Cert.Kernel26Ideal.cfg0.N, Cert.Kernel26Ideal.Value.run_blocks m ρ,
    (θ_run _ _ _).mono (fun r h c => ?_) (Cert.Reference26Ideal.Value.run m' ρ')⟩
  obtain ⟨a0, a1, a2, a3⟩ := hag c
  obtain ⟨r0, r1, r2, k0, k1, k2, k3⟩ := h c
  refine ⟨r0.trans ?_, r1.trans ?_, r2.trans ?_, k0, k1, k2, k3⟩
  · rw [Cert.Reference26Ideal.Read.val_main_v24_eq, a0, a1, a2, a3]; funext i; obtain ⟨r, j, rfl⟩ := two_axes i
    exact (Cert.Reference26Ideal.Norm.out_at _ _ _ _ r j).trans (Cert.Kernel26Ideal.Norm.out_at m c r j).symm
  · rw [Cert.Reference26Ideal.Read.val_main_v18_eq, a0, a1]; funext i; obtain ⟨r, j, rfl⟩ := two_axes i
    exact (Cert.Reference26Ideal.Norm.hat_at _ _ r j).trans (Cert.Kernel26Ideal.Norm.hat_at m c r j).symm
  · rw [Cert.Reference26Ideal.Read.val_main_v16_eq, a0, a1]; funext i; obtain ⟨r, j, rfl⟩ := two_axes i
    obtain rfl : j = 0 := Subsingleton.elim (α := Fin 1) _ _
    exact (Cert.Reference26Ideal.Norm.scale_at _ _ r).trans (Cert.Kernel26Ideal.Norm.scale_at m c r).symm

/-- The reference's frame. -/
theorem ln_forward_reference_frame : Cert.quiescent_Reference26Ideal := fun m ρ _ =>
  (θ_run _ _ _).mono (fun r h => ⟨fun c => (h c).2.2.2, sem_eq_zero_of_no_sems (by decide) r.2⟩) (Cert.Reference26Ideal.Value.run m ρ)

end Cert.Proof

end
-- ==== Proof.NormRef.lean ====
/-
  The reference's gradient of the normalised rows, entry by entry.
-/
module

public import proofs.«01_k».proof.Proof.Gen.Reference24Ideal.Read
public import proofs.«01_k».proof.Proof.NormMath
public import Idealize.ShloMosaic.Lib.Pointwise

@[expose] public section

set_option maxRecDepth 16384

noncomputable section

namespace Cert.Reference24Ideal.Norm

open Cert.Reference24Ideal Cert.Reference24Ideal.Read Cert.NormMath
open Idealize.ShloMosaic Idealize.ShloMosaic.Pointwise

variable (x0 x1 x2 : FVec Ideal S2048x2048 .f32) (x3 : FVec Ideal S2048 .f32)

/-- The normalised rows, from the arrays' entries. -/
theorem row_at (r : Fin 2048) : Row (fun k => x2 (ix2 r k)) (fun k => val_main_v6 (F := Ideal) x2 (ix2 r k)) (fun k => val_main_v21 (F := Ideal) x2 (ix2 r k))
    (val_main_v16 (F := Ideal) x2 (ix2 r 0)) (val_main_v15 (F := Ideal) x2 (ix2 r 0)) where
  devEq j := by
    pointwise [val_main_v6, val_main_v5, val_main_v4, val_main_v3, val_main_cst_1, val_main_v2, val_main_v1, val_main_cst_0]
  varEq := by
    pointwise [val_main_v15, val_main_v14, val_main_cst_5, val_main_v13, val_main_v12, val_main_cst_4, val_main_v11, val_main_v10, val_main_cst_3, val_main_v7]
  scaleEq := rfl
  hatEq j := by
    pointwise [val_main_v21, val_main_v20]

/-- The gradient that reaches the normalised rows. -/
theorem dy_at (r j : Fin 2048) : (val_main_v30 (F := Ideal) x0 x1 (ix2 r j) : EReal) = Ideal.ofBits .f32 0x3FB504F3#32 * x0 (ix2 r j) + x1 (ix2 r j) := by
  pointwise [val_main_v30, val_main_v29, val_main_v28, val_main_cst_7]

theorem dyg_at (r j : Fin 2048) : (val_main_v38 (F := Ideal) x0 x1 x3 (ix2 r j) : EReal) = val_main_v30 (F := Ideal) x0 x1 (ix2 r j) * x3 (ix1 j) := by
  pointwise [val_main_v38, val_main_v37, val_main_v22]

theorem dbeta_at (j : Fin 2048) : (val_main_v61 (F := Ideal) x0 x1 (ix2 0 j) : EReal) = ∑ r : Fin 2048, (val_main_v30 (F := Ideal) x0 x1 (ix2 r j) : EReal) := by
  pointwise [val_main_v61, val_main_v33, val_main_cst_9, val_main_v32, val_main_v31, val_main_cst_8]
  simp

theorem dgain_at (j : Fin 2048) : (val_main_v60 (F := Ideal) x0 x1 x2 (ix2 0 j) : EReal)
    = ∑ r : Fin 2048, (val_main_v30 (F := Ideal) x0 x1 (ix2 r j) : EReal) * val_main_v21 (F := Ideal) x2 (ix2 r j) := by
  have e : (val_main_v60 (F := Ideal) x0 x1 x2 (ix2 0 j) : EReal)
      = ∑ r : Fin 2048, (val_main_v21 (F := Ideal) x2 (ix2 r j) : EReal) * val_main_v30 (F := Ideal) x0 x1 (ix2 r j) := by
    pointwise [val_main_v60, val_main_v39, val_main_cst_11, val_main_v36, val_main_v35, val_main_cst_10, val_main_v34]
    simp
  exact e.trans (Finset.sum_congr rfl fun r _ => mul_comm _ _)

/-- The rows' gradient, and what it is before the mean is taken off. -/
theorem dz_at (r j : Fin 2048) : (val_main_v59 (F := Ideal) x0 x1 x2 x3 (ix2 r j) : EReal) = val_main_v51 (F := Ideal) x0 x1 x2 x3 (ix2 r j)
      + Ideal.div (∑ k : Fin 2048, -(val_main_v51 (F := Ideal) x0 x1 x2 x3 (ix2 r k) : EReal)) nE := by
  pointwise [val_main_v59, val_main_v58, val_main_v57, val_main_cst_17, val_main_v56, val_main_v55, val_main_cst_16, val_main_v54, val_main_v53, val_main_cst_15, val_main_v52]
  exact congrArg _ (Fin.sum_univ_one _)

theorem pre_at (r k : Fin 2048) : (val_main_v51 (F := Ideal) x0 x1 x2 x3 (ix2 r k) : EReal) = (val_main_v38 (F := Ideal) x0 x1 x3 (ix2 r k) : EReal) * val_main_v16 (F := Ideal) x2 (ix2 r 0)
      + Ideal.div ((∑ k : Fin 2048, (val_main_v6 (F := Ideal) x2 (ix2 r k) : EReal) * val_main_v38 (F := Ideal) x0 x1 x3 (ix2 r k))
        * (halfE * Ideal.div (val_main_v16 (F := Ideal) x2 (ix2 r 0)) (val_main_v15 (F := Ideal) x2 (ix2 r 0)))) nE * (twoE * val_main_v6 (F := Ideal) x2 (ix2 r k)) := by
  have e48 : (val_main_v48 (F := Ideal) x0 x1 x2 x3 (ix1 r) : EReal)
      = Ideal.div ((∑ k : Fin 2048, (val_main_v6 (F := Ideal) x2 (ix2 r k) : EReal) * val_main_v38 (F := Ideal) x0 x1 x3 (ix2 r k))
        * (halfE * Ideal.div (val_main_v16 (F := Ideal) x2 (ix2 r 0)) (val_main_v15 (F := Ideal) x2 (ix2 r 0)))) nE := by
    pointwise [val_main_v48, val_main_cst_14, val_main_v47, val_main_v46, val_main_cst_13, val_main_v45, val_main_v42, val_main_v41, val_main_cst_12,
      val_main_v40, val_main_v19, val_main_v18, val_main_cst_6, val_main_v17]
    exact Fin.sum_univ_one _
  rw [← e48]
  pointwise [val_main_v51, val_main_v44, val_main_v43, val_main_v50, val_main_v49, val_main_v9, val_main_v8, val_main_cst_2]

end Cert.Reference24Ideal.Norm

end
-- ==== Proof.NormBackward.lean ====
/-
  The gradient of a normalised layer: a point writes a block of rows of the rows' gradient and adds its rows to the
  gradients of gain and offset, which are written back after the last point.
-/
module

public import proofs.«01_k».proof.Defs
public import proofs.«01_k».proof.Proof.Gen.Pre_finite24
public import proofs.«01_k».proof.Proof.Gen.Kernel24Ideal.Value
public import proofs.«01_k».proof.Proof.NormRef
public import proofs.«01_k».proof.Proof.FoxPre
public import Idealize.ShloMosaic.Lib.Pointwise
public import Idealize.ShloMosaic.Lib.Pipeline.ValueKit
public import Idealize.ShloMosaic.Lib.Pipeline.ReadBack
public import Idealize.ShloMosaic.Lib.StableHlo.ReadAt
public import Idealize.ShloMosaic.Lib.Claim

@[expose] public section

set_option maxRecDepth 16384

noncomputable section

namespace Cert.Kernel24Ideal.Norm

open Cert.Kernel24Ideal Cert.Kernel24Ideal.Gen Cert.Kernel24Ideal.Value Cert.NormMath
open Idealize.ShloMosaic Idealize.ShloMosaic.TcCoe Idealize.SL.Sem
open Idealize.ShloMosaic.Pointwise
open Cert.Reference24Ideal.Read (val_main_v16 val_main_v21 val_main_v30 val_main_v38)

/-- The gradient that reaches the normalised rows. -/
theorem pay3_at (a b : Vec Ideal S256x2048 .f32) (s : Fin 256) (j : Fin 2048) :
    k0_pay3 a b (ix2 s j) = Ideal.ofBits .f32 0x3FB504F3#32 * a (ix2 s j) + b (ix2 s j) := by
  pointwise [k0_pay3]

theorem pay5_at (a b h : Vec Ideal S256x2048 .f32) (g : Vec Ideal S1x2048 .f32) (r : Vec Ideal S256x1 .f32) (s : Fin 256) (j : Fin 2048) :
    (k0_pay5 a b h g r (ix2 s j) : EReal) = r (ix2 s 0) * ((k0_pay3 a b (ix2 s j) : EReal) * g (ix2 0 j) - Ideal.div (∑ k : Fin 2048, (k0_pay3 a b (ix2 s k) : EReal) * g (ix2 0 k)) nE
      - h (ix2 s j) * Ideal.div (∑ k : Fin 2048, (k0_pay3 a b (ix2 s k) : EReal) * g (ix2 0 k) * h (ix2 s k)) nE) := by
  pointwise [k0_pay5, k0_pay4]

theorem pay6_at (a b h : Vec Ideal S256x2048 .f32) (j : Fin 2048) :
    (k0_pay6 a b h (ix2 0 j) : EReal) = ∑ s : Fin 256, (k0_pay3 a b (ix2 s j) : EReal) * h (ix2 s j) := by
  pointwise [k0_pay6, k0_pay4]

theorem pay7_at (a b : Vec Ideal S256x2048 .f32) (j : Fin 2048) :
    (k0_pay7 a b (ix2 0 j) : EReal) = ∑ s : Fin 256, (k0_pay3 a b (ix2 s j) : EReal) := by
  pointwise [k0_pay7]

theorem pay1_at (x y : Vec Ideal S1x2048 .f32) (j : Fin 2048) : (k0_pay1 x y (ix2 0 j) : EReal) = y (ix2 0 j) + x (ix2 0 j) := by
  pointwise [k0_pay1]

theorem pay2_at (x y : Vec Ideal S1x2048 .f32) (j : Fin 2048) : (k0_pay2 x y (ix2 0 j) : EReal) = y (ix2 0 j) + x (ix2 0 j) := by
  pointwise [k0_pay2]

/-- The block indices of the windows at a point. -/
theorem idx : ∀ t : Fin cfg0.N,
    win0_0.index t = ![t.val, 0] ∧ win0_1.index t = ![t.val, 0] ∧ win0_2.index t = ![t.val, 0] ∧ win0_3.index t = ![t.val, 0]
      ∧ win0_4.index t = ![0, 0] ∧ win0_5.index t = ![t.val, 0] ∧ win0_6.index t = ![0, 0] ∧ win0_7.index t = ![0, 0] :=
  (by decide +kernel : ∀ t : Fin grid0.N, _)

theorem lt8 (t : Fin cfg0.N) : t.val < 8 := lt_of_lt_of_eq t.isLt (show cfg0.N = 8 from N_0)

variable (m : (ℓ : Loc nD τ sig) → Buf (Elt Ideal) ℓ) (c : Dev nD)

/-- The arguments' arrays. -/
abbrev X0 : FVec Ideal S2048x2048 .f32 := m ((c : Thread nD τ).loc main_arg0)
abbrev X1 : FVec Ideal S2048x2048 .f32 := m ((c : Thread nD τ).loc main_arg1)
abbrev X2 : FVec Ideal S2048x2048 .f32 := m ((c : Thread nD τ).loc main_arg2)
abbrev X3 : FVec Ideal S2048 .f32 := m ((c : Thread nD τ).loc main_arg3)

theorem scales : (V m c main_v13 : FVec Ideal S2048x1 .f32) = val_main_v16 (F := Ideal) (X2 m c) := by
  unfold V
  simp only [hostOps0, List.flatten_cons, List.flatten_nil, List.append_nil, List.cons_append, List.nil_append]
  entry_read
  rfl

theorem hats : (V m c main_v15 : FVec Ideal S2048x2048 .f32) = val_main_v21 (F := Ideal) (X2 m c) := by
  unfold V
  simp only [hostOps0, List.flatten_cons, List.flatten_nil, List.append_nil, List.cons_append, List.nil_append]
  entry_read
  rfl

theorem gains : (V m c main_v16 : FVec Ideal S1x2048 .f32) = shapeCast S1x2048 (X3 m c) shapeCasts_S2048_S1x2048 := by
  unfold V
  simp only [hostOps0, List.flatten_cons, List.flatten_nil, List.append_nil, List.cons_append, List.nil_append]
  entry_read
  rfl

variable (t : Fin cfg0.N)

/-- The row of the arrays that a point's block has at its row `s`. -/
abbrev row (s : Fin 256) : Fin 2048 := ⟨t.val * 256 + s.val, by have := lt8 t; omega⟩

theorem blk0 (s : Fin 256) (k : Fin 2048) : iblk m c 0 t (ix2 s k) = X0 m c (ix2 (row t s) k) := by
  obtain ⟨e0, _⟩ := idx t
  have e : iblk m c 0 t (ix2 s k) = V m c main_arg0 (ix2 (row t s) k) := by
    blk_point [iblk, e0]
  rw [e, V_main_arg0]

theorem blk1 (s : Fin 256) (k : Fin 2048) : iblk m c 1 t (ix2 s k) = X1 m c (ix2 (row t s) k) := by
  obtain ⟨_, e1, _⟩ := idx t
  have e : iblk m c 1 t (ix2 s k) = V m c main_arg1 (ix2 (row t s) k) := by
    blk_point [iblk, e1]
  rw [e, V_main_arg1]

theorem blk2 (s : Fin 256) (k : Fin 2048) : iblk m c 2 t (ix2 s k) = val_main_v21 (F := Ideal) (X2 m c) (ix2 (row t s) k) := by
  obtain ⟨_, _, e2, _⟩ := idx t
  have e : iblk m c 2 t (ix2 s k) = V m c main_v15 (ix2 (row t s) k) := by
    blk_point [iblk, e2]
  rw [e]; exact congrFun (hats m c) _

theorem blk3 (s : Fin 256) : iblk m c 3 t (ix2 s 0) = val_main_v16 (F := Ideal) (X2 m c) (ix2 (row t s) 0) := by
  obtain ⟨_, _, _, e3, _⟩ := idx t
  have e : iblk m c 3 t (ix2 s 0) = V m c main_v13 (ix2 (row t s) 0) := by
    blk_point [iblk, e3]
  rw [e]; exact congrFun (scales m c) _

theorem blk4 (k : Fin 2048) : iblk m c 4 t (ix2 0 k) = X3 m c (ix1 k) := by
  obtain ⟨_, _, _, _, e4, _⟩ := idx t
  have e : iblk m c 4 t (ix2 0 k) = V m c main_v16 (ix2 0 k) := by
    blk_point [iblk, e4]
  rw [e]
  refine (congrFun (gains m c) _).trans ?_
  pointwise

/-- The blocks a point reads. -/
abbrev B0 : Vec Ideal S256x2048 .f32 := iblk m c 0 t
abbrev B1 : Vec Ideal S256x2048 .f32 := iblk m c 1 t
abbrev B2 : Vec Ideal S256x2048 .f32 := iblk m c 2 t
abbrev B3 : Vec Ideal S256x1 .f32 := iblk m c 3 t
abbrev B4 : Vec Ideal S1x2048 .f32 := iblk m c 4 t

theorem dy_blk (s : Fin 256) (k : Fin 2048) :
    (k0_pay3 (B0 m c t) (B1 m c t) (ix2 s k) : EReal) = val_main_v30 (F := Ideal) (X0 m c) (X1 m c) (ix2 (row t s) k) := by
  rw [pay3_at, Cert.Reference24Ideal.Norm.dy_at]
  exact congrArg₂ (fun x y : EReal => Ideal.ofBits .f32 0x3FB504F3#32 * x + y) (blk0 m c t s k) (blk1 m c t s k)

theorem out_dz : (outsAt0 m c t.val t.isLt).1 = k0_pay5 (B0 m c t) (B1 m c t) (B2 m c t) (B4 m c t) (B3 m c t) := by
  by_cases h : t.val % 8 = 0
  · rw [outsAt0_A m c t h (by have := lt8 t; omega)]; dsimp only; unfold out0_A_5; frame_out
  · rw [outsAt0_B m c t h (by omega)]; dsimp only; unfold out0_B_5; frame_out

theorem gain_first (h : t.val % 8 = 0) : (outsAt0 m c t.val t.isLt).2.1 = k0_pay6 (B0 m c t) (B1 m c t) (B2 m c t) := by
  rw [outsAt0_A m c t h (by have := lt8 t; omega)]; dsimp only; unfold out0_A_6; frame_out

theorem gain_next (h : ¬t.val % 8 = 0) : (outsAt0 m c t.val t.isLt).2.1
    = k0_pay1 (k0_pay6 (B0 m c t) (B1 m c t) (B2 m c t)) (outsAt0 m c (t.val - 1) (Nat.lt_of_le_of_lt (Nat.sub_le _ _) t.isLt)).2.1 := by
  rw [outsAt0_B m c t h (by omega)]; dsimp only; unfold out0_B_6; frame_out

theorem offset_first (h : t.val % 8 = 0) : (outsAt0 m c t.val t.isLt).2.2 = k0_pay7 (B0 m c t) (B1 m c t) := by
  rw [outsAt0_A m c t h (by have := lt8 t; omega)]; dsimp only; unfold out0_A_7; frame_out

theorem offset_next (h : ¬t.val % 8 = 0) : (outsAt0 m c t.val t.isLt).2.2
    = k0_pay2 (k0_pay7 (B0 m c t) (B1 m c t)) (outsAt0 m c (t.val - 1) (Nat.lt_of_le_of_lt (Nat.sub_le _ _) t.isLt)).2.2 := by
  rw [outsAt0_B m c t h (by omega)]; dsimp only; unfold out0_B_7; frame_out

/-- A point's rows summed, for the gain and for the offset. -/
abbrev gainPart (n : ℕ) (hn : n < 8) (j : Fin 2048) : EReal :=
  ∑ s : Fin 256, (val_main_v30 (F := Ideal) (X0 m c) (X1 m c) (ix2 (⟨n * 256 + s.val, by omega⟩ : Fin 2048) j) : EReal) * val_main_v21 (F := Ideal) (X2 m c) (ix2 (⟨n * 256 + s.val, by omega⟩ : Fin 2048) j)
abbrev offsetPart (n : ℕ) (hn : n < 8) (j : Fin 2048) : EReal :=
  ∑ s : Fin 256, (val_main_v30 (F := Ideal) (X0 m c) (X1 m c) (ix2 (⟨n * 256 + s.val, by omega⟩ : Fin 2048) j) : EReal)

theorem gain_part (j : Fin 2048) : (k0_pay6 (B0 m c t) (B1 m c t) (B2 m c t) (ix2 0 j) : EReal) = gainPart m c t.val (lt8 t) j := by
  rw [pay6_at]
  exact Finset.sum_congr rfl fun s _ => congrArg₂ (fun x y : EReal => x * y) (dy_blk m c t s j) (blk2 m c t s j)

theorem offset_part (j : Fin 2048) : (k0_pay7 (B0 m c t) (B1 m c t) (ix2 0 j) : EReal) = offsetPart m c t.val (lt8 t) j := by
  rw [pay7_at]
  exact Finset.sum_congr rfl fun s _ => dy_blk m c t s j

/-- What the two accumulators hold after the last point. -/
theorem gain_acc (hn : 7 < cfg0.N) (j : Fin 2048) : ((outsAt0 m c 7 hn).2.1 (ix2 0 j) : EReal) = ∑ u : Fin 8, gainPart m c u.val u.isLt j :=
  acc_sum (N := 8) (A := fun n h => (outsAt0 m c n (lt_of_lt_of_eq h N_0.symm)).2.1 (ix2 0 j)) (P := fun n h => gainPart m c n h j)
    (fun h => (congrFun (gain_first m c ⟨0, lt_of_lt_of_eq h N_0.symm⟩ rfl) _).trans (gain_part m c _ j))
    (fun n h => (congrFun (gain_next m c ⟨n + 1, lt_of_lt_of_eq h N_0.symm⟩ (by dsimp only; omega)) _).trans ((pay1_at _ _ j).trans
      (congrArg (fun y : EReal => (outsAt0 m c n (lt_of_lt_of_eq (by omega) N_0.symm)).2.1 (ix2 0 j) + y) (gain_part m c _ j)))) 7 (by omega)

theorem offset_acc (hn : 7 < cfg0.N) (j : Fin 2048) : ((outsAt0 m c 7 hn).2.2 (ix2 0 j) : EReal) = ∑ u : Fin 8, offsetPart m c u.val u.isLt j :=
  acc_sum (N := 8) (A := fun n h => (outsAt0 m c n (lt_of_lt_of_eq h N_0.symm)).2.2 (ix2 0 j)) (P := fun n h => offsetPart m c n h j)
    (fun h => (congrFun (offset_first m c ⟨0, lt_of_lt_of_eq h N_0.symm⟩ rfl) _).trans (offset_part m c _ j))
    (fun n h => (congrFun (offset_next m c ⟨n + 1, lt_of_lt_of_eq h N_0.symm⟩ (by dsimp only; omega)) _).trans ((pay2_at _ _ j).trans
      (congrArg (fun y : EReal => (outsAt0 m c n (lt_of_lt_of_eq (by omega) N_0.symm)).2.2 (ix2 0 j) + y) (offset_part m c _ j)))) 7 (by omega)

/-- The last point, after which the accumulators are written back. -/
abbrev last : Fin cfg0.N := ⟨7, lt_of_lt_of_eq (by norm_num) N_0.symm⟩

theorem only_last6 (u : Fin cfg0.N) (h : (cfg0.win 6).flush u = true) : u = last := by
  have := (flush0_6 u).mp h; have := lt8 u; exact Fin.ext (by show u.val = 7; omega)

theorem only_last7 (u : Fin cfg0.N) (h : (cfg0.win 7).flush u = true) : u = last := by
  have := (flush0_7 u).mp h; have := lt8 u; exact Fin.ext (by show u.val = 7; omega)

theorem gain_at (j : Fin 2048) : ((dats m 0 c).arrAt 6 cfg0.N (ix2 0 j) : EReal)
    = ∑ r : Fin 2048, (val_main_v30 (F := Ideal) (X0 m c) (X1 m c) (ix2 r j) : EReal) * val_main_v21 (F := Ideal) (X2 m c) (ix2 r j) := by
  have hi : ((cfg0.win 6).blk last).view.emb (ix2 0 j) = ix2 0 j := by
    obtain ⟨_, _, _, _, _, _, e, _⟩ := idx last
    funext k; apply Fin.ext
    match k with
    | ⟨0, _⟩ => show win0_6.index last 0 * 1 + 1 * 0 = 0; rw [e]; rfl
    | ⟨1, _⟩ => show win0_6.index last 1 * 2048 + 1 * j.val = j.val; rw [e]; show 0 * 2048 + 1 * j.val = j.val; omega
  refine (congrArg ((dats m 0 c).arrAt 6 cfg0.N) hi.symm).trans
    (((dats m 0 c).arrAt_emb_eq_flushed 6 (fun u u' h h' hne => absurd ((only_last6 u h).trans (only_last6 u' h').symm) hne) last ((flush0_6 last).mpr rfl) _).trans
      ((congrFun (flushed6 m c last) _).trans ?_))
  exact (gain_acc m c _ j).trans (sum_blocks fun r => (val_main_v30 (F := Ideal) (X0 m c) (X1 m c) (ix2 r j) : EReal) * val_main_v21 (F := Ideal) (X2 m c) (ix2 r j))

theorem offset_at (j : Fin 2048) : ((dats m 0 c).arrAt 7 cfg0.N (ix2 0 j) : EReal)
    = ∑ r : Fin 2048, (val_main_v30 (F := Ideal) (X0 m c) (X1 m c) (ix2 r j) : EReal) := by
  have hi : ((cfg0.win 7).blk last).view.emb (ix2 0 j) = ix2 0 j := by
    obtain ⟨_, _, _, _, _, _, _, e⟩ := idx last
    funext k; apply Fin.ext
    match k with
    | ⟨0, _⟩ => show win0_7.index last 0 * 1 + 1 * 0 = 0; rw [e]; rfl
    | ⟨1, _⟩ => show win0_7.index last 1 * 2048 + 1 * j.val = j.val; rw [e]; show 0 * 2048 + 1 * j.val = j.val; omega
  refine (congrArg ((dats m 0 c).arrAt 7 cfg0.N) hi.symm).trans
    (((dats m 0 c).arrAt_emb_eq_flushed 7 (fun u u' h h' hne => absurd ((only_last7 u h).trans (only_last7 u' h').symm) hne) last ((flush0_7 last).mpr rfl) _).trans
      ((congrFun (flushed7 m c last) _).trans ?_))
  exact (offset_acc m c _ j).trans (sum_blocks fun r => (val_main_v30 (F := Ideal) (X0 m c) (X1 m c) (ix2 r j) : EReal))

theorem dz_at (r j : Fin 2048) : ((dats m 0 c).arrAt 5 cfg0.N (ix2 r j) : EReal)
    = val_main_v16 (F := Ideal) (X2 m c) (ix2 r 0) * ((val_main_v38 (F := Ideal) (X0 m c) (X1 m c) (X3 m c) (ix2 r j) : EReal)
      - Ideal.div (∑ k : Fin 2048, (val_main_v38 (F := Ideal) (X0 m c) (X1 m c) (X3 m c) (ix2 r k) : EReal)) nE
      - val_main_v21 (F := Ideal) (X2 m c) (ix2 r j) * Ideal.div (∑ k : Fin 2048, (val_main_v38 (F := Ideal) (X0 m c) (X1 m c) (X3 m c) (ix2 r k) : EReal) * val_main_v21 (F := Ideal) (X2 m c) (ix2 r k)) nE) := by
  obtain ⟨t, hv⟩ : ∃ t : Fin cfg0.N, t.val = r.val / 256 := ⟨⟨_, lt_of_lt_of_eq (by omega) N_0.symm⟩, rfl⟩
  have hi : ((cfg0.win 5).blk t).view.emb (ix2 (⟨r.val % 256, by omega⟩ : Fin 256) j) = ix2 r j := by
    obtain ⟨_, _, _, _, _, e, _⟩ := idx t
    funext k; apply Fin.ext
    match k with
    | ⟨0, _⟩ => show win0_5.index t 0 * 256 + 1 * (r.val % 256) = r.val; rw [e]; show t.val * 256 + 1 * (r.val % 256) = r.val; omega
    | ⟨1, _⟩ => show win0_5.index t 1 * 2048 + 1 * j.val = j.val; rw [e]; show 0 * 2048 + 1 * j.val = j.val; omega
  have hr : row t (⟨r.val % 256, by omega⟩ : Fin 256) = r := Fin.ext (by show t.val * 256 + r.val % 256 = r.val; omega)
  refine (congrArg ((dats m 0 c).arrAt 5 cfg0.N) hi.symm).trans
    (((dats m 0 c).arrAt_emb_eq_flushed 5 disjoint5 t (flush0_5 t) _).trans ((congrFun (flushed5 m c t) _).trans ?_))
  refine (congrFun (out_dz m c t) _).trans ((pay5_at _ _ _ _ _ _ _).trans ?_)
  have hd : ∀ k, (k0_pay3 (B0 m c t) (B1 m c t) (ix2 (⟨r.val % 256, by omega⟩ : Fin 256) k) : EReal) * B4 m c t (ix2 0 k)
      = val_main_v38 (F := Ideal) (X0 m c) (X1 m c) (X3 m c) (ix2 r k) := fun k => by
    rw [Cert.Reference24Ideal.Norm.dyg_at]
    exact congrArg₂ (fun x y : EReal => x * y) ((dy_blk m c t _ k).trans (by rw [hr])) (blk4 m c t k)
  have hh : ∀ k, B2 m c t (ix2 (⟨r.val % 256, by omega⟩ : Fin 256) k) = val_main_v21 (F := Ideal) (X2 m c) (ix2 r k) := fun k =>
    (blk2 m c t _ k).trans (by rw [hr])
  have hs : B3 m c t (ix2 (⟨r.val % 256, by omega⟩ : Fin 256) 0) = val_main_v16 (F := Ideal) (X2 m c) (ix2 r 0) := (blk3 m c t _).trans (by rw [hr])
  simp only [hd, hh, hs]

end Cert.Kernel24Ideal.Norm

namespace Cert.Pre_finite24.Norm

open Cert.Pre_finite24 Cert.Pre_finite24.Gen
open Idealize.ShloMosaic Idealize.ShloMosaic.Pointwise
open Cert.Pre_finite.Fox (real_of_olt)

/-- What the precondition gives: the entries of these arrays are reals. -/
theorem finite_of (x0 x1 x2 : FVec Ideal S2048x2048 .f32) (x3 : FVec Ideal S2048 .f32) (h : fn (F := Ideal) x0 x1 x2 x3 = fun _ => 1#1) :
    ∃ (a b : Fin 2048 → Fin 2048 → ℝ) (g : Fin 2048 → ℝ), (∀ r k, x0 (ix2 r k) = (a r k : EReal)) ∧ (∀ r k, x1 (ix2 r k) = (b r k : EReal))
      ∧ ∀ k, x3 (ix1 k) = (g k : EReal) := by
  have h' := congrFun h (Shape.Idx.first h_S_)
  dsimp only [fn] at h'
  obtain ⟨h01, h3⟩ := IntOp.andi_eq_one.1 h'
  obtain ⟨h0, h1⟩ := IntOp.andi_eq_one.1 h01
  haveI : Subsingleton S_.Idx := ⟨fun a b => funext fun k => k.elim0⟩
  have e0 : ∀ r k, ∃ v : ℝ, x0 (ix2 r k) = (v : EReal) := fun r k => by
    refine real_of_olt _ ((congrArg (· = 1#1) ?_).mp (Host.reduce_andi_all _ _ _ _ _ h0 (ix2 r k)))
    pointwise
    rfl
  have e1 : ∀ r k, ∃ v : ℝ, x1 (ix2 r k) = (v : EReal) := fun r k => by
    refine real_of_olt _ ((congrArg (· = 1#1) ?_).mp (Host.reduce_andi_all _ _ _ _ _ h1 (ix2 r k)))
    pointwise
    rfl
  have e3 : ∀ k, ∃ v : ℝ, x3 (ix1 k) = (v : EReal) := fun k => by
    refine real_of_olt _ ((congrArg (· = 1#1) ?_).mp (Host.reduce_andi_all _ _ _ _ _ h3 (ix1 k)))
    pointwise
    rfl
  exact ⟨fun r k => (e0 r k).choose, fun r k => (e1 r k).choose, fun k => (e3 k).choose,
    fun r k => (e0 r k).choose_spec, fun r k => (e1 r k).choose_spec, fun k => (e3 k).choose_spec⟩

end Cert.Pre_finite24.Norm

namespace Cert.Proof

open Idealize.ShloMosaic Idealize.SL.Sem Idealize.ShloMosaic.Pointwise

section
variable (m : (ℓ : Loc Cert.Kernel24Ideal.nD Cert.Kernel24Ideal.τ Cert.Kernel24Ideal.sig) → Buf (Elt Ideal) ℓ) (c : Dev Cert.Kernel24Ideal.nD)
open Cert.Kernel24Ideal.Norm (X0 X1 X2 X3)

theorem one_row {n : ℕ} (i : Shape.Idx (Shape.mk 2 ![1, n])) : ∃ j : Fin n, i = ix2 0 j :=
  ⟨i 1, by
    funext k
    match k with
    | ⟨0, _⟩ => exact Subsingleton.elim (α := Fin 1) _ _
    | ⟨1, _⟩ => rfl⟩

/-- The rows' gradient is the reference's, the gradients' and the gain's entries being reals. -/
theorem ln_dz_eq (h : Cert.Pre_finite24.fn (F := Ideal) (X0 m c) (X1 m c) (X2 m c) (X3 m c) = fun _ => 1#1) :
    (Cert.Kernel24Ideal.Gen.dats m 0 c).arrAt 5 Cert.Kernel24Ideal.cfg0.N
      = Cert.Reference24Ideal.Read.val_main_v59 (F := Ideal) (X0 m c) (X1 m c) (X2 m c) (X3 m c) := by
  obtain ⟨a, b, g, h0, h1, h3⟩ := Cert.Pre_finite24.Norm.finite_of _ _ _ _ h
  obtain ⟨α, hα⟩ : ∃ α : ℝ, Ideal.ofBits .f32 0x3FB504F3#32 = (α : EReal) :=
    ⟨_, by simp [Ideal.ofBits, Ideal.ieee, -EReal.coe_mul]; norm_num; rfl⟩
  have hp : ∀ r k, (Cert.Reference24Ideal.Read.val_main_v38 (F := Ideal) (X0 m c) (X1 m c) (X3 m c) (ix2 r k) : EReal) = (((α * a r k + b r k) * g k : ℝ) : EReal) := fun r k => by
    rw [Cert.Reference24Ideal.Norm.dyg_at, Cert.Reference24Ideal.Norm.dy_at, h0, h1, h3, hα]
    simp only [EReal.coe_mul, EReal.coe_add]
  funext i
  obtain ⟨r, j, rfl⟩ : ∃ (r j : Fin 2048), i = ix2 r j := ⟨i 0, i 1, by
    funext k
    match k with
    | ⟨0, _⟩ => rfl
    | ⟨1, _⟩ => rfl⟩
  refine (Cert.Kernel24Ideal.Norm.dz_at m c r j).trans (Eq.trans ?_ (Cert.Reference24Ideal.Norm.dz_at _ _ _ _ r j).symm)
  exact (Cert.Reference24Ideal.Norm.row_at (X2 m c) r).grad_eq (hp r) (fun k => Cert.Reference24Ideal.Norm.pre_at _ _ _ _ r k) j

theorem ln_gain_eq : (Cert.Kernel24Ideal.Gen.dats m 0 c).arrAt 6 Cert.Kernel24Ideal.cfg0.N
    = Cert.Reference24Ideal.Read.val_main_v60 (F := Ideal) (X0 m c) (X1 m c) (X2 m c) := by
  funext i
  obtain ⟨j, rfl⟩ := one_row i
  exact (Cert.Kernel24Ideal.Norm.gain_at m c j).trans (Cert.Reference24Ideal.Norm.dgain_at _ _ _ j).symm

theorem ln_offset_eq : (Cert.Kernel24Ideal.Gen.dats m 0 c).arrAt 7 Cert.Kernel24Ideal.cfg0.N
    = Cert.Reference24Ideal.Read.val_main_v61 (F := Ideal) (X0 m c) (X1 m c) := by
  funext i
  obtain ⟨j, rfl⟩ := one_row i
  exact (Cert.Kernel24Ideal.Norm.offset_at m c j).trans (Cert.Reference24Ideal.Norm.dbeta_at _ _ j).symm
end

/-- The value claim of the call. -/
theorem ln_backward_algebraic : Cert.algebraic_Kernel24Ideal_Reference24Ideal_pre_finite24 := by
  intro m ρ m' ρ' hpre hag
  refine ⟨fun c => (Cert.Kernel24Ideal.Gen.dats m 0 c).arrAt 5 Cert.Kernel24Ideal.cfg0.N, fun c => (Cert.Kernel24Ideal.Gen.dats m 0 c).arrAt 6 Cert.Kernel24Ideal.cfg0.N,
    fun c => (Cert.Kernel24Ideal.Gen.dats m 0 c).arrAt 7 Cert.Kernel24Ideal.cfg0.N, Cert.Kernel24Ideal.Value.run_blocks m ρ,
    (θ_run _ _ _).mono (fun r h c => ?_) (Cert.Reference24Ideal.Value.run m' ρ')⟩
  obtain ⟨a0, a1, a2, a3⟩ := hag c
  obtain ⟨r0, r1, r2, k0, k1, k2, k3⟩ := h c
  refine ⟨r0.trans ?_, r1.trans ?_, r2.trans ?_, k0, k1, k2, k3⟩
  · rw [Cert.Reference24Ideal.Read.val_main_v59_eq, a0, a1, a2, a3]; exact (ln_dz_eq m c (hpre c)).symm
  · rw [Cert.Reference24Ideal.Read.val_main_v60_eq, a0, a1, a2]; exact (ln_gain_eq m c).symm
  · rw [Cert.Reference24Ideal.Read.val_main_v61_eq, a0, a1]; exact (ln_offset_eq m c).symm

/-- The reference's frame. -/
theorem ln_backward_reference_frame : Cert.quiescent_Reference24Ideal := fun m ρ _ =>
  (θ_run _ _ _).mono (fun r h => ⟨fun c => (h c).2.2.2, sem_eq_zero_of_no_sems (by decide) r.2⟩) (Cert.Reference24Ideal.Value.run m ρ)

end Cert.Proof

end
-- ==== Proof.LossRef.lean ====
/-
  The reference's loss and its gradient through the last normalised layer, entry by entry. The normalised rows are those of
  the other normalised layers.
-/
module

public import proofs.«01_k».proof.Proof.Gen.Reference25Ideal.Read
public import proofs.«01_k».proof.Proof.NormRef

@[expose] public section

set_option maxRecDepth 16384

noncomputable section

namespace Cert.NormMath

open Idealize.ShloMosaic

/-- One half, one, and the reciprocal of the row's length, as floats. -/
abbrev hE : EReal := Ideal.ofBits .f32 0x3F000000#32
abbrev oneE : EReal := Ideal.ofBits .f32 0x3F800000#32
abbrev invE : EReal := Ideal.ofBits .f32 0x3A000000#32

theorem hE_eq : hE = ((1 / 2 : ℝ) : EReal) := by
  simp [hE, Ideal.ofBits, Ideal.ieee, -EReal.coe_mul]; norm_num
theorem invE_eq : invE = ((1 / 2048 : ℝ) : EReal) := by
  simp [invE, Ideal.ofBits, Ideal.ieee, -EReal.coe_mul]; norm_num

theorem mul_invE (x : EReal) : x * invE = Ideal.div x nE := by
  rw [invE_eq, nE_eq, Ideal.div_coe (by norm_num)]

/-- The error's gradient as differentiating writes it. -/
theorem half_two (x : EReal) : Ideal.div (hE * oneE) nE * (twoE * x) = x * invE := by
  have h1 : oneE = ((1 : ℝ) : EReal) := by simpa using Ideal.ofBits_one_f32
  rw [h1, hE_eq, ← EReal.coe_mul, div_n, twoE_eq, ← mul_assoc, ← EReal.coe_mul, invE_eq, mul_comm]
  congr 2
  norm_num

/-- A real factor taken into a sum of reals. -/
theorem mul_sum_coe {n : ℕ} (a : ℝ) (f : Fin n → ℝ) : (a : EReal) * ∑ k, (f k : EReal) = ∑ k, ((a * f k : ℝ) : EReal) := by
  rw [FoxMath.coe_sum, ← EReal.coe_mul, Finset.mul_sum, ← FoxMath.coe_sum]

end Cert.NormMath

namespace Cert.Reference25Ideal.Norm

open Cert.Reference25Ideal Cert.Reference25Ideal.Read Cert.NormMath
open Idealize.ShloMosaic Idealize.ShloMosaic.Pointwise

variable (x0 x1 : FVec Ideal S2048x2048 .f32) (x2 x3 : FVec Ideal S2048 .f32)

/-- The normalised rows are those of the other normalised layers. -/
theorem row_at (r : Fin 2048) : Row (fun k => x1 (ix2 r k)) (fun k => val_main_v5 (F := Ideal) x1 (ix2 r k)) (fun k => val_main_v20 (F := Ideal) x1 (ix2 r k))
    (val_main_v15 (F := Ideal) x1 (ix2 r 0)) (val_main_v14 (F := Ideal) x1 (ix2 r 0)) :=
  Cert.Reference24Ideal.Norm.row_at x1 r

/-- The error. -/
theorem err_at (r j : Fin 2048) : (val_main_v27 (F := Ideal) x0 x1 x2 x3 (ix2 r j) : EReal) = val_main_v20 (F := Ideal) x1 (ix2 r j) * x2 (ix1 j) + x3 (ix1 j) - x0 (ix2 r j) := by
  pointwise [val_main_v27, val_main_v26, val_main_v23, val_main_v22, val_main_v21, val_main_v25, val_main_v24]

/-- The gradient that reaches the normalised rows. -/
theorem dy_at (r j : Fin 2048) : (val_main_v41 (F := Ideal) x0 x1 x2 x3 (ix2 r j) : EReal) = val_main_v27 (F := Ideal) x0 x1 x2 x3 (ix2 r j) * invE := by
  have e : (val_main_v41 (F := Ideal) x0 x1 x2 x3 (ix2 r j) : EReal) = Ideal.div (hE * oneE) nE * (twoE * val_main_v27 (F := Ideal) x0 x1 x2 x3 (ix2 r j)) := by
    pointwise [val_main_v41, val_main_v40, val_main_v39, val_main_v38, val_main_cst_13, val_main_v37, val_main_v36, val_main_cst_12, val_main_cst_11, val_main_v30, val_main_v29, val_main_cst_6]
  rw [e, half_two]

theorem dyg_at (r j : Fin 2048) : (val_main_v49 (F := Ideal) x0 x1 x2 x3 (ix2 r j) : EReal) = val_main_v41 (F := Ideal) x0 x1 x2 x3 (ix2 r j) * x2 (ix1 j) := by
  pointwise [val_main_v49, val_main_v48, val_main_v21]

theorem dbeta_at (j : Fin 2048) : (val_main_v72 (F := Ideal) x0 x1 x2 x3 (ix2 0 j) : EReal) = ∑ r : Fin 2048, (val_main_v41 (F := Ideal) x0 x1 x2 x3 (ix2 r j) : EReal) := by
  pointwise [val_main_v72, val_main_v44, val_main_cst_15, val_main_v43, val_main_v42, val_main_cst_14]
  simp

theorem dgain_at (j : Fin 2048) : (val_main_v71 (F := Ideal) x0 x1 x2 x3 (ix2 0 j) : EReal)
    = ∑ r : Fin 2048, (val_main_v41 (F := Ideal) x0 x1 x2 x3 (ix2 r j) : EReal) * val_main_v20 (F := Ideal) x1 (ix2 r j) := by
  have e : (val_main_v71 (F := Ideal) x0 x1 x2 x3 (ix2 0 j) : EReal)
      = ∑ r : Fin 2048, (val_main_v20 (F := Ideal) x1 (ix2 r j) : EReal) * val_main_v41 (F := Ideal) x0 x1 x2 x3 (ix2 r j) := by
    pointwise [val_main_v71, val_main_v50, val_main_cst_17, val_main_v47, val_main_v46, val_main_cst_16, val_main_v45]
    simp
  exact e.trans (Finset.sum_congr rfl fun r _ => mul_comm _ _)

theorem loss_at : (val_main_v73 (F := Ideal) x0 x1 x2 x3 (ix2 0 0) : EReal)
    = hE * ∑ r : Fin 2048, Ideal.div (∑ k : Fin 2048, (val_main_v27 (F := Ideal) x0 x1 x2 x3 (ix2 r k) : EReal) * val_main_v27 (F := Ideal) x0 x1 x2 x3 (ix2 r k)) nE := by
  pointwise [val_main_v73, val_main_v35, val_main_cst_10, val_main_v34, val_main_cst_9, val_main_v33, val_main_v32, val_main_cst_8, val_main_v31, val_main_cst_7, val_main_v28]

/-- The rows' gradient, and what it is before the mean is taken off. -/
theorem dz_at (r j : Fin 2048) : (val_main_v70 (F := Ideal) x0 x1 x2 x3 (ix2 r j) : EReal) = val_main_v62 (F := Ideal) x0 x1 x2 x3 (ix2 r j)
      + Ideal.div (∑ k : Fin 2048, -(val_main_v62 (F := Ideal) x0 x1 x2 x3 (ix2 r k) : EReal)) nE := by
  pointwise [val_main_v70, val_main_v69, val_main_v68, val_main_cst_23, val_main_v67, val_main_v66, val_main_cst_22, val_main_v65, val_main_v64, val_main_cst_21, val_main_v63]
  exact congrArg _ (Fin.sum_univ_one _)

theorem pre_at (r k : Fin 2048) : (val_main_v62 (F := Ideal) x0 x1 x2 x3 (ix2 r k) : EReal) = (val_main_v49 (F := Ideal) x0 x1 x2 x3 (ix2 r k) : EReal) * val_main_v15 (F := Ideal) x1 (ix2 r 0)
      + Ideal.div ((∑ k : Fin 2048, (val_main_v5 (F := Ideal) x1 (ix2 r k) : EReal) * val_main_v49 (F := Ideal) x0 x1 x2 x3 (ix2 r k))
        * (halfE * Ideal.div (val_main_v15 (F := Ideal) x1 (ix2 r 0)) (val_main_v14 (F := Ideal) x1 (ix2 r 0)))) nE * (twoE * val_main_v5 (F := Ideal) x1 (ix2 r k)) := by
  have e59 : (val_main_v59 (F := Ideal) x0 x1 x2 x3 (ix1 r) : EReal)
      = Ideal.div ((∑ k : Fin 2048, (val_main_v5 (F := Ideal) x1 (ix2 r k) : EReal) * val_main_v49 (F := Ideal) x0 x1 x2 x3 (ix2 r k))
        * (halfE * Ideal.div (val_main_v15 (F := Ideal) x1 (ix2 r 0)) (val_main_v14 (F := Ideal) x1 (ix2 r 0)))) nE := by
    pointwise [val_main_v59, val_main_cst_20, val_main_v58, val_main_v57, val_main_cst_19, val_main_v56, val_main_v53, val_main_v52, val_main_cst_18,
      val_main_v51, val_main_v18, val_main_v17, val_main_cst_5, val_main_v16]
    exact Fin.sum_univ_one _
  rw [← e59]
  pointwise [val_main_v62, val_main_v55, val_main_v54, val_main_v61, val_main_v60, val_main_v8, val_main_v7, val_main_cst_1]

end Cert.Reference25Ideal.Norm

end
-- ==== Proof.LossBackward.lean ====
/-
  The loss with its gradient through the last normalised layer: a point writes a block of rows of the rows' gradient and
  adds its rows to the gradients of gain and offset and to the loss, which are written back after the last point.
-/
module

public import proofs.«01_k».proof.Defs
public import proofs.«01_k».proof.Proof.Gen.Pre_finite25
public import proofs.«01_k».proof.Proof.Gen.Kernel25Ideal.Value
public import proofs.«01_k».proof.Proof.LossRef
public import proofs.«01_k».proof.Proof.NormBackward
public import Idealize.ShloMosaic.Lib.Pointwise
public import Idealize.ShloMosaic.Lib.Pipeline.ValueKit
public import Idealize.ShloMosaic.Lib.Pipeline.ReadBack
public import Idealize.ShloMosaic.Lib.StableHlo.ReadAt
public import Idealize.ShloMosaic.Lib.Claim

@[expose] public section

set_option maxRecDepth 16384

noncomputable section

namespace Cert.Kernel25Ideal.Norm

open Cert.Kernel25Ideal Cert.Kernel25Ideal.Gen Cert.Kernel25Ideal.Value Cert.NormMath
open Idealize.ShloMosaic Idealize.ShloMosaic.TcCoe Idealize.SL.Sem
open Idealize.ShloMosaic.Pointwise
open Cert.Reference25Ideal.Read (val_main_v15 val_main_v20 val_main_v27 val_main_v41 val_main_v49)

/-- The error, and the gradient that reaches the normalised rows. -/
theorem pay8_at (h : Vec Ideal S256x2048 .f32) (g b : Vec Ideal S1x2048 .f32) (x : Vec Ideal S256x2048 .f32) (s : Fin 256) (j : Fin 2048) :
    (k0_pay8 h g b x (ix2 s j) : EReal) = h (ix2 s j) * g (ix2 0 j) + b (ix2 0 j) - x (ix2 s j) := by
  pointwise [k0_pay8, k0_pay7]

theorem pay9_at (h : Vec Ideal S256x2048 .f32) (g b : Vec Ideal S1x2048 .f32) (x : Vec Ideal S256x2048 .f32) (s : Fin 256) (j : Fin 2048) :
    (k0_pay9 h g b x (ix2 s j) : EReal) = (k0_pay8 h g b x (ix2 s j) : EReal) * invE := by
  pointwise [k0_pay9]

/-- A block of the rows' gradient. -/
abbrev dzBlock (h : Vec Ideal S256x2048 .f32) (g b : Vec Ideal S1x2048 .f32) (x : Vec Ideal S256x2048 .f32) (r : Vec Ideal S256x1 .f32) : Vec Ideal S256x2048 .f32 :=
  k0_pay1 (F := Ideal) (k0_pay7 h) (k0_pay11 h g b x g) (k0_pay12 h g b x g) (k0_pay13 h g b x g) (k0_pay14 r)

theorem dz_block_at (h : Vec Ideal S256x2048 .f32) (g b : Vec Ideal S1x2048 .f32) (x : Vec Ideal S256x2048 .f32) (r : Vec Ideal S256x1 .f32) (s : Fin 256) (j : Fin 2048) :
    (dzBlock h g b x r (ix2 s j) : EReal) = r (ix2 s 0) * ((k0_pay9 h g b x (ix2 s j) : EReal) * g (ix2 0 j) - Ideal.div (∑ k : Fin 2048, (k0_pay9 h g b x (ix2 s k) : EReal) * g (ix2 0 k)) nE
      - h (ix2 s j) * Ideal.div (∑ k : Fin 2048, (k0_pay9 h g b x (ix2 s k) : EReal) * g (ix2 0 k) * h (ix2 s k)) nE) := by
  pointwise [k0_pay1, k0_pay7, k0_pay11, k0_pay12, k0_pay13, k0_pay14]

theorem pay2_at (h d : Vec Ideal S256x2048 .f32) (j : Fin 2048) :
    (k0_pay2 (F := Ideal) h d (ix2 0 j) : EReal) = ∑ s : Fin 256, (d (ix2 s j) : EReal) * h (ix2 s j) := by
  pointwise [k0_pay2]

theorem pay3_at (d : Vec Ideal S256x2048 .f32) (j : Fin 2048) :
    (k0_pay3 (F := Ideal) d (ix2 0 j) : EReal) = ∑ s : Fin 256, (d (ix2 s j) : EReal) := by
  pointwise [k0_pay3]

theorem pay4_at (h d : Vec Ideal S256x2048 .f32) (y : Vec Ideal S1x2048 .f32) (j : Fin 2048) :
    (k0_pay4 (F := Ideal) h d y (ix2 0 j) : EReal) = y (ix2 0 j) + k0_pay2 (F := Ideal) h d (ix2 0 j) := by
  pointwise [k0_pay4]

theorem pay5_at (d : Vec Ideal S256x2048 .f32) (y : Vec Ideal S1x2048 .f32) (j : Fin 2048) :
    (k0_pay5 (F := Ideal) d y (ix2 0 j) : EReal) = y (ix2 0 j) + k0_pay3 (F := Ideal) d (ix2 0 j) := by
  pointwise [k0_pay5]

theorem pay6_at (l y : Vec Ideal S1x1 .f32) : (k0_pay6 (F := Ideal) l y (ix2 0 0) : EReal) = y (ix2 0 0) + l (ix2 0 0) := by
  pointwise [k0_pay6]

theorem pay7_eq (h : Vec Ideal S256x2048 .f32) (s : Fin 256) (j : Fin 2048) : k0_pay7 h (ix2 s j) = h (ix2 s j) := by
  pointwise [k0_pay7]

theorem pay10_at (h : Vec Ideal S256x2048 .f32) (g b : Vec Ideal S1x2048 .f32) (x : Vec Ideal S256x2048 .f32) :
    (k0_pay10 h g b x (ix2 0 0) : EReal) = hE * ∑ s : Fin 256, (∑ k : Fin 2048, (k0_pay8 h g b x (ix2 s k) : EReal) * k0_pay8 h g b x (ix2 s k)) * invE := by
  pointwise [k0_pay10]

/-- The block indices of the windows at a point. -/
theorem idx : ∀ t : Fin cfg0.N,
    win0_0.index t = ![t.val, 0] ∧ win0_1.index t = ![t.val, 0] ∧ win0_2.index t = ![t.val, 0] ∧ win0_3.index t = ![0, 0] ∧ win0_4.index t = ![0, 0]
      ∧ win0_5.index t = ![t.val, 0] ∧ win0_6.index t = ![0, 0] ∧ win0_7.index t = ![0, 0] ∧ win0_8.index t = ![0, 0] :=
  (by decide +kernel : ∀ t : Fin grid0.N, _)

theorem lt8 (t : Fin cfg0.N) : t.val < 8 := lt_of_lt_of_eq t.isLt (show cfg0.N = 8 from N_0)

variable (m : (ℓ : Loc nD τ sig) → Buf (Elt Ideal) ℓ) (c : Dev nD)

/-- The arguments' arrays. -/
abbrev X0 : FVec Ideal S2048x2048 .f32 := m ((c : Thread nD τ).loc main_arg0)
abbrev X1 : FVec Ideal S2048x2048 .f32 := m ((c : Thread nD τ).loc main_arg1)
abbrev X2 : FVec Ideal S2048 .f32 := m ((c : Thread nD τ).loc main_arg2)
abbrev X3 : FVec Ideal S2048 .f32 := m ((c : Thread nD τ).loc main_arg3)

/-- The reference's arrays at the arguments: the normalised rows' scale, these rows, the error, its gradient, that times the gain. -/
abbrev scaleOf : FVec Ideal S2048x1 .f32 := val_main_v15 (F := Ideal) (X1 m c)
abbrev hatOf : FVec Ideal S2048x2048 .f32 := val_main_v20 (F := Ideal) (X1 m c)
abbrev errOf : FVec Ideal S2048x2048 .f32 := val_main_v27 (F := Ideal) (X0 m c) (X1 m c) (X2 m c) (X3 m c)
abbrev dyOf : FVec Ideal S2048x2048 .f32 := val_main_v41 (F := Ideal) (X0 m c) (X1 m c) (X2 m c) (X3 m c)
abbrev dygOf : FVec Ideal S2048x2048 .f32 := val_main_v49 (F := Ideal) (X0 m c) (X1 m c) (X2 m c) (X3 m c)

theorem scales : (V m c main_v13 : FVec Ideal S2048x1 .f32) = scaleOf m c := by
  unfold V
  simp only [hostOps0, List.flatten_cons, List.flatten_nil, List.append_nil, List.cons_append, List.nil_append]
  entry_read
  rfl

theorem hats : (V m c main_v15 : FVec Ideal S2048x2048 .f32) = hatOf m c := by
  unfold V
  simp only [hostOps0, List.flatten_cons, List.flatten_nil, List.append_nil, List.cons_append, List.nil_append]
  entry_read
  rfl

theorem gains : (V m c main_v16 : FVec Ideal S1x2048 .f32) = shapeCast S1x2048 (X2 m c) shapeCasts_S2048_S1x2048 := by
  unfold V
  simp only [hostOps0, List.flatten_cons, List.flatten_nil, List.append_nil, List.cons_append, List.nil_append]
  entry_read
  rfl

theorem offsets : (V m c main_v17 : FVec Ideal S1x2048 .f32) = shapeCast S1x2048 (X3 m c) shapeCasts_S2048_S1x2048 := by
  unfold V
  simp only [hostOps0, List.flatten_cons, List.flatten_nil, List.append_nil, List.cons_append, List.nil_append]
  entry_read
  rfl

variable (t : Fin cfg0.N)

/-- The row of the arrays that a point's block has at its row `s`. -/
abbrev row (s : Fin 256) : Fin 2048 := ⟨t.val * 256 + s.val, by have := lt8 t; omega⟩

theorem blk0 (s : Fin 256) (k : Fin 2048) : iblk m c 0 t (ix2 s k) = X0 m c (ix2 (row t s) k) := by
  obtain ⟨e0, _⟩ := idx t
  have e : iblk m c 0 t (ix2 s k) = V m c main_arg0 (ix2 (row t s) k) := by
    blk_point [iblk, e0]
  rw [e, V_main_arg0]

theorem blk1 (s : Fin 256) (k : Fin 2048) : iblk m c 1 t (ix2 s k) = hatOf m c (ix2 (row t s) k) := by
  obtain ⟨_, e1, _⟩ := idx t
  have e : iblk m c 1 t (ix2 s k) = V m c main_v15 (ix2 (row t s) k) := by
    blk_point [iblk, e1]
  rw [e]; exact congrFun (hats m c) _

theorem blk2 (s : Fin 256) : iblk m c 2 t (ix2 s 0) = scaleOf m c (ix2 (row t s) 0) := by
  obtain ⟨_, _, e2, _⟩ := idx t
  have e : iblk m c 2 t (ix2 s 0) = V m c main_v13 (ix2 (row t s) 0) := by
    blk_point [iblk, e2]
  rw [e]; exact congrFun (scales m c) _

theorem blk3 (k : Fin 2048) : iblk m c 3 t (ix2 0 k) = X2 m c (ix1 k) := by
  obtain ⟨_, _, _, e3, _⟩ := idx t
  have e : iblk m c 3 t (ix2 0 k) = V m c main_v16 (ix2 0 k) := by
    blk_point [iblk, e3]
  rw [e]
  refine (congrFun (gains m c) _).trans ?_
  pointwise

theorem blk4 (k : Fin 2048) : iblk m c 4 t (ix2 0 k) = X3 m c (ix1 k) := by
  obtain ⟨_, _, _, _, e4, _⟩ := idx t
  have e : iblk m c 4 t (ix2 0 k) = V m c main_v17 (ix2 0 k) := by
    blk_point [iblk, e4]
  rw [e]
  refine (congrFun (offsets m c) _).trans ?_
  pointwise

/-- The blocks a point reads. -/
abbrev B0 : Vec Ideal S256x2048 .f32 := iblk m c 0 t
abbrev B1 : Vec Ideal S256x2048 .f32 := iblk m c 1 t
abbrev B2 : Vec Ideal S256x1 .f32 := iblk m c 2 t
abbrev B3 : Vec Ideal S1x2048 .f32 := iblk m c 3 t
abbrev B4 : Vec Ideal S1x2048 .f32 := iblk m c 4 t

theorem err_blk (s : Fin 256) (k : Fin 2048) :
    (k0_pay8 (B1 m c t) (B3 m c t) (B4 m c t) (B0 m c t) (ix2 s k) : EReal) = errOf m c (ix2 (row t s) k) := by
  refine (pay8_at _ _ _ _ s k).trans (Eq.trans ?_ (Cert.Reference25Ideal.Norm.err_at _ _ _ _ (row t s) k).symm)
  exact congrArg₂ (fun x y : EReal => x - y) (congrArg₂ (fun x y : EReal => x + y)
    (congrArg₂ (fun x y : EReal => x * y) (blk1 m c t s k) (blk3 m c t k)) (blk4 m c t k)) (blk0 m c t s k)

theorem dy_blk (s : Fin 256) (k : Fin 2048) :
    (k0_pay9 (B1 m c t) (B3 m c t) (B4 m c t) (B0 m c t) (ix2 s k) : EReal) = dyOf m c (ix2 (row t s) k) := by
  refine (pay9_at _ _ _ _ s k).trans (Eq.trans ?_ (Cert.Reference25Ideal.Norm.dy_at _ _ _ _ (row t s) k).symm)
  exact congrArg (fun x : EReal => x * invE) (err_blk m c t s k)

theorem out_dz : (outsAt0 m c t.val t.isLt).1 = dzBlock (B1 m c t) (B3 m c t) (B4 m c t) (B0 m c t) (B2 m c t) := by
  by_cases h : t.val % 8 = 0
  · rw [outsAt0_A m c t h (by have := lt8 t; omega)]; dsimp only; unfold out0_A_5; frame_out
  · rw [outsAt0_B m c t h (by omega)]; dsimp only; unfold out0_B_5; frame_out

theorem gain_first (h : t.val % 8 = 0) : (outsAt0 m c t.val t.isLt).2.1
    = k0_pay2 (F := Ideal) (k0_pay7 (B1 m c t)) (k0_pay9 (B1 m c t) (B3 m c t) (B4 m c t) (B0 m c t)) := by
  rw [outsAt0_A m c t h (by have := lt8 t; omega)]; dsimp only; unfold out0_A_6; frame_out

theorem gain_next (h : ¬t.val % 8 = 0) : (outsAt0 m c t.val t.isLt).2.1
    = k0_pay4 (F := Ideal) (k0_pay7 (B1 m c t)) (k0_pay9 (B1 m c t) (B3 m c t) (B4 m c t) (B0 m c t)) (outsAt0 m c (t.val - 1) (Nat.lt_of_le_of_lt (Nat.sub_le _ _) t.isLt)).2.1 := by
  rw [outsAt0_B m c t h (by omega)]; dsimp only; unfold out0_B_6; frame_out

theorem offset_first (h : t.val % 8 = 0) : (outsAt0 m c t.val t.isLt).2.2.1
    = k0_pay3 (F := Ideal) (k0_pay9 (B1 m c t) (B3 m c t) (B4 m c t) (B0 m c t)) := by
  rw [outsAt0_A m c t h (by have := lt8 t; omega)]; dsimp only; unfold out0_A_7; frame_out

theorem offset_next (h : ¬t.val % 8 = 0) : (outsAt0 m c t.val t.isLt).2.2.1
    = k0_pay5 (F := Ideal) (k0_pay9 (B1 m c t) (B3 m c t) (B4 m c t) (B0 m c t)) (outsAt0 m c (t.val - 1) (Nat.lt_of_le_of_lt (Nat.sub_le _ _) t.isLt)).2.2.1 := by
  rw [outsAt0_B m c t h (by omega)]; dsimp only; unfold out0_B_7; frame_out

theorem loss_first (h : t.val % 8 = 0) : (outsAt0 m c t.val t.isLt).2.2.2 = k0_pay10 (B1 m c t) (B3 m c t) (B4 m c t) (B0 m c t) := by
  rw [outsAt0_A m c t h (by have := lt8 t; omega)]; dsimp only; unfold out0_A_8; frame_out

theorem loss_next (h : ¬t.val % 8 = 0) : (outsAt0 m c t.val t.isLt).2.2.2
    = k0_pay6 (F := Ideal) (k0_pay10 (B1 m c t) (B3 m c t) (B4 m c t) (B0 m c t)) (outsAt0 m c (t.val - 1) (Nat.lt_of_le_of_lt (Nat.sub_le _ _) t.isLt)).2.2.2 := by
  rw [outsAt0_B m c t h (by omega)]; dsimp only; unfold out0_B_8; frame_out

/-- A row's mean square error, doubled. -/
abbrev rowLoss (r : Fin 2048) : EReal := Ideal.div (∑ k : Fin 2048, (errOf m c (ix2 r k) : EReal) * errOf m c (ix2 r k)) nE

/-- A point's rows summed, for the gain, for the offset and for the loss. -/
abbrev gainPart (n : ℕ) (hn : n < 8) (j : Fin 2048) : EReal :=
  ∑ s : Fin 256, (dyOf m c (ix2 (⟨n * 256 + s.val, by omega⟩ : Fin 2048) j) : EReal) * hatOf m c (ix2 (⟨n * 256 + s.val, by omega⟩ : Fin 2048) j)
abbrev offsetPart (n : ℕ) (hn : n < 8) (j : Fin 2048) : EReal :=
  ∑ s : Fin 256, (dyOf m c (ix2 (⟨n * 256 + s.val, by omega⟩ : Fin 2048) j) : EReal)
abbrev lossPart (n : ℕ) (hn : n < 8) : EReal := hE * ∑ s : Fin 256, rowLoss m c (⟨n * 256 + s.val, by omega⟩ : Fin 2048)

theorem gain_part (j : Fin 2048) : (k0_pay2 (F := Ideal) (k0_pay7 (B1 m c t)) (k0_pay9 (B1 m c t) (B3 m c t) (B4 m c t) (B0 m c t)) (ix2 0 j) : EReal) = gainPart m c t.val (lt8 t) j := by
  rw [pay2_at]
  exact Finset.sum_congr rfl fun s _ => congrArg₂ (fun x y : EReal => x * y) (dy_blk m c t s j) ((pay7_eq _ s j).trans (blk1 m c t s j))

theorem offset_part (j : Fin 2048) : (k0_pay3 (F := Ideal) (k0_pay9 (B1 m c t) (B3 m c t) (B4 m c t) (B0 m c t)) (ix2 0 j) : EReal) = offsetPart m c t.val (lt8 t) j := by
  rw [pay3_at]
  exact Finset.sum_congr rfl fun s _ => dy_blk m c t s j

theorem loss_part : (k0_pay10 (B1 m c t) (B3 m c t) (B4 m c t) (B0 m c t) (ix2 0 0) : EReal) = lossPart m c t.val (lt8 t) := by
  rw [pay10_at]
  refine congrArg (fun x : EReal => hE * x) (Finset.sum_congr rfl fun s _ => ?_)
  rw [mul_invE]
  exact congrArg (fun x : EReal => Ideal.div x nE) (Finset.sum_congr rfl fun k _ => by rw [err_blk])

/-- What the accumulators hold after the last point. -/
theorem gain_acc (hn : 7 < cfg0.N) (j : Fin 2048) : ((outsAt0 m c 7 hn).2.1 (ix2 0 j) : EReal) = ∑ u : Fin 8, gainPart m c u.val u.isLt j :=
  acc_sum (N := 8) (A := fun n h => (outsAt0 m c n (lt_of_lt_of_eq h N_0.symm)).2.1 (ix2 0 j)) (P := fun n h => gainPart m c n h j)
    (fun h => (congrFun (gain_first m c ⟨0, lt_of_lt_of_eq h N_0.symm⟩ rfl) _).trans (gain_part m c _ j))
    (fun n h => (congrFun (gain_next m c ⟨n + 1, lt_of_lt_of_eq h N_0.symm⟩ (by dsimp only; omega)) _).trans ((pay4_at _ _ _ j).trans
      (congrArg (fun y : EReal => (outsAt0 m c n (lt_of_lt_of_eq (by omega) N_0.symm)).2.1 (ix2 0 j) + y) (gain_part m c _ j)))) 7 (by omega)

theorem offset_acc (hn : 7 < cfg0.N) (j : Fin 2048) : ((outsAt0 m c 7 hn).2.2.1 (ix2 0 j) : EReal) = ∑ u : Fin 8, offsetPart m c u.val u.isLt j :=
  acc_sum (N := 8) (A := fun n h => (outsAt0 m c n (lt_of_lt_of_eq h N_0.symm)).2.2.1 (ix2 0 j)) (P := fun n h => offsetPart m c n h j)
    (fun h => (congrFun (offset_first m c ⟨0, lt_of_lt_of_eq h N_0.symm⟩ rfl) _).trans (offset_part m c _ j))
    (fun n h => (congrFun (offset_next m c ⟨n + 1, lt_of_lt_of_eq h N_0.symm⟩ (by dsimp only; omega)) _).trans ((pay5_at _ _ j).trans
      (congrArg (fun y : EReal => (outsAt0 m c n (lt_of_lt_of_eq (by omega) N_0.symm)).2.2.1 (ix2 0 j) + y) (offset_part m c _ j)))) 7 (by omega)

theorem loss_acc (hn : 7 < cfg0.N) : ((outsAt0 m c 7 hn).2.2.2 (ix2 0 0) : EReal) = ∑ u : Fin 8, lossPart m c u.val u.isLt :=
  acc_sum (N := 8) (A := fun n h => (outsAt0 m c n (lt_of_lt_of_eq h N_0.symm)).2.2.2 (ix2 0 0)) (P := fun n h => lossPart m c n h)
    (fun h => (congrFun (loss_first m c ⟨0, lt_of_lt_of_eq h N_0.symm⟩ rfl) _).trans (loss_part m c _))
    (fun n h => (congrFun (loss_next m c ⟨n + 1, lt_of_lt_of_eq h N_0.symm⟩ (by dsimp only; omega)) _).trans ((pay6_at _ _).trans
      (congrArg (fun y : EReal => (outsAt0 m c n (lt_of_lt_of_eq (by omega) N_0.symm)).2.2.2 (ix2 0 0) + y) (loss_part m c _)))) 7 (by omega)

/-- The last point, after which the accumulators are written back. -/
abbrev last : Fin cfg0.N := ⟨7, lt_of_lt_of_eq (by norm_num) N_0.symm⟩

theorem eq_last (u : Fin cfg0.N) (h : u.val % 8 = 7) : u = last := by
  have := lt8 u; exact Fin.ext (by show u.val = 7; omega)

theorem gain_at (j : Fin 2048) : ((dats m 0 c).arrAt 6 cfg0.N (ix2 0 j) : EReal) = ∑ r : Fin 2048, (dyOf m c (ix2 r j) : EReal) * hatOf m c (ix2 r j) := by
  have hi : ((cfg0.win 6).blk last).view.emb (ix2 0 j) = ix2 0 j := by
    obtain ⟨_, _, _, _, _, _, e, _⟩ := idx last
    funext k; apply Fin.ext
    match k with
    | ⟨0, _⟩ => show win0_6.index last 0 * 1 + 1 * 0 = 0; rw [e]; rfl
    | ⟨1, _⟩ => show win0_6.index last 1 * 2048 + 1 * j.val = j.val; rw [e]; show 0 * 2048 + 1 * j.val = j.val; omega
  refine (congrArg ((dats m 0 c).arrAt 6 cfg0.N) hi.symm).trans
    (((dats m 0 c).arrAt_emb_eq_flushed 6 (fun u u' h h' hne => absurd ((eq_last u ((flush0_6 u).mp h)).trans (eq_last u' ((flush0_6 u').mp h')).symm) hne) last ((flush0_6 last).mpr rfl) _).trans
      ((congrFun (flushed6 m c last) _).trans ?_))
  exact (gain_acc m c _ j).trans (sum_blocks fun r => (dyOf m c (ix2 r j) : EReal) * hatOf m c (ix2 r j))

theorem offset_at (j : Fin 2048) : ((dats m 0 c).arrAt 7 cfg0.N (ix2 0 j) : EReal) = ∑ r : Fin 2048, (dyOf m c (ix2 r j) : EReal) := by
  have hi : ((cfg0.win 7).blk last).view.emb (ix2 0 j) = ix2 0 j := by
    obtain ⟨_, _, _, _, _, _, _, e, _⟩ := idx last
    funext k; apply Fin.ext
    match k with
    | ⟨0, _⟩ => show win0_7.index last 0 * 1 + 1 * 0 = 0; rw [e]; rfl
    | ⟨1, _⟩ => show win0_7.index last 1 * 2048 + 1 * j.val = j.val; rw [e]; show 0 * 2048 + 1 * j.val = j.val; omega
  refine (congrArg ((dats m 0 c).arrAt 7 cfg0.N) hi.symm).trans
    (((dats m 0 c).arrAt_emb_eq_flushed 7 (fun u u' h h' hne => absurd ((eq_last u ((flush0_7 u).mp h)).trans (eq_last u' ((flush0_7 u').mp h')).symm) hne) last ((flush0_7 last).mpr rfl) _).trans
      ((congrFun (flushed7 m c last) _).trans ?_))
  exact (offset_acc m c _ j).trans (sum_blocks fun r => (dyOf m c (ix2 r j) : EReal))

theorem loss_at : ((dats m 0 c).arrAt 8 cfg0.N (ix2 0 0) : EReal) = ∑ u : Fin 8, lossPart m c u.val u.isLt := by
  have hi : ((cfg0.win 8).blk last).view.emb (ix2 0 0) = ix2 0 0 := by
    obtain ⟨_, _, _, _, _, _, _, _, e⟩ := idx last
    funext k; apply Fin.ext
    match k with
    | ⟨0, _⟩ => show win0_8.index last 0 * 1 + 1 * 0 = 0; rw [e]; rfl
    | ⟨1, _⟩ => show win0_8.index last 1 * 1 + 1 * 0 = 0; rw [e]; rfl
  exact (congrArg ((dats m 0 c).arrAt 8 cfg0.N) hi.symm).trans
    (((dats m 0 c).arrAt_emb_eq_flushed 8 (fun u u' h h' hne => absurd ((eq_last u ((flush0_8 u).mp h)).trans (eq_last u' ((flush0_8 u').mp h')).symm) hne) last ((flush0_8 last).mpr rfl) _).trans
      ((congrFun (flushed8 m c last) _).trans (loss_acc m c _)))

theorem dz_at (r j : Fin 2048) : ((dats m 0 c).arrAt 5 cfg0.N (ix2 r j) : EReal)
    = scaleOf m c (ix2 r 0) * ((dygOf m c (ix2 r j) : EReal) - Ideal.div (∑ k : Fin 2048, (dygOf m c (ix2 r k) : EReal)) nE
      - hatOf m c (ix2 r j) * Ideal.div (∑ k : Fin 2048, (dygOf m c (ix2 r k) : EReal) * hatOf m c (ix2 r k)) nE) := by
  obtain ⟨t, hv⟩ : ∃ t : Fin cfg0.N, t.val = r.val / 256 := ⟨⟨_, lt_of_lt_of_eq (by omega) N_0.symm⟩, rfl⟩
  have hi : ((cfg0.win 5).blk t).view.emb (ix2 (⟨r.val % 256, by omega⟩ : Fin 256) j) = ix2 r j := by
    obtain ⟨_, _, _, _, _, e, _⟩ := idx t
    funext k; apply Fin.ext
    match k with
    | ⟨0, _⟩ => show win0_5.index t 0 * 256 + 1 * (r.val % 256) = r.val; rw [e]; show t.val * 256 + 1 * (r.val % 256) = r.val; omega
    | ⟨1, _⟩ => show win0_5.index t 1 * 2048 + 1 * j.val = j.val; rw [e]; show 0 * 2048 + 1 * j.val = j.val; omega
  have hr : row t (⟨r.val % 256, by omega⟩ : Fin 256) = r := Fin.ext (by show t.val * 256 + r.val % 256 = r.val; omega)
  refine (congrArg ((dats m 0 c).arrAt 5 cfg0.N) hi.symm).trans
    (((dats m 0 c).arrAt_emb_eq_flushed 5 disjoint5 t (flush0_5 t) _).trans ((congrFun (flushed5 m c t) _).trans ?_))
  refine (congrFun (out_dz m c t) _).trans ((dz_block_at _ _ _ _ _ _ _).trans ?_)
  have hd : ∀ k, (k0_pay9 (B1 m c t) (B3 m c t) (B4 m c t) (B0 m c t) (ix2 (⟨r.val % 256, by omega⟩ : Fin 256) k) : EReal) * B3 m c t (ix2 0 k)
      = dygOf m c (ix2 r k) := fun k => by
    refine Eq.trans ?_ (Cert.Reference25Ideal.Norm.dyg_at _ _ _ _ r k).symm
    exact congrArg₂ (fun x y : EReal => x * y) ((dy_blk m c t _ k).trans (by rw [hr])) (blk3 m c t k)
  have hh : ∀ k, B1 m c t (ix2 (⟨r.val % 256, by omega⟩ : Fin 256) k) = hatOf m c (ix2 r k) := fun k =>
    (blk1 m c t _ k).trans (by rw [hr])
  have hs : B2 m c t (ix2 (⟨r.val % 256, by omega⟩ : Fin 256) 0) = scaleOf m c (ix2 r 0) := (blk2 m c t _).trans (by rw [hr])
  simp only [hd, hh, hs]

end Cert.Kernel25Ideal.Norm

namespace Cert.Pre_finite25.Norm

open Cert.Pre_finite25 Cert.Pre_finite25.Gen
open Idealize.ShloMosaic Idealize.ShloMosaic.Pointwise
open Cert.Pre_finite.Fox (real_of_olt)

/-- What the precondition gives: the entries of these arrays are reals. -/
theorem finite_of (x0 x1 : FVec Ideal S2048x2048 .f32) (x2 x3 : FVec Ideal S2048 .f32) (h : fn (F := Ideal) x0 x1 x2 x3 = fun _ => 1#1) :
    ∃ (y : Fin 2048 → Fin 2048 → ℝ) (g b : Fin 2048 → ℝ), (∀ r k, x0 (ix2 r k) = (y r k : EReal))
      ∧ (∀ k, x2 (ix1 k) = (g k : EReal)) ∧ ∀ k, x3 (ix1 k) = (b k : EReal) := by
  have h' := congrFun h (Shape.Idx.first h_S_)
  dsimp only [fn] at h'
  obtain ⟨h02, h3⟩ := IntOp.andi_eq_one.1 h'
  obtain ⟨h0, h2⟩ := IntOp.andi_eq_one.1 h02
  haveI : Subsingleton S_.Idx := ⟨fun a b => funext fun k => k.elim0⟩
  have e0 : ∀ r k, ∃ v : ℝ, x0 (ix2 r k) = (v : EReal) := fun r k => by
    refine real_of_olt _ ((congrArg (· = 1#1) ?_).mp (Host.reduce_andi_all _ _ _ _ _ h0 (ix2 r k)))
    pointwise
    rfl
  have e2 : ∀ k, ∃ v : ℝ, x2 (ix1 k) = (v : EReal) := fun k => by
    refine real_of_olt _ ((congrArg (· = 1#1) ?_).mp (Host.reduce_andi_all _ _ _ _ _ h2 (ix1 k)))
    pointwise
    rfl
  have e3 : ∀ k, ∃ v : ℝ, x3 (ix1 k) = (v : EReal) := fun k => by
    refine real_of_olt _ ((congrArg (· = 1#1) ?_).mp (Host.reduce_andi_all _ _ _ _ _ h3 (ix1 k)))
    pointwise
    rfl
  exact ⟨fun r k => (e0 r k).choose, fun k => (e2 k).choose, fun k => (e3 k).choose,
    fun r k => (e0 r k).choose_spec, fun k => (e2 k).choose_spec, fun k => (e3 k).choose_spec⟩

end Cert.Pre_finite25.Norm

namespace Cert.Proof

open Idealize.ShloMosaic Idealize.SL.Sem Idealize.ShloMosaic.Pointwise

section
variable (m : (ℓ : Loc Cert.Kernel25Ideal.nD Cert.Kernel25Ideal.τ Cert.Kernel25Ideal.sig) → Buf (Elt Ideal) ℓ) (c : Dev Cert.Kernel25Ideal.nD)
open Cert.Kernel25Ideal.Norm (X0 X1 X2 X3 errOf dygOf hatOf rowLoss)

/-- The errors are reals, the other arrays' entries being reals. -/
theorem err_real {y η : Fin 2048 → Fin 2048 → ℝ} {g b : Fin 2048 → ℝ} (h0 : ∀ r k, X0 m c (ix2 r k) = (y r k : EReal)) (hη : ∀ r k, hatOf m c (ix2 r k) = (η r k : EReal))
    (h2 : ∀ k, X2 m c (ix1 k) = (g k : EReal)) (h3 : ∀ k, X3 m c (ix1 k) = (b k : EReal)) (r k : Fin 2048) :
    (errOf m c (ix2 r k) : EReal) = ((η r k * g k + b k - y r k : ℝ) : EReal) := by
  refine (Cert.Reference25Ideal.Norm.err_at _ _ _ _ r k).trans ?_
  rw [show (Cert.Reference25Ideal.Read.val_main_v20 (F := Ideal) (X1 m c) (ix2 r k) : EReal) = _ from hη r k, h0, h2, h3]
  simp only [EReal.coe_mul, EReal.coe_add, EReal.coe_sub]

theorem loss_dz_eq (h : Cert.Pre_finite25.fn (F := Ideal) (X0 m c) (X1 m c) (X2 m c) (X3 m c) = fun _ => 1#1) :
    (Cert.Kernel25Ideal.Gen.dats m 0 c).arrAt 5 Cert.Kernel25Ideal.cfg0.N
      = Cert.Reference25Ideal.Read.val_main_v70 (F := Ideal) (X0 m c) (X1 m c) (X2 m c) (X3 m c) := by
  obtain ⟨y, g, b, h0, h2, h3⟩ := Cert.Pre_finite25.Norm.finite_of _ _ _ _ h
  choose η hη using fun r => (Cert.Reference25Ideal.Norm.row_at (X1 m c) r).hat_real
  have hp : ∀ r k, (dygOf m c (ix2 r k) : EReal) = (((η r k * g k + b k - y r k) * (1 / 2048) * g k : ℝ) : EReal) := fun r k => by
    refine (Cert.Reference25Ideal.Norm.dyg_at _ _ _ _ r k).trans ?_
    rw [Cert.Reference25Ideal.Norm.dy_at, h2, Cert.NormMath.invE_eq]
    rw [show (Cert.Reference25Ideal.Read.val_main_v27 (F := Ideal) (X0 m c) (X1 m c) (X2 m c) (X3 m c) (ix2 r k) : EReal) = _ from err_real m c h0 hη h2 h3 r k]
    simp only [EReal.coe_mul]
  funext i
  obtain ⟨r, j, rfl⟩ : ∃ (r j : Fin 2048), i = ix2 r j := ⟨i 0, i 1, by
    funext k
    match k with
    | ⟨0, _⟩ => rfl
    | ⟨1, _⟩ => rfl⟩
  refine (Cert.Kernel25Ideal.Norm.dz_at m c r j).trans (Eq.trans ?_ (Cert.Reference25Ideal.Norm.dz_at _ _ _ _ r j).symm)
  exact (Cert.Reference25Ideal.Norm.row_at (X1 m c) r).grad_eq (hp r) (fun k => Cert.Reference25Ideal.Norm.pre_at _ _ _ _ r k) j

theorem loss_gain_eq : (Cert.Kernel25Ideal.Gen.dats m 0 c).arrAt 6 Cert.Kernel25Ideal.cfg0.N
    = Cert.Reference25Ideal.Read.val_main_v71 (F := Ideal) (X0 m c) (X1 m c) (X2 m c) (X3 m c) := by
  funext i
  obtain ⟨j, rfl⟩ := one_row i
  exact (Cert.Kernel25Ideal.Norm.gain_at m c j).trans (Cert.Reference25Ideal.Norm.dgain_at _ _ _ _ j).symm

theorem loss_offset_eq : (Cert.Kernel25Ideal.Gen.dats m 0 c).arrAt 7 Cert.Kernel25Ideal.cfg0.N
    = Cert.Reference25Ideal.Read.val_main_v72 (F := Ideal) (X0 m c) (X1 m c) (X2 m c) (X3 m c) := by
  funext i
  obtain ⟨j, rfl⟩ := one_row i
  exact (Cert.Kernel25Ideal.Norm.offset_at m c j).trans (Cert.Reference25Ideal.Norm.dbeta_at _ _ _ _ j).symm

theorem loss_eq (h : Cert.Pre_finite25.fn (F := Ideal) (X0 m c) (X1 m c) (X2 m c) (X3 m c) = fun _ => 1#1) :
    (Cert.Kernel25Ideal.Gen.dats m 0 c).arrAt 8 Cert.Kernel25Ideal.cfg0.N
      = Cert.Reference25Ideal.Read.val_main_v73 (F := Ideal) (X0 m c) (X1 m c) (X2 m c) (X3 m c) := by
  obtain ⟨y, g, b, h0, h2, h3⟩ := Cert.Pre_finite25.Norm.finite_of _ _ _ _ h
  choose η hη using fun r => (Cert.Reference25Ideal.Norm.row_at (X1 m c) r).hat_real
  obtain ⟨f, hf⟩ : ∃ f : Fin 2048 → ℝ, ∀ r, rowLoss m c r = (f r : EReal) :=
    ⟨fun r => (∑ k, (η r k * g k + b k - y r k) * (η r k * g k + b k - y r k)) / 2048, fun r =>
      Cert.NormMath.mean_coe fun k => by rw [err_real m c h0 hη h2 h3, EReal.coe_mul]⟩
  funext i
  obtain ⟨j, rfl⟩ := one_row i
  obtain rfl : j = 0 := Subsingleton.elim _ _
  refine (Cert.Kernel25Ideal.Norm.loss_at m c).trans (Eq.trans ?_ (Cert.Reference25Ideal.Norm.loss_at _ _ _ _).symm)
  show ∑ u : Fin 8, Cert.NormMath.hE * ∑ s : Fin 256, rowLoss m c ⟨u.val * 256 + s.val, by omega⟩ = Cert.NormMath.hE * ∑ r, rowLoss m c r
  simp only [hf, Cert.NormMath.hE_eq, Cert.NormMath.mul_sum_coe]
  exact Cert.NormMath.sum_blocks fun r => ((1 / 2 * f r : ℝ) : EReal)
end

/-- The value claim of the call. -/
theorem loss_backward_algebraic : Cert.algebraic_Kernel25Ideal_Reference25Ideal_pre_finite25 := by
  intro m ρ m' ρ' hpre hag
  refine ⟨fun c => (Cert.Kernel25Ideal.Gen.dats m 0 c).arrAt 5 Cert.Kernel25Ideal.cfg0.N, fun c => (Cert.Kernel25Ideal.Gen.dats m 0 c).arrAt 6 Cert.Kernel25Ideal.cfg0.N,
    fun c => (Cert.Kernel25Ideal.Gen.dats m 0 c).arrAt 7 Cert.Kernel25Ideal.cfg0.N, fun c => (Cert.Kernel25Ideal.Gen.dats m 0 c).arrAt 8 Cert.Kernel25Ideal.cfg0.N,
    Cert.Kernel25Ideal.Value.run_blocks m ρ, (θ_run _ _ _).mono (fun r h c => ?_) (Cert.Reference25Ideal.Value.run m' ρ')⟩
  obtain ⟨a0, a1, a2, a3⟩ := hag c
  obtain ⟨r0, r1, r2, r3, k0, k1, k2, k3⟩ := h c
  refine ⟨r0.trans ?_, r1.trans ?_, r2.trans ?_, r3.trans ?_, k0, k1, k2, k3⟩
  · rw [Cert.Reference25Ideal.Read.val_main_v70_eq, a0, a1, a2, a3]; exact (loss_dz_eq m c (hpre c)).symm
  · rw [Cert.Reference25Ideal.Read.val_main_v71_eq, a0, a1, a2, a3]; exact (loss_gain_eq m c).symm
  · rw [Cert.Reference25Ideal.Read.val_main_v72_eq, a0, a1, a2, a3]; exact (loss_offset_eq m c).symm
  · rw [Cert.Reference25Ideal.Read.val_main_v73_eq, a0, a1, a2, a3]; exact (loss_eq m c (hpre c)).symm

/-- The reference's frame. -/
theorem loss_backward_reference_frame : Cert.quiescent_Reference25Ideal := fun m ρ _ =>
  (θ_run _ _ _).mono (fun r h => ⟨fun c => (h c).2.2.2.2, sem_eq_zero_of_no_sems (by decide) r.2⟩) (Cert.Reference25Ideal.Value.run m ρ)

end Cert.Proof

end
-- ==== Proof.lean ====
/-
  The certificate: the frames of the programs, and the value claims of the forgetting attention, of the step's matrix products,
  of the gated unit, of the layer norms and their and the loss's gradient and of the optimiser of the small parameters.
-/
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Gen.Kernel7.Frame
public import proofs.«01_k».proof.Proof.Gen.Kernel7Ideal.Frame
public import proofs.«01_k».proof.Proof.Gen.Kernel8.Frame
public import proofs.«01_k».proof.Proof.Gen.Kernel8Ideal.Frame
public import proofs.«01_k».proof.Proof.Gen.Kernel9.Frame
public import proofs.«01_k».proof.Proof.Gen.Kernel9Ideal.Frame
public import proofs.«01_k».proof.Proof.Gen.Kernel10.Frame
public import proofs.«01_k».proof.Proof.Gen.Kernel10Ideal.Frame
public import proofs.«01_k».proof.Proof.Gen.Kernel11.Frame
public import proofs.«01_k».proof.Proof.Gen.Kernel11Ideal.Frame
public import proofs.«01_k».proof.Proof.Gen.Kernel12.Frame
public import proofs.«01_k».proof.Proof.Gen.Kernel12Ideal.Frame
public import proofs.«01_k».proof.Proof.Gen.Kernel13.Frame
public import proofs.«01_k».proof.Proof.Gen.Kernel13Ideal.Frame
public import proofs.«01_k».proof.Proof.Gen.Kernel14.Frame
public import proofs.«01_k».proof.Proof.Gen.Kernel14Ideal.Frame
public import proofs.«01_k».proof.Proof.Gen.Kernel15.Frame
public import proofs.«01_k».proof.Proof.Gen.Kernel15Ideal.Frame
public import proofs.«01_k».proof.Proof.Gen.Kernel16.Frame
public import proofs.«01_k».proof.Proof.Gen.Kernel16Ideal.Frame
public import proofs.«01_k».proof.Proof.Gen.Kernel17.Frame
public import proofs.«01_k».proof.Proof.Gen.Kernel17Ideal.Frame
public import proofs.«01_k».proof.Proof.Gen.Kernel18.Frame
public import proofs.«01_k».proof.Proof.Gen.Kernel18Ideal.Frame
public import proofs.«01_k».proof.Proof.Gen.Kernel19.Frame
public import proofs.«01_k».proof.Proof.Gen.Kernel19Ideal.Frame
public import proofs.«01_k».proof.Proof.Gen.Kernel20.Frame
public import proofs.«01_k».proof.Proof.Gen.Kernel20Ideal.Frame
public import proofs.«01_k».proof.Proof.Gen.Kernel21.Frame
public import proofs.«01_k».proof.Proof.Gen.Kernel21Ideal.Frame
public import proofs.«01_k».proof.Proof.Gen.Kernel22.Frame
public import proofs.«01_k».proof.Proof.Gen.Kernel22Ideal.Frame
public import proofs.«01_k».proof.Proof.Gen.Kernel23.Frame
public import proofs.«01_k».proof.Proof.Gen.Kernel23Ideal.Frame
public import proofs.«01_k».proof.Proof.Gen.Kernel24.Frame
public import proofs.«01_k».proof.Proof.Gen.Kernel24Ideal.Frame
public import proofs.«01_k».proof.Proof.Gen.Kernel25.Frame
public import proofs.«01_k».proof.Proof.Gen.Kernel25Ideal.Frame
public import proofs.«01_k».proof.Proof.Gen.Kernel26.Frame
public import proofs.«01_k».proof.Proof.Gen.Kernel26Ideal.Frame
public import proofs.«01_k».proof.Proof.Gen.Pre_finite
public import proofs.«01_k».proof.Proof.Gen.Pre_finite23
public import proofs.«01_k».proof.Proof.Gen.Pre_finite24
public import proofs.«01_k».proof.Proof.Gen.Pre_finite25
public import proofs.«01_k».proof.Proof.FoxClaim
public import proofs.«01_k».proof.Proof.FoxForward
public import proofs.«01_k».proof.Proof.FfnDx
public import proofs.«01_k».proof.Proof.FfnDwup
public import proofs.«01_k».proof.Proof.FfnDa
public import proofs.«01_k».proof.Proof.FfnDwdn
public import proofs.«01_k».proof.Proof.FfnUp
public import proofs.«01_k».proof.Proof.FfnDown
public import proofs.«01_k».proof.Proof.ProdForward
public import proofs.«01_k».proof.Proof.ProdInput
public import proofs.«01_k».proof.Proof.ProdWeights
public import proofs.«01_k».proof.Proof.ProdDx
public import proofs.«01_k».proof.Proof.GluBackward
public import proofs.«01_k».proof.Proof.GluForward
public import proofs.«01_k».proof.Proof.Adam
public import proofs.«01_k».proof.Proof.NormForward
public import proofs.«01_k».proof.Proof.NormBackward
public import proofs.«01_k».proof.Proof.LossBackward

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Pre_finite.Gen.facts, Cert.Pre_finite23.Gen.facts, Cert.Pre_finite24.Gen.facts,
    Cert.Pre_finite25.Gen.facts,
    fun m ρ _ => Cert.Kernel.Gen.frame m ρ,
    fun m ρ _ => Cert.KernelIdeal.Gen.frame m ρ,
    fun m ρ _ => Cert.KernelIdeal.Gen.frame m ρ,
    fox_reference_frame,
    fun m ρ _ => fox_reference_frame m ρ trivial,
    fun m ρ _ => Cert.Kernel2.Gen.frame m ρ,
    fun m ρ _ => Cert.Kernel2Ideal.Gen.frame m ρ,
    dx_reference_frame,
    fun m ρ _ => Cert.Kernel3.Gen.frame m ρ,
    fun m ρ _ => Cert.Kernel3Ideal.Gen.frame m ρ,
    dwup_reference_frame,
    fun m ρ _ => Cert.Kernel4.Gen.frame m ρ,
    fun m ρ _ => Cert.Kernel4Ideal.Gen.frame m ρ,
    da_reference_frame,
    fun m ρ _ => Cert.Kernel5.Gen.frame m ρ,
    fun m ρ _ => Cert.Kernel5Ideal.Gen.frame m ρ,
    dwdn_reference_frame,
    fun m ρ _ => Cert.Kernel6.Gen.frame m ρ,
    fun m ρ _ => Cert.Kernel6Ideal.Gen.frame m ρ,
    up_reference_frame,
    fun m ρ _ => Cert.Kernel7.Gen.frame m ρ,
    fun m ρ _ => Cert.Kernel7Ideal.Gen.frame m ρ,
    down_reference_frame,
    fun m ρ _ => Cert.Kernel8.Gen.frame m ρ,
    fun m ρ _ => Cert.Kernel8Ideal.Gen.frame m ρ,
    ev_proj_reference_frame,
    fun m ρ _ => Cert.Kernel9.Gen.frame m ρ,
    fun m ρ _ => Cert.Kernel9Ideal.Gen.frame m ρ,
    glu_proj_reference_frame,
    fun m ρ _ => Cert.Kernel10.Gen.frame m ρ,
    fun m ρ _ => Cert.Kernel10Ideal.Gen.frame m ρ,
    out_proj_reference_frame,
    fun m ρ _ => Cert.Kernel11.Gen.frame m ρ,
    fun m ρ _ => Cert.Kernel11Ideal.Gen.frame m ρ,
    od_proj_reference_frame,
    fun m ρ _ => Cert.Kernel12.Gen.frame m ρ,
    fun m ρ _ => Cert.Kernel12Ideal.Gen.frame m ρ,
    out_dx_reference_frame,
    fun m ρ _ => Cert.Kernel13.Gen.frame m ρ,
    fun m ρ _ => Cert.Kernel13Ideal.Gen.frame m ρ,
    glu_dx_reference_frame,
    fun m ρ _ => Cert.Kernel14.Gen.frame m ρ,
    fun m ρ _ => Cert.Kernel14Ideal.Gen.frame m ρ,
    out_dw_reference_frame,
    fun m ρ _ => Cert.Kernel15.Gen.frame m ρ,
    fun m ρ _ => Cert.Kernel15Ideal.Gen.frame m ρ,
    glu_dw_reference_frame,
    fun m ρ _ => Cert.Kernel16.Gen.frame m ρ,
    fun m ρ _ => Cert.Kernel16Ideal.Gen.frame m ρ,
    od_dw_reference_frame,
    fun m ρ _ => Cert.Kernel17.Gen.frame m ρ,
    fun m ρ _ => Cert.Kernel17Ideal.Gen.frame m ρ,
    ev_dw_reference_frame,
    fun m ρ _ => Cert.Kernel18.Gen.frame m ρ,
    fun m ρ _ => Cert.Kernel18Ideal.Gen.frame m ρ,
    od_dx_reference_frame,
    fun m ρ _ => Cert.Kernel19.Gen.frame m ρ,
    fun m ρ _ => Cert.Kernel19Ideal.Gen.frame m ρ,
    ev_dx_reference_frame,
    fun m ρ _ => Cert.Kernel20.Gen.frame m ρ,
    fun m ρ _ => Cert.Kernel20Ideal.Gen.frame m ρ,
    glu_backward_reference_frame,
    fun m ρ _ => Cert.Kernel21.Gen.frame m ρ,
    fun m ρ _ => Cert.Kernel21Ideal.Gen.frame m ρ,
    glu_forward_reference_frame,
    fun m ρ _ => Cert.Kernel22.Gen.frame m ρ,
    fun m ρ _ => Cert.Kernel22Ideal.Gen.frame m ρ,
    adam_reference_frame,
    fun m ρ _ => Cert.Kernel23.Gen.frame m ρ,
    fun m ρ _ => Cert.Kernel23Ideal.Gen.frame m ρ,
    fun m ρ _ => Cert.Kernel23Ideal.Gen.frame m ρ,
    fox_forward_reference_frame,
    fun m ρ _ => fox_forward_reference_frame m ρ trivial,
    fun m ρ _ => Cert.Kernel24.Gen.frame m ρ,
    fun m ρ _ => Cert.Kernel24Ideal.Gen.frame m ρ,
    fun m ρ _ => Cert.Kernel24Ideal.Gen.frame m ρ,
    ln_backward_reference_frame,
    fun m ρ _ => ln_backward_reference_frame m ρ trivial,
    fun m ρ _ => Cert.Kernel25.Gen.frame m ρ,
    fun m ρ _ => Cert.Kernel25Ideal.Gen.frame m ρ,
    fun m ρ _ => Cert.Kernel25Ideal.Gen.frame m ρ,
    loss_backward_reference_frame,
    fun m ρ _ => loss_backward_reference_frame m ρ trivial,
    fun m ρ _ => Cert.Kernel26.Gen.frame m ρ,
    fun m ρ _ => Cert.Kernel26Ideal.Gen.frame m ρ,
    ln_forward_reference_frame,
    trivial,
    fox_algebraic,
    trivial,
    dx_algebraic,
    trivial,
    dwup_algebraic,
    trivial,
    da_algebraic,
    trivial,
    dwdn_algebraic,
    trivial,
    up_algebraic,
    trivial,
    down_algebraic,
    trivial,
    ev_proj_algebraic,
    trivial,
    glu_proj_algebraic,
    trivial,
    out_proj_algebraic,
    trivial,
    od_proj_algebraic,
    trivial,
    out_dx_algebraic,
    trivial,
    glu_dx_algebraic,
    trivial,
    out_dw_algebraic,
    trivial,
    glu_dw_algebraic,
    trivial,
    od_dw_algebraic,
    trivial,
    ev_dw_algebraic,
    trivial,
    od_dx_algebraic,
    trivial,
    ev_dx_algebraic,
    trivial,
    glu_backward_algebraic,
    trivial,
    glu_forward_algebraic,
    adam_preserves,
    adam_algebraic,
    fox_forward_preserves,
    fox_forward_algebraic,
    trivial,
    ln_backward_algebraic,
    trivial,
    loss_backward_algebraic,
    trivial,
    ln_forward_algebraic⟩

end Cert.Proof

end
